-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "log2e_over_16_sqrt_d" .f32 0x3C0293EE#32 ((((Real.sqrt 128)⁻¹ * (Real.log 2)⁻¹) * (1 / 16) : ℝ) : EReal)

def preserves_Reference_ReferenceIdeal : Prop :=
  IdealRules.named_const.Statement Cert.ReferenceIdeal.κ "inv_sqrt_d" .f32 0x3DB504F3#32 (((Real.sqrt 128)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_lengths_fit : Cert.Pre_lengths_fit.Facts) (hPre_tame : Cert.Pre_tame.Facts),
    quiescent_Kernel (hKernel := hKernel) (hPre_lengths_fit := hPre_lengths_fit)
    ∧ quiescent_KernelIdeal (hKernelIdeal := hKernelIdeal) (hPre_lengths_fit := hPre_lengths_fit)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Reference (hReference := hReference)
    ∧ preserves_Kernel_KernelIdeal
    ∧ preserves_Reference_ReferenceIdeal
    ∧ algebraic_KernelIdeal_ReferenceIdeal_pre_tame (hKernelIdeal := hKernelIdeal) (hReferenceIdeal := hReferenceIdeal) (hPre_tame := hPre_tame)
-- ==== Pre_lengths_fit.lean ====
abbrev S3x4480x7168 : Shape := ⟨3, ![3, 4480, 7168]⟩
abbrev S3x8x8x4608 : Shape := ⟨4, ![3, 8, 8, 4608]⟩
abbrev S3x8x4608x128 : Shape := ⟨4, ![3, 8, 4608, 128]⟩
abbrev S3x8x36x128 : Shape := ⟨4, ![3, 8, 36, 128]⟩
abbrev S3x8x128x4608 : Shape := ⟨4, ![3, 8, 128, 4608]⟩
abbrev S3x8x128x1 : Shape := ⟨4, ![3, 8, 128, 1]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x4480x7168 .fp8e4m3) (main_arg1 : FVec F S3x8x8x4608 .f32) (main_arg2 : FVec F S3x8x4608x128 .fp8e4m3) (main_arg3 : FVec F S3x8x36x128 .f32) (main_arg4 : FVec F S3x8x128x4608 .fp8e4m3) (main_arg5 : FVec F S3x8x128x1 .f32) (main_arg6 : IVec S3 32) : IVec S3 1 :=
  let main_c : IVec S_ 32 := constantI S_ 32 4608#32
  let main_v0 : IVec S3 32 := broadcastInDim S3 ![] bcast_S_S3 main_c
  let main_v1 : IVec S3 1 := cmpi .sle main_arg6 main_v0
  main_v1
-- ==== Pre_tame.lean ====
abbrev S3x4480x7168 : Shape := ⟨3, ![3, 4480, 7168]⟩
abbrev S3x8x8x4608 : Shape := ⟨4, ![3, 8, 8, 4608]⟩
abbrev S3x8x4608x128 : Shape := ⟨4, ![3, 8, 4608, 128]⟩
abbrev S3x8x36x128 : Shape := ⟨4, ![3, 8, 36, 128]⟩
abbrev S3x8x128x4608 : Shape := ⟨4, ![3, 8, 128, 4608]⟩
abbrev S3x8x128x1 : Shape := ⟨4, ![3, 8, 128, 1]⟩
abbrev S3 : Shape := ⟨1, ![3]⟩
abbrev S3x8x7x4480 : Shape := ⟨4, ![3, 8, 7, 4480]⟩
abbrev S_ : Shape := ⟨0, ![]⟩

class Facts : Prop where
  slices_S3x8x8x4608_S3x8x7x4480_0_0_0_0 : S3x8x8x4608.Slices ![0, 0, 0, 0] S3x8x7x4480
  bcast_S_S3 : S_.BroadcastsInDim S3 (![] : Fin 0 → Fin S3.rank)
  bcast_S_S3x8x7x4480 : S_.BroadcastsInDim S3x8x7x4480 (![] : Fin 0 → Fin S3x8x7x4480.rank)
  reducesTo_S3x8x7x4480_S_d0_1_2_3 : S3x8x7x4480.ReducesTo [0, 1, 2, 3] S_
  h_S_ : 0 < S_.numel
  reducesTo_S3_S_d0 : S3.ReducesTo [0] S_

variable [Facts]

def fn {F : FTy → Type} [FloatOps F] (main_arg0 : FVec F S3x4480x7168 .fp8e4m3) (main_arg1 : FVec F S3x8x8x4608 .f32) (main_arg2 : FVec F S3x8x4608x128 .fp8e4m3) (main_arg3 : FVec F S3x8x36x128 .f32) (main_arg4 : FVec F S3x8x128x4608 .fp8e4m3) (main_arg5 : FVec F S3x8x128x1 .f32) (main_arg6 : IVec S3 32) : IVec S_ 1 :=
  let main_v0 : FVec F S3x8x7x4480 .f32 := (extractStridedSlice S3x8x7x4480 ![0, 0, 0, 0] · slices_S3x8x8x4608_S3x8x7x4480_0_0_0_0) main_arg1
  let main_c : IVec S_ 32 := constantI S_ 32 4480#32
  let main_v1 : IVec S3 32 := broadcastInDim S3 ![] bcast_S_S3 main_c
  let main_v2 : IVec S3 1 := cmpi .sle main_arg6 main_v1
  let main_c_0 : IVec S_ 32 := constantI S_ 32 2147483648#32
  let main_v3 : IVec S3 32 := broadcastInDim S3 ![] bcast_S_S3 main_c_0
  let main_v4 : IVec S3 1 := cmpi .sgt main_arg6 main_v3
  let main_v5 : IVec S3 1 := andi main_v2 main_v4
  let main_cst : FVec F S_ .f32 := constant S_ .f32 0x00000000#32
  let main_v6 : FVec F S3x8x7x4480 .f32 := broadcastInDim S3x8x7x4480 ![] bcast_S_S3x8x7x4480 main_cst
  let main_v7 : IVec S3x8x7x4480 1 := cmpf .ogt main_v0 main_v6
  let main_cst_1 : FVec F S_ .f32 := constant S_ .f32 0x7F800000#32
  let main_v8 : FVec F S3x8x7x4480 .f32 := broadcastInDim S3x8x7x4480 ![] bcast_S_S3x8x7x4480 main_cst_1
  let main_v9 : IVec S3x8x7x4480 1 := cmpf .olt main_v0 main_v8
  let main_v10 : IVec S3x8x7x4480 1 := andi main_v7 main_v9
  let main_c_2 : IVec S_ 1 := constantI S_ 1 1#1
  let main_v11 : IVec S_ 1 := (fun x v => Host.reduce IntOp.andi x v reducesTo_S3x8x7x4480_S_d0_1_2_3 h_S_) main_v10 main_c_2
  let main_c_3 : IVec S_ 1 := constantI S_ 1 1#1
  let main_v12 : IVec S_ 1 := (fun x v => Host.reduce IntOp.andi x v reducesTo_S3_S_d0 h_S_) main_v5 main_c_3
  let main_v13 : IVec S_ 1 := andi main_v11 main_v12
  main_v13
-- ==== Kernel.lean ====
abbrev S3x4480x7168 : Shape := ⟨3, ![3, 4480, 7168]⟩
abbrev S3x8x8x4608 : Shape := ⟨4, ![3, 8, 8, 4608]⟩
abbrev S3x8x4608x128 : Shape := ⟨4, ![3, 8, 4608, 128]⟩
abbrev S3x8x36x128 : Shape := ⟨4, ![3, 8, 36, 128]⟩
abbrev S3x8x128x4608 : Shape := ⟨4, ![3, 8, 128, 4608]⟩
abbrev S3x8x128x1 : Shape := ⟨4, ![3, 8, 128, 1]⟩
abbrev S3 : Shape := ⟨1, ![3]⟩
abbrev S1x256x896 : Shape := ⟨3, ![1, 256, 896]⟩
abbrev S1x1x8x256 : Shape := ⟨4, ![1, 1, 8, 256]⟩
abbrev S1x1x4608x128 : Shape := ⟨4, ![1, 1, 4608, 128]⟩
abbrev S1x1x36x128 : Shape := ⟨4, ![1, 1, 36, 128]⟩
abbrev S1x1x128x4608 : Shape := ⟨4, ![1, 1, 128, 4608]⟩
abbrev S1x1x128x1 : Shape := ⟨4, ![1, 1, 128, 1]⟩
abbrev S2x4608x256 : Shape := ⟨3, ![2, 4608, 256]⟩
abbrev S4608x128 : Shape := ⟨2, ![4608, 128]⟩
abbrev S128x256 : Shape := ⟨2, ![128, 256]⟩
abbrev S8x256 : Shape := ⟨2, ![8, 256]⟩
abbrev S1 : Shape := ⟨1, ![1]⟩
abbrev S1x1x1x128 : Shape := ⟨4, ![1, 1, 1, 128]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S1x1x512x128 : Shape := ⟨4, ![1, 1, 512, 128]⟩
abbrev S512x128 : Shape := ⟨2, ![512, 128]⟩
abbrev S512x256 : Shape := ⟨2, ![512, 256]⟩
abbrev S8x128 : Shape := ⟨2, ![8, 128]⟩
abbrev S1x8x256 : Shape := ⟨3, ![1, 8, 256]⟩
abbrev S256 : Shape := ⟨1, ![256]⟩
abbrev S1x256 : Shape := ⟨2, ![1, 256]⟩
abbrev S1x1x1x256 : Shape := ⟨4, ![1, 1, 1, 256]⟩
abbrev S32x256 : Shape := ⟨2, ![32, 256]⟩
abbrev S1x1x128x512 : Shape := ⟨4, ![1, 1, 128, 512]⟩
abbrev S128x512 : Shape := ⟨2, ![128, 512]⟩
abbrev S128x1 : Shape := ⟨2, ![128, 1]⟩

abbrev nBuf : Space → Nat
  | .hbm => 7
  | .vmem => 21
  | .smem => 1
  | _ => 0

abbrev bufTy : (tb : Table) → Fin (tcTables nBuf tb) → BufTy
  | .hbm, ⟨0, _⟩ => ⟨S3x4480x7168, .fp8e4m3⟩
  | .hbm, ⟨1, _⟩ => ⟨S3x8x8x4608, .f32⟩
  | .hbm, ⟨2, _⟩ => ⟨S3x8x4608x128, .fp8e4m3⟩
  | .hbm, ⟨3, _⟩ => ⟨S3x8x36x128, .f32⟩
  | .hbm, ⟨4, _⟩ => ⟨S3x8x128x4608, .fp8e4m3⟩
  | .hbm, ⟨5, _⟩ => ⟨S3x8x128x1, .f32⟩
  | .hbm, ⟨6, _⟩ => ⟨S3x4480x7168, .bf16⟩
  | .local _ .vmem, ⟨0, _⟩ => ⟨S1x256x896, .fp8e4m3⟩
  | .local _ .vmem, ⟨1, _⟩ => ⟨S1x256x896, .fp8e4m3⟩
  | .local _ .vmem, ⟨2, _⟩ => ⟨S1x1x8x256, .f32⟩
  | .local _ .vmem, ⟨3, _⟩ => ⟨S1x1x8x256, .f32⟩
  | .local _ .vmem, ⟨4, _⟩ => ⟨S1x1x4608x128, .fp8e4m3⟩
  | .local _ .vmem, ⟨5, _⟩ => ⟨S1x1x4608x128, .fp8e4m3⟩
  | .local _ .vmem, ⟨6, _⟩ => ⟨S1x1x36x128, .f32⟩
  | .local _ .vmem, ⟨7, _⟩ => ⟨S1x1x36x128, .f32⟩
  | .local _ .vmem, ⟨8, _⟩ => ⟨S1x1x128x4608, .fp8e4m3⟩
  | .local _ .vmem, ⟨9, _⟩ => ⟨S1x1x128x4608, .fp8e4m3⟩
  | .local _ .vmem, ⟨10, _⟩ => ⟨S1x1x128x1, .f32⟩
  | .local _ .vmem, ⟨11, _⟩ => ⟨S1x1x128x1, .f32⟩
  | .local _ .vmem, ⟨12, _⟩ => ⟨S1x256x896, .bf16⟩
  | .local _ .vmem, ⟨13, _⟩ => ⟨S1x256x896, .bf16⟩
  | .local _ .vmem, ⟨14, _⟩ => ⟨S2x4608x256, .f32⟩
  | .local _ .vmem, ⟨15, _⟩ => ⟨S4608x128, .f32⟩
  | .local _ .vmem, ⟨16, _⟩ => ⟨S128x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S8x256, .f32⟩
  | .local _ .smem, ⟨0, _⟩ => ⟨S3, .i32⟩
  | _, _ => ⟨S3x4480x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![3, 8, 18], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_18 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v51 : BitVec 32 := Scalar.subi v30 c0_i32_18
  let c1_i32_19 : BitVec 32 := 1#32
  let v53 : BitVec 32 := Scalar.divsi v51 c1_i32_19
  let v54 : BitVec 32 := Scalar.muli v53 c1_i32_19
  let v55 : BitVec 32 := Scalar.addi c0_i32_18 v54
  let c1_i32_20 : BitVec 32 := 1#32
  ⟨c0_i32_18, v55, c1_i32_20⟩

def k0_off2 (i : grid0.Coords) (v1 : BitVec 32) (k0_t1 : Fin (k0_t1_loop i v1).trips) : Fin 4 → Nat :=
  let c0_319 : Index := 0#32
  let c0_320 : Index := 0#32
  let c0_i32_18 : BitVec 32 := 0#32
  let c1_i32_20 : BitVec 32 := 1#32
  let arg18 : BitVec 32 := Scf.iv c0_i32_18 c1_i32_20 k0_t1
  let c512_i32_315 : BitVec 32 := 512#32
  let v460 : BitVec 32 := Scalar.muli arg18 c512_i32_315
  let v463 : Index := Scalar.indexCast v460
  let c0_321 : Index := 0#32
  ![0, 0, v463.toNat, 0]
def k0_off3 (i : grid0.Coords) (v1 : BitVec 32) (k0_t1 : Fin (k0_t1_loop i v1).trips) (c0_i32_325 : BitVec 32) : Fin 2 → Nat :=
  let c0_i32_18 : BitVec 32 := 0#32
  let c1_i32_20 : BitVec 32 := 1#32
  let arg18 : BitVec 32 := Scf.iv c0_i32_18 c1_i32_20 k0_t1
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off4 (i : grid0.Coords) (v1 : BitVec 32) (k0_t1 : Fin (k0_t1_loop i v1).trips) (c0_i32_327 : BitVec 32) : Fin 3 → Nat :=
  let c0_328 : Index := 0#32
  let c0_i32_18 : BitVec 32 := 0#32
  let c1_i32_20 : BitVec 32 := 1#32
  let arg18 : BitVec 32 := Scf.iv c0_i32_18 c1_i32_20 k0_t1
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
@[reducible] def k0_t2_loop (i : grid0.Coords) (v1 : BitVec 32) : Scf.Loop 32 :=
  let c0_i32_18 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v51 : BitVec 32 := Scalar.subi v30 c0_i32_18
  let c1_i32_19 : BitVec 32 := 1#32
  let v53 : BitVec 32 := Scalar.divsi v51 c1_i32_19
  let v54 : BitVec 32 := Scalar.muli v53 c1_i32_19
  let v55 : BitVec 32 := Scalar.addi c0_i32_18 v54
  let v52 : BitVec 32 := Scalar.addi c0_i32_18 v51
  let c1_i32_21 : BitVec 32 := 1#32
  ⟨v55, v52, c1_i32_21⟩
def k0_off5 (i : grid0.Coords) (v1 : BitVec 32) (k0_t2 : Fin (k0_t2_loop i v1).trips) : Fin 4 → Nat :=
  let c0_319 : Index := 0#32
  let c0_320 : Index := 0#32
  let c0_i32_18 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v51 : BitVec 32 := Scalar.subi v30 c0_i32_18
  let c1_i32_19 : BitVec 32 := 1#32
  let v53 : BitVec 32 := Scalar.divsi v51 c1_i32_19
  let v54 : BitVec 32 := Scalar.muli v53 c1_i32_19
  let v55 : BitVec 32 := Scalar.addi c0_i32_18 v54
  let c1_i32_21 : BitVec 32 := 1#32
  let arg18 : BitVec 32 := Scf.iv v55 c1_i32_21 k0_t2
  let c512_i32_315 : BitVec 32 := 512#32
  let v460 : BitVec 32 := Scalar.muli arg18 c512_i32_315
  let v463 : Index := Scalar.indexCast v460
  let c0_321 : Index := 0#32
  ![0, 0, v463.toNat, 0]
def k0_off6 (i : grid0.Coords) (v1 : BitVec 32) (k0_t2 : Fin (k0_t2_loop i v1).trips) (c0_i32_325 : BitVec 32) : Fin 2 → Nat :=
  let c0_i32_18 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v51 : BitVec 32 := Scalar.subi v30 c0_i32_18
  let c1_i32_19 : BitVec 32 := 1#32
  let v53 : BitVec 32 := Scalar.divsi v51 c1_i32_19
  let v54 : BitVec 32 := Scalar.muli v53 c1_i32_19
  let v55 : BitVec 32 := Scalar.addi c0_i32_18 v54
  let c1_i32_21 : BitVec 32 := 1#32
  let arg18 : BitVec 32 := Scf.iv v55 c1_i32_21 k0_t2
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off7 (i : grid0.Coords) (v1 : BitVec 32) (k0_t2 : Fin (k0_t2_loop i v1).trips) (c0_i32_327 : BitVec 32) : Fin 3 → Nat :=
  let c0_328 : Index := 0#32
  let c0_i32_18 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v51 : BitVec 32 := Scalar.subi v30 c0_i32_18
  let c1_i32_19 : BitVec 32 := 1#32
  let v53 : BitVec 32 := Scalar.divsi v51 c1_i32_19
  let v54 : BitVec 32 := Scalar.muli v53 c1_i32_19
  let v55 : BitVec 32 := Scalar.addi c0_i32_18 v54
  let c1_i32_21 : BitVec 32 := 1#32
  let arg18 : BitVec 32 := Scf.iv v55 c1_i32_21 k0_t2
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
@[reducible] def k0_t3_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v56 : BitVec 32 := Scalar.subi v10 v30
  let c1_i32_23 : BitVec 32 := 1#32
  let v58 : BitVec 32 := Scalar.divsi v56 c1_i32_23
  let v59 : BitVec 32 := Scalar.muli v58 c1_i32_23
  let v60 : BitVec 32 := Scalar.addi v30 v59
  let c1_i32_24 : BitVec 32 := 1#32
  ⟨v30, v60, c1_i32_24⟩
def k0_off8 (i : grid0.Coords) (v1 : BitVec 32) (k0_t3 : Fin (k0_t3_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_24 : BitVec 32 := 1#32
  let arg18 : BitVec 32 := Scf.iv v30 c1_i32_24 k0_t3
  let c512_i32_315 : BitVec 32 := 512#32
  let v460 : BitVec 32 := Scalar.muli arg18 c512_i32_315
  let v463 : Index := Scalar.indexCast v460
  let c0_321 : Index := 0#32
  ![0, 0, v463.toNat, 0]
def k0_off9 (i : grid0.Coords) (v1 : BitVec 32) (k0_t3 : Fin (k0_t3_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_24 : BitVec 32 := 1#32
  let arg18 : BitVec 32 := Scf.iv v30 c1_i32_24 k0_t3
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off10 (i : grid0.Coords) (v1 : BitVec 32) (k0_t3 : Fin (k0_t3_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_24 : BitVec 32 := 1#32
  let arg18 : BitVec 32 := Scf.iv v30 c1_i32_24 k0_t3
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
@[reducible] def k0_t4_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v56 : BitVec 32 := Scalar.subi v10 v30
  let c1_i32_23 : BitVec 32 := 1#32
  let v58 : BitVec 32 := Scalar.divsi v56 c1_i32_23
  let v59 : BitVec 32 := Scalar.muli v58 c1_i32_23
  let v60 : BitVec 32 := Scalar.addi v30 v59
  let v57 : BitVec 32 := Scalar.addi v30 v56
  let c1_i32_25 : BitVec 32 := 1#32
  ⟨v60, v57, c1_i32_25⟩
def k0_off11 (i : grid0.Coords) (v1 : BitVec 32) (k0_t4 : Fin (k0_t4_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v56 : BitVec 32 := Scalar.subi v10 v30
  let c1_i32_23 : BitVec 32 := 1#32
  let v58 : BitVec 32 := Scalar.divsi v56 c1_i32_23
  let v59 : BitVec 32 := Scalar.muli v58 c1_i32_23
  let v60 : BitVec 32 := Scalar.addi v30 v59
  let c1_i32_25 : BitVec 32 := 1#32
  let arg18 : BitVec 32 := Scf.iv v60 c1_i32_25 k0_t4
  let c512_i32_315 : BitVec 32 := 512#32
  let v460 : BitVec 32 := Scalar.muli arg18 c512_i32_315
  let v463 : Index := Scalar.indexCast v460
  let c0_321 : Index := 0#32
  ![0, 0, v463.toNat, 0]
def k0_off12 (i : grid0.Coords) (v1 : BitVec 32) (k0_t4 : Fin (k0_t4_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v56 : BitVec 32 := Scalar.subi v10 v30
  let c1_i32_23 : BitVec 32 := 1#32
  let v58 : BitVec 32 := Scalar.divsi v56 c1_i32_23
  let v59 : BitVec 32 := Scalar.muli v58 c1_i32_23
  let v60 : BitVec 32 := Scalar.addi v30 v59
  let c1_i32_25 : BitVec 32 := 1#32
  let arg18 : BitVec 32 := Scf.iv v60 c1_i32_25 k0_t4
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off13 (i : grid0.Coords) (v1 : BitVec 32) (k0_t4 : Fin (k0_t4_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v56 : BitVec 32 := Scalar.subi v10 v30
  let c1_i32_23 : BitVec 32 := 1#32
  let v58 : BitVec 32 := Scalar.divsi v56 c1_i32_23
  let v59 : BitVec 32 := Scalar.muli v58 c1_i32_23
  let v60 : BitVec 32 := Scalar.addi v30 v59
  let c1_i32_25 : BitVec 32 := 1#32
  let arg18 : BitVec 32 := Scf.iv v60 c1_i32_25 k0_t4
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
@[reducible] def k0_t5_loop (i : grid0.Coords) (v1 : BitVec 32) : Scf.Loop 32 :=
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_45 : BitVec 32 := 1#32
  ⟨c0_i32_43, v89, c1_i32_45⟩
def k0_off14 (i : grid0.Coords) (v1 : BitVec 32) (k0_t5 : Fin (k0_t5_loop i v1).trips) : Fin 4 → Nat :=
  let c0_319 : Index := 0#32
  let c0_320 : Index := 0#32
  let c0_i32_43 : BitVec 32 := 0#32
  let c1_i32_45 : BitVec 32 := 1#32
  let arg18 : BitVec 32 := Scf.iv c0_i32_43 c1_i32_45 k0_t5
  let c512_i32_315 : BitVec 32 := 512#32
  let v460 : BitVec 32 := Scalar.muli arg18 c512_i32_315
  let v463 : Index := Scalar.indexCast v460
  let c0_321 : Index := 0#32
  ![0, 0, v463.toNat, 0]
def k0_off15 (i : grid0.Coords) (v1 : BitVec 32) (k0_t5 : Fin (k0_t5_loop i v1).trips) (c0_i32_325 : BitVec 32) : Fin 2 → Nat :=
  let c0_i32_43 : BitVec 32 := 0#32
  let c1_i32_45 : BitVec 32 := 1#32
  let arg18 : BitVec 32 := Scf.iv c0_i32_43 c1_i32_45 k0_t5
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off16 (i : grid0.Coords) (v1 : BitVec 32) (k0_t5 : Fin (k0_t5_loop i v1).trips) (c0_i32_327 : BitVec 32) : Fin 3 → Nat :=
  let c1_328 : Index := 1#32
  let c0_i32_43 : BitVec 32 := 0#32
  let c1_i32_45 : BitVec 32 := 1#32
  let arg18 : BitVec 32 := Scf.iv c0_i32_43 c1_i32_45 k0_t5
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off17 (i : grid0.Coords) (v1 : BitVec 32) (k0_t5 : Fin (k0_t5_loop i v1).trips) (c0_i32_592 : BitVec 32) (c0_i32_593 : BitVec 32) : Fin 3 → Nat :=
  let c0_594 : Index := 0#32
  let c0_i32_43 : BitVec 32 := 0#32
  let c1_i32_45 : BitVec 32 := 1#32
  let arg18 : BitVec 32 := Scf.iv c0_i32_43 c1_i32_45 k0_t5
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off18 (i : grid0.Coords) (v1 : BitVec 32) (k0_t5 : Fin (k0_t5_loop i v1).trips) : Fin 4 → Nat :=
  let c0_916 : Index := 0#32
  let c0_917 : Index := 0#32
  let c0_918 : Index := 0#32
  let c0_i32_43 : BitVec 32 := 0#32
  let c1_i32_45 : BitVec 32 := 1#32
  let arg18 : BitVec 32 := Scf.iv c0_i32_43 c1_i32_45 k0_t5
  let c512_i32_585 : BitVec 32 := 512#32
  let v1239 : BitVec 32 := Scalar.muli arg18 c512_i32_585
  let v1984 : Index := Scalar.indexCast v1239
  ![0, 0, 0, v1984.toNat]
@[reducible] def k0_t6_loop (i : grid0.Coords) (v1 : BitVec 32) : Scf.Loop 32 :=
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let v86 : BitVec 32 := Scalar.addi c0_i32_43 v85
  let c1_i32_46 : BitVec 32 := 1#32
  ⟨v89, v86, c1_i32_46⟩
def k0_off19 (i : grid0.Coords) (v1 : BitVec 32) (k0_t6 : Fin (k0_t6_loop i v1).trips) : Fin 4 → Nat :=
  let c0_319 : Index := 0#32
  let c0_320 : Index := 0#32
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_46 : BitVec 32 := 1#32
  let arg18 : BitVec 32 := Scf.iv v89 c1_i32_46 k0_t6
  let c512_i32_315 : BitVec 32 := 512#32
  let v460 : BitVec 32 := Scalar.muli arg18 c512_i32_315
  let v463 : Index := Scalar.indexCast v460
  let c0_321 : Index := 0#32
  ![0, 0, v463.toNat, 0]
def k0_off20 (i : grid0.Coords) (v1 : BitVec 32) (k0_t6 : Fin (k0_t6_loop i v1).trips) (c0_i32_325 : BitVec 32) : Fin 2 → Nat :=
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_46 : BitVec 32 := 1#32
  let arg18 : BitVec 32 := Scf.iv v89 c1_i32_46 k0_t6
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off21 (i : grid0.Coords) (v1 : BitVec 32) (k0_t6 : Fin (k0_t6_loop i v1).trips) (c0_i32_327 : BitVec 32) : Fin 3 → Nat :=
  let c1_328 : Index := 1#32
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_46 : BitVec 32 := 1#32
  let arg18 : BitVec 32 := Scf.iv v89 c1_i32_46 k0_t6
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off22 (i : grid0.Coords) (v1 : BitVec 32) (k0_t6 : Fin (k0_t6_loop i v1).trips) (c0_i32_592 : BitVec 32) (c0_i32_593 : BitVec 32) : Fin 3 → Nat :=
  let c0_594 : Index := 0#32
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_46 : BitVec 32 := 1#32
  let arg18 : BitVec 32 := Scf.iv v89 c1_i32_46 k0_t6
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off23 (i : grid0.Coords) (v1 : BitVec 32) (k0_t6 : Fin (k0_t6_loop i v1).trips) : Fin 4 → Nat :=
  let c0_916 : Index := 0#32
  let c0_917 : Index := 0#32
  let c0_918 : Index := 0#32
  let c0_i32_43 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v85 : BitVec 32 := Scalar.subi v30 c0_i32_43
  let c1_i32_44 : BitVec 32 := 1#32
  let v87 : BitVec 32 := Scalar.divsi v85 c1_i32_44
  let v88 : BitVec 32 := Scalar.muli v87 c1_i32_44
  let v89 : BitVec 32 := Scalar.addi c0_i32_43 v88
  let c1_i32_46 : BitVec 32 := 1#32
  let arg18 : BitVec 32 := Scf.iv v89 c1_i32_46 k0_t6
  let c512_i32_585 : BitVec 32 := 512#32
  let v1239 : BitVec 32 := Scalar.muli arg18 c512_i32_585
  let v1984 : Index := Scalar.indexCast v1239
  ![0, 0, 0, v1984.toNat]
@[reducible] def k0_t7_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_49 : BitVec 32 := 1#32
  ⟨v30, v94, c1_i32_49⟩
def k0_off24 (i : grid0.Coords) (v1 : BitVec 32) (k0_t7 : Fin (k0_t7_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_49 : BitVec 32 := 1#32
  let arg18 : BitVec 32 := Scf.iv v30 c1_i32_49 k0_t7
  let c512_i32_315 : BitVec 32 := 512#32
  let v460 : BitVec 32 := Scalar.muli arg18 c512_i32_315
  let v463 : Index := Scalar.indexCast v460
  let c0_321 : Index := 0#32
  ![0, 0, v463.toNat, 0]
def k0_off25 (i : grid0.Coords) (v1 : BitVec 32) (k0_t7 : Fin (k0_t7_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_49 : BitVec 32 := 1#32
  let arg18 : BitVec 32 := Scf.iv v30 c1_i32_49 k0_t7
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off26 (i : grid0.Coords) (v1 : BitVec 32) (k0_t7 : Fin (k0_t7_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_49 : BitVec 32 := 1#32
  let arg18 : BitVec 32 := Scf.iv v30 c1_i32_49 k0_t7
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off27 (i : grid0.Coords) (v1 : BitVec 32) (k0_t7 : Fin (k0_t7_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_49 : BitVec 32 := 1#32
  let arg18 : BitVec 32 := Scf.iv v30 c1_i32_49 k0_t7
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off28 (i : grid0.Coords) (v1 : BitVec 32) (k0_t7 : Fin (k0_t7_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_49 : BitVec 32 := 1#32
  let arg18 : BitVec 32 := Scf.iv v30 c1_i32_49 k0_t7
  let c512_i32_713 : BitVec 32 := 512#32
  let v1623 : BitVec 32 := Scalar.muli arg18 c512_i32_713
  let v2368 : Index := Scalar.indexCast v1623
  ![0, 0, 0, v2368.toNat]
@[reducible] def k0_t8_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let v91 : BitVec 32 := Scalar.addi v30 v90
  let c1_i32_50 : BitVec 32 := 1#32
  ⟨v94, v91, c1_i32_50⟩
def k0_off29 (i : grid0.Coords) (v1 : BitVec 32) (k0_t8 : Fin (k0_t8_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_50 : BitVec 32 := 1#32
  let arg18 : BitVec 32 := Scf.iv v94 c1_i32_50 k0_t8
  let c512_i32_315 : BitVec 32 := 512#32
  let v460 : BitVec 32 := Scalar.muli arg18 c512_i32_315
  let v463 : Index := Scalar.indexCast v460
  let c0_321 : Index := 0#32
  ![0, 0, v463.toNat, 0]
def k0_off30 (i : grid0.Coords) (v1 : BitVec 32) (k0_t8 : Fin (k0_t8_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_50 : BitVec 32 := 1#32
  let arg18 : BitVec 32 := Scf.iv v94 c1_i32_50 k0_t8
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off31 (i : grid0.Coords) (v1 : BitVec 32) (k0_t8 : Fin (k0_t8_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_50 : BitVec 32 := 1#32
  let arg18 : BitVec 32 := Scf.iv v94 c1_i32_50 k0_t8
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off32 (i : grid0.Coords) (v1 : BitVec 32) (k0_t8 : Fin (k0_t8_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_50 : BitVec 32 := 1#32
  let arg18 : BitVec 32 := Scf.iv v94 c1_i32_50 k0_t8
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off33 (i : grid0.Coords) (v1 : BitVec 32) (k0_t8 : Fin (k0_t8_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v90 : BitVec 32 := Scalar.subi v10 v30
  let c1_i32_48 : BitVec 32 := 1#32
  let v92 : BitVec 32 := Scalar.divsi v90 c1_i32_48
  let v93 : BitVec 32 := Scalar.muli v92 c1_i32_48
  let v94 : BitVec 32 := Scalar.addi v30 v93
  let c1_i32_50 : BitVec 32 := 1#32
  let arg18 : BitVec 32 := Scf.iv v94 c1_i32_50 k0_t8
  let c512_i32_713 : BitVec 32 := 512#32
  let v1623 : BitVec 32 := Scalar.muli arg18 c512_i32_713
  let v2368 : Index := Scalar.indexCast v1623
  ![0, 0, 0, v2368.toNat]
@[reducible] def k0_t9_loop (i : grid0.Coords) (v1 : BitVec 32) : Scf.Loop 32 :=
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_87 : BitVec 32 := 1#32
  ⟨c0_i32_85, v146, c1_i32_87⟩
def k0_off34 (i : grid0.Coords) (v1 : BitVec 32) (k0_t9 : Fin (k0_t9_loop i v1).trips) : Fin 4 → Nat :=
  let c0_319 : Index := 0#32
  let c0_320 : Index := 0#32
  let c0_i32_85 : BitVec 32 := 0#32
  let c1_i32_87 : BitVec 32 := 1#32
  let arg18 : BitVec 32 := Scf.iv c0_i32_85 c1_i32_87 k0_t9
  let c512_i32_315 : BitVec 32 := 512#32
  let v460 : BitVec 32 := Scalar.muli arg18 c512_i32_315
  let v463 : Index := Scalar.indexCast v460
  let c0_321 : Index := 0#32
  ![0, 0, v463.toNat, 0]
def k0_off35 (i : grid0.Coords) (v1 : BitVec 32) (k0_t9 : Fin (k0_t9_loop i v1).trips) (c0_i32_325 : BitVec 32) : Fin 2 → Nat :=
  let c0_i32_85 : BitVec 32 := 0#32
  let c1_i32_87 : BitVec 32 := 1#32
  let arg18 : BitVec 32 := Scf.iv c0_i32_85 c1_i32_87 k0_t9
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off36 (i : grid0.Coords) (v1 : BitVec 32) (k0_t9 : Fin (k0_t9_loop i v1).trips) (c0_i32_327 : BitVec 32) : Fin 3 → Nat :=
  let c0_328 : Index := 0#32
  let c0_i32_85 : BitVec 32 := 0#32
  let c1_i32_87 : BitVec 32 := 1#32
  let arg18 : BitVec 32 := Scf.iv c0_i32_85 c1_i32_87 k0_t9
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off37 (i : grid0.Coords) (v1 : BitVec 32) (k0_t9 : Fin (k0_t9_loop i v1).trips) (c0_i32_592 : BitVec 32) (c0_i32_593 : BitVec 32) : Fin 3 → Nat :=
  let c1_594 : Index := 1#32
  let c0_i32_85 : BitVec 32 := 0#32
  let c1_i32_87 : BitVec 32 := 1#32
  let arg18 : BitVec 32 := Scf.iv c0_i32_85 c1_i32_87 k0_t9
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off38 (i : grid0.Coords) (v1 : BitVec 32) (k0_t9 : Fin (k0_t9_loop i v1).trips) : Fin 4 → Nat :=
  let c0_916 : Index := 0#32
  let c0_917 : Index := 0#32
  let c0_918 : Index := 0#32
  let c0_i32_85 : BitVec 32 := 0#32
  let c1_i32_87 : BitVec 32 := 1#32
  let arg18 : BitVec 32 := Scf.iv c0_i32_85 c1_i32_87 k0_t9
  let c512_i32_585 : BitVec 32 := 512#32
  let v1239 : BitVec 32 := Scalar.muli arg18 c512_i32_585
  let v1984 : Index := Scalar.indexCast v1239
  ![0, 0, 0, v1984.toNat]
@[reducible] def k0_t10_loop (i : grid0.Coords) (v1 : BitVec 32) : Scf.Loop 32 :=
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let v143 : BitVec 32 := Scalar.addi c0_i32_85 v142
  let c1_i32_88 : BitVec 32 := 1#32
  ⟨v146, v143, c1_i32_88⟩
def k0_off39 (i : grid0.Coords) (v1 : BitVec 32) (k0_t10 : Fin (k0_t10_loop i v1).trips) : Fin 4 → Nat :=
  let c0_319 : Index := 0#32
  let c0_320 : Index := 0#32
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_88 : BitVec 32 := 1#32
  let arg18 : BitVec 32 := Scf.iv v146 c1_i32_88 k0_t10
  let c512_i32_315 : BitVec 32 := 512#32
  let v460 : BitVec 32 := Scalar.muli arg18 c512_i32_315
  let v463 : Index := Scalar.indexCast v460
  let c0_321 : Index := 0#32
  ![0, 0, v463.toNat, 0]
def k0_off40 (i : grid0.Coords) (v1 : BitVec 32) (k0_t10 : Fin (k0_t10_loop i v1).trips) (c0_i32_325 : BitVec 32) : Fin 2 → Nat :=
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_88 : BitVec 32 := 1#32
  let arg18 : BitVec 32 := Scf.iv v146 c1_i32_88 k0_t10
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off41 (i : grid0.Coords) (v1 : BitVec 32) (k0_t10 : Fin (k0_t10_loop i v1).trips) (c0_i32_327 : BitVec 32) : Fin 3 → Nat :=
  let c0_328 : Index := 0#32
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_88 : BitVec 32 := 1#32
  let arg18 : BitVec 32 := Scf.iv v146 c1_i32_88 k0_t10
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off42 (i : grid0.Coords) (v1 : BitVec 32) (k0_t10 : Fin (k0_t10_loop i v1).trips) (c0_i32_592 : BitVec 32) (c0_i32_593 : BitVec 32) : Fin 3 → Nat :=
  let c1_594 : Index := 1#32
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_88 : BitVec 32 := 1#32
  let arg18 : BitVec 32 := Scf.iv v146 c1_i32_88 k0_t10
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off43 (i : grid0.Coords) (v1 : BitVec 32) (k0_t10 : Fin (k0_t10_loop i v1).trips) : Fin 4 → Nat :=
  let c0_916 : Index := 0#32
  let c0_917 : Index := 0#32
  let c0_918 : Index := 0#32
  let c0_i32_85 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v142 : BitVec 32 := Scalar.subi v30 c0_i32_85
  let c1_i32_86 : BitVec 32 := 1#32
  let v144 : BitVec 32 := Scalar.divsi v142 c1_i32_86
  let v145 : BitVec 32 := Scalar.muli v144 c1_i32_86
  let v146 : BitVec 32 := Scalar.addi c0_i32_85 v145
  let c1_i32_88 : BitVec 32 := 1#32
  let arg18 : BitVec 32 := Scf.iv v146 c1_i32_88 k0_t10
  let c512_i32_585 : BitVec 32 := 512#32
  let v1239 : BitVec 32 := Scalar.muli arg18 c512_i32_585
  let v1984 : Index := Scalar.indexCast v1239
  ![0, 0, 0, v1984.toNat]
@[reducible] def k0_t11_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_91 : BitVec 32 := 1#32
  ⟨v30, v151, c1_i32_91⟩
def k0_off44 (i : grid0.Coords) (v1 : BitVec 32) (k0_t11 : Fin (k0_t11_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_91 : BitVec 32 := 1#32
  let arg18 : BitVec 32 := Scf.iv v30 c1_i32_91 k0_t11
  let c512_i32_315 : BitVec 32 := 512#32
  let v460 : BitVec 32 := Scalar.muli arg18 c512_i32_315
  let v463 : Index := Scalar.indexCast v460
  let c0_321 : Index := 0#32
  ![0, 0, v463.toNat, 0]
def k0_off45 (i : grid0.Coords) (v1 : BitVec 32) (k0_t11 : Fin (k0_t11_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_91 : BitVec 32 := 1#32
  let arg18 : BitVec 32 := Scf.iv v30 c1_i32_91 k0_t11
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off46 (i : grid0.Coords) (v1 : BitVec 32) (k0_t11 : Fin (k0_t11_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_91 : BitVec 32 := 1#32
  let arg18 : BitVec 32 := Scf.iv v30 c1_i32_91 k0_t11
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off47 (i : grid0.Coords) (v1 : BitVec 32) (k0_t11 : Fin (k0_t11_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_91 : BitVec 32 := 1#32
  let arg18 : BitVec 32 := Scf.iv v30 c1_i32_91 k0_t11
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off48 (i : grid0.Coords) (v1 : BitVec 32) (k0_t11 : Fin (k0_t11_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_91 : BitVec 32 := 1#32
  let arg18 : BitVec 32 := Scf.iv v30 c1_i32_91 k0_t11
  let c512_i32_713 : BitVec 32 := 512#32
  let v1623 : BitVec 32 := Scalar.muli arg18 c512_i32_713
  let v2368 : Index := Scalar.indexCast v1623
  ![0, 0, 0, v2368.toNat]
@[reducible] def k0_t12_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let v148 : BitVec 32 := Scalar.addi v30 v147
  let c1_i32_92 : BitVec 32 := 1#32
  ⟨v151, v148, c1_i32_92⟩
def k0_off49 (i : grid0.Coords) (v1 : BitVec 32) (k0_t12 : Fin (k0_t12_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_92 : BitVec 32 := 1#32
  let arg18 : BitVec 32 := Scf.iv v151 c1_i32_92 k0_t12
  let c512_i32_315 : BitVec 32 := 512#32
  let v460 : BitVec 32 := Scalar.muli arg18 c512_i32_315
  let v463 : Index := Scalar.indexCast v460
  let c0_321 : Index := 0#32
  ![0, 0, v463.toNat, 0]
def k0_off50 (i : grid0.Coords) (v1 : BitVec 32) (k0_t12 : Fin (k0_t12_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_92 : BitVec 32 := 1#32
  let arg18 : BitVec 32 := Scf.iv v151 c1_i32_92 k0_t12
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off51 (i : grid0.Coords) (v1 : BitVec 32) (k0_t12 : Fin (k0_t12_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_92 : BitVec 32 := 1#32
  let arg18 : BitVec 32 := Scf.iv v151 c1_i32_92 k0_t12
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off52 (i : grid0.Coords) (v1 : BitVec 32) (k0_t12 : Fin (k0_t12_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_92 : BitVec 32 := 1#32
  let arg18 : BitVec 32 := Scf.iv v151 c1_i32_92 k0_t12
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off53 (i : grid0.Coords) (v1 : BitVec 32) (k0_t12 : Fin (k0_t12_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v147 : BitVec 32 := Scalar.subi v10 v30
  let c1_i32_90 : BitVec 32 := 1#32
  let v149 : BitVec 32 := Scalar.divsi v147 c1_i32_90
  let v150 : BitVec 32 := Scalar.muli v149 c1_i32_90
  let v151 : BitVec 32 := Scalar.addi v30 v150
  let c1_i32_92 : BitVec 32 := 1#32
  let arg18 : BitVec 32 := Scf.iv v151 c1_i32_92 k0_t12
  let c512_i32_713 : BitVec 32 := 512#32
  let v1623 : BitVec 32 := Scalar.muli arg18 c512_i32_713
  let v2368 : Index := Scalar.indexCast v1623
  ![0, 0, 0, v2368.toNat]
@[reducible] def k0_t13_loop (i : grid0.Coords) (v1 : BitVec 32) : Scf.Loop 32 :=
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_128 : BitVec 32 := 1#32
  ⟨c0_i32_126, v203, c1_i32_128⟩
def k0_off54 (i : grid0.Coords) (v1 : BitVec 32) (k0_t13 : Fin (k0_t13_loop i v1).trips) : Fin 4 → Nat :=
  let c0_319 : Index := 0#32
  let c0_320 : Index := 0#32
  let c0_i32_126 : BitVec 32 := 0#32
  let c1_i32_128 : BitVec 32 := 1#32
  let arg18 : BitVec 32 := Scf.iv c0_i32_126 c1_i32_128 k0_t13
  let c512_i32_315 : BitVec 32 := 512#32
  let v460 : BitVec 32 := Scalar.muli arg18 c512_i32_315
  let v463 : Index := Scalar.indexCast v460
  let c0_321 : Index := 0#32
  ![0, 0, v463.toNat, 0]
def k0_off55 (i : grid0.Coords) (v1 : BitVec 32) (k0_t13 : Fin (k0_t13_loop i v1).trips) (c0_i32_325 : BitVec 32) : Fin 2 → Nat :=
  let c0_i32_126 : BitVec 32 := 0#32
  let c1_i32_128 : BitVec 32 := 1#32
  let arg18 : BitVec 32 := Scf.iv c0_i32_126 c1_i32_128 k0_t13
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off56 (i : grid0.Coords) (v1 : BitVec 32) (k0_t13 : Fin (k0_t13_loop i v1).trips) (c0_i32_327 : BitVec 32) : Fin 3 → Nat :=
  let c1_328 : Index := 1#32
  let c0_i32_126 : BitVec 32 := 0#32
  let c1_i32_128 : BitVec 32 := 1#32
  let arg18 : BitVec 32 := Scf.iv c0_i32_126 c1_i32_128 k0_t13
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off57 (i : grid0.Coords) (v1 : BitVec 32) (k0_t13 : Fin (k0_t13_loop i v1).trips) (c0_i32_592 : BitVec 32) (c0_i32_593 : BitVec 32) : Fin 3 → Nat :=
  let c0_594 : Index := 0#32
  let c0_i32_126 : BitVec 32 := 0#32
  let c1_i32_128 : BitVec 32 := 1#32
  let arg18 : BitVec 32 := Scf.iv c0_i32_126 c1_i32_128 k0_t13
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off58 (i : grid0.Coords) (v1 : BitVec 32) (k0_t13 : Fin (k0_t13_loop i v1).trips) : Fin 4 → Nat :=
  let c0_916 : Index := 0#32
  let c0_917 : Index := 0#32
  let c0_918 : Index := 0#32
  let c0_i32_126 : BitVec 32 := 0#32
  let c1_i32_128 : BitVec 32 := 1#32
  let arg18 : BitVec 32 := Scf.iv c0_i32_126 c1_i32_128 k0_t13
  let c512_i32_585 : BitVec 32 := 512#32
  let v1239 : BitVec 32 := Scalar.muli arg18 c512_i32_585
  let v1984 : Index := Scalar.indexCast v1239
  ![0, 0, 0, v1984.toNat]
@[reducible] def k0_t14_loop (i : grid0.Coords) (v1 : BitVec 32) : Scf.Loop 32 :=
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let v200 : BitVec 32 := Scalar.addi c0_i32_126 v199
  let c1_i32_129 : BitVec 32 := 1#32
  ⟨v203, v200, c1_i32_129⟩
def k0_off59 (i : grid0.Coords) (v1 : BitVec 32) (k0_t14 : Fin (k0_t14_loop i v1).trips) : Fin 4 → Nat :=
  let c0_319 : Index := 0#32
  let c0_320 : Index := 0#32
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_129 : BitVec 32 := 1#32
  let arg18 : BitVec 32 := Scf.iv v203 c1_i32_129 k0_t14
  let c512_i32_315 : BitVec 32 := 512#32
  let v460 : BitVec 32 := Scalar.muli arg18 c512_i32_315
  let v463 : Index := Scalar.indexCast v460
  let c0_321 : Index := 0#32
  ![0, 0, v463.toNat, 0]
def k0_off60 (i : grid0.Coords) (v1 : BitVec 32) (k0_t14 : Fin (k0_t14_loop i v1).trips) (c0_i32_325 : BitVec 32) : Fin 2 → Nat :=
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_129 : BitVec 32 := 1#32
  let arg18 : BitVec 32 := Scf.iv v203 c1_i32_129 k0_t14
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off61 (i : grid0.Coords) (v1 : BitVec 32) (k0_t14 : Fin (k0_t14_loop i v1).trips) (c0_i32_327 : BitVec 32) : Fin 3 → Nat :=
  let c1_328 : Index := 1#32
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_129 : BitVec 32 := 1#32
  let arg18 : BitVec 32 := Scf.iv v203 c1_i32_129 k0_t14
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off62 (i : grid0.Coords) (v1 : BitVec 32) (k0_t14 : Fin (k0_t14_loop i v1).trips) (c0_i32_592 : BitVec 32) (c0_i32_593 : BitVec 32) : Fin 3 → Nat :=
  let c0_594 : Index := 0#32
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_129 : BitVec 32 := 1#32
  let arg18 : BitVec 32 := Scf.iv v203 c1_i32_129 k0_t14
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off63 (i : grid0.Coords) (v1 : BitVec 32) (k0_t14 : Fin (k0_t14_loop i v1).trips) : Fin 4 → Nat :=
  let c0_916 : Index := 0#32
  let c0_917 : Index := 0#32
  let c0_918 : Index := 0#32
  let c0_i32_126 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v199 : BitVec 32 := Scalar.subi v30 c0_i32_126
  let c1_i32_127 : BitVec 32 := 1#32
  let v201 : BitVec 32 := Scalar.divsi v199 c1_i32_127
  let v202 : BitVec 32 := Scalar.muli v201 c1_i32_127
  let v203 : BitVec 32 := Scalar.addi c0_i32_126 v202
  let c1_i32_129 : BitVec 32 := 1#32
  let arg18 : BitVec 32 := Scf.iv v203 c1_i32_129 k0_t14
  let c512_i32_585 : BitVec 32 := 512#32
  let v1239 : BitVec 32 := Scalar.muli arg18 c512_i32_585
  let v1984 : Index := Scalar.indexCast v1239
  ![0, 0, 0, v1984.toNat]
@[reducible] def k0_t15_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_132 : BitVec 32 := 1#32
  ⟨v30, v208, c1_i32_132⟩
def k0_off64 (i : grid0.Coords) (v1 : BitVec 32) (k0_t15 : Fin (k0_t15_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_132 : BitVec 32 := 1#32
  let arg18 : BitVec 32 := Scf.iv v30 c1_i32_132 k0_t15
  let c512_i32_315 : BitVec 32 := 512#32
  let v460 : BitVec 32 := Scalar.muli arg18 c512_i32_315
  let v463 : Index := Scalar.indexCast v460
  let c0_321 : Index := 0#32
  ![0, 0, v463.toNat, 0]
def k0_off65 (i : grid0.Coords) (v1 : BitVec 32) (k0_t15 : Fin (k0_t15_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_132 : BitVec 32 := 1#32
  let arg18 : BitVec 32 := Scf.iv v30 c1_i32_132 k0_t15
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off66 (i : grid0.Coords) (v1 : BitVec 32) (k0_t15 : Fin (k0_t15_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_132 : BitVec 32 := 1#32
  let arg18 : BitVec 32 := Scf.iv v30 c1_i32_132 k0_t15
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off67 (i : grid0.Coords) (v1 : BitVec 32) (k0_t15 : Fin (k0_t15_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_132 : BitVec 32 := 1#32
  let arg18 : BitVec 32 := Scf.iv v30 c1_i32_132 k0_t15
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off68 (i : grid0.Coords) (v1 : BitVec 32) (k0_t15 : Fin (k0_t15_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_132 : BitVec 32 := 1#32
  let arg18 : BitVec 32 := Scf.iv v30 c1_i32_132 k0_t15
  let c512_i32_713 : BitVec 32 := 512#32
  let v1623 : BitVec 32 := Scalar.muli arg18 c512_i32_713
  let v2368 : Index := Scalar.indexCast v1623
  ![0, 0, 0, v2368.toNat]
@[reducible] def k0_t16_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let v205 : BitVec 32 := Scalar.addi v30 v204
  let c1_i32_133 : BitVec 32 := 1#32
  ⟨v208, v205, c1_i32_133⟩
def k0_off69 (i : grid0.Coords) (v1 : BitVec 32) (k0_t16 : Fin (k0_t16_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_133 : BitVec 32 := 1#32
  let arg18 : BitVec 32 := Scf.iv v208 c1_i32_133 k0_t16
  let c512_i32_315 : BitVec 32 := 512#32
  let v460 : BitVec 32 := Scalar.muli arg18 c512_i32_315
  let v463 : Index := Scalar.indexCast v460
  let c0_321 : Index := 0#32
  ![0, 0, v463.toNat, 0]
def k0_off70 (i : grid0.Coords) (v1 : BitVec 32) (k0_t16 : Fin (k0_t16_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_133 : BitVec 32 := 1#32
  let arg18 : BitVec 32 := Scf.iv v208 c1_i32_133 k0_t16
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off71 (i : grid0.Coords) (v1 : BitVec 32) (k0_t16 : Fin (k0_t16_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_133 : BitVec 32 := 1#32
  let arg18 : BitVec 32 := Scf.iv v208 c1_i32_133 k0_t16
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off72 (i : grid0.Coords) (v1 : BitVec 32) (k0_t16 : Fin (k0_t16_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_133 : BitVec 32 := 1#32
  let arg18 : BitVec 32 := Scf.iv v208 c1_i32_133 k0_t16
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off73 (i : grid0.Coords) (v1 : BitVec 32) (k0_t16 : Fin (k0_t16_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v204 : BitVec 32 := Scalar.subi v10 v30
  let c1_i32_131 : BitVec 32 := 1#32
  let v206 : BitVec 32 := Scalar.divsi v204 c1_i32_131
  let v207 : BitVec 32 := Scalar.muli v206 c1_i32_131
  let v208 : BitVec 32 := Scalar.addi v30 v207
  let c1_i32_133 : BitVec 32 := 1#32
  let arg18 : BitVec 32 := Scf.iv v208 c1_i32_133 k0_t16
  let c512_i32_713 : BitVec 32 := 512#32
  let v1623 : BitVec 32 := Scalar.muli arg18 c512_i32_713
  let v2368 : Index := Scalar.indexCast v1623
  ![0, 0, 0, v2368.toNat]
@[reducible] def k0_t17_loop (i : grid0.Coords) (v1 : BitVec 32) : Scf.Loop 32 :=
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_169 : BitVec 32 := 1#32
  ⟨c0_i32_167, v260, c1_i32_169⟩
def k0_off74 (i : grid0.Coords) (v1 : BitVec 32) (k0_t17 : Fin (k0_t17_loop i v1).trips) : Fin 4 → Nat :=
  let c0_319 : Index := 0#32
  let c0_320 : Index := 0#32
  let c0_i32_167 : BitVec 32 := 0#32
  let c1_i32_169 : BitVec 32 := 1#32
  let arg18 : BitVec 32 := Scf.iv c0_i32_167 c1_i32_169 k0_t17
  let c512_i32_315 : BitVec 32 := 512#32
  let v460 : BitVec 32 := Scalar.muli arg18 c512_i32_315
  let v463 : Index := Scalar.indexCast v460
  let c0_321 : Index := 0#32
  ![0, 0, v463.toNat, 0]
def k0_off75 (i : grid0.Coords) (v1 : BitVec 32) (k0_t17 : Fin (k0_t17_loop i v1).trips) (c0_i32_325 : BitVec 32) : Fin 2 → Nat :=
  let c0_i32_167 : BitVec 32 := 0#32
  let c1_i32_169 : BitVec 32 := 1#32
  let arg18 : BitVec 32 := Scf.iv c0_i32_167 c1_i32_169 k0_t17
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off76 (i : grid0.Coords) (v1 : BitVec 32) (k0_t17 : Fin (k0_t17_loop i v1).trips) (c0_i32_327 : BitVec 32) : Fin 3 → Nat :=
  let c0_328 : Index := 0#32
  let c0_i32_167 : BitVec 32 := 0#32
  let c1_i32_169 : BitVec 32 := 1#32
  let arg18 : BitVec 32 := Scf.iv c0_i32_167 c1_i32_169 k0_t17
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off77 (i : grid0.Coords) (v1 : BitVec 32) (k0_t17 : Fin (k0_t17_loop i v1).trips) (c0_i32_592 : BitVec 32) (c0_i32_593 : BitVec 32) : Fin 3 → Nat :=
  let c1_594 : Index := 1#32
  let c0_i32_167 : BitVec 32 := 0#32
  let c1_i32_169 : BitVec 32 := 1#32
  let arg18 : BitVec 32 := Scf.iv c0_i32_167 c1_i32_169 k0_t17
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off78 (i : grid0.Coords) (v1 : BitVec 32) (k0_t17 : Fin (k0_t17_loop i v1).trips) : Fin 4 → Nat :=
  let c0_916 : Index := 0#32
  let c0_917 : Index := 0#32
  let c0_918 : Index := 0#32
  let c0_i32_167 : BitVec 32 := 0#32
  let c1_i32_169 : BitVec 32 := 1#32
  let arg18 : BitVec 32 := Scf.iv c0_i32_167 c1_i32_169 k0_t17
  let c512_i32_585 : BitVec 32 := 512#32
  let v1239 : BitVec 32 := Scalar.muli arg18 c512_i32_585
  let v1984 : Index := Scalar.indexCast v1239
  ![0, 0, 0, v1984.toNat]
@[reducible] def k0_t18_loop (i : grid0.Coords) (v1 : BitVec 32) : Scf.Loop 32 :=
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let v257 : BitVec 32 := Scalar.addi c0_i32_167 v256
  let c1_i32_170 : BitVec 32 := 1#32
  ⟨v260, v257, c1_i32_170⟩
def k0_off79 (i : grid0.Coords) (v1 : BitVec 32) (k0_t18 : Fin (k0_t18_loop i v1).trips) : Fin 4 → Nat :=
  let c0_319 : Index := 0#32
  let c0_320 : Index := 0#32
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_170 : BitVec 32 := 1#32
  let arg18 : BitVec 32 := Scf.iv v260 c1_i32_170 k0_t18
  let c512_i32_315 : BitVec 32 := 512#32
  let v460 : BitVec 32 := Scalar.muli arg18 c512_i32_315
  let v463 : Index := Scalar.indexCast v460
  let c0_321 : Index := 0#32
  ![0, 0, v463.toNat, 0]
def k0_off80 (i : grid0.Coords) (v1 : BitVec 32) (k0_t18 : Fin (k0_t18_loop i v1).trips) (c0_i32_325 : BitVec 32) : Fin 2 → Nat :=
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_170 : BitVec 32 := 1#32
  let arg18 : BitVec 32 := Scf.iv v260 c1_i32_170 k0_t18
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off81 (i : grid0.Coords) (v1 : BitVec 32) (k0_t18 : Fin (k0_t18_loop i v1).trips) (c0_i32_327 : BitVec 32) : Fin 3 → Nat :=
  let c0_328 : Index := 0#32
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_170 : BitVec 32 := 1#32
  let arg18 : BitVec 32 := Scf.iv v260 c1_i32_170 k0_t18
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off82 (i : grid0.Coords) (v1 : BitVec 32) (k0_t18 : Fin (k0_t18_loop i v1).trips) (c0_i32_592 : BitVec 32) (c0_i32_593 : BitVec 32) : Fin 3 → Nat :=
  let c1_594 : Index := 1#32
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_170 : BitVec 32 := 1#32
  let arg18 : BitVec 32 := Scf.iv v260 c1_i32_170 k0_t18
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off83 (i : grid0.Coords) (v1 : BitVec 32) (k0_t18 : Fin (k0_t18_loop i v1).trips) : Fin 4 → Nat :=
  let c0_916 : Index := 0#32
  let c0_917 : Index := 0#32
  let c0_918 : Index := 0#32
  let c0_i32_167 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v256 : BitVec 32 := Scalar.subi v30 c0_i32_167
  let c1_i32_168 : BitVec 32 := 1#32
  let v258 : BitVec 32 := Scalar.divsi v256 c1_i32_168
  let v259 : BitVec 32 := Scalar.muli v258 c1_i32_168
  let v260 : BitVec 32 := Scalar.addi c0_i32_167 v259
  let c1_i32_170 : BitVec 32 := 1#32
  let arg18 : BitVec 32 := Scf.iv v260 c1_i32_170 k0_t18
  let c512_i32_585 : BitVec 32 := 512#32
  let v1239 : BitVec 32 := Scalar.muli arg18 c512_i32_585
  let v1984 : Index := Scalar.indexCast v1239
  ![0, 0, 0, v1984.toNat]
@[reducible] def k0_t19_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_173 : BitVec 32 := 1#32
  ⟨v30, v265, c1_i32_173⟩
def k0_off84 (i : grid0.Coords) (v1 : BitVec 32) (k0_t19 : Fin (k0_t19_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_173 : BitVec 32 := 1#32
  let arg18 : BitVec 32 := Scf.iv v30 c1_i32_173 k0_t19
  let c512_i32_315 : BitVec 32 := 512#32
  let v460 : BitVec 32 := Scalar.muli arg18 c512_i32_315
  let v463 : Index := Scalar.indexCast v460
  let c0_321 : Index := 0#32
  ![0, 0, v463.toNat, 0]
def k0_off85 (i : grid0.Coords) (v1 : BitVec 32) (k0_t19 : Fin (k0_t19_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_173 : BitVec 32 := 1#32
  let arg18 : BitVec 32 := Scf.iv v30 c1_i32_173 k0_t19
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off86 (i : grid0.Coords) (v1 : BitVec 32) (k0_t19 : Fin (k0_t19_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_173 : BitVec 32 := 1#32
  let arg18 : BitVec 32 := Scf.iv v30 c1_i32_173 k0_t19
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off87 (i : grid0.Coords) (v1 : BitVec 32) (k0_t19 : Fin (k0_t19_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_173 : BitVec 32 := 1#32
  let arg18 : BitVec 32 := Scf.iv v30 c1_i32_173 k0_t19
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off88 (i : grid0.Coords) (v1 : BitVec 32) (k0_t19 : Fin (k0_t19_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_173 : BitVec 32 := 1#32
  let arg18 : BitVec 32 := Scf.iv v30 c1_i32_173 k0_t19
  let c512_i32_713 : BitVec 32 := 512#32
  let v1623 : BitVec 32 := Scalar.muli arg18 c512_i32_713
  let v2368 : Index := Scalar.indexCast v1623
  ![0, 0, 0, v2368.toNat]
@[reducible] def k0_t20_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let v262 : BitVec 32 := Scalar.addi v30 v261
  let c1_i32_174 : BitVec 32 := 1#32
  ⟨v265, v262, c1_i32_174⟩
def k0_off89 (i : grid0.Coords) (v1 : BitVec 32) (k0_t20 : Fin (k0_t20_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_174 : BitVec 32 := 1#32
  let arg18 : BitVec 32 := Scf.iv v265 c1_i32_174 k0_t20
  let c512_i32_315 : BitVec 32 := 512#32
  let v460 : BitVec 32 := Scalar.muli arg18 c512_i32_315
  let v463 : Index := Scalar.indexCast v460
  let c0_321 : Index := 0#32
  ![0, 0, v463.toNat, 0]
def k0_off90 (i : grid0.Coords) (v1 : BitVec 32) (k0_t20 : Fin (k0_t20_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_174 : BitVec 32 := 1#32
  let arg18 : BitVec 32 := Scf.iv v265 c1_i32_174 k0_t20
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off91 (i : grid0.Coords) (v1 : BitVec 32) (k0_t20 : Fin (k0_t20_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_174 : BitVec 32 := 1#32
  let arg18 : BitVec 32 := Scf.iv v265 c1_i32_174 k0_t20
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off92 (i : grid0.Coords) (v1 : BitVec 32) (k0_t20 : Fin (k0_t20_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_174 : BitVec 32 := 1#32
  let arg18 : BitVec 32 := Scf.iv v265 c1_i32_174 k0_t20
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off93 (i : grid0.Coords) (v1 : BitVec 32) (k0_t20 : Fin (k0_t20_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v261 : BitVec 32 := Scalar.subi v10 v30
  let c1_i32_172 : BitVec 32 := 1#32
  let v263 : BitVec 32 := Scalar.divsi v261 c1_i32_172
  let v264 : BitVec 32 := Scalar.muli v263 c1_i32_172
  let v265 : BitVec 32 := Scalar.addi v30 v264
  let c1_i32_174 : BitVec 32 := 1#32
  let arg18 : BitVec 32 := Scf.iv v265 c1_i32_174 k0_t20
  let c512_i32_713 : BitVec 32 := 512#32
  let v1623 : BitVec 32 := Scalar.muli arg18 c512_i32_713
  let v2368 : Index := Scalar.indexCast v1623
  ![0, 0, 0, v2368.toNat]
@[reducible] def k0_t21_loop (i : grid0.Coords) (v1 : BitVec 32) : Scf.Loop 32 :=
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_210 : BitVec 32 := 1#32
  ⟨c0_i32_208, v317, c1_i32_210⟩
def k0_off94 (i : grid0.Coords) (v1 : BitVec 32) (k0_t21 : Fin (k0_t21_loop i v1).trips) : Fin 4 → Nat :=
  let c0_319 : Index := 0#32
  let c0_320 : Index := 0#32
  let c0_i32_208 : BitVec 32 := 0#32
  let c1_i32_210 : BitVec 32 := 1#32
  let arg18 : BitVec 32 := Scf.iv c0_i32_208 c1_i32_210 k0_t21
  let c512_i32_315 : BitVec 32 := 512#32
  let v460 : BitVec 32 := Scalar.muli arg18 c512_i32_315
  let v463 : Index := Scalar.indexCast v460
  let c0_321 : Index := 0#32
  ![0, 0, v463.toNat, 0]
def k0_off95 (i : grid0.Coords) (v1 : BitVec 32) (k0_t21 : Fin (k0_t21_loop i v1).trips) (c0_i32_325 : BitVec 32) : Fin 2 → Nat :=
  let c0_i32_208 : BitVec 32 := 0#32
  let c1_i32_210 : BitVec 32 := 1#32
  let arg18 : BitVec 32 := Scf.iv c0_i32_208 c1_i32_210 k0_t21
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off96 (i : grid0.Coords) (v1 : BitVec 32) (k0_t21 : Fin (k0_t21_loop i v1).trips) (c0_i32_327 : BitVec 32) : Fin 3 → Nat :=
  let c1_328 : Index := 1#32
  let c0_i32_208 : BitVec 32 := 0#32
  let c1_i32_210 : BitVec 32 := 1#32
  let arg18 : BitVec 32 := Scf.iv c0_i32_208 c1_i32_210 k0_t21
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off97 (i : grid0.Coords) (v1 : BitVec 32) (k0_t21 : Fin (k0_t21_loop i v1).trips) (c0_i32_592 : BitVec 32) (c0_i32_593 : BitVec 32) : Fin 3 → Nat :=
  let c0_594 : Index := 0#32
  let c0_i32_208 : BitVec 32 := 0#32
  let c1_i32_210 : BitVec 32 := 1#32
  let arg18 : BitVec 32 := Scf.iv c0_i32_208 c1_i32_210 k0_t21
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off98 (i : grid0.Coords) (v1 : BitVec 32) (k0_t21 : Fin (k0_t21_loop i v1).trips) : Fin 4 → Nat :=
  let c0_916 : Index := 0#32
  let c0_917 : Index := 0#32
  let c0_918 : Index := 0#32
  let c0_i32_208 : BitVec 32 := 0#32
  let c1_i32_210 : BitVec 32 := 1#32
  let arg18 : BitVec 32 := Scf.iv c0_i32_208 c1_i32_210 k0_t21
  let c512_i32_585 : BitVec 32 := 512#32
  let v1239 : BitVec 32 := Scalar.muli arg18 c512_i32_585
  let v1984 : Index := Scalar.indexCast v1239
  ![0, 0, 0, v1984.toNat]
@[reducible] def k0_t22_loop (i : grid0.Coords) (v1 : BitVec 32) : Scf.Loop 32 :=
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let v314 : BitVec 32 := Scalar.addi c0_i32_208 v313
  let c1_i32_211 : BitVec 32 := 1#32
  ⟨v317, v314, c1_i32_211⟩
def k0_off99 (i : grid0.Coords) (v1 : BitVec 32) (k0_t22 : Fin (k0_t22_loop i v1).trips) : Fin 4 → Nat :=
  let c0_319 : Index := 0#32
  let c0_320 : Index := 0#32
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_211 : BitVec 32 := 1#32
  let arg18 : BitVec 32 := Scf.iv v317 c1_i32_211 k0_t22
  let c512_i32_315 : BitVec 32 := 512#32
  let v460 : BitVec 32 := Scalar.muli arg18 c512_i32_315
  let v463 : Index := Scalar.indexCast v460
  let c0_321 : Index := 0#32
  ![0, 0, v463.toNat, 0]
def k0_off100 (i : grid0.Coords) (v1 : BitVec 32) (k0_t22 : Fin (k0_t22_loop i v1).trips) (c0_i32_325 : BitVec 32) : Fin 2 → Nat :=
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_211 : BitVec 32 := 1#32
  let arg18 : BitVec 32 := Scf.iv v317 c1_i32_211 k0_t22
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off101 (i : grid0.Coords) (v1 : BitVec 32) (k0_t22 : Fin (k0_t22_loop i v1).trips) (c0_i32_327 : BitVec 32) : Fin 3 → Nat :=
  let c1_328 : Index := 1#32
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_211 : BitVec 32 := 1#32
  let arg18 : BitVec 32 := Scf.iv v317 c1_i32_211 k0_t22
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![1, v475.toNat, 0]
def k0_off102 (i : grid0.Coords) (v1 : BitVec 32) (k0_t22 : Fin (k0_t22_loop i v1).trips) (c0_i32_592 : BitVec 32) (c0_i32_593 : BitVec 32) : Fin 3 → Nat :=
  let c0_594 : Index := 0#32
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_211 : BitVec 32 := 1#32
  let arg18 : BitVec 32 := Scf.iv v317 c1_i32_211 k0_t22
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![0, v1245.toNat, 0]
def k0_off103 (i : grid0.Coords) (v1 : BitVec 32) (k0_t22 : Fin (k0_t22_loop i v1).trips) : Fin 4 → Nat :=
  let c0_916 : Index := 0#32
  let c0_917 : Index := 0#32
  let c0_918 : Index := 0#32
  let c0_i32_208 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v313 : BitVec 32 := Scalar.subi v30 c0_i32_208
  let c1_i32_209 : BitVec 32 := 1#32
  let v315 : BitVec 32 := Scalar.divsi v313 c1_i32_209
  let v316 : BitVec 32 := Scalar.muli v315 c1_i32_209
  let v317 : BitVec 32 := Scalar.addi c0_i32_208 v316
  let c1_i32_211 : BitVec 32 := 1#32
  let arg18 : BitVec 32 := Scf.iv v317 c1_i32_211 k0_t22
  let c512_i32_585 : BitVec 32 := 512#32
  let v1239 : BitVec 32 := Scalar.muli arg18 c512_i32_585
  let v1984 : Index := Scalar.indexCast v1239
  ![0, 0, 0, v1984.toNat]
@[reducible] def k0_t23_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_214 : BitVec 32 := 1#32
  ⟨v30, v322, c1_i32_214⟩
def k0_off104 (i : grid0.Coords) (v1 : BitVec 32) (k0_t23 : Fin (k0_t23_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_214 : BitVec 32 := 1#32
  let arg18 : BitVec 32 := Scf.iv v30 c1_i32_214 k0_t23
  let c512_i32_315 : BitVec 32 := 512#32
  let v460 : BitVec 32 := Scalar.muli arg18 c512_i32_315
  let v463 : Index := Scalar.indexCast v460
  let c0_321 : Index := 0#32
  ![0, 0, v463.toNat, 0]
def k0_off105 (i : grid0.Coords) (v1 : BitVec 32) (k0_t23 : Fin (k0_t23_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_214 : BitVec 32 := 1#32
  let arg18 : BitVec 32 := Scf.iv v30 c1_i32_214 k0_t23
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off106 (i : grid0.Coords) (v1 : BitVec 32) (k0_t23 : Fin (k0_t23_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_214 : BitVec 32 := 1#32
  let arg18 : BitVec 32 := Scf.iv v30 c1_i32_214 k0_t23
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off107 (i : grid0.Coords) (v1 : BitVec 32) (k0_t23 : Fin (k0_t23_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_214 : BitVec 32 := 1#32
  let arg18 : BitVec 32 := Scf.iv v30 c1_i32_214 k0_t23
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off108 (i : grid0.Coords) (v1 : BitVec 32) (k0_t23 : Fin (k0_t23_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_214 : BitVec 32 := 1#32
  let arg18 : BitVec 32 := Scf.iv v30 c1_i32_214 k0_t23
  let c512_i32_713 : BitVec 32 := 512#32
  let v1623 : BitVec 32 := Scalar.muli arg18 c512_i32_713
  let v2368 : Index := Scalar.indexCast v1623
  ![0, 0, 0, v2368.toNat]
@[reducible] def k0_t24_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let v319 : BitVec 32 := Scalar.addi v30 v318
  let c1_i32_215 : BitVec 32 := 1#32
  ⟨v322, v319, c1_i32_215⟩
def k0_off109 (i : grid0.Coords) (v1 : BitVec 32) (k0_t24 : Fin (k0_t24_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_215 : BitVec 32 := 1#32
  let arg18 : BitVec 32 := Scf.iv v322 c1_i32_215 k0_t24
  let c512_i32_315 : BitVec 32 := 512#32
  let v460 : BitVec 32 := Scalar.muli arg18 c512_i32_315
  let v463 : Index := Scalar.indexCast v460
  let c0_321 : Index := 0#32
  ![0, 0, v463.toNat, 0]
def k0_off110 (i : grid0.Coords) (v1 : BitVec 32) (k0_t24 : Fin (k0_t24_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_215 : BitVec 32 := 1#32
  let arg18 : BitVec 32 := Scf.iv v322 c1_i32_215 k0_t24
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off111 (i : grid0.Coords) (v1 : BitVec 32) (k0_t24 : Fin (k0_t24_loop i v1).trips) (c0_i32_329 : BitVec 32) : Fin 3 → Nat :=
  let c1_330 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_215 : BitVec 32 := 1#32
  let arg18 : BitVec 32 := Scf.iv v322 c1_i32_215 k0_t24
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![1, v481.toNat, 0]
def k0_off112 (i : grid0.Coords) (v1 : BitVec 32) (k0_t24 : Fin (k0_t24_loop i v1).trips) (c0_i32_720 : BitVec 32) (c0_i32_721 : BitVec 32) : Fin 3 → Nat :=
  let c0_722 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_215 : BitVec 32 := 1#32
  let arg18 : BitVec 32 := Scf.iv v322 c1_i32_215 k0_t24
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![0, v1629.toNat, 0]
def k0_off113 (i : grid0.Coords) (v1 : BitVec 32) (k0_t24 : Fin (k0_t24_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v318 : BitVec 32 := Scalar.subi v10 v30
  let c1_i32_213 : BitVec 32 := 1#32
  let v320 : BitVec 32 := Scalar.divsi v318 c1_i32_213
  let v321 : BitVec 32 := Scalar.muli v320 c1_i32_213
  let v322 : BitVec 32 := Scalar.addi v30 v321
  let c1_i32_215 : BitVec 32 := 1#32
  let arg18 : BitVec 32 := Scf.iv v322 c1_i32_215 k0_t24
  let c512_i32_713 : BitVec 32 := 512#32
  let v1623 : BitVec 32 := Scalar.muli arg18 c512_i32_713
  let v2368 : Index := Scalar.indexCast v1623
  ![0, 0, 0, v2368.toNat]
@[reducible] def k0_t25_loop (i : grid0.Coords) (v1 : BitVec 32) : Scf.Loop 32 :=
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_251 : BitVec 32 := 1#32
  ⟨c0_i32_249, v374, c1_i32_251⟩
def k0_off114 (i : grid0.Coords) (v1 : BitVec 32) (k0_t25 : Fin (k0_t25_loop i v1).trips) : Fin 4 → Nat :=
  let c0_319 : Index := 0#32
  let c0_320 : Index := 0#32
  let c0_i32_249 : BitVec 32 := 0#32
  let c1_i32_251 : BitVec 32 := 1#32
  let arg18 : BitVec 32 := Scf.iv c0_i32_249 c1_i32_251 k0_t25
  let c512_i32_315 : BitVec 32 := 512#32
  let v460 : BitVec 32 := Scalar.muli arg18 c512_i32_315
  let v463 : Index := Scalar.indexCast v460
  let c0_321 : Index := 0#32
  ![0, 0, v463.toNat, 0]
def k0_off115 (i : grid0.Coords) (v1 : BitVec 32) (k0_t25 : Fin (k0_t25_loop i v1).trips) (c0_i32_325 : BitVec 32) : Fin 2 → Nat :=
  let c0_i32_249 : BitVec 32 := 0#32
  let c1_i32_251 : BitVec 32 := 1#32
  let arg18 : BitVec 32 := Scf.iv c0_i32_249 c1_i32_251 k0_t25
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off116 (i : grid0.Coords) (v1 : BitVec 32) (k0_t25 : Fin (k0_t25_loop i v1).trips) (c0_i32_327 : BitVec 32) : Fin 3 → Nat :=
  let c0_328 : Index := 0#32
  let c0_i32_249 : BitVec 32 := 0#32
  let c1_i32_251 : BitVec 32 := 1#32
  let arg18 : BitVec 32 := Scf.iv c0_i32_249 c1_i32_251 k0_t25
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off117 (i : grid0.Coords) (v1 : BitVec 32) (k0_t25 : Fin (k0_t25_loop i v1).trips) (c0_i32_592 : BitVec 32) (c0_i32_593 : BitVec 32) : Fin 3 → Nat :=
  let c1_594 : Index := 1#32
  let c0_i32_249 : BitVec 32 := 0#32
  let c1_i32_251 : BitVec 32 := 1#32
  let arg18 : BitVec 32 := Scf.iv c0_i32_249 c1_i32_251 k0_t25
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off118 (i : grid0.Coords) (v1 : BitVec 32) (k0_t25 : Fin (k0_t25_loop i v1).trips) : Fin 4 → Nat :=
  let c0_916 : Index := 0#32
  let c0_917 : Index := 0#32
  let c0_918 : Index := 0#32
  let c0_i32_249 : BitVec 32 := 0#32
  let c1_i32_251 : BitVec 32 := 1#32
  let arg18 : BitVec 32 := Scf.iv c0_i32_249 c1_i32_251 k0_t25
  let c512_i32_585 : BitVec 32 := 512#32
  let v1239 : BitVec 32 := Scalar.muli arg18 c512_i32_585
  let v1984 : Index := Scalar.indexCast v1239
  ![0, 0, 0, v1984.toNat]
@[reducible] def k0_t26_loop (i : grid0.Coords) (v1 : BitVec 32) : Scf.Loop 32 :=
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let v371 : BitVec 32 := Scalar.addi c0_i32_249 v370
  let c1_i32_252 : BitVec 32 := 1#32
  ⟨v374, v371, c1_i32_252⟩
def k0_off119 (i : grid0.Coords) (v1 : BitVec 32) (k0_t26 : Fin (k0_t26_loop i v1).trips) : Fin 4 → Nat :=
  let c0_319 : Index := 0#32
  let c0_320 : Index := 0#32
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_252 : BitVec 32 := 1#32
  let arg18 : BitVec 32 := Scf.iv v374 c1_i32_252 k0_t26
  let c512_i32_315 : BitVec 32 := 512#32
  let v460 : BitVec 32 := Scalar.muli arg18 c512_i32_315
  let v463 : Index := Scalar.indexCast v460
  let c0_321 : Index := 0#32
  ![0, 0, v463.toNat, 0]
def k0_off120 (i : grid0.Coords) (v1 : BitVec 32) (k0_t26 : Fin (k0_t26_loop i v1).trips) (c0_i32_325 : BitVec 32) : Fin 2 → Nat :=
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_252 : BitVec 32 := 1#32
  let arg18 : BitVec 32 := Scf.iv v374 c1_i32_252 k0_t26
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off121 (i : grid0.Coords) (v1 : BitVec 32) (k0_t26 : Fin (k0_t26_loop i v1).trips) (c0_i32_327 : BitVec 32) : Fin 3 → Nat :=
  let c0_328 : Index := 0#32
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_252 : BitVec 32 := 1#32
  let arg18 : BitVec 32 := Scf.iv v374 c1_i32_252 k0_t26
  let c512_i32_315 : BitVec 32 := 512#32
  let v460 : BitVec 32 := Scalar.muli arg18 c512_i32_315
  let v474 : BitVec 32 := Scalar.addi v460 c0_i32_327
  let v475 : Index := Scalar.indexCast v474
  let c0_329 : Index := 0#32
  ![0, v475.toNat, 0]
def k0_off122 (i : grid0.Coords) (v1 : BitVec 32) (k0_t26 : Fin (k0_t26_loop i v1).trips) (c0_i32_592 : BitVec 32) (c0_i32_593 : BitVec 32) : Fin 3 → Nat :=
  let c1_594 : Index := 1#32
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_252 : BitVec 32 := 1#32
  let arg18 : BitVec 32 := Scf.iv v374 c1_i32_252 k0_t26
  let c512_i32_585 : BitVec 32 := 512#32
  let v1239 : BitVec 32 := Scalar.muli arg18 c512_i32_585
  let v1243 : BitVec 32 := Scalar.addi v1239 c0_i32_592
  let v1244 : BitVec 32 := Scalar.addi v1243 c0_i32_593
  let v1245 : Index := Scalar.indexCast v1244
  let c0_595 : Index := 0#32
  ![1, v1245.toNat, 0]
def k0_off123 (i : grid0.Coords) (v1 : BitVec 32) (k0_t26 : Fin (k0_t26_loop i v1).trips) : Fin 4 → Nat :=
  let c0_916 : Index := 0#32
  let c0_917 : Index := 0#32
  let c0_918 : Index := 0#32
  let c0_i32_249 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v370 : BitVec 32 := Scalar.subi v30 c0_i32_249
  let c1_i32_250 : BitVec 32 := 1#32
  let v372 : BitVec 32 := Scalar.divsi v370 c1_i32_250
  let v373 : BitVec 32 := Scalar.muli v372 c1_i32_250
  let v374 : BitVec 32 := Scalar.addi c0_i32_249 v373
  let c1_i32_252 : BitVec 32 := 1#32
  let arg18 : BitVec 32 := Scf.iv v374 c1_i32_252 k0_t26
  let c512_i32_585 : BitVec 32 := 512#32
  let v1239 : BitVec 32 := Scalar.muli arg18 c512_i32_585
  let v1984 : Index := Scalar.indexCast v1239
  ![0, 0, 0, v1984.toNat]
@[reducible] def k0_t27_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_255 : BitVec 32 := 1#32
  ⟨v30, v379, c1_i32_255⟩
def k0_off124 (i : grid0.Coords) (v1 : BitVec 32) (k0_t27 : Fin (k0_t27_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_255 : BitVec 32 := 1#32
  let arg18 : BitVec 32 := Scf.iv v30 c1_i32_255 k0_t27
  let c512_i32_315 : BitVec 32 := 512#32
  let v460 : BitVec 32 := Scalar.muli arg18 c512_i32_315
  let v463 : Index := Scalar.indexCast v460
  let c0_321 : Index := 0#32
  ![0, 0, v463.toNat, 0]
def k0_off125 (i : grid0.Coords) (v1 : BitVec 32) (k0_t27 : Fin (k0_t27_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_255 : BitVec 32 := 1#32
  let arg18 : BitVec 32 := Scf.iv v30 c1_i32_255 k0_t27
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off126 (i : grid0.Coords) (v1 : BitVec 32) (k0_t27 : Fin (k0_t27_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_255 : BitVec 32 := 1#32
  let arg18 : BitVec 32 := Scf.iv v30 c1_i32_255 k0_t27
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off127 (i : grid0.Coords) (v1 : BitVec 32) (k0_t27 : Fin (k0_t27_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_255 : BitVec 32 := 1#32
  let arg18 : BitVec 32 := Scf.iv v30 c1_i32_255 k0_t27
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off128 (i : grid0.Coords) (v1 : BitVec 32) (k0_t27 : Fin (k0_t27_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_255 : BitVec 32 := 1#32
  let arg18 : BitVec 32 := Scf.iv v30 c1_i32_255 k0_t27
  let c512_i32_713 : BitVec 32 := 512#32
  let v1623 : BitVec 32 := Scalar.muli arg18 c512_i32_713
  let v2368 : Index := Scalar.indexCast v1623
  ![0, 0, 0, v2368.toNat]
@[reducible] def k0_t28_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let v376 : BitVec 32 := Scalar.addi v30 v375
  let c1_i32_256 : BitVec 32 := 1#32
  ⟨v379, v376, c1_i32_256⟩
def k0_off129 (i : grid0.Coords) (v1 : BitVec 32) (k0_t28 : Fin (k0_t28_loop i v1).trips) : Fin 4 → Nat :=
  let c0_319 : Index := 0#32
  let c0_320 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_256 : BitVec 32 := 1#32
  let arg18 : BitVec 32 := Scf.iv v379 c1_i32_256 k0_t28
  let c512_i32_315 : BitVec 32 := 512#32
  let v460 : BitVec 32 := Scalar.muli arg18 c512_i32_315
  let v463 : Index := Scalar.indexCast v460
  let c0_321 : Index := 0#32
  ![0, 0, v463.toNat, 0]
def k0_off130 (i : grid0.Coords) (v1 : BitVec 32) (k0_t28 : Fin (k0_t28_loop i v1).trips) (c0_i32_325 : BitVec 32) : Fin 2 → Nat :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_256 : BitVec 32 := 1#32
  let arg18 : BitVec 32 := Scf.iv v379 c1_i32_256 k0_t28
  let c512_i32_315 : BitVec 32 := 512#32
  let v460 : BitVec 32 := Scalar.muli arg18 c512_i32_315
  let v468 : BitVec 32 := Scalar.addi v460 c0_i32_325
  let v469 : Index := Scalar.indexCast v468
  let c0_326 : Index := 0#32
  ![v469.toNat, 0]
def k0_off131 (i : grid0.Coords) (v1 : BitVec 32) (k0_t28 : Fin (k0_t28_loop i v1).trips) (c0_i32_329 : BitVec 32) : Fin 3 → Nat :=
  let c0_330 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_256 : BitVec 32 := 1#32
  let arg18 : BitVec 32 := Scf.iv v379 c1_i32_256 k0_t28
  let c512_i32_315 : BitVec 32 := 512#32
  let v460 : BitVec 32 := Scalar.muli arg18 c512_i32_315
  let v480 : BitVec 32 := Scalar.addi v460 c0_i32_329
  let v481 : Index := Scalar.indexCast v480
  let c0_331 : Index := 0#32
  ![0, v481.toNat, 0]
def k0_off132 (i : grid0.Coords) (v1 : BitVec 32) (k0_t28 : Fin (k0_t28_loop i v1).trips) (c0_i32_720 : BitVec 32) (c0_i32_721 : BitVec 32) : Fin 3 → Nat :=
  let c1_722 : Index := 1#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_256 : BitVec 32 := 1#32
  let arg18 : BitVec 32 := Scf.iv v379 c1_i32_256 k0_t28
  let c512_i32_713 : BitVec 32 := 512#32
  let v1623 : BitVec 32 := Scalar.muli arg18 c512_i32_713
  let v1627 : BitVec 32 := Scalar.addi v1623 c0_i32_720
  let v1628 : BitVec 32 := Scalar.addi v1627 c0_i32_721
  let v1629 : Index := Scalar.indexCast v1628
  let c0_723 : Index := 0#32
  ![1, v1629.toNat, 0]
def k0_off133 (i : grid0.Coords) (v1 : BitVec 32) (k0_t28 : Fin (k0_t28_loop i v1).trips) : Fin 4 → Nat :=
  let c0_1044 : Index := 0#32
  let c0_1045 : Index := 0#32
  let c0_1046 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v375 : BitVec 32 := Scalar.subi v10 v30
  let c1_i32_254 : BitVec 32 := 1#32
  let v377 : BitVec 32 := Scalar.divsi v375 c1_i32_254
  let v378 : BitVec 32 := Scalar.muli v377 c1_i32_254
  let v379 : BitVec 32 := Scalar.addi v30 v378
  let c1_i32_256 : BitVec 32 := 1#32
  let arg18 : BitVec 32 := Scf.iv v379 c1_i32_256 k0_t28
  let c512_i32_713 : BitVec 32 := 512#32
  let v1623 : BitVec 32 := Scalar.muli arg18 c512_i32_713
  let v2368 : Index := Scalar.indexCast v1623
  ![0, 0, 0, v2368.toNat]
@[reducible] def k0_t29_loop (i : grid0.Coords) (v1 : BitVec 32) : Scf.Loop 32 :=
  let c0_i32_290 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v427 : BitVec 32 := Scalar.subi v30 c0_i32_290
  let c1_i32_291 : BitVec 32 := 1#32
  let v429 : BitVec 32 := Scalar.divsi v427 c1_i32_291
  let v430 : BitVec 32 := Scalar.muli v429 c1_i32_291
  let v431 : BitVec 32 := Scalar.addi c0_i32_290 v430
  let c1_i32_292 : BitVec 32 := 1#32
  ⟨c0_i32_290, v431, c1_i32_292⟩
def k0_off134 (i : grid0.Coords) (v1 : BitVec 32) (k0_t29 : Fin (k0_t29_loop i v1).trips) (c0_i32_322 : BitVec 32) (c0_i32_323 : BitVec 32) : Fin 3 → Nat :=
  let c0_324 : Index := 0#32
  let c0_i32_290 : BitVec 32 := 0#32
  let c1_i32_292 : BitVec 32 := 1#32
  let arg18 : BitVec 32 := Scf.iv c0_i32_290 c1_i32_292 k0_t29
  let c512_i32_315 : BitVec 32 := 512#32
  let v460 : BitVec 32 := Scalar.muli arg18 c512_i32_315
  let v464 : BitVec 32 := Scalar.addi v460 c0_i32_322
  let v465 : BitVec 32 := Scalar.addi v464 c0_i32_323
  let v466 : Index := Scalar.indexCast v465
  let c0_325 : Index := 0#32
  ![0, v466.toNat, 0]
def k0_off135 (i : grid0.Coords) (v1 : BitVec 32) (k0_t29 : Fin (k0_t29_loop i v1).trips) : Fin 4 → Nat :=
  let c0_629 : Index := 0#32
  let c0_630 : Index := 0#32
  let c0_631 : Index := 0#32
  let c0_i32_290 : BitVec 32 := 0#32
  let c1_i32_292 : BitVec 32 := 1#32
  let arg18 : BitVec 32 := Scf.iv c0_i32_290 c1_i32_292 k0_t29
  let c512_i32_315 : BitVec 32 := 512#32
  let v460 : BitVec 32 := Scalar.muli arg18 c512_i32_315
  let v1205 : Index := Scalar.indexCast v460
  ![0, 0, 0, v1205.toNat]
@[reducible] def k0_t30_loop (i : grid0.Coords) (v1 : BitVec 32) : Scf.Loop 32 :=
  let c0_i32_290 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v427 : BitVec 32 := Scalar.subi v30 c0_i32_290
  let c1_i32_291 : BitVec 32 := 1#32
  let v429 : BitVec 32 := Scalar.divsi v427 c1_i32_291
  let v430 : BitVec 32 := Scalar.muli v429 c1_i32_291
  let v431 : BitVec 32 := Scalar.addi c0_i32_290 v430
  let v428 : BitVec 32 := Scalar.addi c0_i32_290 v427
  let c1_i32_293 : BitVec 32 := 1#32
  ⟨v431, v428, c1_i32_293⟩
def k0_off136 (i : grid0.Coords) (v1 : BitVec 32) (k0_t30 : Fin (k0_t30_loop i v1).trips) (c0_i32_322 : BitVec 32) (c0_i32_323 : BitVec 32) : Fin 3 → Nat :=
  let c0_324 : Index := 0#32
  let c0_i32_290 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v427 : BitVec 32 := Scalar.subi v30 c0_i32_290
  let c1_i32_291 : BitVec 32 := 1#32
  let v429 : BitVec 32 := Scalar.divsi v427 c1_i32_291
  let v430 : BitVec 32 := Scalar.muli v429 c1_i32_291
  let v431 : BitVec 32 := Scalar.addi c0_i32_290 v430
  let c1_i32_293 : BitVec 32 := 1#32
  let arg18 : BitVec 32 := Scf.iv v431 c1_i32_293 k0_t30
  let c512_i32_315 : BitVec 32 := 512#32
  let v460 : BitVec 32 := Scalar.muli arg18 c512_i32_315
  let v464 : BitVec 32 := Scalar.addi v460 c0_i32_322
  let v465 : BitVec 32 := Scalar.addi v464 c0_i32_323
  let v466 : Index := Scalar.indexCast v465
  let c0_325 : Index := 0#32
  ![0, v466.toNat, 0]
def k0_off137 (i : grid0.Coords) (v1 : BitVec 32) (k0_t30 : Fin (k0_t30_loop i v1).trips) : Fin 4 → Nat :=
  let c0_629 : Index := 0#32
  let c0_630 : Index := 0#32
  let c0_631 : Index := 0#32
  let c0_i32_290 : BitVec 32 := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v427 : BitVec 32 := Scalar.subi v30 c0_i32_290
  let c1_i32_291 : BitVec 32 := 1#32
  let v429 : BitVec 32 := Scalar.divsi v427 c1_i32_291
  let v430 : BitVec 32 := Scalar.muli v429 c1_i32_291
  let v431 : BitVec 32 := Scalar.addi c0_i32_290 v430
  let c1_i32_293 : BitVec 32 := 1#32
  let arg18 : BitVec 32 := Scf.iv v431 c1_i32_293 k0_t30
  let c512_i32_315 : BitVec 32 := 512#32
  let v460 : BitVec 32 := Scalar.muli arg18 c512_i32_315
  let v1205 : Index := Scalar.indexCast v460
  ![0, 0, 0, v1205.toNat]
@[reducible] def k0_t31_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v432 : BitVec 32 := Scalar.subi v10 v30
  let c1_i32_295 : BitVec 32 := 1#32
  let v434 : BitVec 32 := Scalar.divsi v432 c1_i32_295
  let v435 : BitVec 32 := Scalar.muli v434 c1_i32_295
  let v436 : BitVec 32 := Scalar.addi v30 v435
  let c1_i32_296 : BitVec 32 := 1#32
  ⟨v30, v436, c1_i32_296⟩
def k0_off138 (i : grid0.Coords) (v1 : BitVec 32) (k0_t31 : Fin (k0_t31_loop i v1).trips) (c0_i32_322 : BitVec 32) (c0_i32_323 : BitVec 32) : Fin 3 → Nat :=
  let c0_324 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_296 : BitVec 32 := 1#32
  let arg18 : BitVec 32 := Scf.iv v30 c1_i32_296 k0_t31
  let c512_i32_315 : BitVec 32 := 512#32
  let v460 : BitVec 32 := Scalar.muli arg18 c512_i32_315
  let v464 : BitVec 32 := Scalar.addi v460 c0_i32_322
  let v465 : BitVec 32 := Scalar.addi v464 c0_i32_323
  let v466 : Index := Scalar.indexCast v465
  let c0_325 : Index := 0#32
  ![0, v466.toNat, 0]
def k0_off139 (i : grid0.Coords) (v1 : BitVec 32) (k0_t31 : Fin (k0_t31_loop i v1).trips) : Fin 4 → Nat :=
  let c0_629 : Index := 0#32
  let c0_630 : Index := 0#32
  let c0_631 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let c1_i32_296 : BitVec 32 := 1#32
  let arg18 : BitVec 32 := Scf.iv v30 c1_i32_296 k0_t31
  let c512_i32_315 : BitVec 32 := 512#32
  let v460 : BitVec 32 := Scalar.muli arg18 c512_i32_315
  let v1205 : Index := Scalar.indexCast v460
  ![0, 0, 0, v1205.toNat]
@[reducible] def k0_t32_loop (i : grid0.Coords) (v1 : BitVec 32) : Scf.Loop 32 :=
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v432 : BitVec 32 := Scalar.subi v10 v30
  let c1_i32_295 : BitVec 32 := 1#32
  let v434 : BitVec 32 := Scalar.divsi v432 c1_i32_295
  let v435 : BitVec 32 := Scalar.muli v434 c1_i32_295
  let v436 : BitVec 32 := Scalar.addi v30 v435
  let v433 : BitVec 32 := Scalar.addi v30 v432
  let c1_i32_297 : BitVec 32 := 1#32
  ⟨v436, v433, c1_i32_297⟩
def k0_off140 (i : grid0.Coords) (v1 : BitVec 32) (k0_t32 : Fin (k0_t32_loop i v1).trips) (c0_i32_322 : BitVec 32) (c0_i32_323 : BitVec 32) : Fin 3 → Nat :=
  let c0_324 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v432 : BitVec 32 := Scalar.subi v10 v30
  let c1_i32_295 : BitVec 32 := 1#32
  let v434 : BitVec 32 := Scalar.divsi v432 c1_i32_295
  let v435 : BitVec 32 := Scalar.muli v434 c1_i32_295
  let v436 : BitVec 32 := Scalar.addi v30 v435
  let c1_i32_297 : BitVec 32 := 1#32
  let arg18 : BitVec 32 := Scf.iv v436 c1_i32_297 k0_t32
  let c512_i32_315 : BitVec 32 := 512#32
  let v460 : BitVec 32 := Scalar.muli arg18 c512_i32_315
  let v464 : BitVec 32 := Scalar.addi v460 c0_i32_322
  let v465 : BitVec 32 := Scalar.addi v464 c0_i32_323
  let v466 : Index := Scalar.indexCast v465
  let c0_325 : Index := 0#32
  ![0, v466.toNat, 0]
def k0_off141 (i : grid0.Coords) (v1 : BitVec 32) (k0_t32 : Fin (k0_t32_loop i v1).trips) : Fin 4 → Nat :=
  let c0_629 : Index := 0#32
  let c0_630 : Index := 0#32
  let c0_631 : Index := 0#32
  let arg2 : BitVec 32 := BitVec.ofNat 32 (i 2).val
  let c256_i32 : BitVec 32 := 256#32
  let v2 : BitVec 32 := Scalar.muli arg2 c256_i32
  let c1_i32 : BitVec 32 := 1#32
  let v11 : BitVec 32 := Scalar.addi v2 c1_i32
  let v12 : BitVec 32 := Scalar.maxsi v1 v11
  let c0_i32_3 : BitVec 32 := 0#32
  let v14 : BitVec 1 := Scalar.cmpi .sgt v12 c0_i32_3
  let v15 : BitVec 32 := Scalar.extui v14
  let c0_i32_4 : BitVec 32 := 0#32
  let v16 : BitVec 1 := Scalar.cmpi .slt v12 c0_i32_4
  let v17 : BitVec 32 := Scalar.extui v16
  let v18 : BitVec 32 := Scalar.subi v15 v17
  let c512_i32_2 : BitVec 32 := 512#32
  let c0_i32_5 : BitVec 32 := 0#32
  let v19 : BitVec 1 := Scalar.cmpi .sgt c512_i32_2 c0_i32_5
  let v20 : BitVec 32 := Scalar.extui v19
  let c0_i32_6 : BitVec 32 := 0#32
  let v21 : BitVec 1 := Scalar.cmpi .slt c512_i32_2 c0_i32_6
  let v22 : BitVec 32 := Scalar.extui v21
  let v23 : BitVec 32 := Scalar.subi v20 v22
  let v24 : BitVec 1 := Scalar.cmpi .ne v18 v23
  let v25 : BitVec 32 := Scalar.remsi v12 c512_i32_2
  let c0_i32_7 : BitVec 32 := 0#32
  let v26 : BitVec 1 := Scalar.cmpi .ne v25 c0_i32_7
  let v27 : BitVec 1 := Scalar.andi v24 v26
  let v13 : BitVec 32 := Scalar.divsi v12 c512_i32_2
  let c1_i32_8 : BitVec 32 := 1#32
  let v28 : BitVec 32 := Scalar.subi v13 c1_i32_8
  let v29 : BitVec 32 := Scalar.select v27 v28 v13
  let c256_i32_1 : BitVec 32 := 256#32
  let v6 : BitVec 32 := Scalar.addi v2 c256_i32_1
  let c4480_i32 : BitVec 32 := 4480#32
  let v7 : BitVec 32 := Scalar.minsi v6 c4480_i32
  let v8 : BitVec 32 := Scalar.maxsi v1 v7
  let c511_i32 : BitVec 32 := 511#32
  let v9 : BitVec 32 := Scalar.addi v8 c511_i32
  let c512_i32 : BitVec 32 := 512#32
  let v10 : BitVec 32 := Scalar.divsi v9 c512_i32
  let v30 : BitVec 32 := Scalar.minsi v29 v10
  let v432 : BitVec 32 := Scalar.subi v10 v30
  let c1_i32_295 : BitVec 32 := 1#32
  let v434 : BitVec 32 := Scalar.divsi v432 c1_i32_295
  let v435 : BitVec 32 := Scalar.muli v434 c1_i32_295
  let v436 : BitVec 32 := Scalar.addi v30 v435
  let c1_i32_297 : BitVec 32 := 1#32
  let arg18 : BitVec 32 := Scf.iv v436 c1_i32_297 k0_t32
  let c512_i32_315 : BitVec 32 := 512#32
  let v460 : BitVec 32 := Scalar.muli arg18 c512_i32_315
  let v1205 : Index := Scalar.indexCast v460
  ![0, 0, 0, v1205.toNat]

def k0_chk1_0 (i : grid0.Coords) (v1 : BitVec 32) : Prop :=
  ((k0_t1_loop i v1).OK) ∧
  (∀ k0_t1 : Fin (k0_t1_loop i v1).trips, ∀ a, (k0_off2 i v1 k0_t1) a + S1x1x512x128.size a ≤ S1x1x4608x128.size a) ∧
  (∀ k0_t1 : Fin (k0_t1_loop i v1).trips, ∀ (r : Fin 64), ∀ a, (k0_off3 i v1 k0_t1 (BitVec.ofNat 32 (8 * r.val))) a + S8x128.size a ≤ S4608x128.size a) ∧
  (∀ k0_t1 : Fin (k0_t1_loop i v1).trips, ∀ (r : Fin 64), ∀ a, (k0_off4 i v1 k0_t1 (BitVec.ofNat 32 (8 * r.val))) a + S1x8x256.size a ≤ S2x4608x256.size a) ∧
  ((k0_t2_loop i v1).OK) ∧
  (∀ k0_t2 : Fin (k0_t2_loop i v1).trips, ∀ a, (k0_off5 i v1 k0_t2) a + S1x1x512x128.size a ≤ S1x1x4608x128.size a) ∧
  (∀ k0_t2 : Fin (k0_t2_loop i v1).trips, ∀ (r : Fin 64), ∀ a, (k0_off6 i v1 k0_t2 (BitVec.ofNat 32 (8 * r.val))) a + S8x128.size a ≤ S4608x128.size a) ∧
  (∀ k0_t2 : Fin (k0_t2_loop i v1).trips, ∀ (r : Fin 64), ∀ a, (k0_off7 i v1 k0_t2 (BitVec.ofNat 32 (8 * r.val))) a + S1x8x256.size a ≤ S2x4608x256.size a) ∧
  ((k0_t3_loop i v1).OK) ∧
  (∀ k0_t3 : Fin (k0_t3_loop i v1).trips, ∀ a, (k0_off8 i v1 k0_t3) a + S1x1x512x128.size a ≤ S1x1x4608x128.size a) ∧
  (∀ k0_t3 : Fin (k0_t3_loop i v1).trips, ∀ (r : Fin 64), ∀ a, (k0_off9 i v1 k0_t3 (BitVec.ofNat 32 (8 * r.val))) a + S8x128.size a ≤ S4608x128.size a) ∧
  (∀ k0_t3 : Fin (k0_t3_loop i v1).trips, ∀ (r : Fin 64), ∀ a, (k0_off10 i v1 k0_t3 (BitVec.ofNat 32 (8 * r.val))) a + S1x8x256.size a ≤ S2x4608x256.size a) ∧
  ((k0_t4_loop i v1).OK) ∧
  (∀ k0_t4 : Fin (k0_t4_loop i v1).trips, ∀ a, (k0_off11 i v1 k0_t4) a + S1x1x512x128.size a ≤ S1x1x4608x128.size a) ∧
  (∀ k0_t4 : Fin (k0_t4_loop i v1).trips, ∀ (r : Fin 64), ∀ a, (k0_off12 i v1 k0_t4 (BitVec.ofNat 32 (8 * r.val))) a + S8x128.size a ≤ S4608x128.size a) ∧
  (∀ k0_t4 : Fin (k0_t4_loop i v1).trips, ∀ (r : Fin 64), ∀ a, (k0_off13 i v1 k0_t4 (BitVec.ofNat 32 (8 * r.val))) a + S1x8x256.size a ≤ S2x4608x256.size a) ∧
  ((k0_t5_loop i v1).OK) ∧
  (∀ k0_t5 : Fin (k0_t5_loop i v1).trips, ∀ a, (k0_off14 i v1 k0_t5) a + S1x1x512x128.size a ≤ S1x1x4608x128.size a) ∧
  (∀ k0_t5 : Fin (k0_t5_loop i v1).trips, ∀ (r : Fin 64), ∀ a, (k0_off15 i v1 k0_t5 (BitVec.ofNat 32 (8 * r.val))) a + S8x128.size a ≤ S4608x128.size a) ∧
  (∀ k0_t5 : Fin (k0_t5_loop i v1).trips, ∀ (r : Fin 64), ∀ a, (k0_off16 i v1 k0_t5 (BitVec.ofNat 32 (8 * r.val))) a + S1x8x256.size a ≤ S2x4608x256.size a) ∧
  (∀ k0_t5 : Fin (k0_t5_loop i v1).trips, ∀ (r₁ : Fin 16) (r₂ : Fin 4), ∀ a, (k0_off17 i v1 k0_t5 (BitVec.ofNat 32 (32 * r₁.val)) (BitVec.ofNat 32 (8 * r₂.val))) a + S1x8x256.size a ≤ S2x4608x256.size a) ∧
  (∀ k0_t5 : Fin (k0_t5_loop i v1).trips, ∀ a, (k0_off18 i v1 k0_t5) a + S1x1x128x512.size a ≤ S1x1x128x4608.size a) ∧
  ((k0_t6_loop i v1).OK) ∧
  (∀ k0_t6 : Fin (k0_t6_loop i v1).trips, ∀ a, (k0_off19 i v1 k0_t6) a + S1x1x512x128.size a ≤ S1x1x4608x128.size a) ∧
  (∀ k0_t6 : Fin (k0_t6_loop i v1).trips, ∀ (r : Fin 64), ∀ a, (k0_off20 i v1 k0_t6 (BitVec.ofNat 32 (8 * r.val))) a + S8x128.size a ≤ S4608x128.size a) ∧
  (∀ k0_t6 : Fin (k0_t6_loop i v1).trips, ∀ (r : Fin 64), ∀ a, (k0_off21 i v1 k0_t6 (BitVec.ofNat 32 (8 * r.val))) a + S1x8x256.size a ≤ S2x4608x256.size a) ∧
  (∀ k0_t6 : Fin (k0_t6_loop i v1).trips, ∀ (r₁ : Fin 16) (r₂ : Fin 4), ∀ a, (k0_off22 i v1 k0_t6 (BitVec.ofNat 32 (32 * r₁.val)) (BitVec.ofNat 32 (8 * r₂.val))) a + S1x8x256.size a ≤ S2x4608x256.size a) ∧
  (∀ k0_t6 : Fin (k0_t6_loop i v1).trips, ∀ a, (k0_off23 i v1 k0_t6) a + S1x1x128x512.size a ≤ S1x1x128x4608.size a) ∧
  ((k0_t7_loop i v1).OK) ∧
  (∀ k0_t7 : Fin (k0_t7_loop i v1).trips, ∀ a, (k0_off24 i v1 k0_t7) a + S1x1x512x128.size a ≤ S1x1x4608x128.size a) ∧
  (∀ k0_t7 : Fin (k0_t7_loop i v1).trips, ∀ (r : Fin 64), ∀ a, (k0_off25 i v1 k0_t7 (BitVec.ofNat 32 (8 * r.val))) a + S8x128.size a ≤ S4608x128.size a) ∧
  (∀ k0_t7 : Fin (k0_t7_loop i v1).trips, ∀ (r : Fin 64), ∀ a, (k0_off26 i v1 k0_t7 (BitVec.ofNat 32 (8 * r.val))) a + S1x8x256.size a ≤ S2x4608x256.size a)
def k0_chk1_1 (i : grid0.Coords) (v1 : BitVec 32) : Prop :=
  (∀ k0_t7 : Fin (k0_t7_loop i v1).trips, ∀ (r₁ : Fin 16) (r₂ : Fin 4), ∀ a, (k0_off27 i v1 k0_t7 (BitVec.ofNat 32 (32 * r₁.val)) (BitVec.ofNat 32 (8 * r₂.val))) a + S1x8x256.size a ≤ S2x4608x256.size a) ∧
  (∀ k0_t7 : Fin (k0_t7_loop i v1).trips, ∀ a, (k0_off28 i v1 k0_t7) a + S1x1x128x512.size a ≤ S1x1x128x4608.size a) ∧
  ((k0_t8_loop i v1).OK) ∧
  (∀ k0_t8 : Fin (k0_t8_loop i v1).trips, ∀ a, (k0_off29 i v1 k0_t8) a + S1x1x512x128.size a ≤ S1x1x4608x128.size a) ∧
  (∀ k0_t8 : Fin (k0_t8_loop i v1).trips, ∀ (r : Fin 64), ∀ a, (k0_off30 i v1 k0_t8 (BitVec.ofNat 32 (8 * r.val))) a + S8x128.size a ≤ S4608x128.size a) ∧
  (∀ k0_t8 : Fin (k0_t8_loop i v1).trips, ∀ (r : Fin 64), ∀ a, (k0_off31 i v1 k0_t8 (BitVec.ofNat 32 (8 * r.val))) a + S1x8x256.size a ≤ S2x4608x256.size a) ∧
  (∀ k0_t8 : Fin (k0_t8_loop i v1).trips, ∀ (r₁ : Fin 16) (r₂ : Fin 4), ∀ a, (k0_off32 i v1 k0_t8 (BitVec.ofNat 32 (32 * r₁.val)) (BitVec.ofNat 32 (8 * r₂.val))) a + S1x8x256.size a ≤ S2x4608x256.size a) ∧
  (∀ k0_t8 : Fin (k0_t8_loop i v1).trips, ∀ a, (k0_off33 i v1 k0_t8) a + S1x1x128x512.size a ≤ S1x1x128x4608.size a) ∧
  ((k0_t9_loop i v1).OK) ∧
  (∀ k0_t9 : Fin (k0_t9_loop i v1).trips, ∀ a, (k0_off34 i v1 k0_t9) a + S1x1x512x128.size a ≤ S1x1x4608x128.size a) ∧
  (∀ k0_t9 : Fin (k0_t9_loop i v1).trips, ∀ (r : Fin 64), ∀ a, (k0_off35 i v1 k0_t9 (BitVec.ofNat 32 (8 * r.val))) a + S8x128.size a ≤ S4608x128.size a) ∧
  (∀ k0_t9 : Fin (k0_t9_loop i v1).trips, ∀ (r : Fin 64), ∀ a, (k0_off36 i v1 k0_t9 (BitVec.ofNat 32 (8 * r.val))) a + S1x8x256.size a ≤ S2x4608x256.size a) ∧
  (∀ k0_t9 : Fin (k0_t9_loop i v1).trips, ∀ (r₁ : Fin 16) (r₂ : Fin 4), ∀ a, (k0_off37 i v1 k0_t9 (BitVec.ofNat 32 (32 * r₁.val)) (BitVec.ofNat 32 (8 * r₂.val))) a + S1x8x256.size a ≤ S2x4608x256.size a) ∧
  (∀ k0_t9 : Fin (k0_t9_loop i v1).trips, ∀ a, (k0_off38 i v1 k0_t9) a + S1x1x128x512.size a ≤ S1x1x128x4608.size a) ∧
  ((k0_t10_loop i v1).OK) ∧
  (∀ k0_t10 : Fin (k0_t10_loop i v1).trips, ∀ a, (k0_off39 i v1 k0_t10) a + S1x1x512x128.size a ≤ S1x1x4608x128.size a) ∧
  (∀ k0_t10 : Fin (k0_t10_loop i v1).trips, ∀ (r : Fin 64), ∀ a, (k0_off40 i v1 k0_t10 (BitVec.ofNat 32 (8 * r.val))) a + S8x128.size a ≤ S4608x128.size a) ∧
  (∀ k0_t10 : Fin (k0_t10_loop i v1).trips, ∀ (r : Fin 64), ∀ a, (k0_off41 i v1 k0_t10 (BitVec.ofNat 32 (8 * r.val))) a + S1x8x256.size a ≤ S2x4608x256.size a) ∧
  (∀ k0_t10 : Fin (k0_t10_loop i v1).trips, ∀ (r₁ : Fin 16) (r₂ : Fin 4), ∀ a, (k0_off42 i v1 k0_t10 (BitVec.ofNat 32 (32 * r₁.val)) (BitVec.ofNat 32 (8 * r₂.val))) a + S1x8x256.size a ≤ S2x4608x256.size a) ∧
  (∀ k0_t10 : Fin (k0_t10_loop i v1).trips, ∀ a, (k0_off43 i v1 k0_t10) a + S1x1x128x512.size a ≤ S1x1x128x4608.size a) ∧
  ((k0_t11_loop i v1).OK) ∧
  (∀ k0_t11 : Fin (k0_t11_loop i v1).trips, ∀ a, (k0_off44 i v1 k0_t11) a + S1x1x512x128.size a ≤ S1x1x4608x128.size a) ∧
  (∀ k0_t11 : Fin (k0_t11_loop i v1).trips, ∀ (r : Fin 64), ∀ a, (k0_off45 i v1 k0_t11 (BitVec.ofNat 32 (8 * r.val))) a + S8x128.size a ≤ S4608x128.size a) ∧
  (∀ k0_t11 : Fin (k0_t11_loop i v1).trips, ∀ (r : Fin 64), ∀ a, (k0_off46 i v1 k0_t11 (BitVec.ofNat 32 (8 * r.val))) a + S1x8x256.size a ≤ S2x4608x256.size a) ∧
  (∀ k0_t11 : Fin (k0_t11_loop i v1).trips, ∀ (r₁ : Fin 16) (r₂ : Fin 4), ∀ a, (k0_off47 i v1 k0_t11 (BitVec.ofNat 32 (32 * r₁.val)) (BitVec.ofNat 32 (8 * r₂.val))) a + S1x8x256.size a ≤ S2x4608x256.size a) ∧
  (∀ k0_t11 : Fin (k0_t11_loop i v1).trips, ∀ a, (k0_off48 i v1 k0_t11) a + S1x1x128x512.size a ≤ S1x1x128x4608.size a) ∧
  ((k0_t12_loop i v1).OK) ∧
  (∀ k0_t12 : Fin (k0_t12_loop i v1).trips, ∀ a, (k0_off49 i v1 k0_t12) a + S1x1x512x128.size a ≤ S1x1x4608x128.size a) ∧
  (∀ k0_t12 : Fin (k0_t12_loop i v1).trips, ∀ (r : Fin 64), ∀ a, (k0_off50 i v1 k0_t12 (BitVec.ofNat 32 (8 * r.val))) a + S8x128.size a ≤ S4608x128.size a) ∧
  (∀ k0_t12 : Fin (k0_t12_loop i v1).trips, ∀ (r : Fin 64), ∀ a, (k0_off51 i v1 k0_t12 (BitVec.ofNat 32 (8 * r.val))) a + S1x8x256.size a ≤ S2x4608x256.size a) ∧
  (∀ k0_t12 : Fin (k0_t12_loop i v1).trips, ∀ (r₁ : Fin 16) (r₂ : Fin 4), ∀ a, (k0_off52 i v1 k0_t12 (BitVec.ofNat 32 (32 * r₁.val)) (BitVec.ofNat 32 (8 * r₂.val))) a + S1x8x256.size a ≤ S2x4608x256.size a) ∧
  (∀ k0_t12 : Fin (k0_t12_loop i v1).trips, ∀ a, (k0_off53 i v1 k0_t12) a + S1x1x128x512.size a ≤ S1x1x128x4608.size a)
def k0_chk1_2 (i : grid0.Coords) (v1 : BitVec 32) : Prop :=
  ((k0_t13_loop i v1).OK) ∧
  (∀ k0_t13 : Fin (k0_t13_loop i v1).trips, ∀ a, (k0_off54 i v1 k0_t13) a + S1x1x512x128.size a ≤ S1x1x4608x128.size a) ∧
  (∀ k0_t13 : Fin (k0_t13_loop i v1).trips, ∀ (r : Fin 64), ∀ a, (k0_off55 i v1 k0_t13 (BitVec.ofNat 32 (8 * r.val))) a + S8x128.size a ≤ S4608x128.size a) ∧
  (∀ k0_t13 : Fin (k0_t13_loop i v1).trips, ∀ (r : Fin 64), ∀ a, (k0_off56 i v1 k0_t13 (BitVec.ofNat 32 (8 * r.val))) a + S1x8x256.size a ≤ S2x4608x256.size a) ∧
  (∀ k0_t13 : Fin (k0_t13_loop i v1).trips, ∀ (r₁ : Fin 16) (r₂ : Fin 4), ∀ a, (k0_off57 i v1 k0_t13 (BitVec.ofNat 32 (32 * r₁.val)) (BitVec.ofNat 32 (8 * r₂.val))) a + S1x8x256.size a ≤ S2x4608x256.size a) ∧
  (∀ k0_t13 : Fin (k0_t13_loop i v1).trips, ∀ a, (k0_off58 i v1 k0_t13) a + S1x1x128x512.size a ≤ S1x1x128x4608.size a) ∧
  ((k0_t14_loop i v1).OK) ∧
  (∀ k0_t14 : Fin (k0_t14_loop i v1).trips, ∀ a, (k0_off59 i v1 k0_t14) a + S1x1x512x128.size a ≤ S1x1x4608x128.size a) ∧
  (∀ k0_t14 : Fin (k0_t14_loop i v1).trips, ∀ (r : Fin 64), ∀ a, (k0_off60 i v1 k0_t14 (BitVec.ofNat 32 (8 * r.val))) a + S8x128.size a ≤ S4608x128.size a) ∧
  (∀ k0_t14 : Fin (k0_t14_loop i v1).trips, ∀ (r : Fin 64), ∀ a, (k0_off61 i v1 k0_t14 (BitVec.ofNat 32 (8 * r.val))) a + S1x8x256.size a ≤ S2x4608x256.size a) ∧
  (∀ k0_t14 : Fin (k0_t14_loop i v1).trips, ∀ (r₁ : Fin 16) (r₂ : Fin 4), ∀ a, (k0_off62 i v1 k0_t14 (BitVec.ofNat 32 (32 * r₁.val)) (BitVec.ofNat 32 (8 * r₂.val))) a + S1x8x256.size a ≤ S2x4608x256.size a) ∧
  (∀ k0_t14 : Fin (k0_t14_loop i v1).trips, ∀ a, (k0_off63 i v1 k0_t14) a + S1x1x128x512.size a ≤ S1x1x128x4608.size a) ∧
  ((k0_t15_loop i v1).OK) ∧
  (∀ k0_t15 : Fin (k0_t15_loop i v1).trips, ∀ a, (k0_off64 i v1 k0_t15) a + S1x1x512x128.size a ≤ S1x1x4608x128.size a) ∧
  (∀ k0_t15 : Fin (k0_t15_loop i v1).trips, ∀ (r : Fin 64), ∀ a, (k0_off65 i v1 k0_t15 (BitVec.ofNat 32 (8 * r.val))) a + S8x128.size a ≤ S4608x128.size a) ∧
  (∀ k0_t15 : Fin (k0_t15_loop i v1).trips, ∀ (r : Fin 64), ∀ a, (k0_off66 i v1 k0_t15 (BitVec.ofNat 32 (8 * r.val))) a + S1x8x256.size a ≤ S2x4608x256.size a) ∧
  (∀ k0_t15 : Fin (k0_t15_loop i v1).trips, ∀ (r₁ : Fin 16) (r₂ : Fin 4), ∀ a, (k0_off67 i v1 k0_t15 (BitVec.ofNat 32 (32 * r₁.val)) (BitVec.ofNat 32 (8 * r₂.val))) a + S1x8x256.size a ≤ S2x4608x256.size a) ∧
  (∀ k0_t15 : Fin (k0_t15_loop i v1).trips, ∀ a, (k0_off68 i v1 k0_t15) a + S1x1x128x512.size a ≤ S1x1x128x4608.size a) ∧
  ((k0_t16_loop i v1).OK) ∧
  (∀ k0_t16 : Fin (k0_t16_loop i v1).trips, ∀ a, (k0_off69 i v1 k0_t16) a + S1x1x512x128.size a ≤ S1x1x4608x128.size a) ∧
  (∀ k0_t16 : Fin (k0_t16_loop i v1).trips, ∀ (r : Fin 64), ∀ a, (k0_off70 i v1 k0_t16 (BitVec.ofNat 32 (8 * r.val))) a + S8x128.size a ≤ S4608x128.size a) ∧
  (∀ k0_t16 : Fin (k0_t16_loop i v1).trips, ∀ (r : Fin 64), ∀ a, (k0_off71 i v1 k0_t16 (BitVec.ofNat 32 (8 * r.val))) a + S1x8x256.size a ≤ S2x4608x256.size a) ∧
  (∀ k0_t16 : Fin (k0_t16_loop i v1).trips, ∀ (r₁ : Fin 16) (r₂ : Fin 4), ∀ a, (k0_off72 i v1 k0_t16 (BitVec.ofNat 32 (32 * r₁.val)) (BitVec.ofNat 32 (8 * r₂.val))) a + S1x8x256.size a ≤ S2x4608x256.size a) ∧
  (∀ k0_t16 : Fin (k0_t16_loop i v1).trips, ∀ a, (k0_off73 i v1 k0_t16) a + S1x1x128x512.size a ≤ S1x1x128x4608.size a) ∧
  ((k0_t17_loop i v1).OK) ∧
  (∀ k0_t17 : Fin (k0_t17_loop i v1).trips, ∀ a, (k0_off74 i v1 k0_t17) a + S1x1x512x128.size a ≤ S1x1x4608x128.size a) ∧
  (∀ k0_t17 : Fin (k0_t17_loop i v1).trips, ∀ (r : Fin 64), ∀ a, (k0_off75 i v1 k0_t17 (BitVec.ofNat 32 (8 * r.val))) a + S8x128.size a ≤ S4608x128.size a) ∧
  (∀ k0_t17 : Fin (k0_t17_loop i v1).trips, ∀ (r : Fin 64), ∀ a, (k0_off76 i v1 k0_t17 (BitVec.ofNat 32 (8 * r.val))) a + S1x8x256.size a ≤ S2x4608x256.size a) ∧
  (∀ k0_t17 : Fin (k0_t17_loop i v1).trips, ∀ (r₁ : Fin 16) (r₂ : Fin 4), ∀ a, (k0_off77 i v1 k0_t17 (BitVec.ofNat 32 (32 * r₁.val)) (BitVec.ofNat 32 (8 * r₂.val))) a + S1x8x256.size a ≤ S2x4608x256.size a) ∧
  (∀ k0_t17 : Fin (k0_t17_loop i v1).trips, ∀ a, (k0_off78 i v1 k0_t17) a + S1x1x128x512.size a ≤ S1x1x128x4608.size a) ∧
  ((k0_t18_loop i v1).OK) ∧
  (∀ k0_t18 : Fin (k0_t18_loop i v1).trips, ∀ a, (k0_off79 i v1 k0_t18) a + S1x1x512x128.size a ≤ S1x1x4608x128.size a)
def k0_chk1_3 (i : grid0.Coords) (v1 : BitVec 32) : Prop :=
  (∀ k0_t18 : Fin (k0_t18_loop i v1).trips, ∀ (r : Fin 64), ∀ a, (k0_off80 i v1 k0_t18 (BitVec.ofNat 32 (8 * r.val))) a + S8x128.size a ≤ S4608x128.size a) ∧
  (∀ k0_t18 : Fin (k0_t18_loop i v1).trips, ∀ (r : Fin 64), ∀ a, (k0_off81 i v1 k0_t18 (BitVec.ofNat 32 (8 * r.val))) a + S1x8x256.size a ≤ S2x4608x256.size a) ∧
  (∀ k0_t18 : Fin (k0_t18_loop i v1).trips, ∀ (r₁ : Fin 16) (r₂ : Fin 4), ∀ a, (k0_off82 i v1 k0_t18 (BitVec.ofNat 32 (32 * r₁.val)) (BitVec.ofNat 32 (8 * r₂.val))) a + S1x8x256.size a ≤ S2x4608x256.size a) ∧
  (∀ k0_t18 : Fin (k0_t18_loop i v1).trips, ∀ a, (k0_off83 i v1 k0_t18) a + S1x1x128x512.size a ≤ S1x1x128x4608.size a) ∧
  ((k0_t19_loop i v1).OK) ∧
  (∀ k0_t19 : Fin (k0_t19_loop i v1).trips, ∀ a, (k0_off84 i v1 k0_t19) a + S1x1x512x128.size a ≤ S1x1x4608x128.size a) ∧
  (∀ k0_t19 : Fin (k0_t19_loop i v1).trips, ∀ (r : Fin 64), ∀ a, (k0_off85 i v1 k0_t19 (BitVec.ofNat 32 (8 * r.val))) a + S8x128.size a ≤ S4608x128.size a) ∧
  (∀ k0_t19 : Fin (k0_t19_loop i v1).trips, ∀ (r : Fin 64), ∀ a, (k0_off86 i v1 k0_t19 (BitVec.ofNat 32 (8 * r.val))) a + S1x8x256.size a ≤ S2x4608x256.size a) ∧
  (∀ k0_t19 : Fin (k0_t19_loop i v1).trips, ∀ (r₁ : Fin 16) (r₂ : Fin 4), ∀ a, (k0_off87 i v1 k0_t19 (BitVec.ofNat 32 (32 * r₁.val)) (BitVec.ofNat 32 (8 * r₂.val))) a + S1x8x256.size a ≤ S2x4608x256.size a) ∧
  (∀ k0_t19 : Fin (k0_t19_loop i v1).trips, ∀ a, (k0_off88 i v1 k0_t19) a + S1x1x128x512.size a ≤ S1x1x128x4608.size a) ∧
  ((k0_t20_loop i v1).OK) ∧
  (∀ k0_t20 : Fin (k0_t20_loop i v1).trips, ∀ a, (k0_off89 i v1 k0_t20) a + S1x1x512x128.size a ≤ S1x1x4608x128.size a) ∧
  (∀ k0_t20 : Fin (k0_t20_loop i v1).trips, ∀ (r : Fin 64), ∀ a, (k0_off90 i v1 k0_t20 (BitVec.ofNat 32 (8 * r.val))) a + S8x128.size a ≤ S4608x128.size a) ∧
  (∀ k0_t20 : Fin (k0_t20_loop i v1).trips, ∀ (r : Fin 64), ∀ a, (k0_off91 i v1 k0_t20 (BitVec.ofNat 32 (8 * r.val))) a + S1x8x256.size a ≤ S2x4608x256.size a) ∧
  (∀ k0_t20 : Fin (k0_t20_loop i v1).trips, ∀ (r₁ : Fin 16) (r₂ : Fin 4), ∀ a, (k0_off92 i v1 k0_t20 (BitVec.ofNat 32 (32 * r₁.val)) (BitVec.ofNat 32 (8 * r₂.val))) a + S1x8x256.size a ≤ S2x4608x256.size a) ∧
  (∀ k0_t20 : Fin (k0_t20_loop i v1).trips, ∀ a, (k0_off93 i v1 k0_t20) a + S1x1x128x512.size a ≤ S1x1x128x4608.size a) ∧
  ((k0_t21_loop i v1).OK) ∧
  (∀ k0_t21 : Fin (k0_t21_loop i v1).trips, ∀ a, (k0_off94 i v1 k0_t21) a + S1x1x512x128.size a ≤ S1x1x4608x128.size a) ∧
  (∀ k0_t21 : Fin (k0_t21_loop i v1).trips, ∀ (r : Fin 64), ∀ a, (k0_off95 i v1 k0_t21 (BitVec.ofNat 32 (8 * r.val))) a + S8x128.size a ≤ S4608x128.size a) ∧
  (∀ k0_t21 : Fin (k0_t21_loop i v1).trips, ∀ (r : Fin 64), ∀ a, (k0_off96 i v1 k0_t21 (BitVec.ofNat 32 (8 * r.val))) a + S1x8x256.size a ≤ S2x4608x256.size a) ∧
  (∀ k0_t21 : Fin (k0_t21_loop i v1).trips, ∀ (r₁ : Fin 16) (r₂ : Fin 4), ∀ a, (k0_off97 i v1 k0_t21 (BitVec.ofNat 32 (32 * r₁.val)) (BitVec.ofNat 32 (8 * r₂.val))) a + S1x8x256.size a ≤ S2x4608x256.size a) ∧
  (∀ k0_t21 : Fin (k0_t21_loop i v1).trips, ∀ a, (k0_off98 i v1 k0_t21) a + S1x1x128x512.size a ≤ S1x1x128x4608.size a) ∧
  ((k0_t22_loop i v1).OK) ∧
  (∀ k0_t22 : Fin (k0_t22_loop i v1).trips, ∀ a, (k0_off99 i v1 k0_t22) a + S1x1x512x128.size a ≤ S1x1x4608x128.size a) ∧
  (∀ k0_t22 : Fin (k0_t22_loop i v1).trips, ∀ (r : Fin 64), ∀ a, (k0_off100 i v1 k0_t22 (BitVec.ofNat 32 (8 * r.val))) a + S8x128.size a ≤ S4608x128.size a) ∧
  (∀ k0_t22 : Fin (k0_t22_loop i v1).trips, ∀ (r : Fin 64), ∀ a, (k0_off101 i v1 k0_t22 (BitVec.ofNat 32 (8 * r.val))) a + S1x8x256.size a ≤ S2x4608x256.size a) ∧
  (∀ k0_t22 : Fin (k0_t22_loop i v1).trips, ∀ (r₁ : Fin 16) (r₂ : Fin 4), ∀ a, (k0_off102 i v1 k0_t22 (BitVec.ofNat 32 (32 * r₁.val)) (BitVec.ofNat 32 (8 * r₂.val))) a + S1x8x256.size a ≤ S2x4608x256.size a) ∧
  (∀ k0_t22 : Fin (k0_t22_loop i v1).trips, ∀ a, (k0_off103 i v1 k0_t22) a + S1x1x128x512.size a ≤ S1x1x128x4608.size a) ∧
  ((k0_t23_loop i v1).OK) ∧
  (∀ k0_t23 : Fin (k0_t23_loop i v1).trips, ∀ a, (k0_off104 i v1 k0_t23) a + S1x1x512x128.size a ≤ S1x1x4608x128.size a) ∧
  (∀ k0_t23 : Fin (k0_t23_loop i v1).trips, ∀ (r : Fin 64), ∀ a, (k0_off105 i v1 k0_t23 (BitVec.ofNat 32 (8 * r.val))) a + S8x128.size a ≤ S4608x128.size a) ∧
  (∀ k0_t23 : Fin (k0_t23_loop i v1).trips, ∀ (r : Fin 64), ∀ a, (k0_off106 i v1 k0_t23 (BitVec.ofNat 32 (8 * r.val))) a + S1x8x256.size a ≤ S2x4608x256.size a)
def k0_chk1_4 (i : grid0.Coords) (v1 : BitVec 32) : Prop :=
  (∀ k0_t23 : Fin (k0_t23_loop i v1).trips, ∀ (r₁ : Fin 16) (r₂ : Fin 4), ∀ a, (k0_off107 i v1 k0_t23 (BitVec.ofNat 32 (32 * r₁.val)) (BitVec.ofNat 32 (8 * r₂.val))) a + S1x8x256.size a ≤ S2x4608x256.size a) ∧
  (∀ k0_t23 : Fin (k0_t23_loop i v1).trips, ∀ a, (k0_off108 i v1 k0_t23) a + S1x1x128x512.size a ≤ S1x1x128x4608.size a) ∧
  ((k0_t24_loop i v1).OK) ∧
  (∀ k0_t24 : Fin (k0_t24_loop i v1).trips, ∀ a, (k0_off109 i v1 k0_t24) a + S1x1x512x128.size a ≤ S1x1x4608x128.size a) ∧
  (∀ k0_t24 : Fin (k0_t24_loop i v1).trips, ∀ (r : Fin 64), ∀ a, (k0_off110 i v1 k0_t24 (BitVec.ofNat 32 (8 * r.val))) a + S8x128.size a ≤ S4608x128.size a) ∧
  (∀ k0_t24 : Fin (k0_t24_loop i v1).trips, ∀ (r : Fin 64), ∀ a, (k0_off111 i v1 k0_t24 (BitVec.ofNat 32 (8 * r.val))) a + S1x8x256.size a ≤ S2x4608x256.size a) ∧
  (∀ k0_t24 : Fin (k0_t24_loop i v1).trips, ∀ (r₁ : Fin 16) (r₂ : Fin 4), ∀ a, (k0_off112 i v1 k0_t24 (BitVec.ofNat 32 (32 * r₁.val)) (BitVec.ofNat 32 (8 * r₂.val))) a + S1x8x256.size a ≤ S2x4608x256.size a) ∧
  (∀ k0_t24 : Fin (k0_t24_loop i v1).trips, ∀ a, (k0_off113 i v1 k0_t24) a + S1x1x128x512.size a ≤ S1x1x128x4608.size a) ∧
  ((k0_t25_loop i v1).OK) ∧
  (∀ k0_t25 : Fin (k0_t25_loop i v1).trips, ∀ a, (k0_off114 i v1 k0_t25) a + S1x1x512x128.size a ≤ S1x1x4608x128.size a) ∧
  (∀ k0_t25 : Fin (k0_t25_loop i v1).trips, ∀ (r : Fin 64), ∀ a, (k0_off115 i v1 k0_t25 (BitVec.ofNat 32 (8 * r.val))) a + S8x128.size a ≤ S4608x128.size a) ∧
  (∀ k0_t25 : Fin (k0_t25_loop i v1).trips, ∀ (r : Fin 64), ∀ a, (k0_off116 i v1 k0_t25 (BitVec.ofNat 32 (8 * r.val))) a + S1x8x256.size a ≤ S2x4608x256.size a) ∧
  (∀ k0_t25 : Fin (k0_t25_loop i v1).trips, ∀ (r₁ : Fin 16) (r₂ : Fin 4), ∀ a, (k0_off117 i v1 k0_t25 (BitVec.ofNat 32 (32 * r₁.val)) (BitVec.ofNat 32 (8 * r₂.val))) a + S1x8x256.size a ≤ S2x4608x256.size a) ∧
  (∀ k0_t25 : Fin (k0_t25_loop i v1).trips, ∀ a, (k0_off118 i v1 k0_t25) a + S1x1x128x512.size a ≤ S1x1x128x4608.size a) ∧
  ((k0_t26_loop i v1).OK) ∧
  (∀ k0_t26 : Fin (k0_t26_loop i v1).trips, ∀ a, (k0_off119 i v1 k0_t26) a + S1x1x512x128.size a ≤ S1x1x4608x128.size a) ∧
  (∀ k0_t26 : Fin (k0_t26_loop i v1).trips, ∀ (r : Fin 64), ∀ a, (k0_off120 i v1 k0_t26 (BitVec.ofNat 32 (8 * r.val))) a + S8x128.size a ≤ S4608x128.size a) ∧
  (∀ k0_t26 : Fin (k0_t26_loop i v1).trips, ∀ (r : Fin 64), ∀ a, (k0_off121 i v1 k0_t26 (BitVec.ofNat 32 (8 * r.val))) a + S1x8x256.size a ≤ S2x4608x256.size a) ∧
  (∀ k0_t26 : Fin (k0_t26_loop i v1).trips, ∀ (r₁ : Fin 16) (r₂ : Fin 4), ∀ a, (k0_off122 i v1 k0_t26 (BitVec.ofNat 32 (32 * r₁.val)) (BitVec.ofNat 32 (8 * r₂.val))) a + S1x8x256.size a ≤ S2x4608x256.size a) ∧
  (∀ k0_t26 : Fin (k0_t26_loop i v1).trips, ∀ a, (k0_off123 i v1 k0_t26) a + S1x1x128x512.size a ≤ S1x1x128x4608.size a) ∧
  ((k0_t27_loop i v1).OK) ∧
  (∀ k0_t27 : Fin (k0_t27_loop i v1).trips, ∀ a, (k0_off124 i v1 k0_t27) a + S1x1x512x128.size a ≤ S1x1x4608x128.size a) ∧
  (∀ k0_t27 : Fin (k0_t27_loop i v1).trips, ∀ (r : Fin 64), ∀ a, (k0_off125 i v1 k0_t27 (BitVec.ofNat 32 (8 * r.val))) a + S8x128.size a ≤ S4608x128.size a) ∧
  (∀ k0_t27 : Fin (k0_t27_loop i v1).trips, ∀ (r : Fin 64), ∀ a, (k0_off126 i v1 k0_t27 (BitVec.ofNat 32 (8 * r.val))) a + S1x8x256.size a ≤ S2x4608x256.size a) ∧
  (∀ k0_t27 : Fin (k0_t27_loop i v1).trips, ∀ (r₁ : Fin 16) (r₂ : Fin 4), ∀ a, (k0_off127 i v1 k0_t27 (BitVec.ofNat 32 (32 * r₁.val)) (BitVec.ofNat 32 (8 * r₂.val))) a + S1x8x256.size a ≤ S2x4608x256.size a) ∧
  (∀ k0_t27 : Fin (k0_t27_loop i v1).trips, ∀ a, (k0_off128 i v1 k0_t27) a + S1x1x128x512.size a ≤ S1x1x128x4608.size a) ∧
  ((k0_t28_loop i v1).OK) ∧
  (∀ k0_t28 : Fin (k0_t28_loop i v1).trips, ∀ a, (k0_off129 i v1 k0_t28) a + S1x1x512x128.size a ≤ S1x1x4608x128.size a) ∧
  (∀ k0_t28 : Fin (k0_t28_loop i v1).trips, ∀ (r : Fin 64), ∀ a, (k0_off130 i v1 k0_t28 (BitVec.ofNat 32 (8 * r.val))) a + S8x128.size a ≤ S4608x128.size a) ∧
  (∀ k0_t28 : Fin (k0_t28_loop i v1).trips, ∀ (r : Fin 64), ∀ a, (k0_off131 i v1 k0_t28 (BitVec.ofNat 32 (8 * r.val))) a + S1x8x256.size a ≤ S2x4608x256.size a) ∧
  (∀ k0_t28 : Fin (k0_t28_loop i v1).trips, ∀ (r₁ : Fin 16) (r₂ : Fin 4), ∀ a, (k0_off132 i v1 k0_t28 (BitVec.ofNat 32 (32 * r₁.val)) (BitVec.ofNat 32 (8 * r₂.val))) a + S1x8x256.size a ≤ S2x4608x256.size a) ∧
  (∀ k0_t28 : Fin (k0_t28_loop i v1).trips, ∀ a, (k0_off133 i v1 k0_t28) a + S1x1x128x512.size a ≤ S1x1x128x4608.size a)
def k0_chk1_5 (i : grid0.Coords) (v1 : BitVec 32) : Prop :=
  ((k0_t29_loop i v1).OK) ∧
  (∀ k0_t29 : Fin (k0_t29_loop i v1).trips, ∀ (r₁ : Fin 16) (r₂ : Fin 4), ∀ a, (k0_off134 i v1 k0_t29 (BitVec.ofNat 32 (32 * r₁.val)) (BitVec.ofNat 32 (8 * r₂.val))) a + S1x8x256.size a ≤ S2x4608x256.size a) ∧
  (∀ k0_t29 : Fin (k0_t29_loop i v1).trips, ∀ a, (k0_off135 i v1 k0_t29) a + S1x1x128x512.size a ≤ S1x1x128x4608.size a) ∧
  ((k0_t30_loop i v1).OK) ∧
  (∀ k0_t30 : Fin (k0_t30_loop i v1).trips, ∀ (r₁ : Fin 16) (r₂ : Fin 4), ∀ a, (k0_off136 i v1 k0_t30 (BitVec.ofNat 32 (32 * r₁.val)) (BitVec.ofNat 32 (8 * r₂.val))) a + S1x8x256.size a ≤ S2x4608x256.size a) ∧
  (∀ k0_t30 : Fin (k0_t30_loop i v1).trips, ∀ a, (k0_off137 i v1 k0_t30) a + S1x1x128x512.size a ≤ S1x1x128x4608.size a) ∧
  ((k0_t31_loop i v1).OK) ∧
  (∀ k0_t31 : Fin (k0_t31_loop i v1).trips, ∀ (r₁ : Fin 16) (r₂ : Fin 4), ∀ a, (k0_off138 i v1 k0_t31 (BitVec.ofNat 32 (32 * r₁.val)) (BitVec.ofNat 32 (8 * r₂.val))) a + S1x8x256.size a ≤ S2x4608x256.size a) ∧
  (∀ k0_t31 : Fin (k0_t31_loop i v1).trips, ∀ a, (k0_off139 i v1 k0_t31) a + S1x1x128x512.size a ≤ S1x1x128x4608.size a) ∧
  ((k0_t32_loop i v1).OK) ∧
  (∀ k0_t32 : Fin (k0_t32_loop i v1).trips, ∀ (r₁ : Fin 16) (r₂ : Fin 4), ∀ a, (k0_off140 i v1 k0_t32 (BitVec.ofNat 32 (32 * r₁.val)) (BitVec.ofNat 32 (8 * r₂.val))) a + S1x8x256.size a ≤ S2x4608x256.size a) ∧
  (∀ k0_t32 : Fin (k0_t32_loop i v1).trips, ∀ a, (k0_off141 i v1 k0_t32) a + S1x1x128x512.size a ≤ S1x1x128x4608.size a)
def k0_chk1 (i : grid0.Coords) (v1 : BitVec 32) : Prop :=
  k0_chk1_0 i v1 ∧
  k0_chk1_1 i v1 ∧
  k0_chk1_2 i v1 ∧
  k0_chk1_3 i v1 ∧
  k0_chk1_4 i v1 ∧
  k0_chk1_5 i v1
theorem k0_t1_ok : ∀ (i : grid0.Coords) (v1 : BitVec 32) (k0_hw1 : k0_chk1 i v1), (k0_t1_loop i v1).OK := fun i v1 k0_hw1 => k0_hw1.1.1
theorem k0_off2_inb : ∀ (i : grid0.Coords) (v1 : BitVec 32) (k0_hw1 : k0_chk1 i v1) (k0_t1 : Fin (k0_t1_loop i v1).trips), ∀ a, (k0_off2 i v1 k0_t1) a + S1x1x512x128.size a ≤ S1x1x4608x128.size a := fun i v1 k0_hw1 k0_t1 => k0_hw1.1.2.1 k0_t1
theorem k0_off3_inb : ∀ (i : grid0.Coords) (v1 : BitVec 32) (k0_hw1 : k0_chk1 i v1) (k0_t1 : Fin (k0_t1_loop i v1).trips), ∀ (r : Fin 64), ∀ a, (k0_off3 i v1 k0_t1 (BitVec.ofNat 32 (8 * r.val))) a + S8x128.size a ≤ S4608x128.size a := fun i v1 k0_hw1 k0_t1 r => k0_hw1.1.2.2.1 k0_t1 r
theorem k0_off4_inb : ∀ (i : grid0.Coords) (v1 : BitVec 32) (k0_hw1 : k0_chk1 i v1) (k0_t1 : Fin (k0_t1_loop i v1).trips), ∀ (r : Fin 64), ∀ a, (k0_off4 i v1 k0_t1 (BitVec.ofNat 32 (8 * r.val))) a + S1x8x256.size a ≤ S2x4608x256.size a := fun i v1 k0_hw1 k0_t1 r => k0_hw1.1.2.2.2.1 k0_t1 r
theorem k0_t2_ok : ∀ (i : grid0.Coords) (v1 : BitVec 32) (k0_hw1 : k0_chk1 i v1), (k0_t2_loop i v1).OK := fun i v1 k0_hw1 => k0_hw1.1.2.2.2.2.1
theorem k0_off5_inb : ∀ (i : grid0.Coords) (v1 : BitVec 32) (k0_hw1 : k0_chk1 i v1) (k0_t2 : Fin (k0_t2_loop i v1).trips), ∀ a, (k0_off5 i v1 k0_t2) a + S1x1x512x128.size a ≤ S1x1x4608x128.size a := fun i v1 k0_hw1 k0_t2 => k0_hw1.1.2.2.2.2.2.1 k0_t2
theorem k0_off6_inb : ∀ (i : grid0.Coords) (v1 : BitVec 32) (k0_hw1 : k0_chk1 i v1) (k0_t2 : Fin (k0_t2_loop i v1).trips), ∀ (r : Fin 64), ∀ a, (k0_off6 i v1 k0_t2 (BitVec.ofNat 32 (8 * r.val))) a + S8x128.size a ≤ S4608x128.size a := fun i v1 k0_hw1 k0_t2 r => k0_hw1.1.2.2.2.2.2.2.1 k0_t2 r
theorem k0_off7_inb : ∀ (i : grid0.Coords) (v1 : BitVec 32) (k0_hw1 : k0_chk1 i v1) (k0_t2 : Fin (k0_t2_loop i v1).trips), ∀ (r : Fin 64), ∀ a, (k0_off7 i v1 k0_t2 (BitVec.ofNat 32 (8 * r.val))) a + S1x8x256.size a ≤ S2x4608x256.size a := fun i v1 k0_hw1 k0_t2 r => k0_hw1.1.2.2.2.2.2.2.2.1 k0_t2 r
theorem k0_t3_ok : ∀ (i : grid0.Coords) (v1 : BitVec 32) (k0_hw1 : k0_chk1 i v1), (k0_t3_loop i v1).OK := fun i v1 k0_hw1 => k0_hw1.1.2.2.2.2.2.2.2.2.1
theorem k0_off8_inb : ∀ (i : grid0.Coords) (v1 : BitVec 32) (k0_hw1 : k0_chk1 i v1) (k0_t3 : Fin (k0_t3_loop i v1).trips), ∀ a, (k0_off8 i v1 k0_t3) a + S1x1x512x128.size a ≤ S1x1x4608x128.size a := fun i v1 k0_hw1 k0_t3 => k0_hw1.1.2.2.2.2.2.2.2.2.2.1 k0_t3
theorem k0_off9_inb : ∀ (i : grid0.Coords) (v1 : BitVec 32) (k0_hw1 : k0_chk1 i v1) (k0_t3 : Fin (k0_t3_loop i v1).trips), ∀ (r : Fin 64), ∀ a, (k0_off9 i v1 k0_t3 (BitVec.ofNat 32 (8 * r.val))) a + S8x128.size a ≤ S4608x128.size a := fun i v1 k0_hw1 k0_t3 r => k0_hw1.1.2.2.2.2.2.2.2.2.2.2.1 k0_t3 r
theorem k0_off10_inb : ∀ (i : grid0.Coords) (v1 : BitVec 32) (k0_hw1 : k0_chk1 i v1) (k0_t3 : Fin (k0_t3_loop i v1).trips), ∀ (r : Fin 64), ∀ a, (k0_off10 i v1 k0_t3 (BitVec.ofNat 32 (8 * r.val))) a + S1x8x256.size a ≤ S2x4608x256.size a := fun i v1 k0_hw1 k0_t3 r => k0_hw1.1.2.2.2.2.2.2.2.2.2.2.2.1 k0_t3 r
theorem k0_t4_ok : ∀ (i : grid0.Coords) (v1 : BitVec 32) (k0_hw1 : k0_chk1 i v1), (k0_t4_loop i v1).OK := fun i v1 k0_hw1 => k0_hw1.1.2.2.2.2.2.2.2.2.2.2.2.2.1
theorem k0_off11_inb : ∀ (i : grid0.Coords) (v1 : BitVec 32) (k0_hw1 : k0_chk1 i v1) (k0_t4 : Fin (k0_t4_loop i v1).trips), ∀ a, (k0_off11 i v1 k0_t4) a + S1x1x512x128.size a ≤ S1x1x4608x128.size a := fun i v1 k0_hw1 k0_t4 => k0_hw1.1.2.2.2.2.2.2.2.2.2.2.2.2.2.1 k0_t4
theorem k0_off12_inb : ∀ (i : grid0.Coords) (v1 : BitVec 32) (k0_hw1 : k0_chk1 i v1) (k0_t4 : Fin (k0_t4_loop i v1).trips), ∀ (r : Fin 64), ∀ a, (k0_off12 i v1 k0_t4 (BitVec.ofNat 32 (8 * r.val))) a + S8x128.size a ≤ S4608x128.size a := fun i v1 k0_hw1 k0_t4 r => k0_hw1.1.2.2.2.2.2.2.2.2.2.2.2.2.2.2.1 k0_t4 r
theorem k0_off13_inb : ∀ (i : grid0.Coords) (v1 : BitVec 32) (k0_hw1 : k0_chk1 i v1) (k0_t4 : Fin (k0_t4_loop i v1).trips), ∀ (r : Fin 64), ∀ a, (k0_off13 i v1 k0_t4 (BitVec.ofNat 32 (8 * r.val))) a + S1x8x256.size a ≤ S2x4608x256.size a := fun i v1 k0_hw1 k0_t4 r => k0_hw1.1.2.2.2.2.2.2.2.2.2.2.2.2.2.2.2.1 k0_t4 r
theorem k0_t5_ok : ∀ (i : grid0.Coords) (v1 : BitVec 32) (k0_hw1 : k0_chk1 i v1), (k0_t5_loop i v1).OK := fun i v1 k0_hw1 => k0_hw1.1.2.2.2.2.2.2.2.2.2.2.2.2.2.2.2.2.1
theorem k0_off14_inb : ∀ (i : grid0.Coords) (v1 : BitVec 32) (k0_hw1 : k0_chk1 i v1) (k0_t5 : Fin (k0_t5_loop i v1).trips), ∀ a, (k0_off14 i v1 k0_t5) a + S1x1x512x128.size a ≤ S1x1x4608x128.size a := fun i v1 k0_hw1 k0_t5 => k0_hw1.1.2.2.2.2.2.2.2.2.2.2.2.2.2.2.2.2.2.1 k0_t5
theorem k0_off15_inb : ∀ (i : grid0.Coords) (v1 : BitVec 32) (k0_hw1 : k0_chk1 i v1) (k0_t5 : Fin (k0_t5_loop i v1).trips), ∀ (r : Fin 64), ∀ a, (k0_off15 i v1 k0_t5 (BitVec.ofNat 32 (8 * r.val))) a + S8x128.size a ≤ S4608x128.size a := fun i v1 k0_hw1 k0_t5 r => k0_hw1.1.2.2.2.2.2.2.2.2.2.2.2.2.2.2.2.2.2.2.1 k0_t5 r
theorem k0_off16_inb : ∀ (i : grid0.Coords) (v1 : BitVec 32) (k0_hw1 : k0_chk1 i v1) (k0_t5 : Fin (k0_t5_loop i v1).trips), ∀ (r : Fin 64), ∀ a, (k0_off16 i v1 k0_t5 (BitVec.ofNat 32 (8 * r.val))) a + S1x8x256.size a ≤ S2x4608x256.size a := fun i v1 k0_hw1 k0_t5 r => k0_hw1.1.2.2.2.2.2.2.2.2.2.2.2.2.2.2.2.2.2.2.2.1 k0_t5 r
theorem k0_off17_inb : ∀ (i : grid0.Coords) (v1 : BitVec 32) (k0_hw1 : k0_chk1 i v1) (k0_t5 : Fin (k0_t5_loop i v1).trips), ∀ (r₁ : Fin 16) (r₂ : Fin 4), ∀ a, (k0_off17 i v1 k0_t5 (BitVec.ofNat 32 (32 * r₁.val)) (BitVec.ofNat 32 (8 * r₂.val))) a + S1x8x256.size a ≤ S2x4608x256.size a := fun i v1 k0_hw1 k0_t5 r₁ r₂ => k0_hw1.1.2.2.2.2.2.2.2.2.2.2.2.2.2.2.2.2.2.2.2.2.1 k0_t5 r₁ r₂
theorem k0_off18_inb : ∀ (i : grid0.Coords) (v1 : BitVec 32) (k0_hw1 : k0_chk1 i v1) (k0_t5 : Fin (k0_t5_loop i v1).trips), ∀ a, (k0_off18 i v1 k0_t5) a + S1x1x128x512.size a ≤ S1x1x128x4608.size a := fun i v1 k0_hw1 k0_t5 => k0_hw1.1.2.2.2.2.2.2.2.2.2.2.2.2.2.2.2.2.2.2.2.2.2.1 k0_t5
theorem k0_t6_ok : ∀ (i : grid0.Coords) (v1 : BitVec 32) (k0_hw1 : k0_chk1 i v1), (k0_t6_loop i v1).OK := fun i v1 k0_hw1 => k0_hw1.1.2.2.2.2.2.2.2.2.2.2.2.2.2.2.2.2.2.2.2.2.2.2.1
theorem k0_off19_inb : ∀ (i : grid0.Coords) (v1 : BitVec 32) (k0_hw1 : k0_chk1 i v1) (k0_t6 : Fin (k0_t6_loop i v1).trips), ∀ a, (k0_off19 i v1 k0_t6) a + S1x1x512x128.size a ≤ S1x1x4608x128.size a := fun i v1 k0_hw1 k0_t6 => k0_hw1.1.2.2.2.2.2.2.2.2.2.2.2.2.2.2.2.2.2.2.2.2.2.2.2.1 k0_t6
theorem k0_off20_inb : ∀ (i : grid0.Coords) (v1 : BitVec 32) (k0_hw1 : k0_chk1 i v1) (k0_t6 : Fin (k0_t6_loop i v1).trips), ∀ (r : Fin 64), ∀ a, (k0_off20 i v1 k0_t6 (BitVec.ofNat 32 (8 * r.val))) a + S8x128.size a ≤ S4608x128.size a := fun i v1 k0_hw1 k0_t6 r => k0_hw1.1.2.2.2.2.2.2.2.2.2.2.2.2.2.2.2.2.2.2.2.2.2.2.2.2.1 k0_t6 r
theorem k0_off21_inb : ∀ (i : grid0.Coords) (v1 : BitVec 32) (k0_hw1 : k0_chk1 i v1) (k0_t6 : Fin (k0_t6_loop i v1).trips), ∀ (r : Fin 64), ∀ a, (k0_off21 i v1 k0_t6 (BitVec.ofNat 32 (8 * r.val))) a + S1x8x256.size a ≤ S2x4608x256.size a := fun i v1 k0_hw1 k0_t6 r => k0_hw1.1.2.2.2.2.2.2.2.2.2.2.2.2.2.2.2.2.2.2.2.2.2.2.2.2.2.1 k0_t6 r
theorem k0_off22_inb : ∀ (i : grid0.Coords) (v1 : BitVec 32) (k0_hw1 : k0_chk1 i v1) (k0_t6 : Fin (k0_t6_loop i v1).trips), ∀ (r₁ : Fin 16) (r₂ : Fin 4), ∀ a, (k0_off22 i v1 k0_t6 (BitVec.ofNat 32 (32 * r₁.val)) (BitVec.ofNat 32 (8 * r₂.val))) a + S1x8x256.size a ≤ S2x4608x256.size a := fun i v1 k0_hw1 k0_t6 r₁ r₂ => k0_hw1.1.2.2.2.2.2.2.2.2.2.2.2.2.2.2.2.2.2.2.2.2.2.2.2.2.2.2.1 k0_t6 r₁ r₂
theorem k0_off23_inb : ∀ (i : grid0.Coords) (v1 : BitVec 32) (k0_hw1 : k0_chk1 i v1) (k0_t6 : Fin (k0_t6_loop i v1).trips), ∀ a, (k0_off23 i v1 k0_t6) a + S1x1x128x512.size a ≤ S1x1x128x4608.size a := fun i v1 k0_hw1 k0_t6 => k0_hw1.1.2.2.2.2.2.2.2.2.2.2.2.2.2.2.2.2.2.2.2.2.2.2.2.2.2.2.2.1 k0_t6
theorem k0_t7_ok : ∀ (i : grid0.Coords) (v1 : BitVec 32) (k0_hw1 : k0_chk1 i v1), (k0_t7_loop i v1).OK := fun i v1 k0_hw1 => k0_hw1.1.2.2.2.2.2.2.2.2.2.2.2.2.2.2.2.2.2.2.2.2.2.2.2.2.2.2.2.2.1
theorem k0_off24_inb : ∀ (i : grid0.Coords) (v1 : BitVec 32) (k0_hw1 : k0_chk1 i v1) (k0_t7 : Fin (k0_t7_loop i v1).trips), ∀ a, (k0_off24 i v1 k0_t7) a + S1x1x512x128.size a ≤ S1x1x4608x128.size a := fun i v1 k0_hw1 k0_t7 => k0_hw1.1.2.2.2.2.2.2.2.2.2.2.2.2.2.2.2.2.2.2.2.2.2.2.2.2.2.2.2.2.2.1 k0_t7
theorem k0_off25_inb : ∀ (i : grid0.Coords) (v1 : BitVec 32) (k0_hw1 : k0_chk1 i v1) (k0_t7 : Fin (k0_t7_loop i v1).trips), ∀ (r : Fin 64), ∀ a, (k0_off25 i v1 k0_t7 (BitVec.ofNat 32 (8 * r.val))) a + S8x128.size a ≤ S4608x128.size a := fun i v1 k0_hw1 k0_t7 r => k0_hw1.1.2.2.2.2.2.2.2.2.2.2.2.2.2.2.2.2.2.2.2.2.2.2.2.2.2.2.2.2.2.2.1 k0_t7 r
theorem k0_off26_inb : ∀ (i : grid0.Coords) (v1 : BitVec 32) (k0_hw1 : k0_chk1 i v1) (k0_t7 : Fin (k0_t7_loop i v1).trips), ∀ (r : Fin 64), ∀ a, (k0_off26 i v1 k0_t7 (BitVec.ofNat 32 (8 * r.val))) a + S1x8x256.size a ≤ S2x4608x256.size a := fun i v1 k0_hw1 k0_t7 r => k0_hw1.1.2.2.2.2.2.2.2.2.2.2.2.2.2.2.2.2.2.2.2.2.2.2.2.2.2.2.2.2.2.2.2 k0_t7 r
theorem k0_off27_inb : ∀ (i : grid0.Coords) (v1 : BitVec 32) (k0_hw1 : k0_chk1 i v1) (k0_t7 : Fin (k0_t7_loop i v1).trips), ∀ (r₁ : Fin 16) (r₂ : Fin 4), ∀ a, (k0_off27 i v1 k0_t7 (BitVec.ofNat 32 (32 * r₁.val)) (BitVec.ofNat 32 (8 * r₂.val))) a + S1x8x256.size a ≤ S2x4608x256.size a := fun i v1 k0_hw1 k0_t7 r₁ r₂ => k0_hw1.2.1.1 k0_t7 r₁ r₂
theorem k0_off28_inb : ∀ (i : grid0.Coords) (v1 : BitVec 32) (k0_hw1 : k0_chk1 i v1) (k0_t7 : Fin (k0_t7_loop i v1).trips), ∀ a, (k0_off28 i v1 k0_t7) a + S1x1x128x512.size a ≤ S1x1x128x4608.size a := fun i v1 k0_hw1 k0_t7 => k0_hw1.2.1.2.1 k0_t7
theorem k0_t8_ok : ∀ (i : grid0.Coords) (v1 : BitVec 32) (k0_hw1 : k0_chk1 i v1), (k0_t8_loop i v1).OK := fun i v1 k0_hw1 => k0_hw1.2.1.2.2.1
theorem k0_off29_inb : ∀ (i : grid0.Coords) (v1 : BitVec 32) (k0_hw1 : k0_chk1 i v1) (k0_t8 : Fin (k0_t8_loop i v1).trips), ∀ a, (k0_off29 i v1 k0_t8) a + S1x1x512x128.size a ≤ S1x1x4608x128.size a := fun i v1 k0_hw1 k0_t8 => k0_hw1.2.1.2.2.2.1 k0_t8
theorem k0_off30_inb : ∀ (i : grid0.Coords) (v1 : BitVec 32) (k0_hw1 : k0_chk1 i v1) (k0_t8 : Fin (k0_t8_loop i v1).trips), ∀ (r : Fin 64), ∀ a, (k0_off30 i v1 k0_t8 (BitVec.ofNat 32 (8 * r.val))) a + S8x128.size a ≤ S4608x128.size a := fun i v1 k0_hw1 k0_t8 r => k0_hw1.2.1.2.2.2.2.1 k0_t8 r
theorem k0_off31_inb : ∀ (i : grid0.Coords) (v1 : BitVec 32) (k0_hw1 : k0_chk1 i v1) (k0_t8 : Fin (k0_t8_loop i v1).trips), ∀ (r : Fin 64), ∀ a, (k0_off31 i v1 k0_t8 (BitVec.ofNat 32 (8 * r.val))) a + S1x8x256.size a ≤ S2x4608x256.size a := fun i v1 k0_hw1 k0_t8 r => k0_hw1.2.1.2.2.2.2.2.1 k0_t8 r
theorem k0_off32_inb : ∀ (i : grid0.Coords) (v1 : BitVec 32) (k0_hw1 : k0_chk1 i v1) (k0_t8 : Fin (k0_t8_loop i v1).trips), ∀ (r₁ : Fin 16) (r₂ : Fin 4), ∀ a, (k0_off32 i v1 k0_t8 (BitVec.ofNat 32 (32 * r₁.val)) (BitVec.ofNat 32 (8 * r₂.val))) a + S1x8x256.size a ≤ S2x4608x256.size a := fun i v1 k0_hw1 k0_t8 r₁ r₂ => k0_hw1.2.1.2.2.2.2.2.2.1 k0_t8 r₁ r₂
theorem k0_off33_inb : ∀ (i : grid0.Coords) (v1 : BitVec 32) (k0_hw1 : k0_chk1 i v1) (k0_t8 : Fin (k0_t8_loop i v1).trips), ∀ a, (k0_off33 i v1 k0_t8) a + S1x1x128x512.size a ≤ S1x1x128x4608.size a := fun i v1 k0_hw1 k0_t8 => k0_hw1.2.1.2.2.2.2.2.2.2.1 k0_t8
theorem k0_t9_ok : ∀ (i : grid0.Coords) (v1 : BitVec 32) (k0_hw1 : k0_chk1 i v1), (k0_t9_loop i v1).OK := fun i v1 k0_hw1 => k0_hw1.2.1.2.2.2.2.2.2.2.2.1
theorem k0_off34_inb : ∀ (i : grid0.Coords) (v1 : BitVec 32) (k0_hw1 : k0_chk1 i v1) (k0_t9 : Fin (k0_t9_loop i v1).trips), ∀ a, (k0_off34 i v1 k0_t9) a + S1x1x512x128.size a ≤ S1x1x4608x128.size a := fun i v1 k0_hw1 k0_t9 => k0_hw1.2.1.2.2.2.2.2.2.2.2.2.1 k0_t9
theorem k0_off35_inb : ∀ (i : grid0.Coords) (v1 : BitVec 32) (k0_hw1 : k0_chk1 i v1) (k0_t9 : Fin (k0_t9_loop i v1).trips), ∀ (r : Fin 64), ∀ a, (k0_off35 i v1 k0_t9 (BitVec.ofNat 32 (8 * r.val))) a + S8x128.size a ≤ S4608x128.size a := fun i v1 k0_hw1 k0_t9 r => k0_hw1.2.1.2.2.2.2.2.2.2.2.2.2.1 k0_t9 r
theorem k0_off36_inb : ∀ (i : grid0.Coords) (v1 : BitVec 32) (k0_hw1 : k0_chk1 i v1) (k0_t9 : Fin (k0_t9_loop i v1).trips), ∀ (r : Fin 64), ∀ a, (k0_off36 i v1 k0_t9 (BitVec.ofNat 32 (8 * r.val))) a + S1x8x256.size a ≤ S2x4608x256.size a := fun i v1 k0_hw1 k0_t9 r => k0_hw1.2.1.2.2.2.2.2.2.2.2.2.2.2.1 k0_t9 r
theorem k0_off37_inb : ∀ (i : grid0.Coords) (v1 : BitVec 32) (k0_hw1 : k0_chk1 i v1) (k0_t9 : Fin (k0_t9_loop i v1).trips), ∀ (r₁ : Fin 16) (r₂ : Fin 4), ∀ a, (k0_off37 i v1 k0_t9 (BitVec.ofNat 32 (32 * r₁.val)) (BitVec.ofNat 32 (8 * r₂.val))) a + S1x8x256.size a ≤ S2x4608x256.size a := fun i v1 k0_hw1 k0_t9 r₁ r₂ => k0_hw1.2.1.2.2.2.2.2.2.2.2.2.2.2.2.1 k0_t9 r₁ r₂
theorem k0_off38_inb : ∀ (i : grid0.Coords) (v1 : BitVec 32) (k0_hw1 : k0_chk1 i v1) (k0_t9 : Fin (k0_t9_loop i v1).trips), ∀ a, (k0_off38 i v1 k0_t9) a + S1x1x128x512.size a ≤ S1x1x128x4608.size a := fun i v1 k0_hw1 k0_t9 => k0_hw1.2.1.2.2.2.2.2.2.2.2.2.2.2.2.2.1 k0_t9
theorem k0_t10_ok : ∀ (i : grid0.Coords) (v1 : BitVec 32) (k0_hw1 : k0_chk1 i v1), (k0_t10_loop i v1).OK := fun i v1 k0_hw1 => k0_hw1.2.1.2.2.2.2.2.2.2.2.2.2.2.2.2.2.1
theorem k0_off39_inb : ∀ (i : grid0.Coords) (v1 : BitVec 32) (k0_hw1 : k0_chk1 i v1) (k0_t10 : Fin (k0_t10_loop i v1).trips), ∀ a, (k0_off39 i v1 k0_t10) a + S1x1x512x128.size a ≤ S1x1x4608x128.size a := fun i v1 k0_hw1 k0_t10 => k0_hw1.2.1.2.2.2.2.2.2.2.2.2.2.2.2.2.2.2.1 k0_t10
theorem k0_off40_inb : ∀ (i : grid0.Coords) (v1 : BitVec 32) (k0_hw1 : k0_chk1 i v1) (k0_t10 : Fin (k0_t10_loop i v1).trips), ∀ (r : Fin 64), ∀ a, (k0_off40 i v1 k0_t10 (BitVec.ofNat 32 (8 * r.val))) a + S8x128.size a ≤ S4608x128.size a := fun i v1 k0_hw1 k0_t10 r => k0_hw1.2.1.2.2.2.2.2.2.2.2.2.2.2.2.2.2.2.2.1 k0_t10 r
theorem k0_off41_inb : ∀ (i : grid0.Coords) (v1 : BitVec 32) (k0_hw1 : k0_chk1 i v1) (k0_t10 : Fin (k0_t10_loop i v1).trips), ∀ (r : Fin 64), ∀ a, (k0_off41 i v1 k0_t10 (BitVec.ofNat 32 (8 * r.val))) a + S1x8x256.size a ≤ S2x4608x256.size a := fun i v1 k0_hw1 k0_t10 r => k0_hw1.2.1.2.2.2.2.2.2.2.2.2.2.2.2.2.2.2.2.2.1 k0_t10 r
theorem k0_off42_inb : ∀ (i : grid0.Coords) (v1 : BitVec 32) (k0_hw1 : k0_chk1 i v1) (k0_t10 : Fin (k0_t10_loop i v1).trips), ∀ (r₁ : Fin 16) (r₂ : Fin 4), ∀ a, (k0_off42 i v1 k0_t10 (BitVec.ofNat 32 (32 * r₁.val)) (BitVec.ofNat 32 (8 * r₂.val))) a + S1x8x256.size a ≤ S2x4608x256.size a := fun i v1 k0_hw1 k0_t10 r₁ r₂ => k0_hw1.2.1.2.2.2.2.2.2.2.2.2.2.2.2.2.2.2.2.2.2.1 k0_t10 r₁ r₂
theorem k0_off43_inb : ∀ (i : grid0.Coords) (v1 : BitVec 32) (k0_hw1 : k0_chk1 i v1) (k0_t10 : Fin (k0_t10_loop i v1).trips), ∀ a, (k0_off43 i v1 k0_t10) a + S1x1x128x512.size a ≤ S1x1x128x4608.size a := fun i v1 k0_hw1 k0_t10 => k0_hw1.2.1.2.2.2.2.2.2.2.2.2.2.2.2.2.2.2.2.2.2.2.1 k0_t10
theorem k0_t11_ok : ∀ (i : grid0.Coords) (v1 : BitVec 32) (k0_hw1 : k0_chk1 i v1), (k0_t11_loop i v1).OK := fun i v1 k0_hw1 => k0_hw1.2.1.2.2.2.2.2.2.2.2.2.2.2.2.2.2.2.2.2.2.2.2.1
theorem k0_off44_inb : ∀ (i : grid0.Coords) (v1 : BitVec 32) (k0_hw1 : k0_chk1 i v1) (k0_t11 : Fin (k0_t11_loop i v1).trips), ∀ a, (k0_off44 i v1 k0_t11) a + S1x1x512x128.size a ≤ S1x1x4608x128.size a := fun i v1 k0_hw1 k0_t11 => k0_hw1.2.1.2.2.2.2.2.2.2.2.2.2.2.2.2.2.2.2.2.2.2.2.2.1 k0_t11
theorem k0_off45_inb : ∀ (i : grid0.Coords) (v1 : BitVec 32) (k0_hw1 : k0_chk1 i v1) (k0_t11 : Fin (k0_t11_loop i v1).trips), ∀ (r : Fin 64), ∀ a, (k0_off45 i v1 k0_t11 (BitVec.ofNat 32 (8 * r.val))) a + S8x128.size a ≤ S4608x128.size a := fun i v1 k0_hw1 k0_t11 r => k0_hw1.2.1.2.2.2.2.2.2.2.2.2.2.2.2.2.2.2.2.2.2.2.2.2.2.1 k0_t11 r
theorem k0_off46_inb : ∀ (i : grid0.Coords) (v1 : BitVec 32) (k0_hw1 : k0_chk1 i v1) (k0_t11 : Fin (k0_t11_loop i v1).trips), ∀ (r : Fin 64), ∀ a, (k0_off46 i v1 k0_t11 (BitVec.ofNat 32 (8 * r.val))) a + S1x8x256.size a ≤ S2x4608x256.size a := fun i v1 k0_hw1 k0_t11 r => k0_hw1.2.1.2.2.2.2.2.2.2.2.2.2.2.2.2.2.2.2.2.2.2.2.2.2.2.1 k0_t11 r
theorem k0_off47_inb : ∀ (i : grid0.Coords) (v1 : BitVec 32) (k0_hw1 : k0_chk1 i v1) (k0_t11 : Fin (k0_t11_loop i v1).trips), ∀ (r₁ : Fin 16) (r₂ : Fin 4), ∀ a, (k0_off47 i v1 k0_t11 (BitVec.ofNat 32 (32 * r₁.val)) (BitVec.ofNat 32 (8 * r₂.val))) a + S1x8x256.size a ≤ S2x4608x256.size a := fun i v1 k0_hw1 k0_t11 r₁ r₂ => k0_hw1.2.1.2.2.2.2.2.2.2.2.2.2.2.2.2.2.2.2.2.2.2.2.2.2.2.2.1 k0_t11 r₁ r₂
theorem k0_off48_inb : ∀ (i : grid0.Coords) (v1 : BitVec 32) (k0_hw1 : k0_chk1 i v1) (k0_t11 : Fin (k0_t11_loop i v1).trips), ∀ a, (k0_off48 i v1 k0_t11) a + S1x1x128x512.size a ≤ S1x1x128x4608.size a := fun i v1 k0_hw1 k0_t11 => k0_hw1.2.1.2.2.2.2.2.2.2.2.2.2.2.2.2.2.2.2.2.2.2.2.2.2.2.2.2.1 k0_t11
theorem k0_t12_ok : ∀ (i : grid0.Coords) (v1 : BitVec 32) (k0_hw1 : k0_chk1 i v1), (k0_t12_loop i v1).OK := fun i v1 k0_hw1 => k0_hw1.2.1.2.2.2.2.2.2.2.2.2.2.2.2.2.2.2.2.2.2.2.2.2.2.2.2.2.2.1
theorem k0_off49_inb : ∀ (i : grid0.Coords) (v1 : BitVec 32) (k0_hw1 : k0_chk1 i v1) (k0_t12 : Fin (k0_t12_loop i v1).trips), ∀ a, (k0_off49 i v1 k0_t12) a + S1x1x512x128.size a ≤ S1x1x4608x128.size a := fun i v1 k0_hw1 k0_t12 => k0_hw1.2.1.2.2.2.2.2.2.2.2.2.2.2.2.2.2.2.2.2.2.2.2.2.2.2.2.2.2.2.1 k0_t12
theorem k0_off50_inb : ∀ (i : grid0.Coords) (v1 : BitVec 32) (k0_hw1 : k0_chk1 i v1) (k0_t12 : Fin (k0_t12_loop i v1).trips), ∀ (r : Fin 64), ∀ a, (k0_off50 i v1 k0_t12 (BitVec.ofNat 32 (8 * r.val))) a + S8x128.size a ≤ S4608x128.size a := fun i v1 k0_hw1 k0_t12 r => k0_hw1.2.1.2.2.2.2.2.2.2.2.2.2.2.2.2.2.2.2.2.2.2.2.2.2.2.2.2.2.2.2.1 k0_t12 r
theorem k0_off51_inb : ∀ (i : grid0.Coords) (v1 : BitVec 32) (k0_hw1 : k0_chk1 i v1) (k0_t12 : Fin (k0_t12_loop i v1).trips), ∀ (r : Fin 64), ∀ a, (k0_off51 i v1 k0_t12 (BitVec.ofNat 32 (8 * r.val))) a + S1x8x256.size a ≤ S2x4608x256.size a := fun i v1 k0_hw1 k0_t12 r => k0_hw1.2.1.2.2.2.2.2.2.2.2.2.2.2.2.2.2.2.2.2.2.2.2.2.2.2.2.2.2.2.2.2.1 k0_t12 r
theorem k0_off52_inb : ∀ (i : grid0.Coords) (v1 : BitVec 32) (k0_hw1 : k0_chk1 i v1) (k0_t12 : Fin (k0_t12_loop i v1).trips), ∀ (r₁ : Fin 16) (r₂ : Fin 4), ∀ a, (k0_off52 i v1 k0_t12 (BitVec.ofNat 32 (32 * r₁.val)) (BitVec.ofNat 32 (8 * r₂.val))) a + S1x8x256.size a ≤ S2x4608x256.size a := fun i v1 k0_hw1 k0_t12 r₁ r₂ => k0_hw1.2.1.2.2.2.2.2.2.2.2.2.2.2.2.2.2.2.2.2.2.2.2.2.2.2.2.2.2.2.2.2.2.1 k0_t12 r₁ r₂
theorem k0_off53_inb : ∀ (i : grid0.Coords) (v1 : BitVec 32) (k0_hw1 : k0_chk1 i v1) (k0_t12 : Fin (k0_t12_loop i v1).trips), ∀ a, (k0_off53 i v1 k0_t12) a + S1x1x128x512.size a ≤ S1x1x128x4608.size a := fun i v1 k0_hw1 k0_t12 => k0_hw1.2.1.2.2.2.2.2.2.2.2.2.2.2.2.2.2.2.2.2.2.2.2.2.2.2.2.2.2.2.2.2.2.2 k0_t12
theorem k0_t13_ok : ∀ (i : grid0.Coords) (v1 : BitVec 32) (k0_hw1 : k0_chk1 i v1), (k0_t13_loop i v1).OK := fun i v1 k0_hw1 => k0_hw1.2.2.1.1
theorem k0_off54_inb : ∀ (i : grid0.Coords) (v1 : BitVec 32) (k0_hw1 : k0_chk1 i v1) (k0_t13 : Fin (k0_t13_loop i v1).trips), ∀ a, (k0_off54 i v1 k0_t13) a + S1x1x512x128.size a ≤ S1x1x4608x128.size a := fun i v1 k0_hw1 k0_t13 => k0_hw1.2.2.1.2.1 k0_t13
theorem k0_off55_inb : ∀ (i : grid0.Coords) (v1 : BitVec 32) (k0_hw1 : k0_chk1 i v1) (k0_t13 : Fin (k0_t13_loop i v1).trips), ∀ (r : Fin 64), ∀ a, (k0_off55 i v1 k0_t13 (BitVec.ofNat 32 (8 * r.val))) a + S8x128.size a ≤ S4608x128.size a := fun i v1 k0_hw1 k0_t13 r => k0_hw1.2.2.1.2.2.1 k0_t13 r
theorem k0_off56_inb : ∀ (i : grid0.Coords) (v1 : BitVec 32) (k0_hw1 : k0_chk1 i v1) (k0_t13 : Fin (k0_t13_loop i v1).trips), ∀ (r : Fin 64), ∀ a, (k0_off56 i v1 k0_t13 (BitVec.ofNat 32 (8 * r.val))) a + S1x8x256.size a ≤ S2x4608x256.size a := fun i v1 k0_hw1 k0_t13 r => k0_hw1.2.2.1.2.2.2.1 k0_t13 r
theorem k0_off57_inb : ∀ (i : grid0.Coords) (v1 : BitVec 32) (k0_hw1 : k0_chk1 i v1) (k0_t13 : Fin (k0_t13_loop i v1).trips), ∀ (r₁ : Fin 16) (r₂ : Fin 4), ∀ a, (k0_off57 i v1 k0_t13 (BitVec.ofNat 32 (32 * r₁.val)) (BitVec.ofNat 32 (8 * r₂.val))) a + S1x8x256.size a ≤ S2x4608x256.size a := fun i v1 k0_hw1 k0_t13 r₁ r₂ => k0_hw1.2.2.1.2.2.2.2.1 k0_t13 r₁ r₂
theorem k0_off58_inb : ∀ (i : grid0.Coords) (v1 : BitVec 32) (k0_hw1 : k0_chk1 i v1) (k0_t13 : Fin (k0_t13_loop i v1).trips), ∀ a, (k0_off58 i v1 k0_t13) a + S1x1x128x512.size a ≤ S1x1x128x4608.size a := fun i v1 k0_hw1 k0_t13 => k0_hw1.2.2.1.2.2.2.2.2.1 k0_t13
theorem k0_t14_ok : ∀ (i : grid0.Coords) (v1 : BitVec 32) (k0_hw1 : k0_chk1 i v1), (k0_t14_loop i v1).OK := fun i v1 k0_hw1 => k0_hw1.2.2.1.2.2.2.2.2.2.1
theorem k0_off59_inb : ∀ (i : grid0.Coords) (v1 : BitVec 32) (k0_hw1 : k0_chk1 i v1) (k0_t14 : Fin (k0_t14_loop i v1).trips), ∀ a, (k0_off59 i v1 k0_t14) a + S1x1x512x128.size a ≤ S1x1x4608x128.size a := fun i v1 k0_hw1 k0_t14 => k0_hw1.2.2.1.2.2.2.2.2.2.2.1 k0_t14
theorem k0_off60_inb : ∀ (i : grid0.Coords) (v1 : BitVec 32) (k0_hw1 : k0_chk1 i v1) (k0_t14 : Fin (k0_t14_loop i v1).trips), ∀ (r : Fin 64), ∀ a, (k0_off60 i v1 k0_t14 (BitVec.ofNat 32 (8 * r.val))) a + S8x128.size a ≤ S4608x128.size a := fun i v1 k0_hw1 k0_t14 r => k0_hw1.2.2.1.2.2.2.2.2.2.2.2.1 k0_t14 r
theorem k0_off61_inb : ∀ (i : grid0.Coords) (v1 : BitVec 32) (k0_hw1 : k0_chk1 i v1) (k0_t14 : Fin (k0_t14_loop i v1).trips), ∀ (r : Fin 64), ∀ a, (k0_off61 i v1 k0_t14 (BitVec.ofNat 32 (8 * r.val))) a + S1x8x256.size a ≤ S2x4608x256.size a := fun i v1 k0_hw1 k0_t14 r => k0_hw1.2.2.1.2.2.2.2.2.2.2.2.2.1 k0_t14 r
theorem k0_off62_inb : ∀ (i : grid0.Coords) (v1 : BitVec 32) (k0_hw1 : k0_chk1 i v1) (k0_t14 : Fin (k0_t14_loop i v1).trips), ∀ (r₁ : Fin 16) (r₂ : Fin 4), ∀ a, (k0_off62 i v1 k0_t14 (BitVec.ofNat 32 (32 * r₁.val)) (BitVec.ofNat 32 (8 * r₂.val))) a + S1x8x256.size a ≤ S2x4608x256.size a := fun i v1 k0_hw1 k0_t14 r₁ r₂ => k0_hw1.2.2.1.2.2.2.2.2.2.2.2.2.2.1 k0_t14 r₁ r₂
theorem k0_off63_inb : ∀ (i : grid0.Coords) (v1 : BitVec 32) (k0_hw1 : k0_chk1 i v1) (k0_t14 : Fin (k0_t14_loop i v1).trips), ∀ a, (k0_off63 i v1 k0_t14) a + S1x1x128x512.size a ≤ S1x1x128x4608.size a := fun i v1 k0_hw1 k0_t14 => k0_hw1.2.2.1.2.2.2.2.2.2.2.2.2.2.2.1 k0_t14
theorem k0_t15_ok : ∀ (i : grid0.Coords) (v1 : BitVec 32) (k0_hw1 : k0_chk1 i v1), (k0_t15_loop i v1).OK := fun i v1 k0_hw1 => k0_hw1.2.2.1.2.2.2.2.2.2.2.2.2.2.2.2.1
theorem k0_off64_inb : ∀ (i : grid0.Coords) (v1 : BitVec 32) (k0_hw1 : k0_chk1 i v1) (k0_t15 : Fin (k0_t15_loop i v1).trips), ∀ a, (k0_off64 i v1 k0_t15) a + S1x1x512x128.size a ≤ S1x1x4608x128.size a := fun i v1 k0_hw1 k0_t15 => k0_hw1.2.2.1.2.2.2.2.2.2.2.2.2.2.2.2.2.1 k0_t15
theorem k0_off65_inb : ∀ (i : grid0.Coords) (v1 : BitVec 32) (k0_hw1 : k0_chk1 i v1) (k0_t15 : Fin (k0_t15_loop i v1).trips), ∀ (r : Fin 64), ∀ a, (k0_off65 i v1 k0_t15 (BitVec.ofNat 32 (8 * r.val))) a + S8x128.size a ≤ S4608x128.size a := fun i v1 k0_hw1 k0_t15 r => k0_hw1.2.2.1.2.2.2.2.2.2.2.2.2.2.2.2.2.2.1 k0_t15 r
theorem k0_off66_inb : ∀ (i : grid0.Coords) (v1 : BitVec 32) (k0_hw1 : k0_chk1 i v1) (k0_t15 : Fin (k0_t15_loop i v1).trips), ∀ (r : Fin 64), ∀ a, (k0_off66 i v1 k0_t15 (BitVec.ofNat 32 (8 * r.val))) a + S1x8x256.size a ≤ S2x4608x256.size a := fun i v1 k0_hw1 k0_t15 r => k0_hw1.2.2.1.2.2.2.2.2.2.2.2.2.2.2.2.2.2.2.1 k0_t15 r
theorem k0_off67_inb : ∀ (i : grid0.Coords) (v1 : BitVec 32) (k0_hw1 : k0_chk1 i v1) (k0_t15 : Fin (k0_t15_loop i v1).trips), ∀ (r₁ : Fin 16) (r₂ : Fin 4), ∀ a, (k0_off67 i v1 k0_t15 (BitVec.ofNat 32 (32 * r₁.val)) (BitVec.ofNat 32 (8 * r₂.val))) a + S1x8x256.size a ≤ S2x4608x256.size a := fun i v1 k0_hw1 k0_t15 r₁ r₂ => k0_hw1.2.2.1.2.2.2.2.2.2.2.2.2.2.2.2.2.2.2.2.1 k0_t15 r₁ r₂
theorem k0_off68_inb : ∀ (i : grid0.Coords) (v1 : BitVec 32) (k0_hw1 : k0_chk1 i v1) (k0_t15 : Fin (k0_t15_loop i v1).trips), ∀ a, (k0_off68 i v1 k0_t15) a + S1x1x128x512.size a ≤ S1x1x128x4608.size a := fun i v1 k0_hw1 k0_t15 => k0_hw1.2.2.1.2.2.2.2.2.2.2.2.2.2.2.2.2.2.2.2.2.1 k0_t15
theorem k0_t16_ok : ∀ (i : grid0.Coords) (v1 : BitVec 32) (k0_hw1 : k0_chk1 i v1), (k0_t16_loop i v1).OK := fun i v1 k0_hw1 => k0_hw1.2.2.1.2.2.2.2.2.2.2.2.2.2.2.2.2.2.2.2.2.2.1
theorem k0_off69_inb : ∀ (i : grid0.Coords) (v1 : BitVec 32) (k0_hw1 : k0_chk1 i v1) (k0_t16 : Fin (k0_t16_loop i v1).trips), ∀ a, (k0_off69 i v1 k0_t16) a + S1x1x512x128.size a ≤ S1x1x4608x128.size a := fun i v1 k0_hw1 k0_t16 => k0_hw1.2.2.1.2.2.2.2.2.2.2.2.2.2.2.2.2.2.2.2.2.2.2.1 k0_t16
theorem k0_off70_inb : ∀ (i : grid0.Coords) (v1 : BitVec 32) (k0_hw1 : k0_chk1 i v1) (k0_t16 : Fin (k0_t16_loop i v1).trips), ∀ (r : Fin 64), ∀ a, (k0_off70 i v1 k0_t16 (BitVec.ofNat 32 (8 * r.val))) a + S8x128.size a ≤ S4608x128.size a := fun i v1 k0_hw1 k0_t16 r => k0_hw1.2.2.1.2.2.2.2.2.2.2.2.2.2.2.2.2.2.2.2.2.2.2.2.1 k0_t16 r
theorem k0_off71_inb : ∀ (i : grid0.Coords) (v1 : BitVec 32) (k0_hw1 : k0_chk1 i v1) (k0_t16 : Fin (k0_t16_loop i v1).trips), ∀ (r : Fin 64), ∀ a, (k0_off71 i v1 k0_t16 (BitVec.ofNat 32 (8 * r.val))) a + S1x8x256.size a ≤ S2x4608x256.size a := fun i v1 k0_hw1 k0_t16 r => k0_hw1.2.2.1.2.2.2.2.2.2.2.2.2.2.2.2.2.2.2.2.2.2.2.2.2.1 k0_t16 r
theorem k0_off72_inb : ∀ (i : grid0.Coords) (v1 : BitVec 32) (k0_hw1 : k0_chk1 i v1) (k0_t16 : Fin (k0_t16_loop i v1).trips), ∀ (r₁ : Fin 16) (r₂ : Fin 4), ∀ a, (k0_off72 i v1 k0_t16 (BitVec.ofNat 32 (32 * r₁.val)) (BitVec.ofNat 32 (8 * r₂.val))) a + S1x8x256.size a ≤ S2x4608x256.size a := fun i v1 k0_hw1 k0_t16 r₁ r₂ => k0_hw1.2.2.1.2.2.2.2.2.2.2.2.2.2.2.2.2.2.2.2.2.2.2.2.2.2.1 k0_t16 r₁ r₂
theorem k0_off73_inb : ∀ (i : grid0.Coords) (v1 : BitVec 32) (k0_hw1 : k0_chk1 i v1) (k0_t16 : Fin (k0_t16_loop i v1).trips), ∀ a, (k0_off73 i v1 k0_t16) a + S1x1x128x512.size a ≤ S1x1x128x4608.size a := fun i v1 k0_hw1 k0_t16 => k0_hw1.2.2.1.2.2.2.2.2.2.2.2.2.2.2.2.2.2.2.2.2.2.2.2.2.2.2.1 k0_t16
theorem k0_t17_ok : ∀ (i : grid0.Coords) (v1 : BitVec 32) (k0_hw1 : k0_chk1 i v1), (k0_t17_loop i v1).OK := fun i v1 k0_hw1 => k0_hw1.2.2.1.2.2.2.2.2.2.2.2.2.2.2.2.2.2.2.2.2.2.2.2.2.2.2.2.1
theorem k0_off74_inb : ∀ (i : grid0.Coords) (v1 : BitVec 32) (k0_hw1 : k0_chk1 i v1) (k0_t17 : Fin (k0_t17_loop i v1).trips), ∀ a, (k0_off74 i v1 k0_t17) a + S1x1x512x128.size a ≤ S1x1x4608x128.size a := fun i v1 k0_hw1 k0_t17 => k0_hw1.2.2.1.2.2.2.2.2.2.2.2.2.2.2.2.2.2.2.2.2.2.2.2.2.2.2.2.2.1 k0_t17
theorem k0_off75_inb : ∀ (i : grid0.Coords) (v1 : BitVec 32) (k0_hw1 : k0_chk1 i v1) (k0_t17 : Fin (k0_t17_loop i v1).trips), ∀ (r : Fin 64), ∀ a, (k0_off75 i v1 k0_t17 (BitVec.ofNat 32 (8 * r.val))) a + S8x128.size a ≤ S4608x128.size a := fun i v1 k0_hw1 k0_t17 r => k0_hw1.2.2.1.2.2.2.2.2.2.2.2.2.2.2.2.2.2.2.2.2.2.2.2.2.2.2.2.2.2.1 k0_t17 r
theorem k0_off76_inb : ∀ (i : grid0.Coords) (v1 : BitVec 32) (k0_hw1 : k0_chk1 i v1) (k0_t17 : Fin (k0_t17_loop i v1).trips), ∀ (r : Fin 64), ∀ a, (k0_off76 i v1 k0_t17 (BitVec.ofNat 32 (8 * r.val))) a + S1x8x256.size a ≤ S2x4608x256.size a := fun i v1 k0_hw1 k0_t17 r => k0_hw1.2.2.1.2.2.2.2.2.2.2.2.2.2.2.2.2.2.2.2.2.2.2.2.2.2.2.2.2.2.2.1 k0_t17 r
theorem k0_off77_inb : ∀ (i : grid0.Coords) (v1 : BitVec 32) (k0_hw1 : k0_chk1 i v1) (k0_t17 : Fin (k0_t17_loop i v1).trips), ∀ (r₁ : Fin 16) (r₂ : Fin 4), ∀ a, (k0_off77 i v1 k0_t17 (BitVec.ofNat 32 (32 * r₁.val)) (BitVec.ofNat 32 (8 * r₂.val))) a + S1x8x256.size a ≤ S2x4608x256.size a := fun i v1 k0_hw1 k0_t17 r₁ r₂ => k0_hw1.2.2.1.2.2.2.2.2.2.2.2.2.2.2.2.2.2.2.2.2.2.2.2.2.2.2.2.2.2.2.2.1 k0_t17 r₁ r₂
theorem k0_off78_inb : ∀ (i : grid0.Coords) (v1 : BitVec 32) (k0_hw1 : k0_chk1 i v1) (k0_t17 : Fin (k0_t17_loop i v1).trips), ∀ a, (k0_off78 i v1 k0_t17) a + S1x1x128x512.size a ≤ S1x1x128x4608.size a := fun i v1 k0_hw1 k0_t17 => k0_hw1.2.2.1.2.2.2.2.2.2.2.2.2.2.2.2.2.2.2.2.2.2.2.2.2.2.2.2.2.2.2.2.2.1 k0_t17
theorem k0_t18_ok : ∀ (i : grid0.Coords) (v1 : BitVec 32) (k0_hw1 : k0_chk1 i v1), (k0_t18_loop i v1).OK := fun i v1 k0_hw1 => k0_hw1.2.2.1.2.2.2.2.2.2.2.2.2.2.2.2.2.2.2.2.2.2.2.2.2.2.2.2.2.2.2.2.2.2.1
theorem k0_off79_inb : ∀ (i : grid0.Coords) (v1 : BitVec 32) (k0_hw1 : k0_chk1 i v1) (k0_t18 : Fin (k0_t18_loop i v1).trips), ∀ a, (k0_off79 i v1 k0_t18) a + S1x1x512x128.size a ≤ S1x1x4608x128.size a := fun i v1 k0_hw1 k0_t18 => k0_hw1.2.2.1.2.2.2.2.2.2.2.2.2.2.2.2.2.2.2.2.2.2.2.2.2.2.2.2.2.2.2.2.2.2.2 k0_t18
theorem k0_off80_inb : ∀ (i : grid0.Coords) (v1 : BitVec 32) (k0_hw1 : k0_chk1 i v1) (k0_t18 : Fin (k0_t18_loop i v1).trips), ∀ (r : Fin 64), ∀ a, (k0_off80 i v1 k0_t18 (BitVec.ofNat 32 (8 * r.val))) a + S8x128.size a ≤ S4608x128.size a := fun i v1 k0_hw1 k0_t18 r => k0_hw1.2.2.2.1.1 k0_t18 r
theorem k0_off81_inb : ∀ (i : grid0.Coords) (v1 : BitVec 32) (k0_hw1 : k0_chk1 i v1) (k0_t18 : Fin (k0_t18_loop i v1).trips), ∀ (r : Fin 64), ∀ a, (k0_off81 i v1 k0_t18 (BitVec.ofNat 32 (8 * r.val))) a + S1x8x256.size a ≤ S2x4608x256.size a := fun i v1 k0_hw1 k0_t18 r => k0_hw1.2.2.2.1.2.1 k0_t18 r
theorem k0_off82_inb : ∀ (i : grid0.Coords) (v1 : BitVec 32) (k0_hw1 : k0_chk1 i v1) (k0_t18 : Fin (k0_t18_loop i v1).trips), ∀ (r₁ : Fin 16) (r₂ : Fin 4), ∀ a, (k0_off82 i v1 k0_t18 (BitVec.ofNat 32 (32 * r₁.val)) (BitVec.ofNat 32 (8 * r₂.val))) a + S1x8x256.size a ≤ S2x4608x256.size a := fun i v1 k0_hw1 k0_t18 r₁ r₂ => k0_hw1.2.2.2.1.2.2.1 k0_t18 r₁ r₂
theorem k0_off83_inb : ∀ (i : grid0.Coords) (v1 : BitVec 32) (k0_hw1 : k0_chk1 i v1) (k0_t18 : Fin (k0_t18_loop i v1).trips), ∀ a, (k0_off83 i v1 k0_t18) a + S1x1x128x512.size a ≤ S1x1x128x4608.size a := fun i v1 k0_hw1 k0_t18 => k0_hw1.2.2.2.1.2.2.2.1 k0_t18
theorem k0_t19_ok : ∀ (i : grid0.Coords) (v1 : BitVec 32) (k0_hw1 : k0_chk1 i v1), (k0_t19_loop i v1).OK := fun i v1 k0_hw1 => k0_hw1.2.2.2.1.2.2.2.2.1
theorem k0_off84_inb : ∀ (i : grid0.Coords) (v1 : BitVec 32) (k0_hw1 : k0_chk1 i v1) (k0_t19 : Fin (k0_t19_loop i v1).trips), ∀ a, (k0_off84 i v1 k0_t19) a + S1x1x512x128.size a ≤ S1x1x4608x128.size a := fun i v1 k0_hw1 k0_t19 => k0_hw1.2.2.2.1.2.2.2.2.2.1 k0_t19
theorem k0_off85_inb : ∀ (i : grid0.Coords) (v1 : BitVec 32) (k0_hw1 : k0_chk1 i v1) (k0_t19 : Fin (k0_t19_loop i v1).trips), ∀ (r : Fin 64), ∀ a, (k0_off85 i v1 k0_t19 (BitVec.ofNat 32 (8 * r.val))) a + S8x128.size a ≤ S4608x128.size a := fun i v1 k0_hw1 k0_t19 r => k0_hw1.2.2.2.1.2.2.2.2.2.2.1 k0_t19 r
theorem k0_off86_inb : ∀ (i : grid0.Coords) (v1 : BitVec 32) (k0_hw1 : k0_chk1 i v1) (k0_t19 : Fin (k0_t19_loop i v1).trips), ∀ (r : Fin 64), ∀ a, (k0_off86 i v1 k0_t19 (BitVec.ofNat 32 (8 * r.val))) a + S1x8x256.size a ≤ S2x4608x256.size a := fun i v1 k0_hw1 k0_t19 r => k0_hw1.2.2.2.1.2.2.2.2.2.2.2.1 k0_t19 r
theorem k0_off87_inb : ∀ (i : grid0.Coords) (v1 : BitVec 32) (k0_hw1 : k0_chk1 i v1) (k0_t19 : Fin (k0_t19_loop i v1).trips), ∀ (r₁ : Fin 16) (r₂ : Fin 4), ∀ a, (k0_off87 i v1 k0_t19 (BitVec.ofNat 32 (32 * r₁.val)) (BitVec.ofNat 32 (8 * r₂.val))) a + S1x8x256.size a ≤ S2x4608x256.size a := fun i v1 k0_hw1 k0_t19 r₁ r₂ => k0_hw1.2.2.2.1.2.2.2.2.2.2.2.2.1 k0_t19 r₁ r₂
theorem k0_off88_inb : ∀ (i : grid0.Coords) (v1 : BitVec 32) (k0_hw1 : k0_chk1 i v1) (k0_t19 : Fin (k0_t19_loop i v1).trips), ∀ a, (k0_off88 i v1 k0_t19) a + S1x1x128x512.size a ≤ S1x1x128x4608.size a := fun i v1 k0_hw1 k0_t19 => k0_hw1.2.2.2.1.2.2.2.2.2.2.2.2.2.1 k0_t19
theorem k0_t20_ok : ∀ (i : grid0.Coords) (v1 : BitVec 32) (k0_hw1 : k0_chk1 i v1), (k0_t20_loop i v1).OK := fun i v1 k0_hw1 => k0_hw1.2.2.2.1.2.2.2.2.2.2.2.2.2.2.1
theorem k0_off89_inb : ∀ (i : grid0.Coords) (v1 : BitVec 32) (k0_hw1 : k0_chk1 i v1) (k0_t20 : Fin (k0_t20_loop i v1).trips), ∀ a, (k0_off89 i v1 k0_t20) a + S1x1x512x128.size a ≤ S1x1x4608x128.size a := fun i v1 k0_hw1 k0_t20 => k0_hw1.2.2.2.1.2.2.2.2.2.2.2.2.2.2.2.1 k0_t20
theorem k0_off90_inb : ∀ (i : grid0.Coords) (v1 : BitVec 32) (k0_hw1 : k0_chk1 i v1) (k0_t20 : Fin (k0_t20_loop i v1).trips), ∀ (r : Fin 64), ∀ a, (k0_off90 i v1 k0_t20 (BitVec.ofNat 32 (8 * r.val))) a + S8x128.size a ≤ S4608x128.size a := fun i v1 k0_hw1 k0_t20 r => k0_hw1.2.2.2.1.2.2.2.2.2.2.2.2.2.2.2.2.1 k0_t20 r
theorem k0_off91_inb : ∀ (i : grid0.Coords) (v1 : BitVec 32) (k0_hw1 : k0_chk1 i v1) (k0_t20 : Fin (k0_t20_loop i v1).trips), ∀ (r : Fin 64), ∀ a, (k0_off91 i v1 k0_t20 (BitVec.ofNat 32 (8 * r.val))) a + S1x8x256.size a ≤ S2x4608x256.size a := fun i v1 k0_hw1 k0_t20 r => k0_hw1.2.2.2.1.2.2.2.2.2.2.2.2.2.2.2.2.2.1 k0_t20 r
theorem k0_off92_inb : ∀ (i : grid0.Coords) (v1 : BitVec 32) (k0_hw1 : k0_chk1 i v1) (k0_t20 : Fin (k0_t20_loop i v1).trips), ∀ (r₁ : Fin 16) (r₂ : Fin 4), ∀ a, (k0_off92 i v1 k0_t20 (BitVec.ofNat 32 (32 * r₁.val)) (BitVec.ofNat 32 (8 * r₂.val))) a + S1x8x256.size a ≤ S2x4608x256.size a := fun i v1 k0_hw1 k0_t20 r₁ r₂ => k0_hw1.2.2.2.1.2.2.2.2.2.2.2.2.2.2.2.2.2.2.1 k0_t20 r₁ r₂
theorem k0_off93_inb : ∀ (i : grid0.Coords) (v1 : BitVec 32) (k0_hw1 : k0_chk1 i v1) (k0_t20 : Fin (k0_t20_loop i v1).trips), ∀ a, (k0_off93 i v1 k0_t20) a + S1x1x128x512.size a ≤ S1x1x128x4608.size a := fun i v1 k0_hw1 k0_t20 => k0_hw1.2.2.2.1.2.2.2.2.2.2.2.2.2.2.2.2.2.2.2.1 k0_t20
theorem k0_t21_ok : ∀ (i : grid0.Coords) (v1 : BitVec 32) (k0_hw1 : k0_chk1 i v1), (k0_t21_loop i v1).OK := fun i v1 k0_hw1 => k0_hw1.2.2.2.1.2.2.2.2.2.2.2.2.2.2.2.2.2.2.2.2.1
theorem k0_off94_inb : ∀ (i : grid0.Coords) (v1 : BitVec 32) (k0_hw1 : k0_chk1 i v1) (k0_t21 : Fin (k0_t21_loop i v1).trips), ∀ a, (k0_off94 i v1 k0_t21) a + S1x1x512x128.size a ≤ S1x1x4608x128.size a := fun i v1 k0_hw1 k0_t21 => k0_hw1.2.2.2.1.2.2.2.2.2.2.2.2.2.2.2.2.2.2.2.2.2.1 k0_t21
theorem k0_off95_inb : ∀ (i : grid0.Coords) (v1 : BitVec 32) (k0_hw1 : k0_chk1 i v1) (k0_t21 : Fin (k0_t21_loop i v1).trips), ∀ (r : Fin 64), ∀ a, (k0_off95 i v1 k0_t21 (BitVec.ofNat 32 (8 * r.val))) a + S8x128.size a ≤ S4608x128.size a := fun i v1 k0_hw1 k0_t21 r => k0_hw1.2.2.2.1.2.2.2.2.2.2.2.2.2.2.2.2.2.2.2.2.2.2.1 k0_t21 r
theorem k0_off96_inb : ∀ (i : grid0.Coords) (v1 : BitVec 32) (k0_hw1 : k0_chk1 i v1) (k0_t21 : Fin (k0_t21_loop i v1).trips), ∀ (r : Fin 64), ∀ a, (k0_off96 i v1 k0_t21 (BitVec.ofNat 32 (8 * r.val))) a + S1x8x256.size a ≤ S2x4608x256.size a := fun i v1 k0_hw1 k0_t21 r => k0_hw1.2.2.2.1.2.2.2.2.2.2.2.2.2.2.2.2.2.2.2.2.2.2.2.1 k0_t21 r
theorem k0_off97_inb : ∀ (i : grid0.Coords) (v1 : BitVec 32) (k0_hw1 : k0_chk1 i v1) (k0_t21 : Fin (k0_t21_loop i v1).trips), ∀ (r₁ : Fin 16) (r₂ : Fin 4), ∀ a, (k0_off97 i v1 k0_t21 (BitVec.ofNat 32 (32 * r₁.val)) (BitVec.ofNat 32 (8 * r₂.val))) a + S1x8x256.size a ≤ S2x4608x256.size a := fun i v1 k0_hw1 k0_t21 r₁ r₂ => k0_hw1.2.2.2.1.2.2.2.2.2.2.2.2.2.2.2.2.2.2.2.2.2.2.2.2.1 k0_t21 r₁ r₂
theorem k0_off98_inb : ∀ (i : grid0.Coords) (v1 : BitVec 32) (k0_hw1 : k0_chk1 i v1) (k0_t21 : Fin (k0_t21_loop i v1).trips), ∀ a, (k0_off98 i v1 k0_t21) a + S1x1x128x512.size a ≤ S1x1x128x4608.size a := fun i v1 k0_hw1 k0_t21 => k0_hw1.2.2.2.1.2.2.2.2.2.2.2.2.2.2.2.2.2.2.2.2.2.2.2.2.2.1 k0_t21
theorem k0_t22_ok : ∀ (i : grid0.Coords) (v1 : BitVec 32) (k0_hw1 : k0_chk1 i v1), (k0_t22_loop i v1).OK := fun i v1 k0_hw1 => k0_hw1.2.2.2.1.2.2.2.2.2.2.2.2.2.2.2.2.2.2.2.2.2.2.2.2.2.2.1
theorem k0_off99_inb : ∀ (i : grid0.Coords) (v1 : BitVec 32) (k0_hw1 : k0_chk1 i v1) (k0_t22 : Fin (k0_t22_loop i v1).trips), ∀ a, (k0_off99 i v1 k0_t22) a + S1x1x512x128.size a ≤ S1x1x4608x128.size a := fun i v1 k0_hw1 k0_t22 => k0_hw1.2.2.2.1.2.2.2.2.2.2.2.2.2.2.2.2.2.2.2.2.2.2.2.2.2.2.2.1 k0_t22
theorem k0_off100_inb : ∀ (i : grid0.Coords) (v1 : BitVec 32) (k0_hw1 : k0_chk1 i v1) (k0_t22 : Fin (k0_t22_loop i v1).trips), ∀ (r : Fin 64), ∀ a, (k0_off100 i v1 k0_t22 (BitVec.ofNat 32 (8 * r.val))) a + S8x128.size a ≤ S4608x128.size a := fun i v1 k0_hw1 k0_t22 r => k0_hw1.2.2.2.1.2.2.2.2.2.2.2.2.2.2.2.2.2.2.2.2.2.2.2.2.2.2.2.2.1 k0_t22 r
theorem k0_off101_inb : ∀ (i : grid0.Coords) (v1 : BitVec 32) (k0_hw1 : k0_chk1 i v1) (k0_t22 : Fin (k0_t22_loop i v1).trips), ∀ (r : Fin 64), ∀ a, (k0_off101 i v1 k0_t22 (BitVec.ofNat 32 (8 * r.val))) a + S1x8x256.size a ≤ S2x4608x256.size a := fun i v1 k0_hw1 k0_t22 r => k0_hw1.2.2.2.1.2.2.2.2.2.2.2.2.2.2.2.2.2.2.2.2.2.2.2.2.2.2.2.2.2.1 k0_t22 r
theorem k0_off102_inb : ∀ (i : grid0.Coords) (v1 : BitVec 32) (k0_hw1 : k0_chk1 i v1) (k0_t22 : Fin (k0_t22_loop i v1).trips), ∀ (r₁ : Fin 16) (r₂ : Fin 4), ∀ a, (k0_off102 i v1 k0_t22 (BitVec.ofNat 32 (32 * r₁.val)) (BitVec.ofNat 32 (8 * r₂.val))) a + S1x8x256.size a ≤ S2x4608x256.size a := fun i v1 k0_hw1 k0_t22 r₁ r₂ => k0_hw1.2.2.2.1.2.2.2.2.2.2.2.2.2.2.2.2.2.2.2.2.2.2.2.2.2.2.2.2.2.2.1 k0_t22 r₁ r₂
theorem k0_off103_inb : ∀ (i : grid0.Coords) (v1 : BitVec 32) (k0_hw1 : k0_chk1 i v1) (k0_t22 : Fin (k0_t22_loop i v1).trips), ∀ a, (k0_off103 i v1 k0_t22) a + S1x1x128x512.size a ≤ S1x1x128x4608.size a := fun i v1 k0_hw1 k0_t22 => k0_hw1.2.2.2.1.2.2.2.2.2.2.2.2.2.2.2.2.2.2.2.2.2.2.2.2.2.2.2.2.2.2.2.1 k0_t22
theorem k0_t23_ok : ∀ (i : grid0.Coords) (v1 : BitVec 32) (k0_hw1 : k0_chk1 i v1), (k0_t23_loop i v1).OK := fun i v1 k0_hw1 => k0_hw1.2.2.2.1.2.2.2.2.2.2.2.2.2.2.2.2.2.2.2.2.2.2.2.2.2.2.2.2.2.2.2.2.1
theorem k0_off104_inb : ∀ (i : grid0.Coords) (v1 : BitVec 32) (k0_hw1 : k0_chk1 i v1) (k0_t23 : Fin (k0_t23_loop i v1).trips), ∀ a, (k0_off104 i v1 k0_t23) a + S1x1x512x128.size a ≤ S1x1x4608x128.size a := fun i v1 k0_hw1 k0_t23 => k0_hw1.2.2.2.1.2.2.2.2.2.2.2.2.2.2.2.2.2.2.2.2.2.2.2.2.2.2.2.2.2.2.2.2.2.1 k0_t23
theorem k0_off105_inb : ∀ (i : grid0.Coords) (v1 : BitVec 32) (k0_hw1 : k0_chk1 i v1) (k0_t23 : Fin (k0_t23_loop i v1).trips), ∀ (r : Fin 64), ∀ a, (k0_off105 i v1 k0_t23 (BitVec.ofNat 32 (8 * r.val))) a + S8x128.size a ≤ S4608x128.size a := fun i v1 k0_hw1 k0_t23 r => k0_hw1.2.2.2.1.2.2.2.2.2.2.2.2.2.2.2.2.2.2.2.2.2.2.2.2.2.2.2.2.2.2.2.2.2.2.1 k0_t23 r
theorem k0_off106_inb : ∀ (i : grid0.Coords) (v1 : BitVec 32) (k0_hw1 : k0_chk1 i v1) (k0_t23 : Fin (k0_t23_loop i v1).trips), ∀ (r : Fin 64), ∀ a, (k0_off106 i v1 k0_t23 (BitVec.ofNat 32 (8 * r.val))) a + S1x8x256.size a ≤ S2x4608x256.size a := fun i v1 k0_hw1 k0_t23 r => k0_hw1.2.2.2.1.2.2.2.2.2.2.2.2.2.2.2.2.2.2.2.2.2.2.2.2.2.2.2.2.2.2.2.2.2.2.2 k0_t23 r
theorem k0_off107_inb : ∀ (i : grid0.Coords) (v1 : BitVec 32) (k0_hw1 : k0_chk1 i v1) (k0_t23 : Fin (k0_t23_loop i v1).trips), ∀ (r₁ : Fin 16) (r₂ : Fin 4), ∀ a, (k0_off107 i v1 k0_t23 (BitVec.ofNat 32 (32 * r₁.val)) (BitVec.ofNat 32 (8 * r₂.val))) a + S1x8x256.size a ≤ S2x4608x256.size a := fun i v1 k0_hw1 k0_t23 r₁ r₂ => k0_hw1.2.2.2.2.1.1 k0_t23 r₁ r₂
theorem k0_off108_inb : ∀ (i : grid0.Coords) (v1 : BitVec 32) (k0_hw1 : k0_chk1 i v1) (k0_t23 : Fin (k0_t23_loop i v1).trips), ∀ a, (k0_off108 i v1 k0_t23) a + S1x1x128x512.size a ≤ S1x1x128x4608.size a := fun i v1 k0_hw1 k0_t23 => k0_hw1.2.2.2.2.1.2.1 k0_t23
theorem k0_t24_ok : ∀ (i : grid0.Coords) (v1 : BitVec 32) (k0_hw1 : k0_chk1 i v1), (k0_t24_loop i v1).OK := fun i v1 k0_hw1 => k0_hw1.2.2.2.2.1.2.2.1
theorem k0_off109_inb : ∀ (i : grid0.Coords) (v1 : BitVec 32) (k0_hw1 : k0_chk1 i v1) (k0_t24 : Fin (k0_t24_loop i v1).trips), ∀ a, (k0_off109 i v1 k0_t24) a + S1x1x512x128.size a ≤ S1x1x4608x128.size a := fun i v1 k0_hw1 k0_t24 => k0_hw1.2.2.2.2.1.2.2.2.1 k0_t24
theorem k0_off110_inb : ∀ (i : grid0.Coords) (v1 : BitVec 32) (k0_hw1 : k0_chk1 i v1) (k0_t24 : Fin (k0_t24_loop i v1).trips), ∀ (r : Fin 64), ∀ a, (k0_off110 i v1 k0_t24 (BitVec.ofNat 32 (8 * r.val))) a + S8x128.size a ≤ S4608x128.size a := fun i v1 k0_hw1 k0_t24 r => k0_hw1.2.2.2.2.1.2.2.2.2.1 k0_t24 r
theorem k0_off111_inb : ∀ (i : grid0.Coords) (v1 : BitVec 32) (k0_hw1 : k0_chk1 i v1) (k0_t24 : Fin (k0_t24_loop i v1).trips), ∀ (r : Fin 64), ∀ a, (k0_off111 i v1 k0_t24 (BitVec.ofNat 32 (8 * r.val))) a + S1x8x256.size a ≤ S2x4608x256.size a := fun i v1 k0_hw1 k0_t24 r => k0_hw1.2.2.2.2.1.2.2.2.2.2.1 k0_t24 r
theorem k0_off112_inb : ∀ (i : grid0.Coords) (v1 : BitVec 32) (k0_hw1 : k0_chk1 i v1) (k0_t24 : Fin (k0_t24_loop i v1).trips), ∀ (r₁ : Fin 16) (r₂ : Fin 4), ∀ a, (k0_off112 i v1 k0_t24 (BitVec.ofNat 32 (32 * r₁.val)) (BitVec.ofNat 32 (8 * r₂.val))) a + S1x8x256.size a ≤ S2x4608x256.size a := fun i v1 k0_hw1 k0_t24 r₁ r₂ => k0_hw1.2.2.2.2.1.2.2.2.2.2.2.1 k0_t24 r₁ r₂
theorem k0_off113_inb : ∀ (i : grid0.Coords) (v1 : BitVec 32) (k0_hw1 : k0_chk1 i v1) (k0_t24 : Fin (k0_t24_loop i v1).trips), ∀ a, (k0_off113 i v1 k0_t24) a + S1x1x128x512.size a ≤ S1x1x128x4608.size a := fun i v1 k0_hw1 k0_t24 => k0_hw1.2.2.2.2.1.2.2.2.2.2.2.2.1 k0_t24
theorem k0_t25_ok : ∀ (i : grid0.Coords) (v1 : BitVec 32) (k0_hw1 : k0_chk1 i v1), (k0_t25_loop i v1).OK := fun i v1 k0_hw1 => k0_hw1.2.2.2.2.1.2.2.2.2.2.2.2.2.1
theorem k0_off114_inb : ∀ (i : grid0.Coords) (v1 : BitVec 32) (k0_hw1 : k0_chk1 i v1) (k0_t25 : Fin (k0_t25_loop i v1).trips), ∀ a, (k0_off114 i v1 k0_t25) a + S1x1x512x128.size a ≤ S1x1x4608x128.size a := fun i v1 k0_hw1 k0_t25 => k0_hw1.2.2.2.2.1.2.2.2.2.2.2.2.2.2.1 k0_t25
theorem k0_off115_inb : ∀ (i : grid0.Coords) (v1 : BitVec 32) (k0_hw1 : k0_chk1 i v1) (k0_t25 : Fin (k0_t25_loop i v1).trips), ∀ (r : Fin 64), ∀ a, (k0_off115 i v1 k0_t25 (BitVec.ofNat 32 (8 * r.val))) a + S8x128.size a ≤ S4608x128.size a := fun i v1 k0_hw1 k0_t25 r => k0_hw1.2.2.2.2.1.2.2.2.2.2.2.2.2.2.2.1 k0_t25 r
theorem k0_off116_inb : ∀ (i : grid0.Coords) (v1 : BitVec 32) (k0_hw1 : k0_chk1 i v1) (k0_t25 : Fin (k0_t25_loop i v1).trips), ∀ (r : Fin 64), ∀ a, (k0_off116 i v1 k0_t25 (BitVec.ofNat 32 (8 * r.val))) a + S1x8x256.size a ≤ S2x4608x256.size a := fun i v1 k0_hw1 k0_t25 r => k0_hw1.2.2.2.2.1.2.2.2.2.2.2.2.2.2.2.2.1 k0_t25 r
theorem k0_off117_inb : ∀ (i : grid0.Coords) (v1 : BitVec 32) (k0_hw1 : k0_chk1 i v1) (k0_t25 : Fin (k0_t25_loop i v1).trips), ∀ (r₁ : Fin 16) (r₂ : Fin 4), ∀ a, (k0_off117 i v1 k0_t25 (BitVec.ofNat 32 (32 * r₁.val)) (BitVec.ofNat 32 (8 * r₂.val))) a + S1x8x256.size a ≤ S2x4608x256.size a := fun i v1 k0_hw1 k0_t25 r₁ r₂ => k0_hw1.2.2.2.2.1.2.2.2.2.2.2.2.2.2.2.2.2.1 k0_t25 r₁ r₂
theorem k0_off118_inb : ∀ (i : grid0.Coords) (v1 : BitVec 32) (k0_hw1 : k0_chk1 i v1) (k0_t25 : Fin (k0_t25_loop i v1).trips), ∀ a, (k0_off118 i v1 k0_t25) a + S1x1x128x512.size a ≤ S1x1x128x4608.size a := fun i v1 k0_hw1 k0_t25 => k0_hw1.2.2.2.2.1.2.2.2.2.2.2.2.2.2.2.2.2.2.1 k0_t25
theorem k0_t26_ok : ∀ (i : grid0.Coords) (v1 : BitVec 32) (k0_hw1 : k0_chk1 i v1), (k0_t26_loop i v1).OK := fun i v1 k0_hw1 => k0_hw1.2.2.2.2.1.2.2.2.2.2.2.2.2.2.2.2.2.2.2.1
theorem k0_off119_inb : ∀ (i : grid0.Coords) (v1 : BitVec 32) (k0_hw1 : k0_chk1 i v1) (k0_t26 : Fin (k0_t26_loop i v1).trips), ∀ a, (k0_off119 i v1 k0_t26) a + S1x1x512x128.size a ≤ S1x1x4608x128.size a := fun i v1 k0_hw1 k0_t26 => k0_hw1.2.2.2.2.1.2.2.2.2.2.2.2.2.2.2.2.2.2.2.2.1 k0_t26
theorem k0_off120_inb : ∀ (i : grid0.Coords) (v1 : BitVec 32) (k0_hw1 : k0_chk1 i v1) (k0_t26 : Fin (k0_t26_loop i v1).trips), ∀ (r : Fin 64), ∀ a, (k0_off120 i v1 k0_t26 (BitVec.ofNat 32 (8 * r.val))) a + S8x128.size a ≤ S4608x128.size a := fun i v1 k0_hw1 k0_t26 r => k0_hw1.2.2.2.2.1.2.2.2.2.2.2.2.2.2.2.2.2.2.2.2.2.1 k0_t26 r
theorem k0_off121_inb : ∀ (i : grid0.Coords) (v1 : BitVec 32) (k0_hw1 : k0_chk1 i v1) (k0_t26 : Fin (k0_t26_loop i v1).trips), ∀ (r : Fin 64), ∀ a, (k0_off121 i v1 k0_t26 (BitVec.ofNat 32 (8 * r.val))) a + S1x8x256.size a ≤ S2x4608x256.size a := fun i v1 k0_hw1 k0_t26 r => k0_hw1.2.2.2.2.1.2.2.2.2.2.2.2.2.2.2.2.2.2.2.2.2.2.1 k0_t26 r
theorem k0_off122_inb : ∀ (i : grid0.Coords) (v1 : BitVec 32) (k0_hw1 : k0_chk1 i v1) (k0_t26 : Fin (k0_t26_loop i v1).trips), ∀ (r₁ : Fin 16) (r₂ : Fin 4), ∀ a, (k0_off122 i v1 k0_t26 (BitVec.ofNat 32 (32 * r₁.val)) (BitVec.ofNat 32 (8 * r₂.val))) a + S1x8x256.size a ≤ S2x4608x256.size a := fun i v1 k0_hw1 k0_t26 r₁ r₂ => k0_hw1.2.2.2.2.1.2.2.2.2.2.2.2.2.2.2.2.2.2.2.2.2.2.2.1 k0_t26 r₁ r₂
theorem k0_off123_inb : ∀ (i : grid0.Coords) (v1 : BitVec 32) (k0_hw1 : k0_chk1 i v1) (k0_t26 : Fin (k0_t26_loop i v1).trips), ∀ a, (k0_off123 i v1 k0_t26) a + S1x1x128x512.size a ≤ S1x1x128x4608.size a := fun i v1 k0_hw1 k0_t26 => k0_hw1.2.2.2.2.1.2.2.2.2.2.2.2.2.2.2.2.2.2.2.2.2.2.2.2.1 k0_t26
theorem k0_t27_ok : ∀ (i : grid0.Coords) (v1 : BitVec 32) (k0_hw1 : k0_chk1 i v1), (k0_t27_loop i v1).OK := fun i v1 k0_hw1 => k0_hw1.2.2.2.2.1.2.2.2.2.2.2.2.2.2.2.2.2.2.2.2.2.2.2.2.2.1
theorem k0_off124_inb : ∀ (i : grid0.Coords) (v1 : BitVec 32) (k0_hw1 : k0_chk1 i v1) (k0_t27 : Fin (k0_t27_loop i v1).trips), ∀ a, (k0_off124 i v1 k0_t27) a + S1x1x512x128.size a ≤ S1x1x4608x128.size a := fun i v1 k0_hw1 k0_t27 => k0_hw1.2.2.2.2.1.2.2.2.2.2.2.2.2.2.2.2.2.2.2.2.2.2.2.2.2.2.1 k0_t27
theorem k0_off125_inb : ∀ (i : grid0.Coords) (v1 : BitVec 32) (k0_hw1 : k0_chk1 i v1) (k0_t27 : Fin (k0_t27_loop i v1).trips), ∀ (r : Fin 64), ∀ a, (k0_off125 i v1 k0_t27 (BitVec.ofNat 32 (8 * r.val))) a + S8x128.size a ≤ S4608x128.size a := fun i v1 k0_hw1 k0_t27 r => k0_hw1.2.2.2.2.1.2.2.2.2.2.2.2.2.2.2.2.2.2.2.2.2.2.2.2.2.2.2.1 k0_t27 r
theorem k0_off126_inb : ∀ (i : grid0.Coords) (v1 : BitVec 32) (k0_hw1 : k0_chk1 i v1) (k0_t27 : Fin (k0_t27_loop i v1).trips), ∀ (r : Fin 64), ∀ a, (k0_off126 i v1 k0_t27 (BitVec.ofNat 32 (8 * r.val))) a + S1x8x256.size a ≤ S2x4608x256.size a := fun i v1 k0_hw1 k0_t27 r => k0_hw1.2.2.2.2.1.2.2.2.2.2.2.2.2.2.2.2.2.2.2.2.2.2.2.2.2.2.2.2.1 k0_t27 r
theorem k0_off127_inb : ∀ (i : grid0.Coords) (v1 : BitVec 32) (k0_hw1 : k0_chk1 i v1) (k0_t27 : Fin (k0_t27_loop i v1).trips), ∀ (r₁ : Fin 16) (r₂ : Fin 4), ∀ a, (k0_off127 i v1 k0_t27 (BitVec.ofNat 32 (32 * r₁.val)) (BitVec.ofNat 32 (8 * r₂.val))) a + S1x8x256.size a ≤ S2x4608x256.size a := fun i v1 k0_hw1 k0_t27 r₁ r₂ => k0_hw1.2.2.2.2.1.2.2.2.2.2.2.2.2.2.2.2.2.2.2.2.2.2.2.2.2.2.2.2.2.1 k0_t27 r₁ r₂
theorem k0_off128_inb : ∀ (i : grid0.Coords) (v1 : BitVec 32) (k0_hw1 : k0_chk1 i v1) (k0_t27 : Fin (k0_t27_loop i v1).trips), ∀ a, (k0_off128 i v1 k0_t27) a + S1x1x128x512.size a ≤ S1x1x128x4608.size a := fun i v1 k0_hw1 k0_t27 => k0_hw1.2.2.2.2.1.2.2.2.2.2.2.2.2.2.2.2.2.2.2.2.2.2.2.2.2.2.2.2.2.2.1 k0_t27
theorem k0_t28_ok : ∀ (i : grid0.Coords) (v1 : BitVec 32) (k0_hw1 : k0_chk1 i v1), (k0_t28_loop i v1).OK := fun i v1 k0_hw1 => k0_hw1.2.2.2.2.1.2.2.2.2.2.2.2.2.2.2.2.2.2.2.2.2.2.2.2.2.2.2.2.2.2.2.1
theorem k0_off129_inb : ∀ (i : grid0.Coords) (v1 : BitVec 32) (k0_hw1 : k0_chk1 i v1) (k0_t28 : Fin (k0_t28_loop i v1).trips), ∀ a, (k0_off129 i v1 k0_t28) a + S1x1x512x128.size a ≤ S1x1x4608x128.size a := fun i v1 k0_hw1 k0_t28 => k0_hw1.2.2.2.2.1.2.2.2.2.2.2.2.2.2.2.2.2.2.2.2.2.2.2.2.2.2.2.2.2.2.2.2.1 k0_t28
theorem k0_off130_inb : ∀ (i : grid0.Coords) (v1 : BitVec 32) (k0_hw1 : k0_chk1 i v1) (k0_t28 : Fin (k0_t28_loop i v1).trips), ∀ (r : Fin 64), ∀ a, (k0_off130 i v1 k0_t28 (BitVec.ofNat 32 (8 * r.val))) a + S8x128.size a ≤ S4608x128.size a := fun i v1 k0_hw1 k0_t28 r => k0_hw1.2.2.2.2.1.2.2.2.2.2.2.2.2.2.2.2.2.2.2.2.2.2.2.2.2.2.2.2.2.2.2.2.2.1 k0_t28 r
theorem k0_off131_inb : ∀ (i : grid0.Coords) (v1 : BitVec 32) (k0_hw1 : k0_chk1 i v1) (k0_t28 : Fin (k0_t28_loop i v1).trips), ∀ (r : Fin 64), ∀ a, (k0_off131 i v1 k0_t28 (BitVec.ofNat 32 (8 * r.val))) a + S1x8x256.size a ≤ S2x4608x256.size a := fun i v1 k0_hw1 k0_t28 r => k0_hw1.2.2.2.2.1.2.2.2.2.2.2.2.2.2.2.2.2.2.2.2.2.2.2.2.2.2.2.2.2.2.2.2.2.2.1 k0_t28 r
theorem k0_off132_inb : ∀ (i : grid0.Coords) (v1 : BitVec 32) (k0_hw1 : k0_chk1 i v1) (k0_t28 : Fin (k0_t28_loop i v1).trips), ∀ (r₁ : Fin 16) (r₂ : Fin 4), ∀ a, (k0_off132 i v1 k0_t28 (BitVec.ofNat 32 (32 * r₁.val)) (BitVec.ofNat 32 (8 * r₂.val))) a + S1x8x256.size a ≤ S2x4608x256.size a := fun i v1 k0_hw1 k0_t28 r₁ r₂ => k0_hw1.2.2.2.2.1.2.2.2.2.2.2.2.2.2.2.2.2.2.2.2.2.2.2.2.2.2.2.2.2.2.2.2.2.2.2.1 k0_t28 r₁ r₂
theorem k0_off133_inb : ∀ (i : grid0.Coords) (v1 : BitVec 32) (k0_hw1 : k0_chk1 i v1) (k0_t28 : Fin (k0_t28_loop i v1).trips), ∀ a, (k0_off133 i v1 k0_t28) a + S1x1x128x512.size a ≤ S1x1x128x4608.size a := fun i v1 k0_hw1 k0_t28 => k0_hw1.2.2.2.2.1.2.2.2.2.2.2.2.2.2.2.2.2.2.2.2.2.2.2.2.2.2.2.2.2.2.2.2.2.2.2.2 k0_t28
theorem k0_t29_ok : ∀ (i : grid0.Coords) (v1 : BitVec 32) (k0_hw1 : k0_chk1 i v1), (k0_t29_loop i v1).OK := fun i v1 k0_hw1 => k0_hw1.2.2.2.2.2.1
theorem k0_off134_inb : ∀ (i : grid0.Coords) (v1 : BitVec 32) (k0_hw1 : k0_chk1 i v1) (k0_t29 : Fin (k0_t29_loop i v1).trips), ∀ (r₁ : Fin 16) (r₂ : Fin 4), ∀ a, (k0_off134 i v1 k0_t29 (BitVec.ofNat 32 (32 * r₁.val)) (BitVec.ofNat 32 (8 * r₂.val))) a + S1x8x256.size a ≤ S2x4608x256.size a := fun i v1 k0_hw1 k0_t29 r₁ r₂ => k0_hw1.2.2.2.2.2.2.1 k0_t29 r₁ r₂
theorem k0_off135_inb : ∀ (i : grid0.Coords) (v1 : BitVec 32) (k0_hw1 : k0_chk1 i v1) (k0_t29 : Fin (k0_t29_loop i v1).trips), ∀ a, (k0_off135 i v1 k0_t29) a + S1x1x128x512.size a ≤ S1x1x128x4608.size a := fun i v1 k0_hw1 k0_t29 => k0_hw1.2.2.2.2.2.2.2.1 k0_t29
theorem k0_t30_ok : ∀ (i : grid0.Coords) (v1 : BitVec 32) (k0_hw1 : k0_chk1 i v1), (k0_t30_loop i v1).OK := fun i v1 k0_hw1 => k0_hw1.2.2.2.2.2.2.2.2.1
theorem k0_off136_inb : ∀ (i : grid0.Coords) (v1 : BitVec 32) (k0_hw1 : k0_chk1 i v1) (k0_t30 : Fin (k0_t30_loop i v1).trips), ∀ (r₁ : Fin 16) (r₂ : Fin 4), ∀ a, (k0_off136 i v1 k0_t30 (BitVec.ofNat 32 (32 * r₁.val)) (BitVec.ofNat 32 (8 * r₂.val))) a + S1x8x256.size a ≤ S2x4608x256.size a := fun i v1 k0_hw1 k0_t30 r₁ r₂ => k0_hw1.2.2.2.2.2.2.2.2.2.1 k0_t30 r₁ r₂
theorem k0_off137_inb : ∀ (i : grid0.Coords) (v1 : BitVec 32) (k0_hw1 : k0_chk1 i v1) (k0_t30 : Fin (k0_t30_loop i v1).trips), ∀ a, (k0_off137 i v1 k0_t30) a + S1x1x128x512.size a ≤ S1x1x128x4608.size a := fun i v1 k0_hw1 k0_t30 => k0_hw1.2.2.2.2.2.2.2.2.2.2.1 k0_t30
theorem k0_t31_ok : ∀ (i : grid0.Coords) (v1 : BitVec 32) (k0_hw1 : k0_chk1 i v1), (k0_t31_loop i v1).OK := fun i v1 k0_hw1 => k0_hw1.2.2.2.2.2.2.2.2.2.2.2.1
theorem k0_off138_inb : ∀ (i : grid0.Coords) (v1 : BitVec 32) (k0_hw1 : k0_chk1 i v1) (k0_t31 : Fin (k0_t31_loop i v1).trips), ∀ (r₁ : Fin 16) (r₂ : Fin 4), ∀ a, (k0_off138 i v1 k0_t31 (BitVec.ofNat 32 (32 * r₁.val)) (BitVec.ofNat 32 (8 * r₂.val))) a + S1x8x256.size a ≤ S2x4608x256.size a := fun i v1 k0_hw1 k0_t31 r₁ r₂ => k0_hw1.2.2.2.2.2.2.2.2.2.2.2.2.1 k0_t31 r₁ r₂
theorem k0_off139_inb : ∀ (i : grid0.Coords) (v1 : BitVec 32) (k0_hw1 : k0_chk1 i v1) (k0_t31 : Fin (k0_t31_loop i v1).trips), ∀ a, (k0_off139 i v1 k0_t31) a + S1x1x128x512.size a ≤ S1x1x128x4608.size a := fun i v1 k0_hw1 k0_t31 => k0_hw1.2.2.2.2.2.2.2.2.2.2.2.2.2.1 k0_t31
theorem k0_t32_ok : ∀ (i : grid0.Coords) (v1 : BitVec 32) (k0_hw1 : k0_chk1 i v1), (k0_t32_loop i v1).OK := fun i v1 k0_hw1 => k0_hw1.2.2.2.2.2.2.2.2.2.2.2.2.2.2.1
theorem k0_off140_inb : ∀ (i : grid0.Coords) (v1 : BitVec 32) (k0_hw1 : k0_chk1 i v1) (k0_t32 : Fin (k0_t32_loop i v1).trips), ∀ (r₁ : Fin 16) (r₂ : Fin 4), ∀ a, (k0_off140 i v1 k0_t32 (BitVec.ofNat 32 (32 * r₁.val)) (BitVec.ofNat 32 (8 * r₂.val))) a + S1x8x256.size a ≤ S2x4608x256.size a := fun i v1 k0_hw1 k0_t32 r₁ r₂ => k0_hw1.2.2.2.2.2.2.2.2.2.2.2.2.2.2.2.1 k0_t32 r₁ r₂
theorem k0_off141_inb : ∀ (i : grid0.Coords) (v1 : BitVec 32) (k0_hw1 : k0_chk1 i v1) (k0_t32 : Fin (k0_t32_loop i v1).trips), ∀ a, (k0_off141 i v1 k0_t32) a + S1x1x128x512.size a ≤ S1x1x128x4608.size a := fun i v1 k0_hw1 k0_t32 => k0_hw1.2.2.2.2.2.2.2.2.2.2.2.2.2.2.2.2 k0_t32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4608x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x36x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x4608 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e_over_16_sqrt_d" => some ((((Real.sqrt 128)⁻¹ * (Real.log 2)⁻¹) * (1 / 16) : ℝ) : EReal)
  | _ => none
-- ==== ReferenceIdeal.lean ====
variable {F : FTy → Type} [FloatOps F] [Named F]
def κ : String → Option EReal := fun
  | "inv_sqrt_d" => some (((Real.sqrt 128)⁻¹ : ℝ) : EReal)
  | _ => none
-- ==== Reference.lean ====
abbrev S3x4480x7168 : Shape := ⟨3, ![3, 4480, 7168]⟩
abbrev S3x8x8x4608 : Shape := ⟨4, ![3, 8, 8, 4608]⟩
abbrev S3x8x4608x128 : Shape := ⟨4, ![3, 8, 4608, 128]⟩
abbrev S3x8x36x128 : Shape := ⟨4, ![3, 8, 36, 128]⟩
abbrev S3x8x128x4608 : Shape := ⟨4, ![3, 8, 128, 4608]⟩
abbrev S3x8x128x1 : Shape := ⟨4, ![3, 8, 128, 1]⟩
abbrev S3 : Shape := ⟨1, ![3]⟩
abbrev S3x8x8x4608x1 : Shape := ⟨5, ![3, 8, 8, 4608, 1]⟩
abbrev S3x8x1x4608 : Shape := ⟨4, ![3, 8, 1, 4608]⟩
abbrev S3x8x1x128 : Shape := ⟨4, ![3, 8, 1, 128]⟩
abbrev S4480x4480 : Shape := ⟨2, ![4480, 4480]⟩
abbrev S1x4480x128 : Shape := ⟨3, ![1, 4480, 128]⟩
abbrev S4480x128 : Shape := ⟨2, ![4480, 128]⟩
abbrev S1x1x4480x128 : Shape := ⟨4, ![1, 1, 4480, 128]⟩
abbrev S1x1x1x4480x1 : Shape := ⟨5, ![1, 1, 1, 4480, 1]⟩
abbrev S4480x1 : Shape := ⟨2, ![4480, 1]⟩
abbrev S1x1x1x4480 : Shape := ⟨4, ![1, 1, 1, 4480]⟩
abbrev S1x4480 : Shape := ⟨2, ![1, 4480]⟩
abbrev S1 : Shape := ⟨1, ![1]⟩
abbrev S4480 : Shape := ⟨1, ![4480]⟩
abbrev S1x1x128x4480 : Shape := ⟨4, ![1, 1, 128, 4480]⟩
abbrev S128x4480 : Shape := ⟨2, ![128, 4480]⟩
abbrev S1x1x1x128 : Shape := ⟨4, ![1, 1, 1, 128]⟩
abbrev S1x128 : Shape := ⟨2, ![1, 128]⟩

abbrev nBuf : Space → Nat
  | .hbm => 11
  | .vmem => 7
  | .smem => 1
  | _ => 0

abbrev bufTy : (tb : Table) → Fin (tcTables nBuf tb) → BufTy
  | .hbm, ⟨0, _⟩ => ⟨S3x4480x7168, .fp8e4m3⟩
  | .hbm, ⟨1, _⟩ => ⟨S3x8x8x4608, .f32⟩
  | .hbm, ⟨2, _⟩ => ⟨S3x8x4608x128, .fp8e4m3⟩
  | .hbm, ⟨3, _⟩ => ⟨S3x8x36x128, .f32⟩
  | .hbm, ⟨4, _⟩ => ⟨S3x8x128x4608, .fp8e4m3⟩
  | .hbm, ⟨5, _⟩ => ⟨S3x8x128x1, .f32⟩
  | .hbm, ⟨6, _⟩ => ⟨S3, .i32⟩
  | .hbm, ⟨7, _⟩ => ⟨S3x8x8x4608x1, .f32⟩
  | .hbm, ⟨8, _⟩ => ⟨S3x8x1x4608, .f32⟩
  | .hbm, ⟨9, _⟩ => ⟨S3x8x1x128, .f32⟩
  | .hbm, ⟨10, _⟩ => ⟨S3x4480x7168, .bf16⟩
  | .local _ .vmem, ⟨0, _⟩ => ⟨S3x4480x7168, .fp8e4m3⟩
  | .local _ .vmem, ⟨1, _⟩ => ⟨S3x8x8x4608x1, .f32⟩
  | .local _ .vmem, ⟨2, _⟩ => ⟨S3x8x4608x128, .fp8e4m3⟩
  | .local _ .vmem, ⟨3, _⟩ => ⟨S3x8x1x4608, .f32⟩
  | .local _ .vmem, ⟨4, _⟩ => ⟨S3x8x128x4608, .fp8e4m3⟩
  | .local _ .vmem, ⟨5, _⟩ => ⟨S3x8x1x128, .f32⟩
  | .local _ .vmem, ⟨6, _⟩ => ⟨S3x4480x7168, .bf16⟩
  | .local _ .smem, ⟨0, _⟩ => ⟨S3, .i32⟩
  | _, _ => ⟨S3x4480x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c168_i32 : BitVec 32 := 168#32
  let v2 : BitVec 32 := Scalar.addi c0_i32 c168_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c56_i32_1 : BitVec 32 := 56#32
  let v4 : BitVec 32 := Scalar.remsi arg8 c56_i32_1
  let c128_i32 : BitVec 32 := 128#32
  let v7 : BitVec 32 := Scalar.muli v4 c128_i32
  v7
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v9 : Index := Scalar.indexCast v3
  let c0 : Index := 0#32
  let c56_i32_1 : BitVec 32 := 56#32
  let v4 : BitVec 32 := Scalar.remsi arg8 c56_i32_1
  let c128_i32 : BitVec 32 := 128#32
  let v7 : BitVec 32 := Scalar.muli v4 c128_i32
  let v8 : BitVec 32 := v7
  let v10 : Index := Scalar.indexCast v8
  ![v9.toNat, 0, v10.toNat]
def k0_off2 (k0_t1 : Fin k0_t1_loop.trips) : Fin 4 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v13 : Index := Scalar.indexCast v3
  let c56_i32_1 : BitVec 32 := 56#32
  let v4 : BitVec 32 := Scalar.remsi arg8 c56_i32_1
  let c7_i32 : BitVec 32 := 7#32
  let v5 : BitVec 32 := Scalar.divsi v4 c7_i32
  let v14 : Index := Scalar.indexCast v5
  let c0_3 : Index := 0#32
  let c0_4 : Index := 0#32
  ![v13.toNat, v14.toNat, 0, 0]
def k0_off3 (k0_t1 : Fin k0_t1_loop.trips) : Fin 5 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v18 : Index := Scalar.indexCast v3
  let c56_i32_1 : BitVec 32 := 56#32
  let v4 : BitVec 32 := Scalar.remsi arg8 c56_i32_1
  let c7_i32 : BitVec 32 := 7#32
  let v5 : BitVec 32 := Scalar.divsi v4 c7_i32
  let v19 : Index := Scalar.indexCast v5
  let c7_i32_2 : BitVec 32 := 7#32
  let v6 : BitVec 32 := Scalar.remsi v4 c7_i32_2
  let v20 : Index := Scalar.indexCast v6
  let c0_5 : Index := 0#32
  let c0_6 : Index := 0#32
  ![v18.toNat, v19.toNat, v20.toNat, 0, 0]
def k0_off4 (k0_t1 : Fin k0_t1_loop.trips) : Fin 4 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v27 : Index := Scalar.indexCast v3
  let c56_i32_1 : BitVec 32 := 56#32
  let v4 : BitVec 32 := Scalar.remsi arg8 c56_i32_1
  let c7_i32 : BitVec 32 := 7#32
  let v5 : BitVec 32 := Scalar.divsi v4 c7_i32
  let v28 : Index := Scalar.indexCast v5
  let c0_8 : Index := 0#32
  let c0_9 : Index := 0#32
  ![v27.toNat, v28.toNat, 0, 0]
def k0_off5 (k0_t1 : Fin k0_t1_loop.trips) : Fin 1 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v33 : Index := Scalar.indexCast v3
  ![v33.toNat]
def k0_off6 (k0_t1 : Fin k0_t1_loop.trips) : Fin 4 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v53 : Index := Scalar.indexCast v3
  let c56_i32_1 : BitVec 32 := 56#32
  let v4 : BitVec 32 := Scalar.remsi arg8 c56_i32_1
  let c7_i32 : BitVec 32 := 7#32
  let v5 : BitVec 32 := Scalar.divsi v4 c7_i32
  let v54 : Index := Scalar.indexCast v5
  let c0_15 : Index := 0#32
  let c0_16 : Index := 0#32
  ![v53.toNat, v54.toNat, 0, 0]
def k0_off7 (k0_t1 : Fin k0_t1_loop.trips) : Fin 4 → Nat :=
  let c0_i32 : BitVec 32 := 0#32
  let c1_i32 : BitVec 32 := 1#32
  let arg8 : BitVec 32 := Scf.iv c0_i32 c1_i32 k0_t1
  let c56_i32 : BitVec 32 := 56#32
  let v3 : BitVec 32 := Scalar.divsi arg8 c56_i32
  let v58 : Index := Scalar.indexCast v3
  let c56_i32_1 : BitVec 32 := 56#32
  let v4 : BitVec 32 := Scalar.remsi arg8 c56_i32_1
  let c7_i32 : BitVec 32 := 7#32
  let v5 : BitVec 32 := Scalar.divsi v4 c7_i32
  let v59 : Index := Scalar.indexCast v5
  let c0_18 : Index := 0#32
  let c0_19 : Index := 0#32
  ![v58.toNat, v59.toNat, 0, 0]
abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4480x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x8x4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x4608x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8x128x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4480x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/-
  The attention body, written once over an abstract machine.

  The printed kernel unrolls every chunk of every head.  Here the same operations, in the same order, are given by
  recursion over the chunks, in any monad with the three kinds of access the body makes: load a window of a buffer,
  store a window of a buffer, repeat a counted loop.  One instance of the monad is the kernel's own program
  (`progOps`, Prog.lean), the other is a plain function of the buffers' contents (`stOps`, Pure.lean).
-/
module

public import Idealize.ShloMosaic.Lib.Pipeline
public import Idealize.ShloMosaic.Lib.Scf
public import Idealize.ShloMosaic.Lib.VecWindow
public import Idealize.ShloMosaic.Lib.LoopRemainder
public import Idealize.ShloMosaic.PureOps
public import Idealize.ShloMosaic.PureOps.Ideal

@[expose] public section

noncomputable section

namespace Cert.Body

open Idealize.ShloMosaic Idealize.SL.Sem

/-! ## Shapes and buffers -/

abbrev Sq : Shape := ⟨3, ![1, 256, 896]⟩
abbrev Sqs : Shape := ⟨4, ![1, 1, 8, 256]⟩
abbrev Sk : Shape := ⟨4, ![1, 1, 4608, 128]⟩
abbrev Sks : Shape := ⟨4, ![1, 1, 36, 128]⟩
abbrev Svt : Shape := ⟨4, ![1, 1, 128, 4608]⟩
abbrev Svs : Shape := ⟨4, ![1, 1, 128, 1]⟩
abbrev Ss : Shape := ⟨3, ![2, 4608, 256]⟩
abbrev Sksb : Shape := ⟨2, ![4608, 128]⟩
abbrev Sacc : Shape := ⟨2, ![128, 256]⟩
abbrev S8 : Shape := ⟨2, ![8, 256]⟩
abbrev S8x128 : Shape := ⟨2, ![8, 128]⟩
abbrev S1x8 : Shape := ⟨3, ![1, 8, 256]⟩
abbrev S1x1x1x128 : Shape := ⟨4, ![1, 1, 1, 128]⟩
abbrev S1x1x1x256 : Shape := ⟨4, ![1, 1, 1, 256]⟩
abbrev S1x128 : Shape := ⟨2, ![1, 128]⟩
abbrev S1x256 : Shape := ⟨2, ![1, 256]⟩
abbrev S256 : Shape := ⟨1, ![256]⟩
abbrev S128x128 : Shape := ⟨2, ![128, 128]⟩
abbrev S1x256x128 : Shape := ⟨3, ![1, 256, 128]⟩
abbrev S256x128 : Shape := ⟨2, ![256, 128]⟩
abbrev S1x1x512x128 : Shape := ⟨4, ![1, 1, 512, 128]⟩
abbrev S512x128 : Shape := ⟨2, ![512, 128]⟩
abbrev S512x256 : Shape := ⟨2, ![512, 256]⟩
abbrev S32x256 : Shape := ⟨2, ![32, 256]⟩
abbrev S1x1x128x512 : Shape := ⟨4, ![1, 1, 128, 512]⟩
abbrev S128x512 : Shape := ⟨2, ![128, 512]⟩
abbrev S128x1 : Shape := ⟨2, ![128, 1]⟩

/-- The buffers the body reads and writes: six operands, the result, and seven scratch buffers. -/
inductive Buf
  | q | qs | k | ks | vt | vs | out | s | ksb | acc | mx | sm | m | c
  deriving DecidableEq

/-- Each buffer's shape -/
@[reducible] def Buf.shape : Buf → Shape
  | .q => Sq | .qs => Sqs | .k => Sk | .ks => Sks | .vt => Svt | .vs => Svs | .out => Sq
  | .s => Ss | .ksb => Sksb | .acc => Sacc | .mx => S8 | .sm => S8 | .m => S8 | .c => S8

/-- and element type. -/
@[reducible] def Buf.elt : Buf → EltTy
  | .q => .fp8e4m3 | .qs => .f32 | .k => .fp8e4m3 | .ks => .f32 | .vt => .fp8e4m3 | .vs => .f32 | .out => .bf16
  | .s => .f32 | .ksb => .f32 | .acc => .f32 | .mx => .f32 | .sm => .f32 | .m => .f32 | .c => .f32

/-! ## The loop bounds, from the query tile and the prefix length -/

section Bounds
variable (qb v1 : BitVec 32)

def q0 : BitVec 32 := Scalar.muli qb 256#32

/-- The key tiles a query tile reads at all: the ceiling of the reach over 512. -/
def nAll : BitVec 32 :=
  Scalar.divsi (Scalar.addi (Scalar.maxsi v1 (Scalar.minsi (Scalar.addi (q0 qb) 256#32) 4480#32)) 511#32) 512#32

/-- The first key not seen by every query of the tile. -/
def firstHidden : BitVec 32 := Scalar.maxsi v1 (Scalar.addi (q0 qb) 1#32)

/-- The key tiles that every query of the tile sees whole: the floor of `firstHidden` over 512, at most `nAll`. -/
def nFull : BitVec 32 :=
  Scalar.minsi
    (Scalar.select
      (Scalar.andi
        (Scalar.cmpi .ne (Scalar.subi (Scalar.extui (Scalar.cmpi .sgt (firstHidden qb v1) 0#32)) (Scalar.extui (Scalar.cmpi .slt (firstHidden qb v1) 0#32)))
          (Scalar.subi (Scalar.extui (Scalar.cmpi .sgt 512#32 0#32)) (Scalar.extui (Scalar.cmpi .slt 512#32 0#32))))
        (Scalar.cmpi .ne (Scalar.remsi (firstHidden qb v1) 512#32) 0#32))
      (Scalar.subi (Scalar.divsi (firstHidden qb v1) 512#32) 1#32)
      (Scalar.divsi (firstHidden qb v1) 512#32))
    (nAll qb v1)

/-- The loop over the tiles seen whole, its remainder loop, the loop over the tiles that need a mask, its remainder loop. -/
def lpA : Scf.Loop 32 :=
  ⟨0#32, Scalar.addi 0#32 (Scalar.muli (Scalar.divsi (Scalar.subi (nFull qb v1) 0#32) 1#32) 1#32), 1#32⟩
def lpB : Scf.Loop 32 :=
  ⟨Scalar.addi 0#32 (Scalar.muli (Scalar.divsi (Scalar.subi (nFull qb v1) 0#32) 1#32) 1#32), Scalar.addi 0#32 (Scalar.subi (nFull qb v1) 0#32), 1#32⟩
def lpC : Scf.Loop 32 :=
  ⟨nFull qb v1, Scalar.addi (nFull qb v1) (Scalar.muli (Scalar.divsi (Scalar.subi (nAll qb v1) (nFull qb v1)) 1#32) 1#32), 1#32⟩
def lpD : Scf.Loop 32 :=
  ⟨Scalar.addi (nFull qb v1) (Scalar.muli (Scalar.divsi (Scalar.subi (nAll qb v1) (nFull qb v1)) 1#32) 1#32),
    Scalar.addi (nFull qb v1) (Scalar.subi (nAll qb v1) (nFull qb v1)), 1#32⟩

/-- Where a tile's keys begin. -/
def tileStart (l : Scf.Loop 32) (t : Fin l.trips) : BitVec 32 := Scalar.muli (Scf.iv l.lb l.st t.val) 512#32

/-- A tile of 512 keys from `j0` lies among the 4608 keys. -/
def Fits (j0 : BitVec 32) : Prop := j0.toNat + 512 ≤ 4608

/-- What the loops need of the query tile and the prefix length. -/
structure Good : Prop where
  okA : (lpA qb v1).OK
  okB : (lpB qb v1).OK
  okC : (lpC qb v1).OK
  okD : (lpD qb v1).OK
  fitA : ∀ t, Fits (tileStart (lpA qb v1) t)
  fitB : ∀ t, Fits (tileStart (lpB qb v1) t)
  fitC : ∀ t, Fits (tileStart (lpC qb v1) t)
  fitD : ∀ t, Fits (tileStart (lpD qb v1) t)

theorem iotas1 : S8.Iotas .tc 32 [1] := by decide
theorem iotas0 : S8.Iotas .tc 32 [0] := by decide

/-- Per key sublane and query lane: the last key the query sees, less the sublane. -/
def limit : IVec S8 32 :=
  subi (maxsi (broadcast S8 (Scalar.subi v1 1#32)) (addi (broadcast S8 (q0 qb)) (iota .tc S8 32 [1] iotas1))) (iota .tc S8 32 [0] iotas0)

end Bounds

/-! ## Facts about windows -/

theorem toNat_add_small {j0 : BitVec 32} (h : Fits j0) {c : ℕ} (hc : c < 512) : (Scalar.indexCast (Scalar.addi j0 (BitVec.ofNat 32 c))).toNat = j0.toNat + c := by
  unfold Fits at h
  show (j0 + BitVec.ofNat 32 c).toNat = _
  rw [BitVec.toNat_add, BitVec.toNat_ofNat]
  omega

theorem toNat_cast (j0 : BitVec 32) : (Scalar.indexCast j0).toNat = j0.toNat := rfl

theorem inb_k {j0 : BitVec 32} (h : Fits j0) :
    ∀ a, (![0, 0, (Scalar.indexCast j0).toNat, 0] : Fin 4 → ℕ) a + S1x1x512x128.size a ≤ Sk.size a := by
  have := h; unfold Fits at this
  intro a; fin_cases a
  · exact Nat.le_refl _
  · exact Nat.le_refl _
  · exact this
  · exact Nat.le_refl _

theorem inb_vt {j0 : BitVec 32} (h : Fits j0) :
    ∀ a, (![0, 0, 0, (Scalar.indexCast j0).toNat] : Fin 4 → ℕ) a + S1x1x128x512.size a ≤ Svt.size a := by
  have := h; unfold Fits at this
  intro a; fin_cases a
  · exact Nat.le_refl _
  · exact Nat.le_refl _
  · exact Nat.le_refl _
  · exact this

theorem inb_ksb {j0 : BitVec 32} (h : Fits j0) {c : ℕ} (hc : c + 8 ≤ 512) :
    ∀ a, (![(Scalar.indexCast (Scalar.addi j0 (BitVec.ofNat 32 c))).toNat, 0] : Fin 2 → ℕ) a + S8x128.size a ≤ Sksb.size a := by
  have e := toNat_add_small h (c := c) (by omega)
  unfold Fits at h
  intro a; fin_cases a
  · show (Scalar.indexCast (Scalar.addi j0 (BitVec.ofNat 32 c))).toNat + 8 ≤ 4608
    omega
  · exact Nat.le_refl _

theorem inb_s {j0 : BitVec 32} (h : Fits j0) {slot : ℕ} (hs : slot < 2) {c : ℕ} (hc : c + 8 ≤ 512) :
    ∀ a, (![slot, (Scalar.indexCast (Scalar.addi j0 (BitVec.ofNat 32 c))).toNat, 0] : Fin 3 → ℕ) a + S1x8.size a ≤ Ss.size a := by
  have e := toNat_add_small h (c := c) (by omega)
  unfold Fits at h
  intro a; fin_cases a
  · show slot + 1 ≤ 2
    omega
  · show (Scalar.indexCast (Scalar.addi j0 (BitVec.ofNat 32 c))).toNat + 8 ≤ 4608
    omega
  · exact Nat.le_refl _

theorem toNat_add2 {j0 : BitVec 32} (h : Fits j0) {g r : ℕ} (hg : g + r < 512) :
    (Scalar.indexCast (Scalar.addi (Scalar.addi j0 (BitVec.ofNat 32 g)) (BitVec.ofNat 32 r))).toNat = j0.toNat + g + r := by
  unfold Fits at h
  show (j0 + BitVec.ofNat 32 g + BitVec.ofNat 32 r).toNat = _
  rw [BitVec.toNat_add, BitVec.toNat_add, BitVec.toNat_ofNat, BitVec.toNat_ofNat]
  omega

theorem inb_s2 {j0 : BitVec 32} (h : Fits j0) {slot : ℕ} (hs : slot < 2) {g r : ℕ} (hc : g + r + 8 ≤ 512) :
    ∀ a, (![slot, (Scalar.indexCast (Scalar.addi (Scalar.addi j0 (BitVec.ofNat 32 g)) (BitVec.ofNat 32 r))).toNat, 0] : Fin 3 → ℕ) a + S1x8.size a ≤ Ss.size a := by
  have e := toNat_add2 h (g := g) (r := r) (by omega)
  unfold Fits at h
  intro a; fin_cases a
  · show slot + 1 ≤ 2
    omega
  · show (Scalar.indexCast (Scalar.addi (Scalar.addi j0 (BitVec.ofNat 32 g)) (BitVec.ofNat 32 r))).toNat + 8 ≤ 4608
    omega
  · exact Nat.le_refl _

theorem inb_ksrow {t : ℕ} (ht : t < 36) : ∀ a, (![0, 0, t, 0] : Fin 4 → ℕ) a + S1x1x1x128.size a ≤ Sks.size a := by
  intro a; fin_cases a
  · exact Nat.le_refl _
  · exact Nat.le_refl _
  · exact ht
  · exact Nat.le_refl _

theorem inb_ksbrow {t : ℕ} (ht : t < 36) : ∀ a, (![128 * t, 0] : Fin 2 → ℕ) a + S128x128.size a ≤ Sksb.size a := by
  intro a; fin_cases a
  · show 128 * t + 128 ≤ 4608
    omega
  · exact Nat.le_refl _

theorem inb_head {h : ℕ} (hh : h < 7) : ∀ a, (![0, 0, 128 * h] : Fin 3 → ℕ) a + S1x256x128.size a ≤ Sq.size a := by
  intro a; fin_cases a
  · exact Nat.le_refl _
  · exact Nat.le_refl _
  · show 128 * h + 128 ≤ 896
    omega

theorem inb_qs {h : ℕ} (hh : h < 7) : ∀ a, (![0, 0, h, 0] : Fin 4 → ℕ) a + S1x1x1x256.size a ≤ Sqs.size a := by
  intro a; fin_cases a
  · exact Nat.le_refl _
  · exact Nat.le_refl _
  · show h + 1 ≤ 8
    omega
  · exact Nat.le_refl _

theorem slices_chunk {c : ℕ} (hc : c + 8 ≤ 512) : S512x256.Slices ![c, 0] S8 :=
  ⟨rfl, fun a => by
    fin_cases a
    · exact hc
    · exact Nat.le_refl _⟩

theorem inb00 (s0 s1 : ℕ) : ∀ a, (![0, 0] : Fin 2 → ℕ) a + (⟨2, ![s0, s1]⟩ : Shape).size a ≤ (⟨2, ![s0, s1]⟩ : Shape).size a := by
  intro a; fin_cases a <;> simp

theorem inbvs : ∀ a, (![0, 0, 0, 0] : Fin 4 → ℕ) a + Svs.size a ≤ Svs.size a := by decide

/-! ## Shape facts of the operations -/

theorem pos8 : 0 < S8.numel := by decide
theorem posAcc : 0 < Sacc.numel := by decide
theorem posVs : 0 < Svs.numel := by decide
theorem pos1x8 : 0 < S1x8.numel := by decide
theorem pos8x128 : 0 < S8x128.numel := by decide
theorem posKs : 0 < S1x1x1x128.numel := by decide
theorem posQs : 0 < S1x1x1x256.numel := by decide
theorem pos128 : 0 < S128x128.numel := by decide
theorem posHead : 0 < S1x256x128.numel := by decide
theorem posK : 0 < S1x1x512x128.numel := by decide
theorem posVt : 0 < S1x1x128x512.numel := by decide
theorem sc_ks : S1x1x1x128.ShapeCasts S1x128 := by decide
theorem sc_128 : S1x128.ShapeCasts S1x128 := by decide
theorem bc_128 : S1x128.Broadcasts S128x128 := by decide
theorem tr_128 : S128x128.Transposes [1, 0] S128x128 := by decide
theorem sc_128x128 : S128x128.ShapeCasts S128x128 := by decide
theorem sc_8 : S8.ShapeCasts S8 := by decide
theorem sc_acc : Sacc.ShapeCasts Sacc := by decide
theorem sc_head : S1x256x128.ShapeCasts S256x128 := by decide
theorem sc_head' : S256x128.ShapeCasts S1x256x128 := by decide
theorem sc_k : S1x1x512x128.ShapeCasts S512x128 := by decide
theorem sc_s : S1x8.ShapeCasts S8 := by decide
theorem sc_s' : S8.ShapeCasts S1x8 := by decide
theorem cc_ksb : Shape.Concatenates [S8x128, S8x128] S8 1 := by decide
theorem cc_codes : Shape.Concatenates [S8, S8, S8, S8] S32x256 0 := by decide
theorem cc_tile : Shape.Concatenates [S32x256, S32x256, S32x256, S32x256, S32x256, S32x256, S32x256, S32x256, S32x256, S32x256, S32x256, S32x256,
    S32x256, S32x256, S32x256, S32x256] S512x256 0 := by decide
theorem sc_vt : S1x1x128x512.ShapeCasts S128x512 := by decide
theorem red8 : S8.Reduces [0] S256 := by decide
theorem sc_256 : S256.ShapeCasts S1x256 := by decide
theorem sc_qs : S1x1x1x256.ShapeCasts S1x256 := by decide
theorem sc_1x256 : S1x256.ShapeCasts S1x256 := by decide
theorem bc_8 : S1x256.Broadcasts S8 := by decide
theorem sc_vs : Svs.ShapeCasts S128x1 := by decide
theorem bc_vs : S128x1.Broadcasts Sacc := by decide
theorem bc_sum : S1x256.Broadcasts Sacc := by decide
theorem tr_acc : Sacc.Transposes [1, 0] S256x128 := by decide
theorem bl_fp8 : FTy.bits .fp8e4m3 < FTy.bits .f32 := by decide
theorem bl_bf16 : FTy.bits .bf16 < FTy.bits .f32 := by decide

/-- Keys by queries: both contract their width. -/
def dotK : DotDims S512x128 S256x128 S512x256 where
  lhsContracting := [1]
  rhsContracting := [1]
  lhsNonContracting := [0]
  rhsNonContracting := [0]
  lhsBatch := []
  rhsBatch := []
  wf := by decide
/-- Transposed values by the codes of the exponentials. -/
def dotV : DotDims S128x512 S512x256 Sacc where
  lhsContracting := [1]
  rhsContracting := [0]
  lhsNonContracting := [0]
  rhsNonContracting := [1]
  lhsBatch := []
  rhsBatch := []
  wf := by decide

/-! ## The body -/

universe u
variable {F : FTy → Type} [FloatOps F] {M : Type → Type u}

/-- What the body asks of the machine. -/
structure Ops (F : FTy → Type) [FloatOps F] (M : Type → Type u) where
  /-- load a window of a buffer -/
  rd (b : Buf) (off size : Fin b.shape.rank → ℕ) (inb : ∀ a, off a + size a ≤ b.shape.size a) (h : 0 < (⟨b.shape.rank, size⟩ : Shape).numel) :
    M (Vec F ⟨b.shape.rank, size⟩ b.elt)
  /-- store a window of a buffer of 32-bit elements -/
  wr (b : Buf) (hb : b.elt.bits = 32) (off size : Fin b.shape.rank → ℕ) (inb : ∀ a, off a + size a ≤ b.shape.size a)
    (h : 0 < (⟨b.shape.rank, size⟩ : Shape).numel) (v : Vec F ⟨b.shape.rank, size⟩ b.elt) : M PUnit
  /-- store one head's columns of the result -/
  wrOut (hh : ℕ) (hlt : hh < 7) (v : Vec F S1x256x128 .bf16) : M PUnit
  /-- a counted loop -/
  loop (l : Scf.Loop 32) (ok : l.OK) (body : Fin l.trips → M PUnit) : M PUnit

variable [Monad M] (O : Ops F M)

/-- Key scales of row `t` (128 keys) spread over 128 lanes. -/
def ksbRow (sc : F .f32) (t : ℕ) (ht : t < 36) : M PUnit := do
  let v ← O.rd .ks ![0, 0, t, 0] S1x1x1x128.size (inb_ksrow ht) posKs
  let _ ← O.rd .ksb ![128 * t, 0] S128x128.size (inb_ksbrow ht) pos128
  O.wr .ksb rfl ![128 * t, 0] S128x128.size (inb_ksbrow ht) pos128
    (shapeCast S128x128 (transpose S128x128 [1, 0] (broadcastTo S128x128 (shapeCast S1x128 (mulf (shapeCast S1x128 v sc_ks) (broadcast S1x128 sc)) sc_128) bc_128) tr_128) sc_128x128)

def ksbRows (sc : F .f32) : (n t : ℕ) → (h : t + n = 36) → M PUnit
  | 0, _, _ => pure ⟨⟩
  | n + 1, t, h => do
    ksbRow O sc t (by omega)
    ksbRows sc n (t + 1) (by omega)

def setAcc (v : FVec F Sacc .f32) : M PUnit := do
  let _ ← O.rd .acc ![0, 0] Sacc.size (inb00 _ _) posAcc
  O.wr .acc rfl ![0, 0] Sacc.size (inb00 _ _) posAcc (shapeCast Sacc v sc_acc)
def setMx (v : FVec F S8 .f32) : M PUnit := do
  let _ ← O.rd .mx ![0, 0] S8.size (inb00 _ _) pos8
  O.wr .mx rfl ![0, 0] S8.size (inb00 _ _) pos8 (shapeCast S8 v sc_8)
def setSm (v : FVec F S8 .f32) : M PUnit := do
  let _ ← O.rd .sm ![0, 0] S8.size (inb00 _ _) pos8
  O.wr .sm rfl ![0, 0] S8.size (inb00 _ _) pos8 (shapeCast S8 v sc_8)
def setM (v : FVec F S8 .f32) : M PUnit := do
  let _ ← O.rd .m ![0, 0] S8.size (inb00 _ _) pos8
  O.wr .m rfl ![0, 0] S8.size (inb00 _ _) pos8 (shapeCast S8 v sc_8)
def setC (v : FVec F S8 .f32) : M PUnit := do
  let _ ← O.rd .c ![0, 0] S8.size (inb00 _ _) pos8
  O.wr .c rfl ![0, 0] S8.size (inb00 _ _) pos8 (shapeCast S8 v sc_8)

/-- The mask of eight keys from `j0 + c`, or none. -/
def masked (lim : Option (IVec S8 32)) (j0 c : BitVec 32) (t : FVec F S8 .f32) : FVec F S8 .f32 :=
  match lim with
  | none => t
  | some l => select (cmpi .sge (subi l (broadcast S8 j0)) (broadcast S8 c)) t (broadcast S8 (Scalar.ofBits (F := F) .f32 0xFF800000#32))

/-- The eight keys of chunk `r`: scaled, masked, stored, and put into the running maximum, which is returned. -/
def chunk (lim : Option (IVec S8 32)) (slot : ℕ) (hs : slot < 2) (j0 : BitVec 32) (hf : Fits j0) (p : FVec F S512x256 .f32)
    (r : ℕ) (hr : r < 64) (mx : FVec F S8 .f32) : M (FVec F S8 .f32) := do
  let v ← O.rd .ksb ![(Scalar.indexCast (Scalar.addi j0 (BitVec.ofNat 32 (8 * r)))).toNat, 0] S8x128.size (inb_ksb hf (by omega)) pos8x128
  let t := masked lim j0 (BitVec.ofNat 32 (8 * r)) (mulf (extractStridedSlice S8 ![8 * r, 0] p (slices_chunk (by omega)))
    (concatenate S8 1 [⟨S8x128, v⟩, ⟨S8x128, v⟩] cc_ksb))
  let _ ← O.rd .s ![slot, (Scalar.indexCast (Scalar.addi j0 (BitVec.ofNat 32 (8 * r)))).toNat, 0] S1x8.size (inb_s hf hs (by omega)) pos1x8
  O.wr .s rfl ![slot, (Scalar.indexCast (Scalar.addi j0 (BitVec.ofNat 32 (8 * r)))).toNat, 0] S1x8.size (inb_s hf hs (by omega)) pos1x8
    (shapeCast S1x8 t sc_s')
  pure (maximumf mx t)

def chunks (lim : Option (IVec S8 32)) (slot : ℕ) (hs : slot < 2) (j0 : BitVec 32) (hf : Fits j0) (p : FVec F S512x256 .f32) :
    (n r : ℕ) → (h : r + n = 64) → FVec F S8 .f32 → M (FVec F S8 .f32)
  | 0, _, _, mx => pure mx
  | n + 1, r, h, mx => do
    let mx' ← chunk O lim slot hs j0 hf p r (by omega) mx
    chunks lim slot hs j0 hf p n (r + 1) (by omega) mx'

/-- One tile of scores of head `h`: 512 keys by 256 queries, into slot `slot`. -/
def scores (lim : Option (IVec S8 32)) (h : ℕ) (hh : h < 7) (slot : ℕ) (hs : slot < 2) (j0 : BitVec 32) (hf : Fits j0) : M PUnit := do
  let q ← O.rd .q ![0, 0, 128 * h] S1x256x128.size (inb_head hh) posHead
  let k ← O.rd .k ![0, 0, (Scalar.indexCast j0).toNat, 0] S1x1x512x128.size (inb_k hf) posK
  let mx ← O.rd .mx ![0, 0] S8.size (inb00 _ _) pos8
  let mx' ← chunks O lim slot hs j0 hf
    (matmul dotK none (shapeCast S512x128 k sc_k) (shapeCast S256x128 q sc_head) (constant S512x256 .f32 0x00000000#32)) 64 0 rfl mx
  setMx O mx'

/-- The exponentials of eight keys, and those limited to the codes' range. -/
def expo (m c : FVec F S8 .f32) (s : FVec F S1x8 .f32) : FVec F S8 .f32 := exp2 (mulf (subf (shapeCast S8 s sc_s) m) c)
def limited (e : FVec F S8 .f32) : FVec F S8 .f32 := minimumf e (broadcast S8 (Scalar.ofBits (F := F) .f32 0x43E00000#32))

/-- Thirty-two keys: their exponentials added to the sum, and their codes. -/
def group (slot : ℕ) (hs : slot < 2) (j0 : BitVec 32) (hf : Fits j0) (m c : FVec F S8 .f32) (g : ℕ) (hg : g < 16) (sm : FVec F S8 .f32) :
    M (FVec F S8 .f32 × FVec F S32x256 .fp8e4m3) := do
  let s0 ← O.rd .s ![slot, (Scalar.indexCast (Scalar.addi (Scalar.addi j0 (BitVec.ofNat 32 (32 * g))) (BitVec.ofNat 32 0))).toNat, 0] S1x8.size (inb_s2 hf hs (by omega)) pos1x8
  let s1 ← O.rd .s ![slot, (Scalar.indexCast (Scalar.addi (Scalar.addi j0 (BitVec.ofNat 32 (32 * g))) (BitVec.ofNat 32 8))).toNat, 0] S1x8.size (inb_s2 hf hs (by omega)) pos1x8
  let s2 ← O.rd .s ![slot, (Scalar.indexCast (Scalar.addi (Scalar.addi j0 (BitVec.ofNat 32 (32 * g))) (BitVec.ofNat 32 16))).toNat, 0] S1x8.size (inb_s2 hf hs (by omega)) pos1x8
  let s3 ← O.rd .s ![slot, (Scalar.indexCast (Scalar.addi (Scalar.addi j0 (BitVec.ofNat 32 (32 * g))) (BitVec.ofNat 32 24))).toNat, 0] S1x8.size (inb_s2 hf hs (by omega)) pos1x8
  pure (addf (addf (addf (addf sm (expo m c s0)) (expo m c s1)) (expo m c s2)) (expo m c s3),
    truncf .fp8e4m3 (concatenate S32x256 0 [⟨S8, limited (expo m c s0)⟩, ⟨S8, limited (expo m c s1)⟩, ⟨S8, limited (expo m c s2)⟩, ⟨S8, limited (expo m c s3)⟩] cc_codes) bl_fp8)

/-- One tile of values: the exponentials of slot `slot` into the sum, their codes through the values into the accumulator. -/
def values (slot : ℕ) (hs : slot < 2) (j0 : BitVec 32) (hf : Fits j0) : M PUnit := do
  let m ← O.rd .m ![0, 0] S8.size (inb00 _ _) pos8
  let c ← O.rd .c ![0, 0] S8.size (inb00 _ _) pos8
  let sm ← O.rd .sm ![0, 0] S8.size (inb00 _ _) pos8
  let g0 ← group O slot hs j0 hf m c 0 (by omega) sm
  let g1 ← group O slot hs j0 hf m c 1 (by omega) g0.1
  let g2 ← group O slot hs j0 hf m c 2 (by omega) g1.1
  let g3 ← group O slot hs j0 hf m c 3 (by omega) g2.1
  let g4 ← group O slot hs j0 hf m c 4 (by omega) g3.1
  let g5 ← group O slot hs j0 hf m c 5 (by omega) g4.1
  let g6 ← group O slot hs j0 hf m c 6 (by omega) g5.1
  let g7 ← group O slot hs j0 hf m c 7 (by omega) g6.1
  let g8 ← group O slot hs j0 hf m c 8 (by omega) g7.1
  let g9 ← group O slot hs j0 hf m c 9 (by omega) g8.1
  let g10 ← group O slot hs j0 hf m c 10 (by omega) g9.1
  let g11 ← group O slot hs j0 hf m c 11 (by omega) g10.1
  let g12 ← group O slot hs j0 hf m c 12 (by omega) g11.1
  let g13 ← group O slot hs j0 hf m c 13 (by omega) g12.1
  let g14 ← group O slot hs j0 hf m c 14 (by omega) g13.1
  let g15 ← group O slot hs j0 hf m c 15 (by omega) g14.1
  setSm O g15.1
  let acc ← O.rd .acc ![0, 0] Sacc.size (inb00 _ _) posAcc
  let vt ← O.rd .vt ![0, 0, 0, (Scalar.indexCast j0).toNat] S1x1x128x512.size (inb_vt hf) posVt
  setAcc O (addf acc (matmul dotV none (shapeCast S128x512 vt sc_vt)
    (concatenate S512x256 0 [⟨S32x256, g0.2⟩, ⟨S32x256, g1.2⟩, ⟨S32x256, g2.2⟩, ⟨S32x256, g3.2⟩, ⟨S32x256, g4.2⟩, ⟨S32x256, g5.2⟩, ⟨S32x256, g6.2⟩, ⟨S32x256, g7.2⟩,
      ⟨S32x256, g8.2⟩, ⟨S32x256, g9.2⟩, ⟨S32x256, g10.2⟩, ⟨S32x256, g11.2⟩, ⟨S32x256, g12.2⟩, ⟨S32x256, g13.2⟩, ⟨S32x256, g14.2⟩, ⟨S32x256, g15.2⟩] cc_tile)
    (constant Sacc .f32 0x00000000#32)))

/-- A head's scores are all there: the shift and the factor of its exponentials, and the maximum set back. -/
def finishScores (h : ℕ) (hh : h < 7) : M PUnit := do
  let mx ← O.rd .mx ![0, 0] S8.size (inb00 _ _) pos8
  let qs ← O.rd .qs ![0, 0, h, 0] S1x1x1x256.size (inb_qs hh) posQs
  let cs := mulf (shapeCast S1x256 qs sc_qs) (broadcast S1x256 (Scalar.ofBits (F := F) .f32 0x41800000#32))
  setM O (broadcastTo S8 (shapeCast S1x256 (subf (shapeCast S1x256 (multiReduction .maximumf [0] S256 mx 0xFF800000#32 red8 (.inl rfl) rfl) sc_256)
    (divf (broadcast S1x256 (Scalar.ofBits (F := F) .f32 0x41000000#32)) cs)) sc_1x256) bc_8)
  setC O (broadcastTo S8 (shapeCast S1x256 cs sc_1x256) bc_8)
  setMx O (broadcast S8 (Scalar.ofBits (F := F) .f32 0xFF800000#32))

/-- A head's values are all there: its columns of the result, and accumulator and sum set back. -/
def finishValues (h : ℕ) (hh : h < 7) : M PUnit := do
  let sm ← O.rd .sm ![0, 0] S8.size (inb00 _ _) pos8
  let acc ← O.rd .acc ![0, 0] Sacc.size (inb00 _ _) posAcc
  let vs ← O.rd .vs ![0, 0, 0, 0] Svs.size inbvs posVs
  let _ ← O.rd .out ![0, 0, 128 * h] S1x256x128.size (inb_head hh) posHead
  O.wrOut h hh (shapeCast S1x256x128 (truncf .bf16 (transpose S256x128 [1, 0]
    (divf (mulf acc (broadcastTo Sacc (shapeCast S128x1 vs sc_vs) bc_vs))
      (broadcastTo Sacc (shapeCast S1x256 (multiReduction .add [0] S256 sm 0x00000000#32 red8 (.inl rfl) rfl) sc_256) bc_sum)) tr_acc) bl_bf16) sc_head')
  setAcc O (broadcast Sacc (Scalar.ofBits (F := F) .f32 0x00000000#32))
  setSm O (broadcast S8 (Scalar.ofBits (F := F) .f32 0x00000000#32))

section Stages
variable (qb v1 : BitVec 32) (G : Good qb v1)

/-- The four loops over key tiles of one stage. -/
def tiles (body : (lim : Option (IVec S8 32)) → (j0 : BitVec 32) → Fits j0 → M PUnit) : M PUnit := do
  O.loop (lpA qb v1) G.okA fun t => body none (tileStart _ t) (G.fitA t)
  O.loop (lpB qb v1) G.okB fun t => body none (tileStart _ t) (G.fitB t)
  O.loop (lpC qb v1) G.okC fun t => body (some (limit qb v1)) (tileStart _ t) (G.fitC t)
  O.loop (lpD qb v1) G.okD fun t => body (some (limit qb v1)) (tileStart _ t) (G.fitD t)

/-- A stage between the first and the last: the scores of head `h + 1` and the values of head `h`. -/
def stage (h : ℕ) (hh : h + 1 < 7) : M PUnit := do
  tiles O qb v1 G fun lim j0 hf => do
    scores O lim (h + 1) hh ((h + 1) % 2) (Nat.mod_lt _ (by decide)) j0 hf
    values O (h % 2) (Nat.mod_lt _ (by decide)) j0 hf
  finishValues O h (by omega)
  finishScores O (h + 1) hh

end Stages

end Cert.Body

end
-- ==== Proof.Prog.lean ====
/-
  The abstract body at the kernel's own programs: a load is the load effect, a store the store effect, a loop `scf.for`.
-/
module

public import proofs.«01_k».proof.Proof.Body

@[expose] public section

noncomputable section

namespace Cert.Body

open Idealize.ShloMosaic Idealize.SL.Sem

theorem packed {h : ℕ} (hh : h < 7) : (Rect.unit (s := Sq) ![0, 0, 128 * h] S1x256x128.size (inb_head hh)).PackedRows (EltTy.packing .bf16) :=
  (by decide : ∀ h : Fin 7, (Rect.unit (s := Sq) ![0, 0, 128 * h.val] S1x256x128.size (inb_head h.isLt)).PackedRows (EltTy.packing .bf16)) ⟨h, hh⟩

/-- The memrefs the body is run on. -/
structure Mems (sig : RefSig) where
  mem : (b : Buf) → Memref sig .tc .vmem b.shape b.elt
  outWhole : (mem .out).IsWhole

variable {F : FTy → Type} [FloatOps F] {nD : ℕ} {τ : Topo} {sig : RefSig} {Λ : Labels}

/-- The kernel's programs as a machine. -/
def progOps (B : Mems sig) : Ops F (Prog (TpuEff nD τ sig (Elt F) Λ .tc)) where
  rd b off size inb h := Prog.lift (.load (B.mem b) (Rect.unit off size inb).toLoadRect (View.loadsAt_vmem h))
  wr b hb off size inb h v :=
    Prog.lift (.store (B.mem b) (Rect.unit off size inb) v Finset.univ (View.stores_vmem_bits_univ h hb) (.inl rfl))
  wrOut h hh v :=
    Prog.lift (.store (B.mem .out) (Rect.unit (s := Sq) ![0, 0, 128 * h] S1x256x128.size (inb_head hh)) v Finset.univ
      (View.stores_vmem posHead (B.outWhole.storeExact_slice rfl _ (packed hh)) (fun _ => rfl)) (.inl rfl))
  loop l ok body := Scf.Loop.for l ok ⟨⟩ fun t _ => body t

end Cert.Body

end
-- ==== Proof.Pure.lean ====
/-
  The body as a plain function of the buffers' contents, and the proof that the kernel's program runs as that function
  says: holding every buffer at the contents of a state, the program ends holding every buffer at the contents of the
  state the function returns, and the six operands are as they were.
-/
module

public import proofs.«01_k».proof.Proof.Prog
public import Idealize.ShloMosaic.Lib.Pipeline.TableIdle
public import Idealize.ShloMosaic.Lib.Writes

@[expose] public section

noncomputable section

namespace Cert.Body

open Idealize.ShloMosaic Idealize.ShloMosaic.TcCoe
open Idealize.SL
open Idealize.SL.BI (sProp bigSep bigSep_congr bigSep_univ_split)
open scoped Idealize.SL.BI
open Idealize.SL.BI.BIBase Idealize.SL.BI.Laws Idealize.SL.Sem Idealize.SL.ProofMode
open Idealize.SL.RA

instance : Fintype Buf where
  elems := {.q, .qs, .k, .ks, .vt, .vs, .out, .s, .ksb, .acc, .mx, .sm, .m, .c}
  complete := fun b => by cases b <;> decide

/-- The six operands, which the body only reads. -/
def Buf.operand : Buf → Bool
  | .q | .qs | .k | .ks | .vt | .vs => true
  | _ => false

/-- The contents of every buffer. -/
abbrev State (F : FTy → Type) : Type := (b : Buf) → b.shape.Idx → Elt F b.elt

/-- A computation on the buffers' contents. -/
def SM (F : FTy → Type) (α : Type) : Type := State F → α × State F

instance (F : FTy → Type) : Monad (SM F) where
  pure a := fun σ => (a, σ)
  bind f g := fun σ => g (f σ).1 (f σ).2

/-- The state with one buffer's contents replaced. -/
def State.set {F : FTy → Type} (σ : State F) (b : Buf) (x : b.shape.Idx → Elt F b.elt) : State F := Function.update σ b x

/-- The states a loop goes through: after `k` trips. -/
def after {F : FTy → Type} {n : ℕ} (body : Fin n → SM F PUnit) (σ : State F) : ℕ → State F
  | 0 => σ
  | k + 1 => if h : k < n then (body ⟨k, h⟩ (after body σ k)).2 else after body σ k

variable {F : FTy → Type} [FloatOps F]

/-- Plain functions of the buffers' contents as a machine. -/
def stOps : Ops F (SM F) where
  rd b off size inb _ := fun σ => (VecWindow.window (σ b) off size inb, σ)
  wr b _ off size _ _ v := fun σ => (⟨⟩, σ.set b (VecWindow.put (σ b) off size v))
  wrOut h _ v := fun σ => (⟨⟩, σ.set .out (VecWindow.put (s := Sq) (σ .out) ![0, 0, 128 * h] S1x256x128.size v))
  loop l _ body := fun σ => (⟨⟩, after body σ l.trips)

section
variable {nD : ℕ} {τ : Topo} {sig : RefSig} {Λ : Labels}

local notation "𝕄" => MT nD τ sig Unit (Elt F) ℕ (UR sig nD τ) ℕ

/-- Every buffer held, at the contents of a state. -/
def own (B : Mems sig) (c : Dev nD) (σ : State F) : sProp 𝕄 :=
  bigSep Finset.univ fun b : Buf => owns (c.tc : Thread nD τ) (B.mem b) fullShare (σ b)

variable {defs : Defs nD τ sig (Elt F) Λ} {𝒱 : Variants} {B : Mems sig} {c : Dev nD} {E : Set ℕ}

variable (defs 𝒱 B c E) in
/-- The program `p` runs as the function `f` says. -/
structure Sim {α : Type} (p : Prog (TpuEff nD τ sig (Elt F) Λ .tc) α) (f : SM F α) : Prop where
  runs : ∀ (σ : State F) (Q : α → sProp 𝕄),
    iprop(own B c σ ∗ (own B c (f σ).2 -∗ Q (f σ).1)) ⊢ wp frame (wpE defs 𝒱 (c.tc : Thread nD τ) none) E p Q
  keeps : ∀ (σ : State F) (b : Buf), b.operand = true → (f σ).2 b = σ b

theorem Sim.pure {α : Type} (a : α) : Sim defs 𝒱 B c E (Pure.pure a) (Pure.pure a) where
  runs σ Q := by
    show _ ⊢ wp frame (wpE defs 𝒱 (c.tc : Thread nD τ) none) E (Prog.ret a) Q
    rw [wp_ret]
    iintro ⟨H, HQ⟩
    imodintro
    iapply HQ $$ H
  keeps _ _ _ := rfl

theorem Sim.bind {α β : Type} {p : Prog (TpuEff nD τ sig (Elt F) Λ .tc) α} {f : SM F α}
    {k : α → Prog (TpuEff nD τ sig (Elt F) Λ .tc) β} {g : α → SM F β} (hp : Sim defs 𝒱 B c E p f) (hk : ∀ a, Sim defs 𝒱 B c E (k a) (g a)) : Sim defs 𝒱 B c E (p >>= k) (f >>= g) where
  runs σ Q := by
    rw [wp_bind]
    refine Entails.trans ?_ (hp.runs σ _)
    iintro ⟨H, HQ⟩
    isplitl [H]
    · iexact H
    · iintro H
      iapply ((hk (f σ).1).runs (f σ).2 Q)
      isplitl [H] <;> iassumption
  keeps σ b hb := ((hk (f σ).1).keeps (f σ).2 b hb).trans (hp.keeps σ b hb)

theorem own_split (b : Buf) (σ : State F) : (own B c σ : sProp 𝕄)
    = iprop(owns (c.tc : Thread nD τ) (B.mem b) fullShare (σ b) ∗ bigSep (Finset.univ.erase b) fun b' : Buf => owns (c.tc : Thread nD τ) (B.mem b') fullShare (σ b')) :=
  bigSep_univ_split b

theorem own_set (b : Buf) (σ : State F) (x : b.shape.Idx → Elt F b.elt) : (own B c (σ.set b x) : sProp 𝕄)
    = iprop(owns (c.tc : Thread nD τ) (B.mem b) fullShare x ∗ bigSep (Finset.univ.erase b) fun b' : Buf => owns (c.tc : Thread nD τ) (B.mem b') fullShare (σ b')) := by
  rw [own_split b]
  congr 1
  · rw [State.set, Function.update_self]
  · refine bigSep_congr fun b' hb' => ?_
    rw [State.set, Function.update_of_ne (Finset.ne_of_mem_erase hb')]

theorem Sim.rd (b : Buf) (off size : Fin b.shape.rank → ℕ) (inb : ∀ a, off a + size a ≤ b.shape.size a) (h : 0 < (⟨b.shape.rank, size⟩ : Shape).numel) :
    Sim defs 𝒱 B c E ((progOps B).rd b off size inb h) (stOps.rd b off size inb h) where
  runs σ Q := by
    show _ ⊢ wp frame (wpE defs 𝒱 (c.tc : Thread nD τ) none) E (Prog.lift (.load (B.mem b) (Rect.unit off size inb).toLoadRect (View.loadsAt_vmem h))) Q
    show iprop(own B c σ ∗ (own B c σ -∗ Q (VecWindow.window (σ b) off size inb))) ⊢ _
    rw [own_split b σ]
    rw [owns_eq_rep]
    iintro ⟨⟨H, HR⟩, HQ⟩
    iapply (wp_load 𝒱 (c.tc : Thread nD τ) none E (k := Prog.ret) (q := fullShare) (f := (B.mem b).view.rep (σ b)) (S := (B.mem b).view.set) (View.setOn_subset_set _ _)) $$ H
    iintro H
    rw [wp_ret, View.readAt_rep_unit (B.mem b).view (σ b) inb rfl inb]
    imodintro
    iapply HQ
    isplitl [H] <;> iassumption
  keeps _ _ _ := rfl

/-- A store of a window, whatever the reason the machine allows it. -/
theorem runs_store (b : Buf) (off size : Fin b.shape.rank → ℕ) (inb : ∀ a, off a + size a ≤ b.shape.size a)
    (v : Vec F ⟨b.shape.rank, size⟩ b.elt) (hx : ((B.mem b).access (Rect.unit off size inb)).Stores Finset.univ) (hm)
    (σ : State F) (Q : PUnit → sProp 𝕄) :
    iprop(own B c σ ∗ (own B c (σ.set b (VecWindow.put (σ b) off size v)) -∗ Q ⟨⟩))
      ⊢ wp frame (wpE defs 𝒱 (c.tc : Thread nD τ) none) E (Prog.lift (.store (B.mem b) (Rect.unit off size inb) v Finset.univ hx hm)) Q := by
  rw [own_split b σ, own_set]
  rw [owns_eq_rep]
  iintro ⟨⟨H, HR⟩, HQ⟩
  iapply (wp_store_writes₀ 𝒱 (c.tc : Thread nD τ) none E (k := Prog.ret) (f := (B.mem b).view.rep (σ b)) (S := (B.mem b).view.set) (w := v) (hx := hx) (hm := hm) (View.set_slice_subset _ _)) $$ H
  iintro H
  rw [wp_ret]
  imodintro
  iapply HQ
  isplitl [H]
  · unfold owns
    iexists _
    isplitr
    · ipureintro; exact View.read_writes_rep_unit (B.mem b).view (σ b) inb v rfl
    · iexact H
  · iexact HR

theorem Sim.wr (b : Buf) (hb : b.elt.bits = 32) (hop : b.operand = false) (off size : Fin b.shape.rank → ℕ) (inb : ∀ a, off a + size a ≤ b.shape.size a)
    (h : 0 < (⟨b.shape.rank, size⟩ : Shape).numel) (v : Vec F ⟨b.shape.rank, size⟩ b.elt) :
    Sim defs 𝒱 B c E ((progOps B).wr b hb off size inb h v) (stOps.wr b hb off size inb h v) where
  runs σ Q := runs_store b off size inb v _ _ σ Q
  keeps σ b' hb' := Function.update_of_ne (by rintro rfl; rw [hop] at hb'; exact absurd hb' (by decide)) _ _

theorem Sim.wrOut (h : ℕ) (hh : h < 7) (v : Vec F S1x256x128 .bf16) : Sim defs 𝒱 B c E ((progOps B).wrOut h hh v) (stOps.wrOut h hh v) where
  runs σ Q := runs_store .out ![0, 0, 128 * h] S1x256x128.size (inb_head hh) v _ _ σ Q
  keeps σ b' hb' := Function.update_of_ne (by rintro rfl; exact absurd hb' (by decide)) _ _

theorem Sim.loop (l : Scf.Loop 32) (ok : l.OK) {body : Fin l.trips → Prog (TpuEff nD τ sig (Elt F) Λ .tc) PUnit} {f : Fin l.trips → SM F PUnit}
    (hbody : ∀ t, Sim defs 𝒱 B c E (body t) (f t)) : Sim defs 𝒱 B c E ((progOps B).loop l ok body) (stOps.loop l ok f) where
  runs σ Q := by
    show iprop(own B c σ ∗ (own B c (after f σ l.trips) -∗ Q ⟨⟩)) ⊢ wp frame (wpE defs 𝒱 (c.tc : Thread nD τ) none) E (Scf.for l.lb l.ub l.st ok ⟨⟩ fun t _ => body t) Q
    refine Entails.trans ?_ (Scf.wp_for frame (wpE defs 𝒱 (c.tc : Thread nD τ) none) E l.lb l.ub l.st ok PUnit.unit (fun t _ => body t)
      (fun k _ => own B c (after f σ k)) (fun k _ => ?_))
    · iintro ⟨H, HQ⟩
      isplitl [H]
      · iexact H
      · iintro %a H
        iapply HQ $$ H
    · refine Entails.trans ?_ ((hbody k).runs (after f σ k) _)
      have e : after f σ (k.val + 1) = (f k (after f σ k)).2 := by rw [after, dif_pos k.isLt]
      rw [e]
      iintro H
      isplitl [H]
      · iexact H
      · iintro H; iexact H
  keeps σ b hb := by
    show after f σ l.trips b = σ b
    have : ∀ k, after f σ k b = σ b := fun k => by
      induction k with
      | zero => rfl
      | succ k ih =>
        rw [after]
        split
        · next hk => exact ((hbody ⟨k, hk⟩).keeps _ b hb).trans ih
        · exact ih
    exact this _

/-! ## The body's programs run as its functions -/

theorem Sim.ksbRow (sc : F .f32) (t : ℕ) (ht : t < 36) : Sim defs 𝒱 B c E (ksbRow (progOps (F := F) (nD := nD) (τ := τ) (Λ := Λ) B) sc t ht) (ksbRow (stOps (F := F)) sc t ht) :=
  (Sim.rd ..).bind fun _ => (Sim.rd ..).bind fun _ => Sim.wr _ _ rfl ..

theorem Sim.ksbRows (sc : F .f32) (n t : ℕ) (h : t + n = 36) : Sim defs 𝒱 B c E (ksbRows (progOps (F := F) (nD := nD) (τ := τ) (Λ := Λ) B) sc n t h) (ksbRows (stOps (F := F)) sc n t h) := by
  induction n generalizing t with
  | zero => exact Sim.pure _
  | succ n ih => exact (Sim.ksbRow sc t (by omega)).bind fun _ => ih (t + 1) (by omega)

theorem Sim.setAcc (v : FVec F Sacc .f32) : Sim defs 𝒱 B c E (setAcc (progOps (F := F) (nD := nD) (τ := τ) (Λ := Λ) B) v) (setAcc (stOps (F := F)) v) := (Sim.rd ..).bind fun _ => Sim.wr _ _ rfl ..
theorem Sim.setMx (v : FVec F S8 .f32) : Sim defs 𝒱 B c E (setMx (progOps (F := F) (nD := nD) (τ := τ) (Λ := Λ) B) v) (setMx (stOps (F := F)) v) := (Sim.rd ..).bind fun _ => Sim.wr _ _ rfl ..
theorem Sim.setSm (v : FVec F S8 .f32) : Sim defs 𝒱 B c E (setSm (progOps (F := F) (nD := nD) (τ := τ) (Λ := Λ) B) v) (setSm (stOps (F := F)) v) := (Sim.rd ..).bind fun _ => Sim.wr _ _ rfl ..
theorem Sim.setM (v : FVec F S8 .f32) : Sim defs 𝒱 B c E (setM (progOps (F := F) (nD := nD) (τ := τ) (Λ := Λ) B) v) (setM (stOps (F := F)) v) := (Sim.rd ..).bind fun _ => Sim.wr _ _ rfl ..
theorem Sim.setC (v : FVec F S8 .f32) : Sim defs 𝒱 B c E (setC (progOps (F := F) (nD := nD) (τ := τ) (Λ := Λ) B) v) (setC (stOps (F := F)) v) := (Sim.rd ..).bind fun _ => Sim.wr _ _ rfl ..

theorem Sim.chunk (lim : Option (IVec S8 32)) (slot : ℕ) (hs : slot < 2) (j0 : BitVec 32) (hf : Fits j0) (p : FVec F S512x256 .f32)
    (r : ℕ) (hr : r < 64) (mx : FVec F S8 .f32) : Sim defs 𝒱 B c E (chunk (progOps (F := F) (nD := nD) (τ := τ) (Λ := Λ) B) lim slot hs j0 hf p r hr mx) (chunk (stOps (F := F)) lim slot hs j0 hf p r hr mx) :=
  (Sim.rd ..).bind fun _ => (Sim.rd ..).bind fun _ => (Sim.wr _ _ rfl ..).bind fun _ => Sim.pure _

theorem Sim.chunks (lim : Option (IVec S8 32)) (slot : ℕ) (hs : slot < 2) (j0 : BitVec 32) (hf : Fits j0) (p : FVec F S512x256 .f32)
    (n r : ℕ) (h : r + n = 64) (mx : FVec F S8 .f32) :
    Sim defs 𝒱 B c E (chunks (progOps (F := F) (nD := nD) (τ := τ) (Λ := Λ) B) lim slot hs j0 hf p n r h mx) (chunks (stOps (F := F)) lim slot hs j0 hf p n r h mx) := by
  induction n generalizing r mx with
  | zero => exact Sim.pure _
  | succ n ih => exact (Sim.chunk lim slot hs j0 hf p r (by omega) mx).bind fun _ => ih (r + 1) (by omega) _

theorem Sim.scores (lim : Option (IVec S8 32)) (h : ℕ) (hh : h < 7) (slot : ℕ) (hs : slot < 2) (j0 : BitVec 32) (hf : Fits j0) :
    Sim defs 𝒱 B c E (scores (progOps (F := F) (nD := nD) (τ := τ) (Λ := Λ) B) lim h hh slot hs j0 hf) (scores (stOps (F := F)) lim h hh slot hs j0 hf) :=
  (Sim.rd ..).bind fun _ => (Sim.rd ..).bind fun _ => (Sim.rd ..).bind fun _ => (Sim.chunks ..).bind fun _ => Sim.setMx _

theorem Sim.group (slot : ℕ) (hs : slot < 2) (j0 : BitVec 32) (hf : Fits j0) (m c' : FVec F S8 .f32) (g : ℕ) (hg : g < 16) (sm : FVec F S8 .f32) :
    Sim defs 𝒱 B c E (group (progOps (F := F) (nD := nD) (τ := τ) (Λ := Λ) B) slot hs j0 hf m c' g hg sm) (group (stOps (F := F)) slot hs j0 hf m c' g hg sm) :=
  (Sim.rd ..).bind fun _ => (Sim.rd ..).bind fun _ => (Sim.rd ..).bind fun _ => (Sim.rd ..).bind fun _ => Sim.pure _

theorem Sim.values (slot : ℕ) (hs : slot < 2) (j0 : BitVec 32) (hf : Fits j0) :
    Sim defs 𝒱 B c E (values (progOps (F := F) (nD := nD) (τ := τ) (Λ := Λ) B) slot hs j0 hf) (values (stOps (F := F)) slot hs j0 hf) :=
  (Sim.rd ..).bind fun _ => (Sim.rd ..).bind fun _ => (Sim.rd ..).bind fun _ =>
  (Sim.group ..).bind fun _ => (Sim.group ..).bind fun _ => (Sim.group ..).bind fun _ => (Sim.group ..).bind fun _ =>
  (Sim.group ..).bind fun _ => (Sim.group ..).bind fun _ => (Sim.group ..).bind fun _ => (Sim.group ..).bind fun _ =>
  (Sim.group ..).bind fun _ => (Sim.group ..).bind fun _ => (Sim.group ..).bind fun _ => (Sim.group ..).bind fun _ =>
  (Sim.group ..).bind fun _ => (Sim.group ..).bind fun _ => (Sim.group ..).bind fun _ => (Sim.group ..).bind fun _ =>
  (Sim.setSm _).bind fun _ => (Sim.rd ..).bind fun _ => (Sim.rd ..).bind fun _ => Sim.setAcc _

theorem Sim.finishScores (h : ℕ) (hh : h < 7) : Sim defs 𝒱 B c E (finishScores (progOps (F := F) (nD := nD) (τ := τ) (Λ := Λ) B) h hh) (finishScores (stOps (F := F)) h hh) :=
  (Sim.rd ..).bind fun _ => (Sim.rd ..).bind fun _ => (Sim.setM _).bind fun _ => (Sim.setC _).bind fun _ => Sim.setMx _

theorem Sim.finishValues (h : ℕ) (hh : h < 7) : Sim defs 𝒱 B c E (finishValues (progOps (F := F) (nD := nD) (τ := τ) (Λ := Λ) B) h hh) (finishValues (stOps (F := F)) h hh) :=
  (Sim.rd ..).bind fun _ => (Sim.rd ..).bind fun _ => (Sim.rd ..).bind fun _ => (Sim.rd ..).bind fun _ =>
  (Sim.wrOut ..).bind fun _ => (Sim.setAcc _).bind fun _ => Sim.setSm _

section
variable (qb v1 : BitVec 32) (G : Good qb v1)

theorem Sim.tiles {bp : (lim : Option (IVec S8 32)) → (j0 : BitVec 32) → Fits j0 → Prog (TpuEff nD τ sig (Elt F) Λ .tc) PUnit}
    {bs : (lim : Option (IVec S8 32)) → (j0 : BitVec 32) → Fits j0 → SM F PUnit}
    (h : ∀ lim j0 hf, Sim defs 𝒱 B c E (bp lim j0 hf) (bs lim j0 hf)) : Sim defs 𝒱 B c E (tiles (progOps (F := F) (nD := nD) (τ := τ) (Λ := Λ) B) qb v1 G bp) (tiles (stOps (F := F)) qb v1 G bs) :=
  (Sim.loop _ _ fun _ => h ..).bind fun _ => (Sim.loop _ _ fun _ => h ..).bind fun _ => (Sim.loop _ _ fun _ => h ..).bind fun _ => Sim.loop _ _ fun _ => h ..

theorem Sim.stage (h : ℕ) (hh : h + 1 < 7) : Sim defs 𝒱 B c E (stage (progOps (F := F) (nD := nD) (τ := τ) (Λ := Λ) B) qb v1 G h hh) (stage (stOps (F := F)) qb v1 G h hh) :=
  (Sim.tiles (F := F) qb v1 G fun _ _ _ => (Sim.scores ..).bind fun _ => Sim.values ..).bind fun _ => (Sim.finishValues ..).bind fun _ => Sim.finishScores ..

end

end

end Cert.Body

end
-- ==== Proof.Parts.lean ====
/-
  The body cut where the printed program is cut.  The printed text comes in windows of sixty statements; a window that
  contains loops is one term of the program, so the program is first read in windows, and then shown to compute what
  the body of Body.lean computes.
-/
module

public import proofs.«01_k».proof.Proof.Pure
public import Idealize.ShloMosaic.Lib.Tactic

@[expose] public section

noncomputable section

namespace Cert.Body

open Idealize.ShloMosaic Idealize.ShloMosaic.TcCoe Idealize.ShloMosaic.Tactic
open Idealize.SL.Sem

universe u
variable {F : FTy → Type} [FloatOps F] {M : Type → Type u} [Monad M] (O : Ops F M)

def mxRow (mx : FVec F S8 .f32) : FVec F S1x256 .f32 := shapeCast S1x256 (multiReduction .maximumf [0] S256 mx 0xFF800000#32 red8 (.inl rfl) rfl) sc_256
def smRow (sm : FVec F S8 .f32) : FVec F S1x256 .f32 := shapeCast S1x256 (multiReduction .add [0] S256 sm 0x00000000#32 red8 (.inl rfl) rfl) sc_256
def qsRow (qs : FVec F S1x1x1x256 .f32) : FVec F S1x256 .f32 := shapeCast S1x256 qs sc_qs
/-- the shift of the exponentials, -/
def shiftOf (a b : FVec F S1x256 .f32) (c : F .f32) : FVec F S8 .f32 :=
  broadcastTo S8 (shapeCast S1x256 (subf a (divf (broadcast S1x256 (Scalar.ofBits (F := F) .f32 0x41000000#32)) (mulf b (broadcast S1x256 c)))) sc_1x256) bc_8
/-- their factor, -/
def factorOf (b : FVec F S1x256 .f32) (c : F .f32) : FVec F S8 .f32 := broadcastTo S8 (shapeCast S1x256 (mulf b (broadcast S1x256 c)) sc_1x256) bc_8
/-- the accumulator by the scales of the values, -/
def scaled (acc : FVec F Sacc .f32) (vs : FVec F Svs .f32) : FVec F Sacc .f32 := mulf acc (broadcastTo Sacc (shapeCast S128x1 vs sc_vs) bc_vs)
/-- and a head's columns of the result. -/
def outOf (av : FVec F Sacc .f32) (row : FVec F S1x256 .f32) : FVec F S1x256x128 .bf16 :=
  shapeCast S1x256x128 (truncf .bf16 (transpose S256x128 [1, 0] (divf av (broadcastTo Sacc row bc_sum)) tr_acc) bl_bf16) sc_head'

def zeros8 : FVec F S8 .f32 := broadcast S8 (Scalar.ofBits (F := F) .f32 0x00000000#32)
def zerosAcc : FVec F Sacc .f32 := broadcast Sacc (Scalar.ofBits (F := F) .f32 0x00000000#32)
def lows8 : FVec F S8 .f32 := broadcast S8 (Scalar.ofBits (F := F) .f32 0xFF800000#32)
def sixteen : F .f32 := Scalar.ofBits .f32 0x41800000#32

def rdMx : M (FVec F S8 .f32) := O.rd .mx ![0, 0] S8.size (inb00 _ _) pos8
def rdSm : M (FVec F S8 .f32) := O.rd .sm ![0, 0] S8.size (inb00 _ _) pos8
def rdAcc : M (FVec F Sacc .f32) := O.rd .acc ![0, 0] Sacc.size (inb00 _ _) posAcc
def rdVs : M (FVec F Svs .f32) := O.rd .vs ![0, 0, 0, 0] Svs.size inbvs posVs
def rdQs (h : ℕ) (hh : h < 7) : M (FVec F S1x1x1x256 .f32) := O.rd .qs ![0, 0, h, 0] S1x1x1x256.size (inb_qs hh) posQs
def rdOut (h : ℕ) (hh : h < 7) : M (FVec F S1x256x128 .bf16) := O.rd .out ![0, 0, 128 * h] S1x256x128.size (inb_head hh) posHead

def shifts (a b : FVec F S1x256 .f32) (c : F .f32) : M PUnit := do
  setM O (shiftOf a b c)
  setC O (factorOf b c)
  setMx O lows8

section
variable (qb v1 : BitVec 32) (G : Good qb v1) (nA nF : BitVec 32) (L : IVec S8 32)
variable (body : (lim : Option (IVec S8 32)) → (j0 : BitVec 32) → Fits j0 → M PUnit)

def loopA : M PUnit := O.loop (lpA qb v1) G.okA fun t => body none (tileStart _ t) (G.fitA t)
def loopB : M PUnit := O.loop (lpB qb v1) G.okB fun t => body none (tileStart _ t) (G.fitB t)
def loopC : M PUnit := O.loop (lpC qb v1) G.okC fun t => body (some L) (tileStart _ t) (G.fitC t)
def loopD : M PUnit := O.loop (lpD qb v1) G.okD fun t => body (some L) (tileStart _ t) (G.fitD t)

/-- one tile of a stage: scores of head `h + 1`, values of head `h` -/
def both (h : ℕ) (hh : h + 1 < 7) (lim : Option (IVec S8 32)) (j0 : BitVec 32) (hf : Fits j0) : M PUnit := do
  scores O lim (h + 1) hh ((h + 1) % 2) (Nat.mod_lt _ (by decide)) j0 hf
  values O (h % 2) (Nat.mod_lt _ (by decide)) j0 hf

def first : M PUnit := do
  setMx O lows8
  setAcc O zerosAcc
  setSm O zeros8

abbrev Rows (F : FTy → Type) : Type := Σ' (_ : FVec F S1x256 .f32) (_ : FVec F S1x256 .f32), F .f32

def part1 : M (Rows F) := do
  setMx O lows8
  setAcc O zerosAcc
  setSm O zeros8
  loopA O qb v1 G fun lim j0 hf => scores O lim 0 (by omega) 0 (by omega) j0 hf
  loopB O qb v1 G fun lim j0 hf => scores O lim 0 (by omega) 0 (by omega) j0 hf
  loopC O qb v1 G L fun lim j0 hf => scores O lim 0 (by omega) 0 (by omega) j0 hf
  loopD O qb v1 G L fun lim j0 hf => scores O lim 0 (by omega) 0 (by omega) j0 hf
  let mx ← rdMx O
  let qs ← rdQs O 0 (by omega)
  pure ⟨mxRow mx, qsRow qs, sixteen⟩

def part2 (r : Rows F) : M (FVec F S1x256 .f32) := do
  shifts O r.1 r.2.1 r.2.2
  loopA O qb v1 G (both O 0 (by omega))
  loopB O qb v1 G (both O 0 (by omega))
  loopC O qb v1 G L (both O 0 (by omega))
  loopD O qb v1 G L (both O 0 (by omega))
  let sm ← rdSm O
  pure (smRow sm)

def part3 (row : FVec F S1x256 .f32) : M (Σ' (_ : FVec F S1x256 .f32), FVec F Sacc .f32) := do
  let acc ← rdAcc O
  let vs ← rdVs O
  let _ ← rdOut O 0 (by omega)
  O.wrOut 0 (by omega) (outOf (scaled acc vs) row)
  setAcc O zerosAcc
  setSm O zeros8
  finishScores O 1 (by omega)
  loopA O qb v1 G (both O 1 (by omega))
  loopB O qb v1 G (both O 1 (by omega))
  loopC O qb v1 G L (both O 1 (by omega))
  loopD O qb v1 G L (both O 1 (by omega))
  let sm ← rdSm O
  let acc ← rdAcc O
  let vs ← rdVs O
  pure ⟨smRow sm, scaled acc vs⟩

def part4 (r : Σ' (_ : FVec F S1x256 .f32), FVec F Sacc .f32) : M (FVec F S1x256x128 .bf16) := do
  let _ ← rdOut O 1 (by omega)
  O.wrOut 1 (by omega) (outOf r.2 r.1)
  setAcc O zerosAcc
  setSm O zeros8
  finishScores O 2 (by omega)
  loopA O qb v1 G (both O 2 (by omega))
  loopB O qb v1 G (both O 2 (by omega))
  loopC O qb v1 G L (both O 2 (by omega))
  loopD O qb v1 G L (both O 2 (by omega))
  let sm ← rdSm O
  let acc ← rdAcc O
  let vs ← rdVs O
  let _ ← rdOut O 2 (by omega)
  pure (outOf (scaled acc vs) (smRow sm))

def part5 (o : FVec F S1x256x128 .bf16) : M (F .f32) := do
  O.wrOut 2 (by omega) o
  setAcc O zerosAcc
  setSm O zeros8
  finishScores O 3 (by omega)
  loopA O qb v1 G (both O 3 (by omega))
  loopB O qb v1 G (both O 3 (by omega))
  loopC O qb v1 G L (both O 3 (by omega))
  loopD O qb v1 G L (both O 3 (by omega))
  let sm ← rdSm O
  let acc ← rdAcc O
  let vs ← rdVs O
  let _ ← rdOut O 3 (by omega)
  O.wrOut 3 (by omega) (outOf (scaled acc vs) (smRow sm))
  setAcc O zerosAcc
  pure (Scalar.ofBits .f32 0x00000000#32)

def part6 (z : F .f32) : M (BitVec 32) := do
  setSm O (broadcast S8 z)
  finishScores O 4 (by omega)
  loopA O qb v1 G (both O 4 (by omega))
  pure (Scalar.addi 0#32 (Scalar.muli (Scalar.divsi (Scalar.subi nF 0#32) 1#32) 1#32))

def part7 : M (FVec F S8 .f32) := do
  loopB O qb v1 G (both O 4 (by omega))
  loopC O qb v1 G L (both O 4 (by omega))
  loopD O qb v1 G L (both O 4 (by omega))
  let sm ← rdSm O
  let acc ← rdAcc O
  let vs ← rdVs O
  let _ ← rdOut O 4 (by omega)
  O.wrOut 4 (by omega) (outOf (scaled acc vs) (smRow sm))
  setAcc O zerosAcc
  setSm O zeros8
  rdMx O

def part8 (mx : FVec F S8 .f32) : M (Σ' (_ : BitVec 32), BitVec 32) := do
  let qs ← rdQs O 5 (by omega)
  shifts O (mxRow mx) (qsRow qs) sixteen
  loopA O qb v1 G (both O 5 (by omega))
  loopB O qb v1 G (both O 5 (by omega))
  pure ⟨Scalar.addi nF (Scalar.muli (Scalar.divsi (Scalar.subi nA nF) 1#32) 1#32), 1#32⟩

theorem part8_bind [LawfulMonad M] {β : Type} (mx : FVec F S8 .f32) (g : (Σ' (_ : BitVec 32), BitVec 32) → M β) :
    part8 O qb v1 G nA nF mx >>= g = rdQs O 5 (by omega) >>= fun qs => shifts O (mxRow mx) (qsRow qs) sixteen >>= fun _ =>
      loopA O qb v1 G (both O 5 (by omega)) >>= fun _ => loopB O qb v1 G (both O 5 (by omega)) >>= fun _ =>
      g ⟨Scalar.addi nF (Scalar.muli (Scalar.divsi (Scalar.subi nA nF) 1#32) 1#32), 1#32⟩ := by
  unfold part8
  simp only [bind_assoc, pure_bind]

def part9 : M (Rows F) := do
  loopC O qb v1 G L (both O 5 (by omega))
  loopD O qb v1 G L (both O 5 (by omega))
  let sm ← rdSm O
  let acc ← rdAcc O
  let vs ← rdVs O
  let _ ← rdOut O 5 (by omega)
  O.wrOut 5 (by omega) (outOf (scaled acc vs) (smRow sm))
  setAcc O zerosAcc
  setSm O zeros8
  let mx ← rdMx O
  let qs ← rdQs O 6 (by omega)
  pure ⟨mxRow mx, qsRow qs, sixteen⟩

def part10 (r : Rows F) : M (FVec F S1x256 .f32) := do
  shifts O r.1 r.2.1 r.2.2
  loopA O qb v1 G fun _ j0 hf => values O 0 (by omega) j0 hf
  loopB O qb v1 G fun _ j0 hf => values O 0 (by omega) j0 hf
  loopC O qb v1 G L fun _ j0 hf => values O 0 (by omega) j0 hf
  loopD O qb v1 G L fun _ j0 hf => values O 0 (by omega) j0 hf
  let sm ← rdSm O
  pure (smRow sm)

def part11 (row : FVec F S1x256 .f32) : M PUnit := do
  let acc ← rdAcc O
  let vs ← rdVs O
  let _ ← rdOut O 6 (by omega)
  O.wrOut 6 (by omega) (outOf (scaled acc vs) row)
  setAcc O zerosAcc
  setSm O zeros8

/-- The body but for the spreading of the key scales, in windows. -/
def windows : M PUnit := do
  let r1 ← part1 O qb v1 G L
  let r2 ← part2 O qb v1 G L r1
  let r3 ← part3 O qb v1 G L r2
  let r4 ← part4 O qb v1 G L r3
  let r5 ← part5 O qb v1 G L r4
  let _ ← part6 O qb v1 G nF r5
  let r7 ← part7 O qb v1 G L
  let _ ← part8 O qb v1 G nA nF r7
  let r9 ← part9 O qb v1 G L
  let r10 ← part10 O qb v1 G L r9
  part11 O r10

end

/-- One at the first query tile. -/
def atFirst (qb : BitVec 32) : BitVec 1 := Scalar.cmpi .ne (Scalar.extui (Scalar.cmpi .eq qb 0#32) : BitVec 32) 0#32

/-- The body, after the prefix length has been read. -/
def whole (qb v1 : BitVec 32) (G : Good qb v1) (sc : F .f32) : M PUnit :=
  if atFirst qb = 1#1 then ksbRows O sc 36 0 rfl >>= fun _ => windows O qb v1 G (nAll qb v1) (nFull qb v1) (limit qb v1)
  else windows O qb v1 G (nAll qb v1) (nFull qb v1) (limit qb v1)

/-! ## The windows' programs run as their functions -/

section
variable {nD : ℕ} {τ : Topo} {sig : RefSig} {Λ : Labels} {defs : Defs nD τ sig (Elt F) Λ} {𝒱 : Variants} {B : Mems sig} {c : Dev nD} {E : Set ℕ}

theorem Sim.rdMx : Sim defs 𝒱 B c E (rdMx (progOps (F := F) (nD := nD) (τ := τ) (Λ := Λ) B)) (rdMx (stOps (F := F))) := Sim.rd ..
theorem Sim.rdSm : Sim defs 𝒱 B c E (rdSm (progOps (F := F) (nD := nD) (τ := τ) (Λ := Λ) B)) (rdSm (stOps (F := F))) := Sim.rd ..
theorem Sim.rdAcc : Sim defs 𝒱 B c E (rdAcc (progOps (F := F) (nD := nD) (τ := τ) (Λ := Λ) B)) (rdAcc (stOps (F := F))) := Sim.rd ..
theorem Sim.rdVs : Sim defs 𝒱 B c E (rdVs (progOps (F := F) (nD := nD) (τ := τ) (Λ := Λ) B)) (rdVs (stOps (F := F))) := Sim.rd ..
theorem Sim.rdQs (h : ℕ) (hh : h < 7) : Sim defs 𝒱 B c E (rdQs (progOps (F := F) (nD := nD) (τ := τ) (Λ := Λ) B) h hh) (rdQs (stOps (F := F)) h hh) := Sim.rd ..
theorem Sim.rdOut (h : ℕ) (hh : h < 7) : Sim defs 𝒱 B c E (rdOut (progOps (F := F) (nD := nD) (τ := τ) (Λ := Λ) B) h hh) (rdOut (stOps (F := F)) h hh) := Sim.rd ..

theorem Sim.shifts (a b : FVec F S1x256 .f32) (x : F .f32) : Sim defs 𝒱 B c E (shifts (progOps (F := F) (nD := nD) (τ := τ) (Λ := Λ) B) a b x) (shifts (stOps (F := F)) a b x) :=
  (Sim.setM _).bind fun _ => (Sim.setC _).bind fun _ => Sim.setMx _

theorem Sim.both (h : ℕ) (hh : h + 1 < 7) (lim : Option (IVec S8 32)) (j0 : BitVec 32) (hf : Fits j0) :
    Sim defs 𝒱 B c E (both (progOps (F := F) (nD := nD) (τ := τ) (Λ := Λ) B) h hh lim j0 hf) (both (stOps (F := F)) h hh lim j0 hf) :=
  (Sim.scores ..).bind fun _ => Sim.values ..

variable (qb v1 : BitVec 32) (G : Good qb v1) (nA nF : BitVec 32) (L : IVec S8 32)

section
variable {bp : (lim : Option (IVec S8 32)) → (j0 : BitVec 32) → Fits j0 → Prog (TpuEff nD τ sig (Elt F) Λ .tc) PUnit}
    {bs : (lim : Option (IVec S8 32)) → (j0 : BitVec 32) → Fits j0 → SM F PUnit}
    (h : ∀ lim j0 hf, Sim defs 𝒱 B c E (bp lim j0 hf) (bs lim j0 hf))
include h
theorem Sim.loopA : Sim defs 𝒱 B c E (loopA (progOps (F := F) (nD := nD) (τ := τ) (Λ := Λ) B) qb v1 G bp) (loopA (stOps (F := F)) qb v1 G bs) := Sim.loop _ _ fun _ => h ..
theorem Sim.loopB : Sim defs 𝒱 B c E (loopB (progOps (F := F) (nD := nD) (τ := τ) (Λ := Λ) B) qb v1 G bp) (loopB (stOps (F := F)) qb v1 G bs) := Sim.loop _ _ fun _ => h ..
theorem Sim.loopC : Sim defs 𝒱 B c E (loopC (progOps (F := F) (nD := nD) (τ := τ) (Λ := Λ) B) qb v1 G L bp) (loopC (stOps (F := F)) qb v1 G L bs) := Sim.loop _ _ fun _ => h ..
theorem Sim.loopD : Sim defs 𝒱 B c E (loopD (progOps (F := F) (nD := nD) (τ := τ) (Λ := Λ) B) qb v1 G L bp) (loopD (stOps (F := F)) qb v1 G L bs) := Sim.loop _ _ fun _ => h ..
end

theorem Sim.part1 : Sim defs 𝒱 B c E (part1 (progOps (F := F) (nD := nD) (τ := τ) (Λ := Λ) B) qb v1 G L) (part1 (stOps (F := F)) qb v1 G L) := by
  refine (Sim.setMx _).bind fun _ => (Sim.setAcc _).bind fun _ => (Sim.setSm _).bind fun _ => ?_
  refine (Sim.loopA _ _ _ fun _ _ _ => Sim.scores ..).bind fun _ => (Sim.loopB _ _ _ fun _ _ _ => Sim.scores ..).bind fun _ => ?_
  refine (Sim.loopC _ _ _ _ fun _ _ _ => Sim.scores ..).bind fun _ => (Sim.loopD _ _ _ _ fun _ _ _ => Sim.scores ..).bind fun _ => ?_
  exact Sim.rdMx.bind fun _ => (Sim.rdQs ..).bind fun _ => Sim.pure _

theorem Sim.part2 (r : Rows F) : Sim defs 𝒱 B c E (part2 (progOps (F := F) (nD := nD) (τ := τ) (Λ := Λ) B) qb v1 G L r) (part2 (stOps (F := F)) qb v1 G L r) := by
  refine (Sim.shifts ..).bind fun _ => ?_
  refine (Sim.loopA _ _ _ (Sim.both _ _)).bind fun _ => (Sim.loopB _ _ _ (Sim.both _ _)).bind fun _ => ?_
  refine (Sim.loopC _ _ _ _ (Sim.both _ _)).bind fun _ => (Sim.loopD _ _ _ _ (Sim.both _ _)).bind fun _ => ?_
  exact Sim.rdSm.bind fun _ => Sim.pure _

theorem Sim.part3 (row : FVec F S1x256 .f32) : Sim defs 𝒱 B c E (part3 (progOps (F := F) (nD := nD) (τ := τ) (Λ := Λ) B) qb v1 G L row) (part3 (stOps (F := F)) qb v1 G L row) := by
  refine Sim.rdAcc.bind fun _ => Sim.rdVs.bind fun _ => (Sim.rdOut ..).bind fun _ => (Sim.wrOut ..).bind fun _ => ?_
  refine (Sim.setAcc _).bind fun _ => (Sim.setSm _).bind fun _ => (Sim.finishScores ..).bind fun _ => ?_
  refine (Sim.loopA _ _ _ (Sim.both _ _)).bind fun _ => (Sim.loopB _ _ _ (Sim.both _ _)).bind fun _ => ?_
  refine (Sim.loopC _ _ _ _ (Sim.both _ _)).bind fun _ => (Sim.loopD _ _ _ _ (Sim.both _ _)).bind fun _ => ?_
  exact Sim.rdSm.bind fun _ => Sim.rdAcc.bind fun _ => Sim.rdVs.bind fun _ => Sim.pure _

theorem Sim.part4 (r : Σ' (_ : FVec F S1x256 .f32), FVec F Sacc .f32) : Sim defs 𝒱 B c E (part4 (progOps (F := F) (nD := nD) (τ := τ) (Λ := Λ) B) qb v1 G L r) (part4 (stOps (F := F)) qb v1 G L r) := by
  refine (Sim.rdOut ..).bind fun _ => (Sim.wrOut ..).bind fun _ => ?_
  refine (Sim.setAcc _).bind fun _ => (Sim.setSm _).bind fun _ => (Sim.finishScores ..).bind fun _ => ?_
  refine (Sim.loopA _ _ _ (Sim.both _ _)).bind fun _ => (Sim.loopB _ _ _ (Sim.both _ _)).bind fun _ => ?_
  refine (Sim.loopC _ _ _ _ (Sim.both _ _)).bind fun _ => (Sim.loopD _ _ _ _ (Sim.both _ _)).bind fun _ => ?_
  exact Sim.rdSm.bind fun _ => Sim.rdAcc.bind fun _ => Sim.rdVs.bind fun _ => (Sim.rdOut ..).bind fun _ => Sim.pure _

theorem Sim.part5 (o : FVec F S1x256x128 .bf16) : Sim defs 𝒱 B c E (part5 (progOps (F := F) (nD := nD) (τ := τ) (Λ := Λ) B) qb v1 G L o) (part5 (stOps (F := F)) qb v1 G L o) := by
  refine (Sim.wrOut ..).bind fun _ => ?_
  refine (Sim.setAcc _).bind fun _ => (Sim.setSm _).bind fun _ => (Sim.finishScores ..).bind fun _ => ?_
  refine (Sim.loopA _ _ _ (Sim.both _ _)).bind fun _ => (Sim.loopB _ _ _ (Sim.both _ _)).bind fun _ => ?_
  refine (Sim.loopC _ _ _ _ (Sim.both _ _)).bind fun _ => (Sim.loopD _ _ _ _ (Sim.both _ _)).bind fun _ => ?_
  refine Sim.rdSm.bind fun _ => Sim.rdAcc.bind fun _ => Sim.rdVs.bind fun _ => (Sim.rdOut ..).bind fun _ => ?_
  exact (Sim.wrOut ..).bind fun _ => (Sim.setAcc _).bind fun _ => Sim.pure _

theorem Sim.part6 (z : F .f32) : Sim defs 𝒱 B c E (part6 (progOps (F := F) (nD := nD) (τ := τ) (Λ := Λ) B) qb v1 G nF z) (part6 (stOps (F := F)) qb v1 G nF z) := by
  refine (Sim.setSm _).bind fun _ => (Sim.finishScores ..).bind fun _ => ?_
  exact (Sim.loopA _ _ _ (Sim.both _ _)).bind fun _ => Sim.pure _

theorem Sim.part7 : Sim defs 𝒱 B c E (part7 (progOps (F := F) (nD := nD) (τ := τ) (Λ := Λ) B) qb v1 G L) (part7 (stOps (F := F)) qb v1 G L) := by
  refine (Sim.loopB _ _ _ (Sim.both _ _)).bind fun _ => ?_
  refine (Sim.loopC _ _ _ _ (Sim.both _ _)).bind fun _ => (Sim.loopD _ _ _ _ (Sim.both _ _)).bind fun _ => ?_
  refine Sim.rdSm.bind fun _ => Sim.rdAcc.bind fun _ => Sim.rdVs.bind fun _ => (Sim.rdOut ..).bind fun _ => ?_
  exact (Sim.wrOut ..).bind fun _ => (Sim.setAcc _).bind fun _ => (Sim.setSm _).bind fun _ => Sim.rdMx

theorem Sim.part8 (mx : FVec F S8 .f32) : Sim defs 𝒱 B c E (part8 (progOps (F := F) (nD := nD) (τ := τ) (Λ := Λ) B) qb v1 G nA nF mx) (part8 (stOps (F := F)) qb v1 G nA nF mx) := by
  refine (Sim.rdQs ..).bind fun _ => (Sim.shifts ..).bind fun _ => ?_
  exact (Sim.loopA _ _ _ (Sim.both _ _)).bind fun _ => (Sim.loopB _ _ _ (Sim.both _ _)).bind fun _ => Sim.pure _

theorem Sim.part9 : Sim defs 𝒱 B c E (part9 (progOps (F := F) (nD := nD) (τ := τ) (Λ := Λ) B) qb v1 G L) (part9 (stOps (F := F)) qb v1 G L) := by
  refine (Sim.loopC _ _ _ _ (Sim.both _ _)).bind fun _ => (Sim.loopD _ _ _ _ (Sim.both _ _)).bind fun _ => ?_
  refine Sim.rdSm.bind fun _ => Sim.rdAcc.bind fun _ => Sim.rdVs.bind fun _ => (Sim.rdOut ..).bind fun _ => ?_
  refine (Sim.wrOut ..).bind fun _ => (Sim.setAcc _).bind fun _ => (Sim.setSm _).bind fun _ => ?_
  exact Sim.rdMx.bind fun _ => (Sim.rdQs ..).bind fun _ => Sim.pure _

theorem Sim.part10 (r : Rows F) : Sim defs 𝒱 B c E (part10 (progOps (F := F) (nD := nD) (τ := τ) (Λ := Λ) B) qb v1 G L r) (part10 (stOps (F := F)) qb v1 G L r) := by
  refine (Sim.shifts ..).bind fun _ => ?_
  refine (Sim.loopA _ _ _ fun _ _ _ => Sim.values ..).bind fun _ => (Sim.loopB _ _ _ fun _ _ _ => Sim.values ..).bind fun _ => ?_
  refine (Sim.loopC _ _ _ _ fun _ _ _ => Sim.values ..).bind fun _ => (Sim.loopD _ _ _ _ fun _ _ _ => Sim.values ..).bind fun _ => ?_
  exact Sim.rdSm.bind fun _ => Sim.pure _

theorem Sim.part11 (row : FVec F S1x256 .f32) : Sim defs 𝒱 B c E (part11 (progOps (F := F) (nD := nD) (τ := τ) (Λ := Λ) B) row) (part11 (stOps (F := F)) row) :=
  Sim.rdAcc.bind fun _ => Sim.rdVs.bind fun _ => (Sim.rdOut ..).bind fun _ => (Sim.wrOut ..).bind fun _ =>
  (Sim.setAcc _).bind fun _ => Sim.setSm _

theorem Sim.windows : Sim defs 𝒱 B c E (windows (progOps (F := F) (nD := nD) (τ := τ) (Λ := Λ) B) qb v1 G nA nF L) (windows (stOps (F := F)) qb v1 G nA nF L) :=
  (Sim.part1 ..).bind fun _ => (Sim.part2 ..).bind fun _ => (Sim.part3 ..).bind fun _ => (Sim.part4 ..).bind fun _ =>
  (Sim.part5 ..).bind fun _ => (Sim.part6 ..).bind fun _ => (Sim.part7 ..).bind fun _ => (Sim.part8 ..).bind fun _ =>
  (Sim.part9 ..).bind fun _ => (Sim.part10 ..).bind fun _ => Sim.part11 ..

/-- The body's program runs as the body's function. -/
theorem Sim.whole (sc : F .f32) : Sim defs 𝒱 B c E (whole (progOps (F := F) (nD := nD) (τ := τ) (Λ := Λ) B) qb v1 G sc) (whole (stOps (F := F)) qb v1 G sc) := by
  unfold Body.whole
  split
  · exact (Sim.ksbRows ..).bind fun _ => Sim.windows ..
  · exact Sim.windows ..

end

/-! ## The windows' function is the body's -/

/-- The body but for the spreading of the key scales. -/
def rest (qb v1 : BitVec 32) (G : Good qb v1) : M PUnit := do
  setMx O (broadcast S8 (Scalar.ofBits (F := F) .f32 0xFF800000#32))
  setAcc O (broadcast Sacc (Scalar.ofBits (F := F) .f32 0x00000000#32))
  setSm O (broadcast S8 (Scalar.ofBits (F := F) .f32 0x00000000#32))
  tiles O qb v1 G fun lim j0 hf => scores O lim 0 (by omega) 0 (by omega) j0 hf
  finishScores O 0 (by omega)
  stage O qb v1 G 0 (by omega)
  stage O qb v1 G 1 (by omega)
  stage O qb v1 G 2 (by omega)
  stage O qb v1 G 3 (by omega)
  stage O qb v1 G 4 (by omega)
  stage O qb v1 G 5 (by omega)
  tiles O qb v1 G fun _ j0 hf => values O 0 (by omega) j0 hf
  finishValues O 6 (by omega)

theorem windows_eq (qb v1 : BitVec 32) (G : Good qb v1) (nA nF : BitVec 32) : windows (stOps (F := F)) qb v1 G nA nF (limit qb v1) = rest (stOps (F := F)) qb v1 G := by
  sl_kernel_rfl

end Cert.Body

end
-- ==== Proof.BodyKernel.lean ====
/-
  The printed body of the call is the abstract body on the call's memrefs, after the prefix length has been read and the
  tiles it leads to have been assumed to lie among the keys.
-/
module

public import proofs.«01_k».proof.Kernel
public import proofs.«01_k».proof.Proof.Parts
public import Idealize.ShloMosaic.Lib.Tactic

@[expose] public section

set_option maxRecDepth 16384

noncomputable section

namespace Cert.Kernel.Body

open Idealize.ShloMosaic Idealize.SL.Sem
open Cert.Kernel
open Facts₀ Facts

variable {F : FTy → Type} [FloatOps F] [Facts]

set_option maxHeartbeats 4000000 in
/-- What the program assumes of the prefix length is enough for the loops. -/
theorem good (i : grid0.Coords) (v1 : BitVec 32) (hw : k0_chk1 i v1) : Cert.Body.Good (BitVec.ofNat 32 (i 2).val) v1 where
  okA := k0_t1_ok i v1 hw
  okB := k0_t2_ok i v1 hw
  okC := k0_t3_ok i v1 hw
  okD := k0_t4_ok i v1 hw
  fitA t := k0_off2_inb i v1 hw t 2
  fitB t := k0_off5_inb i v1 hw t 2
  fitC t := k0_off8_inb i v1 hw t 2
  fitD t := k0_off11_inb i v1 hw t 2

/-- The query tile of a grid point. -/
abbrev tile (i : grid0.Coords) : BitVec 32 := BitVec.ofNat 32 (i 2).val

/-- The factor put on the key scales. -/
def scale : F .f32 := Scalar.ofBits .f32 0x3C0293EE#32

section
variable (i : grid0.Coords)
    (arg3 : Memref sig .tc .smem S3 .i32) (harg3 : arg3.IsWhole)
    (arg4 : Memref sig .tc .vmem S1x256x896 .fp8e4m3) (harg4 : arg4.IsWhole)
    (arg5 : Memref sig .tc .vmem S1x1x8x256 .f32) (harg5 : arg5.IsWhole)
    (arg6 : Memref sig .tc .vmem S1x1x4608x128 .fp8e4m3) (harg6 : arg6.IsWhole)
    (arg7 : Memref sig .tc .vmem S1x1x36x128 .f32) (harg7 : arg7.IsWhole)
    (arg8 : Memref sig .tc .vmem S1x1x128x4608 .fp8e4m3) (harg8 : arg8.IsWhole)
    (arg9 : Memref sig .tc .vmem S1x1x128x1 .f32) (harg9 : arg9.IsWhole)
    (arg10 : Memref sig .tc .vmem S1x256x896 .bf16) (harg10 : arg10.IsWhole)
    (arg11 : Memref sig .tc .vmem S2x4608x256 .f32) (harg11 : arg11.IsWhole)
    (arg12 : Memref sig .tc .vmem S4608x128 .f32) (harg12 : arg12.IsWhole)
    (arg13 : Memref sig .tc .vmem S128x256 .f32) (harg13 : arg13.IsWhole)
    (arg14 : Memref sig .tc .vmem S8x256 .f32) (harg14 : arg14.IsWhole)
    (arg15 : Memref sig .tc .vmem S8x256 .f32) (harg15 : arg15.IsWhole)
    (arg16 : Memref sig .tc .vmem S8x256 .f32) (harg16 : arg16.IsWhole)
    (arg17 : Memref sig .tc .vmem S8x256 .f32) (harg17 : arg17.IsWhole)

/-- The memrefs by name. -/
def mems : Cert.Body.Mems sig where
  mem
    | .q => arg4 | .qs => arg5 | .k => arg6 | .ks => arg7 | .vt => arg8 | .vs => arg9 | .out => arg10
    | .s => arg11 | .ksb => arg12 | .acc => arg13 | .mx => arg14 | .sm => arg15 | .m => arg16 | .c => arg17
  outWhole := harg10

variable (F) in
/-- The prefix length's load. -/
def word : Prog (TpuEff nD τ sig (Elt F) Λ₀ .tc) (BitVec 32) := do
  let v1 : Elt F .i32 ← smemLoad arg3 (Rect.unit (s := S3) (k0_off1 i) S1.size (k0_off1_inb i)) numel1_S1 rfl
  pure v1

variable (F) in
/-- What the program assumes of it. -/
def assumed (v1 : BitVec 32) : Prog (TpuEff nD τ sig (Elt F) Λ₀ .tc) (PLift (k0_chk1 i v1)) :=
  Prog.lift (TpuEff.assume (k0_chk1 i v1) (k0_chk1.dec i v1))

/-- What the first window of the program returns. -/
abbrev Start (i : grid0.Coords) : Type :=
  Σ' (v1 : BitVec 32) (_ : k0_chk1 i v1) (_ : BitVec 32) (_ : BitVec 32), IVec Cert.Body.S8 32

section
variable (v1 : BitVec 32) (hw : k0_chk1 i v1)

theorem part1_eq  :
    k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1)
      = Cert.Body.part1 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part2_eq (a b : FVec F Cert.Body.S1x256 .f32) (x : F .f32) :
    k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) a b x
      = Cert.Body.part2 (Cert.Body.progOps (mems arg4 arg5 arg6 arg7 arg8 arg9 arg10 harg10 arg11 arg12 arg13 arg14 arg15 arg16 arg17)) (tile i) v1 (good i v1 hw) (Cert.Body.limit (tile i) v1) ⟨a, b, x⟩ := by
  sl_kernel_rfl

theorem part3_eq (a : FVec F Cert.Body.S1x256 .f32) :
    (k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a >>= fun r => k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2)
      = Cert.Body.part3 (Cert.Body.progOps (mems arg4 arg5 arg6 arg7 arg8 arg9 arg10 harg10 arg11 arg12 arg13 arg14 arg15 arg16 arg17)) (tile i) v1 (good i v1 hw) (Cert.Body.limit (tile i) v1) a := by
  sl_kernel_rfl

theorem part4_eq (a : FVec F Cert.Body.S1x256 .f32) (b : FVec F Cert.Body.Sacc .f32) :
    (k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a b >>= fun r => k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r)
      = Cert.Body.part4 (Cert.Body.progOps (mems arg4 arg5 arg6 arg7 arg8 arg9 arg10 harg10 arg11 arg12 arg13 arg14 arg15 arg16 arg17)) (tile i) v1 (good i v1 hw) (Cert.Body.limit (tile i) v1) ⟨a, b⟩ := by
  sl_kernel_rfl

theorem part5_eq (a : FVec F Cert.Body.S1x256x128 .bf16) :
    (k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a >>= fun _ => k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1))
      = Cert.Body.part5 (Cert.Body.progOps (mems arg4 arg5 arg6 arg7 arg8 arg9 arg10 harg10 arg11 arg12 arg13 arg14 arg15 arg16 arg17)) (tile i) v1 (good i v1 hw) (Cert.Body.limit (tile i) v1) a := by
  sl_kernel_rfl

theorem part6_eq (x : F .f32) :
    k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) x
      = Cert.Body.part6 (Cert.Body.progOps (mems arg4 arg5 arg6 arg7 arg8 arg9 arg10 harg10 arg11 arg12 arg13 arg14 arg15 arg16 arg17)) (tile i) v1 (good i v1 hw) (Cert.Body.nFull (tile i) v1) x := by
  sl_kernel_rfl

theorem part7_eq (w : BitVec 32) :
    k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) w
      = Cert.Body.part7 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part8_eq (a : FVec F Cert.Body.S8 .f32) :
    k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) a
      = Cert.Body.part8 (Cert.Body.progOps (mems arg4 arg5 arg6 arg7 arg8 arg9 arg10 harg10 arg11 arg12 arg13 arg14 arg15 arg16 arg17)) (tile i) v1 (good i v1 hw) (Cert.Body.nAll (tile i) v1) (Cert.Body.nFull (tile i) v1) a := by
  sl_kernel_rfl

theorem part9_eq :
    k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) (Cert.Body.limit (tile i) v1)
      (Scalar.addi (Cert.Body.nFull (tile i) v1) (Scalar.muli (Scalar.divsi (Scalar.subi (Cert.Body.nAll (tile i) v1) (Cert.Body.nFull (tile i) v1)) 1#32) 1#32)) 1#32
      = Cert.Body.part9 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part10_eq (a b : FVec F Cert.Body.S1x256 .f32) (x : F .f32) :
    k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) a b x
      = Cert.Body.part10 (Cert.Body.progOps (mems arg4 arg5 arg6 arg7 arg8 arg9 arg10 harg10 arg11 arg12 arg13 arg14 arg15 arg16 arg17)) (tile i) v1 (good i v1 hw) (Cert.Body.limit (tile i) v1) ⟨a, b, x⟩ := by
  sl_kernel_rfl

end

theorem start_eq : k0_part1197 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = word F i arg3 >>= fun v1 => assumed F i v1 >>= fun hw =>
      (if _h : Cert.Body.atFirst (tile i) = 1#1 then
          Cert.Body.ksbRows (Cert.Body.progOps (mems arg4 arg5 arg6 arg7 arg8 arg9 arg10 harg10 arg11 arg12 arg13 arg14 arg15 arg16 arg17)) scale 36 0 rfl >>= fun _ =>
            pure (⟨v1, hw.down, Cert.Body.nAll (tile i) v1, Cert.Body.nFull (tile i) v1, Cert.Body.limit (tile i) v1⟩ : Start i)
        else pure (⟨v1, hw.down, Cert.Body.nAll (tile i) v1, Cert.Body.nFull (tile i) v1, Cert.Body.limit (tile i) v1⟩ : Start i)) := by
  sl_kernel_rfl

/-- The windows of the program, one after another. -/
theorem chain_eq (v1 : BitVec 32) (hw : k0_chk1 i v1) :
    (k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) >>= fun r =>
      k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2.1 r.2.2 >>= fun r =>
      k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun r =>
      k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2 >>= fun r =>
      k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2 >>= fun r =>
      k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r >>= fun r =>
      k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun _ =>
      k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) >>= fun r =>
      k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) r >>= fun r =>
      k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r >>= fun r =>
      k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) r >>= fun r =>
      k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) (Cert.Body.limit (tile i) v1) r.1 r.2 >>= fun r =>
      k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) r.1 r.2.1 r.2.2 >>= fun r =>
      Cert.Body.part11 (Cert.Body.progOps (mems arg4 arg5 arg6 arg7 arg8 arg9 arg10 harg10 arg11 arg12 arg13 arg14 arg15 arg16 arg17)) r)
    = Cert.Body.windows (Cert.Body.progOps (mems arg4 arg5 arg6 arg7 arg8 arg9 arg10 harg10 arg11 arg12 arg13 arg14 arg15 arg16 arg17)) (tile i) v1 (good i v1 hw) (Cert.Body.nAll (tile i) v1) (Cert.Body.nFull (tile i) v1) (Cert.Body.limit (tile i) v1) := by
  unfold Cert.Body.windows
  rw [part1_eq]
  refine congrArg (bind _) (funext fun r => ?_)
  rw [part2_eq]
  refine congrArg (bind _) (funext fun r => ?_)
  rw [← bind_assoc, part3_eq]
  refine congrArg (bind _) (funext fun r => ?_)
  rw [← bind_assoc, part4_eq]
  refine congrArg (bind _) (funext fun r => ?_)
  rw [← bind_assoc, part5_eq]
  refine congrArg (bind _) (funext fun r => ?_)
  rw [part6_eq]
  refine congrArg (bind _) (funext fun r => ?_)
  rw [part7_eq]
  refine congrArg (bind _) (funext fun r => ?_)
  rw [part8_eq]
  rw [Cert.Body.part8_bind, Cert.Body.part8_bind]
  refine congrArg (bind _) (funext fun _ => congrArg (bind _) (funext fun _ => congrArg (bind _) (funext fun _ => congrArg (bind _) (funext fun _ => ?_))))
  rw [part9_eq]
  refine congrArg (bind _) (funext fun r => ?_)
  rw [part10_eq]

/-- The program begins with its first window and goes on with the others. -/
theorem program_eq : cc0_prefix_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = k0_part1197 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun s =>
      k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 >>= fun r =>
      k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r.1 r.2.1 r.2.2 >>= fun r =>
      k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun r =>
      k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r.1 r.2 >>= fun r =>
      k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2 >>= fun r =>
      k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r >>= fun r =>
      k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun _ =>
      k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 >>= fun r =>
      k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.2.1 r >>= fun r =>
      k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r >>= fun r =>
      k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 r >>= fun r =>
      k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.2.1 s.2.2.2.2 r.1 r.2 >>= fun r =>
      k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 r.1 r.2.1 r.2.2 >>= fun r =>
      Cert.Body.part11 (Cert.Body.progOps (mems arg4 arg5 arg6 arg7 arg8 arg9 arg10 harg10 arg11 arg12 arg13 arg14 arg15 arg16 arg17)) r := by
  sl_kernel_rfl

/-- The program is the body. -/
theorem body_eq : cc0_prefix_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = word F i arg3 >>= fun v1 =>
      assumed F i v1 >>= fun hw =>
      Cert.Body.whole (Cert.Body.progOps (mems arg4 arg5 arg6 arg7 arg8 arg9 arg10 harg10 arg11 arg12 arg13 arg14 arg15 arg16 arg17)) (tile i) v1 (good i v1 hw.down) scale := by
  rw [program_eq, start_eq, bind_assoc]
  refine congrArg (bind _) (funext fun v1 => ?_)
  rw [bind_assoc]
  refine congrArg (bind _) (funext fun hw => ?_)
  unfold Cert.Body.whole
  split
  · rw [bind_assoc]
    refine congrArg (bind _) (funext fun _ => ?_)
    rw [pure_bind]
    refine Eq.trans ?_ (chain_eq i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw.down)
    sl_kernel_rfl
  · rw [pure_bind]
    refine Eq.trans ?_ (chain_eq i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw.down)
    sl_kernel_rfl

end

end Cert.Kernel.Body

end
-- ==== Proof.Bounds.lean ====
/-
  The tiles the loops visit lie among the keys, whatever the query tile, when the prefix length is at most the number
  of keys.
-/
module

public import proofs.«01_k».proof.Proof.Body
public import Idealize.ShloMosaic.Lib.LoopRemainder

@[expose] public section

namespace Cert.Body

open Idealize.ShloMosaic

/-- The ceiling of `x` over 512, as the body computes it. -/
def ceilTiles (x : BitVec 32) : BitVec 32 := Scalar.divsi (Scalar.addi x 511#32) 512#32

/-- The floor of `x` over 512, as the body computes it. -/
def floorTiles (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32)
    (Scalar.divsi x 512#32)

theorem ceil_table : ∀ n : Fin 4609, ceilTiles (BitVec.ofNat 32 n.val) = BitVec.ofNat 32 ((n.val + 511) / 512) := by
  decide +kernel

theorem floor_table : ∀ n : Fin 4609, 0 < n.val → floorTiles (BitVec.ofNat 32 n.val) = BitVec.ofNat 32 (n.val / 512) := by
  decide +kernel

theorem min_table : ∀ a b : Fin 10, Scalar.minsi (BitVec.ofNat 32 a.val) (BitVec.ofNat 32 b.val) = BitVec.ofNat 32 (min a.val b.val) := by
  decide +kernel

theorem reach_table : ∀ q : Fin 18,
    Scalar.minsi (Scalar.addi (q0 (BitVec.ofNat 32 q.val)) 256#32) 4480#32 = BitVec.ofNat 32 (min (256 * q.val + 256) 4480)
      ∧ Scalar.addi (q0 (BitVec.ofNat 32 q.val)) 1#32 = BitVec.ofNat 32 (256 * q.val + 1) := by
  decide +kernel

/-- The larger of a bounded word and a number. -/
theorem max_word (v1 : BitVec 32) (hv : v1.toInt ≤ 4608) (m : ℕ) (hm : m ≤ 4608) :
    ∃ n : ℕ, n ≤ 4608 ∧ m ≤ n ∧ Scalar.maxsi v1 (BitVec.ofNat 32 m) = BitVec.ofNat 32 n ∧ (n : ℤ) = max v1.toInt m := by
  have hmi : (BitVec.ofNat 32 m).toInt = m := by
    rw [BitVec.toInt_eq_toNat_cond, BitVec.toNat_ofNat]
    split <;> omega
  unfold Scalar.maxsi IntOp.maxsi
  rw [BitVec.slt_eq_decide, hmi]
  by_cases h : (m : ℤ) < v1.toInt
  · rw [if_pos (by simpa using h)]
    have hn : (v1.toNat : ℤ) = v1.toInt := by
      have := v1.isLt
      rw [BitVec.toInt_eq_toNat_cond] at h ⊢
      split at h <;> split <;> omega
    refine ⟨v1.toNat, by omega, by omega, (BitVec.ofNat_toNat 32 v1 ▸ by simp), ?_⟩
    rw [hn, max_eq_left (by omega)]
  · rw [if_neg (by simpa using h)]
    exact ⟨m, hm, le_refl _, rfl, by rw [max_eq_right (by omega)]⟩

/-- The numbers of tiles. -/
theorem tiles_words (q : Fin 18) (v1 : BitVec 32) (hv : v1.toInt ≤ 4608) :
    ∃ f a : Fin 10, f ≤ a ∧ nFull (BitVec.ofNat 32 q.val) v1 = BitVec.ofNat 32 f.val ∧ nAll (BitVec.ofNat 32 q.val) v1 = BitVec.ofNat 32 a.val
      ∧ ((f.val : ℤ) = min ((max v1.toInt (256 * q.val + 1 : ℕ)) / 512) a.val)
      ∧ ((a.val : ℤ) = (max v1.toInt (min (256 * q.val + 256) 4480 : ℕ) + 511) / 512) := by
  obtain ⟨x, hx, hx1, ex, ix⟩ := max_word v1 hv (256 * q.val + 1) (by omega)
  obtain ⟨y, hy, hy1, ey, iy⟩ := max_word v1 hv (min (256 * q.val + 256) 4480) (by omega)
  have ea : nAll (BitVec.ofNat 32 q.val) v1 = BitVec.ofNat 32 ((y + 511) / 512) := by
    show ceilTiles (Scalar.maxsi v1 _) = _
    rw [(reach_table q).1, ey]
    exact ceil_table ⟨y, by omega⟩
  have ef : nFull (BitVec.ofNat 32 q.val) v1 = BitVec.ofNat 32 (min (x / 512) ((y + 511) / 512)) := by
    show Scalar.minsi (floorTiles (Scalar.maxsi v1 _)) (nAll _ v1) = _
    rw [(reach_table q).2, ex, ea, floor_table ⟨x, by omega⟩ (by show 0 < x; omega)]
    exact min_table ⟨x / 512, by omega⟩ ⟨(y + 511) / 512, by omega⟩
  refine ⟨⟨min (x / 512) ((y + 511) / 512), by omega⟩, ⟨(y + 511) / 512, by omega⟩, ?_, ef, ea, ?_, ?_⟩
  · exact Nat.min_le_right _ _
  · show ((min (x / 512) ((y + 511) / 512) : ℕ) : ℤ) = _
    rw [← ix]; push_cast; rfl
  · show (((y + 511) / 512 : ℕ) : ℤ) = _
    rw [← iy]; push_cast; rfl

/-- The main loops: from the word of `f` to the word of `a` by one. -/
theorem main_table : ∀ f a : Fin 10, f ≤ a →
    Scf.OK (BitVec.ofNat 32 f.val) (Scalar.addi (BitVec.ofNat 32 f.val)
      (Scalar.muli (Scalar.divsi (Scalar.subi (BitVec.ofNat 32 a.val) (BitVec.ofNat 32 f.val)) 1#32) 1#32)) 1#32
    ∧ Scf.trips (BitVec.ofNat 32 f.val) (Scalar.addi (BitVec.ofNat 32 f.val)
      (Scalar.muli (Scalar.divsi (Scalar.subi (BitVec.ofNat 32 a.val) (BitVec.ofNat 32 f.val)) 1#32) 1#32)) 1#32 = a.val - f.val := by
  decide +kernel

/-- Where tile `t` from `f` begins. -/
theorem start_table : ∀ f t : Fin 10, (Scalar.muli (Scf.iv (BitVec.ofNat 32 f.val) 1#32 t.val) 512#32).toNat = 512 * (f.val + t.val) := by
  decide +kernel

theorem loop_word (f a : Fin 10) (h : f ≤ a) (l : Scf.Loop 32)
    (hl : l = ⟨BitVec.ofNat 32 f.val, Scalar.addi (BitVec.ofNat 32 f.val)
      (Scalar.muli (Scalar.divsi (Scalar.subi (BitVec.ofNat 32 a.val) (BitVec.ofNat 32 f.val)) 1#32) 1#32), 1#32⟩) :
    l.OK ∧ l.trips = a.val - f.val ∧ ∀ t : Fin l.trips, (tileStart l t).toNat = 512 * (f.val + t.val) := by
  subst hl
  have e := main_table f a h
  refine ⟨e.1, e.2, fun t => ?_⟩
  have ht : t.val < a.val - f.val := lt_of_lt_of_eq t.isLt e.2
  exact start_table f ⟨t.val, by omega⟩

/-- The loops are well formed and their tiles lie among the keys. -/
theorem good_of_le (q : Fin 18) (v1 : BitVec 32) (hv : v1.toInt ≤ 4608) : Good (BitVec.ofNat 32 q.val) v1 := by
  obtain ⟨f, a, hfa, ef, ea, -, -⟩ := tiles_words q v1 hv
  have hA := loop_word 0 f (Fin.zero_le f) (lpA (BitVec.ofNat 32 q.val) v1) (by unfold lpA; rw [ef]; rfl)
  have hC := loop_word f a hfa (lpC (BitVec.ofNat 32 q.val) v1) (by unfold lpC; rw [ef, ea])
  refine ⟨hA.1, Scf.rem_ok _ _, hC.1, Scf.rem_ok _ _, fun t => ?_, fun t => (Scf.rem_no_trip _ _ t).elim, fun t => ?_,
    fun t => (Scf.rem_no_trip _ _ t).elim⟩
  · have ht : t.val < f.val - 0 := lt_of_lt_of_eq t.isLt hA.2.1
    unfold Fits
    rw [hA.2.2 t]
    have : ((0 : Fin 10).val : ℕ) = 0 := rfl
    omega
  · have ht : t.val < a.val - f.val := lt_of_lt_of_eq t.isLt hC.2.1
    unfold Fits
    rw [hC.2.2 t]
    omega

/-- The tiles of a loop lie among the keys if those of an equal one do. -/
theorem fits_of_eq {l l' : Scf.Loop 32} (e : l = l') (h : ∀ t : Fin l'.trips, Fits (tileStart l' t)) (t : Fin l.trips) : Fits (tileStart l t) := by
  subst e
  exact h t

end Cert.Body

end
-- ==== Proof.Windows.lean ====
/-
  What the loops assume of their windows, loop by loop, in the order of the body: each tile's windows lie inside their
  buffers.
-/
module

public import proofs.«01_k».proof.Proof.Bounds

@[expose] public section

namespace Cert.Body

open Idealize.ShloMosaic

section
variable (l : Scf.Loop 32)

/-- The keys' codes of each tile. -/
def inK : Prop := ∀ t : Fin l.trips, ∀ a, (![0, 0, (Scalar.indexCast (tileStart l t)).toNat, 0] : Fin 4 → ℕ) a + S1x1x512x128.size a ≤ Sk.size a

/-- The keys' scales, eight rows at a time. -/
def inKs : Prop := ∀ t : Fin l.trips, ∀ r : Fin 64,
  ∀ a, (![(Scalar.indexCast (Scalar.addi (tileStart l t) (BitVec.ofNat 32 (8 * r.val)))).toNat, 0] : Fin 2 → ℕ) a + S8x128.size a ≤ Sksb.size a

/-- The scores' rows, eight at a time. -/
def inS (slot : ℕ) : Prop := ∀ t : Fin l.trips, ∀ r : Fin 64,
  ∀ a, (![slot, (Scalar.indexCast (Scalar.addi (tileStart l t) (BitVec.ofNat 32 (8 * r.val)))).toNat, 0] : Fin 3 → ℕ) a + S1x8.size a ≤ Ss.size a

/-- The scores' rows again, by groups of 32. -/
def inE (slot : ℕ) : Prop := ∀ t : Fin l.trips, ∀ (r : Fin 16) (r' : Fin 4),
  ∀ a, (![slot, (Scalar.indexCast (Scalar.addi (Scalar.addi (tileStart l t) (BitVec.ofNat 32 (32 * r.val))) (BitVec.ofNat 32 (8 * r'.val)))).toNat, 0] : Fin 3 → ℕ) a
    + S1x8.size a ≤ Ss.size a

/-- The values' codes of each tile. -/
def inVt : Prop := ∀ t : Fin l.trips, ∀ a, (![0, 0, 0, (Scalar.indexCast (tileStart l t)).toNat] : Fin 4 → ℕ) a + S1x1x128x512.size a ≤ Svt.size a

/-- The loop is well formed and its tiles lie among the keys. -/
def Sound : Prop := l.OK ∧ ∀ t, Fits (tileStart l t)

variable {l} (h : Sound l)
include h

theorem inK_of : inK l := fun t => inb_k (h.2 t)
theorem inKs_of : inKs l := fun t _ => inb_ksb (h.2 t) (by omega)
theorem inS_of {slot : ℕ} (hs : slot < 2) : inS l slot := fun t _ => inb_s (h.2 t) hs (by omega)
theorem inE_of {slot : ℕ} (hs : slot < 2) : inE l slot := fun t _ _ => inb_s2 (h.2 t) hs (by omega)
theorem inVt_of : inVt l := fun t => inb_vt (h.2 t)

end

variable (a b c d : Scf.Loop 32)

/-- The assumptions, part 1. -/
def group0 : Prop :=
  a.OK ∧ inK a ∧ inKs a ∧ inS a 0 ∧ b.OK ∧ inK b ∧ inKs b ∧ inS b 0 ∧ c.OK ∧ inK c ∧ inKs c ∧ inS c 0 ∧ d.OK ∧ inK d ∧ inKs d ∧ inS d 0 ∧
  a.OK ∧ inK a ∧ inKs a ∧ inS a 1 ∧ inE a 0 ∧ inVt a ∧ b.OK ∧ inK b ∧ inKs b ∧ inS b 1 ∧ inE b 0 ∧ inVt b ∧ c.OK ∧ inK c ∧ inKs c ∧
  inS c 1

/-- The assumptions, part 2. -/
def group1 : Prop :=
  inE c 0 ∧ inVt c ∧ d.OK ∧ inK d ∧ inKs d ∧ inS d 1 ∧ inE d 0 ∧ inVt d ∧ a.OK ∧ inK a ∧ inKs a ∧ inS a 0 ∧ inE a 1 ∧ inVt a ∧ b.OK ∧
  inK b ∧ inKs b ∧ inS b 0 ∧ inE b 1 ∧ inVt b ∧ c.OK ∧ inK c ∧ inKs c ∧ inS c 0 ∧ inE c 1 ∧ inVt c ∧ d.OK ∧ inK d ∧ inKs d ∧ inS d 0 ∧
  inE d 1 ∧ inVt d

/-- The assumptions, part 3. -/
def group2 : Prop :=
  a.OK ∧ inK a ∧ inKs a ∧ inS a 1 ∧ inE a 0 ∧ inVt a ∧ b.OK ∧ inK b ∧ inKs b ∧ inS b 1 ∧ inE b 0 ∧ inVt b ∧ c.OK ∧ inK c ∧ inKs c ∧
  inS c 1 ∧ inE c 0 ∧ inVt c ∧ d.OK ∧ inK d ∧ inKs d ∧ inS d 1 ∧ inE d 0 ∧ inVt d ∧ a.OK ∧ inK a ∧ inKs a ∧ inS a 0 ∧ inE a 1 ∧ inVt a ∧
  b.OK ∧ inK b

/-- The assumptions, part 4. -/
def group3 : Prop :=
  inKs b ∧ inS b 0 ∧ inE b 1 ∧ inVt b ∧ c.OK ∧ inK c ∧ inKs c ∧ inS c 0 ∧ inE c 1 ∧ inVt c ∧ d.OK ∧ inK d ∧ inKs d ∧ inS d 0 ∧ inE d 1 ∧
  inVt d ∧ a.OK ∧ inK a ∧ inKs a ∧ inS a 1 ∧ inE a 0 ∧ inVt a ∧ b.OK ∧ inK b ∧ inKs b ∧ inS b 1 ∧ inE b 0 ∧ inVt b ∧ c.OK ∧ inK c ∧
  inKs c ∧ inS c 1

/-- The assumptions, part 5. -/
def group4 : Prop :=
  inE c 0 ∧ inVt c ∧ d.OK ∧ inK d ∧ inKs d ∧ inS d 1 ∧ inE d 0 ∧ inVt d ∧ a.OK ∧ inK a ∧ inKs a ∧ inS a 0 ∧ inE a 1 ∧ inVt a ∧ b.OK ∧
  inK b ∧ inKs b ∧ inS b 0 ∧ inE b 1 ∧ inVt b ∧ c.OK ∧ inK c ∧ inKs c ∧ inS c 0 ∧ inE c 1 ∧ inVt c ∧ d.OK ∧ inK d ∧ inKs d ∧ inS d 0 ∧
  inE d 1 ∧ inVt d

/-- The assumptions, part 6. -/
def group5 : Prop :=
  a.OK ∧ inE a 0 ∧ inVt a ∧ b.OK ∧ inE b 0 ∧ inVt b ∧ c.OK ∧ inE c 0 ∧ inVt c ∧ d.OK ∧ inE d 0 ∧ inVt d

variable {a b c d} (ha : Sound a) (hb : Sound b) (hc : Sound c) (hd : Sound d)
include ha hb hc hd

theorem group0_of : group0 a b c d :=
  ⟨ha.1, inK_of ha, inKs_of ha, inS_of ha (by decide), hb.1, inK_of hb, inKs_of hb, inS_of hb (by decide), hc.1, inK_of hc, inKs_of hc,
   inS_of hc (by decide), hd.1, inK_of hd, inKs_of hd, inS_of hd (by decide), ha.1, inK_of ha, inKs_of ha, inS_of ha (by decide),
   inE_of ha (by decide), inVt_of ha, hb.1, inK_of hb, inKs_of hb, inS_of hb (by decide), inE_of hb (by decide), inVt_of hb, hc.1,
   inK_of hc, inKs_of hc, inS_of hc (by decide)⟩

theorem group1_of : group1 a b c d :=
  ⟨inE_of hc (by decide), inVt_of hc, hd.1, inK_of hd, inKs_of hd, inS_of hd (by decide), inE_of hd (by decide), inVt_of hd, ha.1,
   inK_of ha, inKs_of ha, inS_of ha (by decide), inE_of ha (by decide), inVt_of ha, hb.1, inK_of hb, inKs_of hb, inS_of hb (by decide),
   inE_of hb (by decide), inVt_of hb, hc.1, inK_of hc, inKs_of hc, inS_of hc (by decide), inE_of hc (by decide), inVt_of hc, hd.1,
   inK_of hd, inKs_of hd, inS_of hd (by decide), inE_of hd (by decide), inVt_of hd⟩

theorem group2_of : group2 a b c d :=
  ⟨ha.1, inK_of ha, inKs_of ha, inS_of ha (by decide), inE_of ha (by decide), inVt_of ha, hb.1, inK_of hb, inKs_of hb,
   inS_of hb (by decide), inE_of hb (by decide), inVt_of hb, hc.1, inK_of hc, inKs_of hc, inS_of hc (by decide), inE_of hc (by decide),
   inVt_of hc, hd.1, inK_of hd, inKs_of hd, inS_of hd (by decide), inE_of hd (by decide), inVt_of hd, ha.1, inK_of ha, inKs_of ha,
   inS_of ha (by decide), inE_of ha (by decide), inVt_of ha, hb.1, inK_of hb⟩

theorem group3_of : group3 a b c d :=
  ⟨inKs_of hb, inS_of hb (by decide), inE_of hb (by decide), inVt_of hb, hc.1, inK_of hc, inKs_of hc, inS_of hc (by decide),
   inE_of hc (by decide), inVt_of hc, hd.1, inK_of hd, inKs_of hd, inS_of hd (by decide), inE_of hd (by decide), inVt_of hd, ha.1,
   inK_of ha, inKs_of ha, inS_of ha (by decide), inE_of ha (by decide), inVt_of ha, hb.1, inK_of hb, inKs_of hb, inS_of hb (by decide),
   inE_of hb (by decide), inVt_of hb, hc.1, inK_of hc, inKs_of hc, inS_of hc (by decide)⟩

theorem group4_of : group4 a b c d :=
  ⟨inE_of hc (by decide), inVt_of hc, hd.1, inK_of hd, inKs_of hd, inS_of hd (by decide), inE_of hd (by decide), inVt_of hd, ha.1,
   inK_of ha, inKs_of ha, inS_of ha (by decide), inE_of ha (by decide), inVt_of ha, hb.1, inK_of hb, inKs_of hb, inS_of hb (by decide),
   inE_of hb (by decide), inVt_of hb, hc.1, inK_of hc, inKs_of hc, inS_of hc (by decide), inE_of hc (by decide), inVt_of hc, hd.1,
   inK_of hd, inKs_of hd, inS_of hd (by decide), inE_of hd (by decide), inVt_of hd⟩

theorem group5_of : group5 a b c d :=
  ⟨ha.1, inE_of ha (by decide), inVt_of ha, hb.1, inE_of hb (by decide), inVt_of hb, hc.1, inE_of hc (by decide), inVt_of hc, hd.1,
   inE_of hd (by decide), inVt_of hd⟩

end Cert.Body

end
-- ==== Proof.CheckKernel.lean ====
/-
  What the body assumes of the prefix length holds when the length is at most the number of keys.
-/
module

public import proofs.«01_k».proof.Proof.BodyKernel
public import proofs.«01_k».proof.Proof.Windows

@[expose] public section

set_option maxRecDepth 16384

namespace Cert.Kernel.Body

open Idealize.ShloMosaic Idealize.ShloMosaic.Tactic
open Cert.Kernel
open Cert.Body (lpA lpB lpC lpD Sound good_of_le)

section
variable (i : grid0.Coords) (v1 : BitVec 32)

theorem group0_eq : Cert.Body.group0 (lpA (tile i) v1) (lpB (tile i) v1) (lpC (tile i) v1) (lpD (tile i) v1) = k0_chk1_0 i v1 := by
  sl_kernel_rfl

theorem group1_eq : Cert.Body.group1 (lpA (tile i) v1) (lpB (tile i) v1) (lpC (tile i) v1) (lpD (tile i) v1) = k0_chk1_1 i v1 := by
  sl_kernel_rfl

theorem group2_eq : Cert.Body.group2 (lpA (tile i) v1) (lpB (tile i) v1) (lpC (tile i) v1) (lpD (tile i) v1) = k0_chk1_2 i v1 := by
  sl_kernel_rfl

theorem group3_eq : Cert.Body.group3 (lpA (tile i) v1) (lpB (tile i) v1) (lpC (tile i) v1) (lpD (tile i) v1) = k0_chk1_3 i v1 := by
  sl_kernel_rfl

theorem group4_eq : Cert.Body.group4 (lpA (tile i) v1) (lpB (tile i) v1) (lpC (tile i) v1) (lpD (tile i) v1) = k0_chk1_4 i v1 := by
  sl_kernel_rfl

theorem group5_eq : Cert.Body.group5 (lpA (tile i) v1) (lpB (tile i) v1) (lpC (tile i) v1) (lpD (tile i) v1) = k0_chk1_5 i v1 := by
  sl_kernel_rfl

end

theorem check_of_le (i : grid0.Coords) (v1 : BitVec 32) (hv : v1.toInt ≤ 4608) : k0_chk1 i v1 := by
  have G := good_of_le ⟨(i 2).val, (i 2).isLt⟩ v1 hv
  have hA : Sound (lpA (tile i) v1) := ⟨G.okA, G.fitA⟩
  have hB : Sound (lpB (tile i) v1) := ⟨G.okB, G.fitB⟩
  have hC : Sound (lpC (tile i) v1) := ⟨G.okC, G.fitC⟩
  have hD : Sound (lpD (tile i) v1) := ⟨G.okD, G.fitD⟩
  unfold k0_chk1
  exact ⟨(group0_eq i v1).mp (Cert.Body.group0_of hA hB hC hD),
    (group1_eq i v1).mp (Cert.Body.group1_of hA hB hC hD),
    (group2_eq i v1).mp (Cert.Body.group2_of hA hB hC hD),
    (group3_eq i v1).mp (Cert.Body.group3_of hA hB hC hD),
    (group4_eq i v1).mp (Cert.Body.group4_of hA hB hC hD),
    (group5_eq i v1).mp (Cert.Body.group5_of hA hB hC hD)⟩

end Cert.Kernel.Body

end
-- ==== Proof.RunKernel.lean ====
/-
  The body's program on one grid point: holding the buffers at a state and the prefix lengths, it runs and leaves the
  buffers at the state the body's function returns, provided no prefix length exceeds the number of keys.
-/
module

public import proofs.«01_k».proof.Proof.CheckKernel
public import proofs.«01_k».proof.Proof.Parts
public import Idealize.ShloMosaic.Lib.Exec.Context

@[expose] public section

noncomputable section

namespace Cert.Kernel.Body

open Idealize.ShloMosaic Idealize.ShloMosaic.TcCoe
open Idealize.SL
open Idealize.SL.BI (sProp bigSep bigSep_congr bigSep_univ_split)
open scoped Idealize.SL.BI
open Idealize.SL.BI.BIBase Idealize.SL.BI.Laws Idealize.SL.Sem Idealize.SL.ProofMode
open Idealize.SL.RA
open Cert.Kernel
open Facts₀ Facts
open Cert.Body (Sim own State)

variable {F : FTy → Type} [FloatOps F] [Facts]

local notation "𝕄" => MT nD τ sig Unit (Elt F) ℕ (UR sig nD τ) ℕ

variable {𝒱 : Variants} {c : Dev nD} {E : Set ℕ}

/-- The prefix length of the batch entry a grid point works on. -/
def len (i : grid0.Coords) (f : S3.Idx → Elt F .i32) : BitVec 32 :=
  ((Memref.whole main_arg6).access (Rect.unit (s := S3) (k0_off1 i) S1.size (k0_off1_inb i))).read (Elt F) f
    (Shape.Idx.first (Nat.lt_of_lt_of_eq Nat.zero_lt_one numel1_S1.symm))

theorem len_le (i : grid0.Coords) (f : S3.Idx → Elt F .i32) (hf : ∀ x, BitVec.toInt (f x) ≤ 4608) : (len i f).toInt ≤ 4608 := by
  unfold len
  exact hf _

/-- What the body makes of the buffers at a grid point. -/
def step (i : grid0.Coords) (v1 : BitVec 32) (hv : v1.toInt ≤ 4608) (σ : State F) : State F :=
  (Cert.Body.whole Cert.Body.stOps (tile i) v1 (good i v1 (check_of_le i v1 hv)) scale σ).2

/-- The prefix length's load. -/
theorem word_runs (i : grid0.Coords) (f : S3.Idx → Elt F .i32) (q : PosShare TreeShare) (Q : BitVec 32 → sProp 𝕄) :
    iprop((((c.tc : Thread nD τ).loc main_arg6) ↦{q} f) ∗ ((((c.tc : Thread nD τ).loc main_arg6) ↦{q} f) -∗ Q (len i f)))
      ⊢ wp frame (wpE (defs₀ (F := F)) 𝒱 (c.tc : Thread nD τ) none) E (word F i (Memref.whole main_arg6)) Q := by
  iintro ⟨Ht, HQ⟩
  unfold len word smemLoad
  iapply (wp_smemLoadElt 𝒱 (c.tc : Thread nD τ) none E (m := Memref.whole main_arg6) (r := Rect.unit (s := S3) (k0_off1 i) S1.size (k0_off1_inb i))
    (S := Finset.univ) (q := q) (f := f) (Finset.subset_univ _)) $$ Ht
  iintro Ht
  rw [wp_ret]
  imodintro
  iapply HQ $$ Ht

/-- What the program assumes of it holds. -/
theorem assumed_runs (i : grid0.Coords) (v1 : BitVec 32) (h : k0_chk1 i v1) (Q : PLift (k0_chk1 i v1) → sProp 𝕄) :
    Q ⟨h⟩ ⊢ wp frame (wpE (defs₀ (F := F)) 𝒱 (c.tc : Thread nD τ) none) E (assumed F i v1) Q := by
  unfold assumed Prog.lift
  refine Entails.trans ?_ (wp_assume 𝒱 (c.tc : Thread nD τ) none E h)
  show _ ⊢ wp frame (wpE (defs₀ (F := F)) 𝒱 (c.tc : Thread nD τ) none) E (Prog.ret ⟨h⟩) Q
  rw [wp_ret]
  iintro H
  imodintro
  iexact H

section
variable (i : grid0.Coords)
    (arg4 : Memref sig .tc .vmem S1x256x896 .fp8e4m3) (harg4 : arg4.IsWhole)
    (arg5 : Memref sig .tc .vmem S1x1x8x256 .f32) (harg5 : arg5.IsWhole)
    (arg6 : Memref sig .tc .vmem S1x1x4608x128 .fp8e4m3) (harg6 : arg6.IsWhole)
    (arg7 : Memref sig .tc .vmem S1x1x36x128 .f32) (harg7 : arg7.IsWhole)
    (arg8 : Memref sig .tc .vmem S1x1x128x4608 .fp8e4m3) (harg8 : arg8.IsWhole)
    (arg9 : Memref sig .tc .vmem S1x1x128x1 .f32) (harg9 : arg9.IsWhole)
    (arg10 : Memref sig .tc .vmem S1x256x896 .bf16) (harg10 : arg10.IsWhole)
    (arg11 : Memref sig .tc .vmem S2x4608x256 .f32) (harg11 : arg11.IsWhole)
    (arg12 : Memref sig .tc .vmem S4608x128 .f32) (harg12 : arg12.IsWhole)
    (arg13 : Memref sig .tc .vmem S128x256 .f32) (harg13 : arg13.IsWhole)
    (arg14 : Memref sig .tc .vmem S8x256 .f32) (harg14 : arg14.IsWhole)
    (arg15 : Memref sig .tc .vmem S8x256 .f32) (harg15 : arg15.IsWhole)
    (arg16 : Memref sig .tc .vmem S8x256 .f32) (harg16 : arg16.IsWhole)
    (arg17 : Memref sig .tc .vmem S8x256 .f32) (harg17 : arg17.IsWhole)

/-- The program at a grid point runs as `step` says. -/
theorem runs (f : S3.Idx → Elt F .i32) (hf : ∀ x, BitVec.toInt (f x) ≤ 4608) (q : PosShare TreeShare) (σ : State F) (Q : PUnit → sProp 𝕄) :
    iprop((((c.tc : Thread nD τ).loc main_arg6) ↦{q} f) ∗ own (mems arg4 arg5 arg6 arg7 arg8 arg9 arg10 harg10 arg11 arg12 arg13 arg14 arg15 arg16 arg17) c σ
        ∗ ((((c.tc : Thread nD τ).loc main_arg6) ↦{q} f) -∗ own (mems arg4 arg5 arg6 arg7 arg8 arg9 arg10 harg10 arg11 arg12 arg13 arg14 arg15 arg16 arg17) c (step i (len i f) (len_le i f hf) σ) -∗ Q ⟨⟩))
      ⊢ wp frame (wpE (defs₀ (F := F)) 𝒱 (c.tc : Thread nD τ) none) E
          (cc0_prefix_attention (F := F) i (Memref.whole main_arg6) (Memref.isWhole_whole _) arg4 harg4 arg5 harg5 arg6 harg6 arg7 harg7 arg8 harg8
            arg9 harg9 arg10 harg10 arg11 harg11 arg12 harg12 arg13 harg13 arg14 harg14 arg15 harg15 arg16 harg16 arg17 harg17) Q := by
  unfold step
  rw [body_eq, wp_bind]
  refine Entails.trans ?_ (word_runs i f q _)
  rw [wp_bind]
  iintro ⟨Ht, Hσ, HQ⟩
  isplitl [Ht]
  · iexact Ht
  iintro Ht
  iapply (assumed_runs i (len i f) (check_of_le i (len i f) (len_le i f hf)) _)
  iapply ((Sim.whole (defs := defs₀ (F := F)) (𝒱 := 𝒱) (B := (mems arg4 arg5 arg6 arg7 arg8 arg9 arg10 harg10 arg11 arg12 arg13 arg14 arg15 arg16 arg17)) (c := c) (E := E) (tile i) (len i f)
    (good i (len i f) (check_of_le i (len i f) (len_le i f hf))) scale).runs σ Q)
  isplitl [Hσ]
  · iexact Hσ
  · iintro H
    iapply HQ $$ Ht H

end

end Cert.Kernel.Body

end
-- ==== Proof.LaunchKernel.lean ====
/-
  The whole call: every grid point runs the body, and the call ends with its argument arrays as they were and its output
  array in the stated relation to what each grid point writes.
-/
module

public import proofs.«01_k».proof.Proof.RunKernel
public import proofs.«01_k».proof.Proof.Gen.Kernel.Launch
public import Idealize.ShloMosaic.Lib.Pipeline.Frame
public import Idealize.ShloMosaic.Lib.Pipeline.Cells

@[expose] public section

noncomputable section

namespace Cert.Kernel.Body

open Idealize.ShloMosaic Idealize.ShloMosaic.TcCoe
open Idealize.SL
open Idealize.SL.BI (sProp bigSep bigSep_congr bigSep_univ_split)
open scoped Idealize.SL.BI
open Idealize.SL.BI.BIBase Idealize.SL.BI.Laws Idealize.SL.Sem Idealize.SL.ProofMode
open Idealize.SL.RA
open Cert.Kernel Cert.Kernel.Gen
open Cert.Body (Sim own State)

variable {F : FTy → Type} [FloatOps F]

local notation "𝕄" => MT nD τ sig Unit (Elt F) ℕ (UR sig nD τ) ℕ

variable (m : (ℓ : Loc nD τ sig) → Buf (Elt F) ℓ)

/-- The prefix lengths at the call's start. -/
def table : pre0.Contents (Elt F) := fun j => m (((0 : Dev nD).tc : Thread nD τ).loc (pre0.ref j))

/-- They are admissible: no window's place depends on them. -/
abbrev adm : (p : Fin 1) → (pcfgs (F := F) p).Adm := fun _ => ⟨table m, trivial⟩

/-- The call's pipeline. -/
abbrev cfgM : Pipeline.Cfg sig Λ₀ := Pipeline.pin (pcfgs (F := F)) (adm m) 0

/-- What the body may leave: the operands as they were, the output in the relation `R`. -/
def after (R : (t : Fin (cfgM m).N) → (S1x256x896.Idx → Elt F .bf16) → Prop) :
    (w : Fin 7) → (t : Fin (cfgM m).N) → (Y X : ((cfgM m).win w).block.Idx → Elt F ((cfgM m).win w).elt) → Prop
  | 0, _, Y, X => X = Y
  | 1, _, Y, X => X = Y
  | 2, _, Y, X => X = Y
  | 3, _, Y, X => X = Y
  | 4, _, Y, X => X = Y
  | 5, _, Y, X => X = Y
  | 6, t, _, X => R t X
  | ⟨_ + 7, h⟩, _, _, _ => absurd h (by omega)

/-- What the body carries from one grid point to the next: the spread key scales, of which `J` holds. -/
def scratch (J : (S4608x128.Idx → Elt F .f32) → Prop) (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜J f⌝ ∗ ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

/-- The call's proof data on a core. -/
def rdat (J : Fin ((cfgM m).N + 1) → (S4608x128.Idx → Elt F .f32) → Prop) (R : (t : Fin (cfgM m).N) → (S1x256x896.Idx → Elt F .bf16) → Prop)
    (c : Dev nD) : Pipeline.RDat τ (Elt F) Unit ℕ (UR sig nD τ) ℕ (cfgM m) c where
  A w := m ((c.tc : Thread nD τ).loc (Pipeline.arrRef (cfgM m).spec w))
  after := after m R
  Φ t := iprop(scratch (J t) c ∗ (∃ r, prngReg c r) ∗ Pipeline.ΦT pre0 (table m) c)
  q _ := fullShare
  owed _ := 0

/-- The staging contents and the scratch contents as one state. -/
def joined (q : S1x256x896.Idx → Elt F .fp8e4m3) (qs : S1x1x8x256.Idx → Elt F .f32) (k : S1x1x4608x128.Idx → Elt F .fp8e4m3)
    (ks : S1x1x36x128.Idx → Elt F .f32) (vt : S1x1x128x4608.Idx → Elt F .fp8e4m3) (vs : S1x1x128x1.Idx → Elt F .f32)
    (out : S1x256x896.Idx → Elt F .bf16) (s : S2x4608x256.Idx → Elt F .f32) (ksb : S4608x128.Idx → Elt F .f32)
    (acc : S128x256.Idx → Elt F .f32) (mx sm mm cc : S8x256.Idx → Elt F .f32) : State F
  | .q => q | .qs => qs | .k => k | .ks => ks | .vt => vt | .vs => vs | .out => out
  | .s => s | .ksb => ksb | .acc => acc | .mx => mx | .sm => sm | .m => mm | .c => cc

/-- The buffers held, one by one. -/
theorem own_eq (arg4 : Memref sig .tc .vmem S1x256x896 .fp8e4m3) (arg5 : Memref sig .tc .vmem S1x1x8x256 .f32)
    (arg6 : Memref sig .tc .vmem S1x1x4608x128 .fp8e4m3) (arg7 : Memref sig .tc .vmem S1x1x36x128 .f32)
    (arg8 : Memref sig .tc .vmem S1x1x128x4608 .fp8e4m3) (arg9 : Memref sig .tc .vmem S1x1x128x1 .f32)
    (arg10 : Memref sig .tc .vmem S1x256x896 .bf16) (harg10 : arg10.IsWhole) (arg11 : Memref sig .tc .vmem S2x4608x256 .f32)
    (arg12 : Memref sig .tc .vmem S4608x128 .f32) (arg13 : Memref sig .tc .vmem S128x256 .f32) (arg14 : Memref sig .tc .vmem S8x256 .f32)
    (arg15 : Memref sig .tc .vmem S8x256 .f32) (arg16 : Memref sig .tc .vmem S8x256 .f32) (arg17 : Memref sig .tc .vmem S8x256 .f32) (c : Dev nD) (σ : State F) :
    (own (mems arg4 arg5 arg6 arg7 arg8 arg9 arg10 harg10 arg11 arg12 arg13 arg14 arg15 arg16 arg17) c σ : sProp 𝕄)
      = iprop(owns (c.tc : Thread nD τ) arg4 fullShare (σ .q) ∗ owns (c.tc : Thread nD τ) arg5 fullShare (σ .qs) ∗ owns (c.tc : Thread nD τ) arg6 fullShare (σ .k) ∗ owns (c.tc : Thread nD τ) arg7 fullShare (σ .ks) ∗ owns (c.tc : Thread nD τ) arg8 fullShare (σ .vt) ∗ owns (c.tc : Thread nD τ) arg9 fullShare (σ .vs) ∗ owns (c.tc : Thread nD τ) arg10 fullShare (σ .out) ∗ owns (c.tc : Thread nD τ) arg11 fullShare (σ .s) ∗ owns (c.tc : Thread nD τ) arg12 fullShare (σ .ksb) ∗ owns (c.tc : Thread nD τ) arg13 fullShare (σ .acc) ∗ owns (c.tc : Thread nD τ) arg14 fullShare (σ .mx) ∗ owns (c.tc : Thread nD τ) arg15 fullShare (σ .sm) ∗ owns (c.tc : Thread nD τ) arg16 fullShare (σ .m) ∗ owns (c.tc : Thread nD τ) arg17 fullShare (σ .c)) := by
  unfold own
  rw [Idealize.SL.BI.bigSep_univ_eq_bigSepL [Cert.Body.Buf.q, .qs, .k, .ks, .vt, .vs, .out, .s, .ksb, .acc, .mx, .sm, .m, .c] (by decide) (by decide)]
  rfl

/-- The prefix lengths the body is handed. -/
theorem table_eq (c : Dev nD) : (Pipeline.ΦT pre0 (table m) c : sProp 𝕄)
    = iprop(((c.tc : Thread nD τ).loc main_arg6) ↦{fullShare.right} (table m 0 : S3.Idx → Elt F .i32)) := by
  unfold Pipeline.ΦT Pipeline.prefHeld
  rw [show (Finset.univ : Finset (Fin 1)) = {(0 : Fin 1)} from by decide, Idealize.SL.BI.bigSep_singleton]
  rfl

/-- The contents of the buffers at a grid point, known of the operands and of the spread key scales. -/
structure Holds (J : (S4608x128.Idx → Elt F .f32) → Prop) (Y : (w : Fin 7) → ((cfgM m).win w).block.Idx → Elt F ((cfgM m).win w).elt)
    (σ : State F) : Prop where
  q : σ .q = Y 0
  qs : σ .qs = Y 1
  k : σ .k = Y 2
  ks : σ .ks = Y 3
  vt : σ .vt = Y 4
  vs : σ .vs = Y 5
  ksb : J (σ .ksb)

/-- The body keeps `J` and writes an output in the relation `R`. -/
def StepOk (hv : ∀ x, BitVec.toInt (table m 0 x) ≤ 4608) (J : Fin ((cfgM m).N + 1) → (S4608x128.Idx → Elt F .f32) → Prop)
    (R : (t : Fin (cfgM m).N) → (S1x256x896.Idx → Elt F .bf16) → Prop) (c : Dev nD) : Prop :=
  ∀ (t : Fin (cfgM m).N) (Y : (w : Fin 7) → ((cfgM m).win w).block.Idx → Elt F ((cfgM m).win w).elt),
    (∀ w, (rdat m J R c).Finds w t (Y w)) → ∀ σ : State F, Holds m (J t.castSucc) Y σ →
    J t.succ (step (grid0.coords t) (len (grid0.coords t) (table m 0)) (len_le _ _ hv) σ .ksb)
      ∧ R t (step (grid0.coords t) (len (grid0.coords t) (table m 0)) (len_le _ _ hv) σ .out)

/-- The body leaves its operands as they were. -/
theorem step_keeps (𝒱 : Variants) (i : grid0.Coords) (v1 : BitVec 32) (hv : v1.toInt ≤ 4608) (σ : State F) (b : Cert.Body.Buf) (hb : b.operand = true) :
    step i v1 hv σ b = σ b :=
  (Sim.whole (defs := defs₀ (F := F)) (𝒱 := 𝒱) (c := (0 : Dev nD)) (E := Set.univ)
    (B := mems (spec0_0.stage 0) (spec0_1.stage 0) (spec0_2.stage 0) (spec0_3.stage 0) (spec0_4.stage 0) (spec0_5.stage 0)
      (spec0_6.stage 0) (hstage0_6 0) (Memref.whole cc0_scratch0) (Memref.whole cc0_scratch1) (Memref.whole cc0_scratch2)
      (Memref.whole cc0_scratch3) (Memref.whole cc0_scratch4) (Memref.whole cc0_scratch5) (Memref.whole cc0_scratch6))
    (tile i) v1 (good i v1 (check_of_le i v1 hv)) scale).keeps σ b hb

variable {m}

set_option maxHeartbeats 4000000 in
/-- At every grid point the body does what the data say. -/
theorem body_obligation (𝒱 : Variants) (hv : ∀ x, BitVec.toInt (table m 0 x) ≤ 4608) (J : Fin ((cfgM m).N + 1) → (S4608x128.Idx → Elt F .f32) → Prop)
    (R : (t : Fin (cfgM m).N) → (S1x256x896.Idx → Elt F .bf16) → Prop) (c : Dev nD) (hs : StepOk m hv J R c) :
    (rdat m J R c).BodyObligation defs₀ 𝒱 () Set.univ := by
  intro t Y hY
  rw [show ∀ Φ : Fin 7 → sProp 𝕄, bigSep (Finset.univ : Finset (Fin (cfgM m).W)) Φ = _ from bigSep_W0]
  rw [show ∀ Φ : Fin 7 → sProp 𝕄, bigSep (Finset.univ : Finset (Fin (cfgM m).W)) Φ = _ from bigSep_W0]
  rw [show (rdat m J R c).Φ t.castSucc = iprop(scratch (J t.castSucc) c ∗ (∃ r, prngReg c r) ∗ Pipeline.ΦT pre0 (table m) c) from rfl,
    show (rdat m J R c).Φ t.succ = iprop(scratch (J t.succ) c ∗ (∃ r, prngReg c r) ∗ Pipeline.ΦT pre0 (table m) c) from rfl]
  rw [table_eq]
  unfold scratch
  iintro ⟨⟨⟨⟨%f0, S0⟩, ⟨%f1, %hJ, S1⟩, ⟨%f2, S2⟩, ⟨%f3, S3⟩, ⟨%f4, S4⟩, ⟨%f5, S5⟩, ⟨%f6, S6⟩⟩, Hp, Ht⟩, Ho, W0, W1, W2, W3, W4, W5, W6⟩
  have hstep := hs t Y hY (joined (Y 0) (Y 1) (Y 2) (Y 3) (Y 4) (Y 5) (Y 6) f0 f1 f2 f3 f4 f5 f6) ⟨rfl, rfl, rfl, rfl, rfl, rfl, hJ⟩
  iapply (runs (c := c) (𝒱 := 𝒱) (E := Set.univ) (grid0.coords t) _ _ _ _ _ _ _ _ _ _ _ _ _ _ _ _ _ _ _ _ _ _ _ _ _ _ _ _
    (table m 0) hv fullShare.right (joined (Y 0) (Y 1) (Y 2) (Y 3) (Y 4) (Y 5) (Y 6) f0 f1 f2 f3 f4 f5 f6) _)
  rw [own_eq, own_eq, step_keeps 𝒱 _ _ _ _ .q rfl, step_keeps 𝒱 _ _ _ _ .qs rfl, step_keeps 𝒱 _ _ _ _ .k rfl, step_keeps 𝒱 _ _ _ _ .ks rfl,
    step_keeps 𝒱 _ _ _ _ .vt rfl, step_keeps 𝒱 _ _ _ _ .vs rfl]
  rw [owns_whole, owns_whole, owns_whole, owns_whole, owns_whole, owns_whole, owns_whole, owns_whole, owns_whole, owns_whole, owns_whole,
    owns_whole, owns_whole, owns_whole]
  isplitl [Ht]
  · iexact Ht
  isplitl [W0 W1 W2 W3 W4 W5 W6 S0 S1 S2 S3 S4 S5 S6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    isplitl [S4]; · iexact S4
    isplitl [S5]; · iexact S5
    iexact S6
  iintro Ht ⟨W0, W1, W2, W3, W4, W5, W6, S0, S1, S2, S3, S4, S5, S6⟩
  isplitl [S0 S1 S2 S3 S4 S5 S6 Hp Ht]
  · isplitl [S0 S1 S2 S3 S4 S5 S6]
    · isplitl [S0]; · iexists _; iexact S0
      isplitl [S1]
      · iexists _; isplitr
        · ipureintro; exact hstep.1
        · iexact S1
      isplitl [S2]; · iexists _; iexact S2
      isplitl [S3]; · iexists _; iexact S3
      isplitl [S4]; · iexists _; iexact S4
      isplitl [S5]; · iexists _; iexact S5
      iexists _; iexact S6
    isplitl [Hp]; · iexact Hp
    iexact Ht
  isplitl [Ho]; · iexact Ho
  isplitl [W0]
  · iexists _; isplitr
    · ipureintro; exact rfl
    · iexact W0
  isplitl [W1]
  · iexists _; isplitr
    · ipureintro; exact rfl
    · iexact W1
  isplitl [W2]
  · iexists _; isplitr
    · ipureintro; exact rfl
    · iexact W2
  isplitl [W3]
  · iexists _; isplitr
    · ipureintro; exact rfl
    · iexact W3
  isplitl [W4]
  · iexists _; isplitr
    · ipureintro; exact rfl
    · iexact W4
  isplitl [W5]
  · iexists _; isplitr
    · ipureintro; exact rfl
    · iexact W5
  iexists _; isplitr
  · ipureintro; exact hstep.2
  · iexact W6

/-- THE CALL: it ends with its arguments unchanged, every counter at zero, and its output array in the relation the data state. -/
theorem call (ρ : Dev nD → PrngReg) (hv : ∀ x, BitVec.toInt (table m 0 x) ≤ 4608)
    (J : (c : Dev nD) → Fin ((cfgM m).N + 1) → (S4608x128.Idx → Elt F .f32) → Prop) (hJ : ∀ c x, J c 0 x)
    (R : (c : Dev nD) → (t : Fin (cfgM m).N) → (S1x256x896.Idx → Elt F .bf16) → Prop) (hs : ∀ c, StepOk m hv (J c) (R c) c) :
    θ_run (defs (F := F)) (onTc (τ := τ) (main (F := F))) ⟨m, fun _ => 0, ρ⟩
      (fun r => Pipeline.RDat.FramePost (cfgM m) (fun c => rdat m (J c) (R c) c) (fun c b => m ((c.tc : Thread nD τ).loc b)) r ∧ r.2.sem = fun _ => 0) :=
  Pipeline.RDat.θ_run_frameP_track (pcfgs (F := F)) (adm m) 0 launch0 defs₀ Variants.none (fun c => rdat m (J c) (R c) c) m ρ main
    (fun c => body_obligation _ hv (J c) (R c) c (hs c)) (fun c w => by unfold Pipeline.RDat.share; split <;> rfl) (fun _ _ => rfl)
    (fun c b => m ((c.tc : Thread nD τ).loc b))
    (Pipeline.hmainP_region (pcfgs (F := F)) 0 defs₀ _ m main (fun _ => rfl))
    (fun _ _ => rfl) (fun c k => by obtain rfl : c = 0 := Subsingleton.elim _ _; rfl)
    (fun c => by
      show _ ⊢ iprop(scratch (J c 0) c ∗ (∃ r, prngReg c r) ∗ Pipeline.ΦT pre0 (table m) c)
      unfold Pipeline.ΦA
      rw [show (Pipeline.scopedRest (cfgM m).spec c : sProp 𝕄) = _ from scopedRest0_eq c]
      unfold scratch
      iintro ⟨⟨⟨S0, ⟨%f1, S1⟩, S⟩, Hp⟩, Ht⟩
      isplitl [S0 S1 S]
      · isplitl [S0]; · iexact S0
        isplitl [S1]
        · iexists f1; isplitr
          · ipureintro; exact hJ c f1
          · iexact S1
        iexact S
      isplitl [Hp]; · iexact Hp
      iexact Ht)
    (fun c => by
      show iprop(scratch (J c (Fin.last _)) c ∗ (∃ r, prngReg c r) ∗ Pipeline.ΦT pre0 (table m) c) ⊢ _
      unfold Pipeline.ΦA
      rw [show (Pipeline.scopedRest (cfgM m).spec c : sProp 𝕄) = _ from scopedRest0_eq c]
      unfold scratch
      iintro ⟨⟨S0, ⟨%f1, -, S1⟩, S⟩, Hp, -⟩
      isplitr [Hp]
      · isplitl [S0]; · iexact S0
        isplitl [S1]
        · iexists f1; iexact S1
        iexact S
      iexact Hp)
    _ (fun _ h => h)

/-- The argument arrays after the call. -/
theorem args_of_post (rd : (c : Dev nD) → Pipeline.RDat τ (Elt F) Unit ℕ (UR sig nD τ) ℕ (cfgM m) c)
    (hA : ∀ c w, (rd c).A w = m ((c.tc : Thread nD τ).loc (Pipeline.arrRef (cfgM m).spec w)))
    (r : PUnit × MemSt nD τ sig (Elt F))
    (h : Pipeline.RDat.FramePost (cfgM m) rd (fun c b => m ((c.tc : Thread nD τ).loc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hi : ∀ w : Fin 7, (spec0 w).isOut = false → r.2.mem ((c.tc : Thread nD τ).loc (Pipeline.arrRef (cfgM m).spec w))
      = m ((c.tc : Thread nD τ).loc (Pipeline.arrRef (cfgM m).spec w)) := fun w hw => by
    have := (h c).1 w
    rw [(rd c).ArrAt_in w hw] at this
    exact this.trans (hA c w)
  exact ⟨hi 0 rfl, hi 1 rfl, hi 2 rfl, hi 3 rfl, hi 4 rfl, hi 5 rfl, (h c).2 main_arg6 (show main_arg6 ∈ Pipeline.restRefs sig spec0 from by decide)⟩

/-- THE FRAME: the call ends with its arguments unchanged and every counter at zero. -/
theorem frame (ρ : Dev nD → PrngReg) (hv : ∀ x, BitVec.toInt (table m 0 x) ≤ 4608) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
        ∧ r.2.sem = fun _ => 0) :=
  (θ_run _ _ _).mono (fun r h => ⟨fun c => args_of_post _ (fun _ _ => rfl) r h.1 c, h.2⟩)
    (call ρ hv (fun _ _ _ => True) (fun _ _ => trivial) (fun _ _ _ => True) (fun _ _ _ _ _ _ => ⟨trivial, trivial⟩))

end Cert.Kernel.Body

end
-- ==== Proof.BodyKernelIdeal.lean ====
/-
  The printed body of the call is the abstract body on the call's memrefs, after the prefix length has been read and the
  tiles it leads to have been assumed to lie among the keys.
-/
module

public import proofs.«01_k».proof.KernelIdeal
public import proofs.«01_k».proof.Proof.Parts
public import Idealize.ShloMosaic.Lib.Tactic

@[expose] public section

set_option maxRecDepth 16384

noncomputable section

namespace Cert.KernelIdeal.Body

open Idealize.ShloMosaic Idealize.SL.Sem
open Cert.KernelIdeal
open Facts₀ Facts

variable {F : FTy → Type} [FloatOps F] [Named F] [Facts]

set_option maxHeartbeats 4000000 in
/-- What the program assumes of the prefix length is enough for the loops. -/
theorem good (i : grid0.Coords) (v1 : BitVec 32) (hw : k0_chk1 i v1) : Cert.Body.Good (BitVec.ofNat 32 (i 2).val) v1 where
  okA := k0_t1_ok i v1 hw
  okB := k0_t2_ok i v1 hw
  okC := k0_t3_ok i v1 hw
  okD := k0_t4_ok i v1 hw
  fitA t := k0_off2_inb i v1 hw t 2
  fitB t := k0_off5_inb i v1 hw t 2
  fitC t := k0_off8_inb i v1 hw t 2
  fitD t := k0_off11_inb i v1 hw t 2

/-- The query tile of a grid point. -/
abbrev tile (i : grid0.Coords) : BitVec 32 := BitVec.ofNat 32 (i 2).val

/-- The factor put on the key scales. -/
def scale : F .f32 := Named.named κ "log2e_over_16_sqrt_d" 0x3C0293EE#32

section
variable (i : grid0.Coords)
    (arg3 : Memref sig .tc .smem S3 .i32) (harg3 : arg3.IsWhole)
    (arg4 : Memref sig .tc .vmem S1x256x896 .fp8e4m3) (harg4 : arg4.IsWhole)
    (arg5 : Memref sig .tc .vmem S1x1x8x256 .f32) (harg5 : arg5.IsWhole)
    (arg6 : Memref sig .tc .vmem S1x1x4608x128 .fp8e4m3) (harg6 : arg6.IsWhole)
    (arg7 : Memref sig .tc .vmem S1x1x36x128 .f32) (harg7 : arg7.IsWhole)
    (arg8 : Memref sig .tc .vmem S1x1x128x4608 .fp8e4m3) (harg8 : arg8.IsWhole)
    (arg9 : Memref sig .tc .vmem S1x1x128x1 .f32) (harg9 : arg9.IsWhole)
    (arg10 : Memref sig .tc .vmem S1x256x896 .bf16) (harg10 : arg10.IsWhole)
    (arg11 : Memref sig .tc .vmem S2x4608x256 .f32) (harg11 : arg11.IsWhole)
    (arg12 : Memref sig .tc .vmem S4608x128 .f32) (harg12 : arg12.IsWhole)
    (arg13 : Memref sig .tc .vmem S128x256 .f32) (harg13 : arg13.IsWhole)
    (arg14 : Memref sig .tc .vmem S8x256 .f32) (harg14 : arg14.IsWhole)
    (arg15 : Memref sig .tc .vmem S8x256 .f32) (harg15 : arg15.IsWhole)
    (arg16 : Memref sig .tc .vmem S8x256 .f32) (harg16 : arg16.IsWhole)
    (arg17 : Memref sig .tc .vmem S8x256 .f32) (harg17 : arg17.IsWhole)

/-- The memrefs by name. -/
def mems : Cert.Body.Mems sig where
  mem
    | .q => arg4 | .qs => arg5 | .k => arg6 | .ks => arg7 | .vt => arg8 | .vs => arg9 | .out => arg10
    | .s => arg11 | .ksb => arg12 | .acc => arg13 | .mx => arg14 | .sm => arg15 | .m => arg16 | .c => arg17
  outWhole := harg10

variable (F) in
/-- The prefix length's load. -/
def word : Prog (TpuEff nD τ sig (Elt F) Λ₀ .tc) (BitVec 32) := do
  let v1 : Elt F .i32 ← smemLoad arg3 (Rect.unit (s := S3) (k0_off1 i) S1.size (k0_off1_inb i)) numel1_S1 rfl
  pure v1

variable (F) in
/-- What the program assumes of it. -/
def assumed (v1 : BitVec 32) : Prog (TpuEff nD τ sig (Elt F) Λ₀ .tc) (PLift (k0_chk1 i v1)) :=
  Prog.lift (TpuEff.assume (k0_chk1 i v1) (k0_chk1.dec i v1))

/-- What the first window of the program returns. -/
abbrev Start (i : grid0.Coords) : Type :=
  Σ' (v1 : BitVec 32) (_ : k0_chk1 i v1) (_ : BitVec 32) (_ : BitVec 32), IVec Cert.Body.S8 32

section
variable (v1 : BitVec 32) (hw : k0_chk1 i v1)

theorem part1_eq  :
    k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1)
      = Cert.Body.part1 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part2_eq (a b : FVec F Cert.Body.S1x256 .f32) (x : F .f32) :
    k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) a b x
      = Cert.Body.part2 (Cert.Body.progOps (mems arg4 arg5 arg6 arg7 arg8 arg9 arg10 harg10 arg11 arg12 arg13 arg14 arg15 arg16 arg17)) (tile i) v1 (good i v1 hw) (Cert.Body.limit (tile i) v1) ⟨a, b, x⟩ := by
  sl_kernel_rfl

theorem part3_eq (a : FVec F Cert.Body.S1x256 .f32) :
    (k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a >>= fun r => k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2)
      = Cert.Body.part3 (Cert.Body.progOps (mems arg4 arg5 arg6 arg7 arg8 arg9 arg10 harg10 arg11 arg12 arg13 arg14 arg15 arg16 arg17)) (tile i) v1 (good i v1 hw) (Cert.Body.limit (tile i) v1) a := by
  sl_kernel_rfl

theorem part4_eq (a : FVec F Cert.Body.S1x256 .f32) (b : FVec F Cert.Body.Sacc .f32) :
    (k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a b >>= fun r => k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r)
      = Cert.Body.part4 (Cert.Body.progOps (mems arg4 arg5 arg6 arg7 arg8 arg9 arg10 harg10 arg11 arg12 arg13 arg14 arg15 arg16 arg17)) (tile i) v1 (good i v1 hw) (Cert.Body.limit (tile i) v1) ⟨a, b⟩ := by
  sl_kernel_rfl

theorem part5_eq (a : FVec F Cert.Body.S1x256x128 .bf16) :
    (k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 a >>= fun _ => k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1))
      = Cert.Body.part5 (Cert.Body.progOps (mems arg4 arg5 arg6 arg7 arg8 arg9 arg10 harg10 arg11 arg12 arg13 arg14 arg15 arg16 arg17)) (tile i) v1 (good i v1 hw) (Cert.Body.limit (tile i) v1) a := by
  sl_kernel_rfl

theorem part6_eq (x : F .f32) :
    k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) x
      = Cert.Body.part6 (Cert.Body.progOps (mems arg4 arg5 arg6 arg7 arg8 arg9 arg10 harg10 arg11 arg12 arg13 arg14 arg15 arg16 arg17)) (tile i) v1 (good i v1 hw) (Cert.Body.nFull (tile i) v1) x := by
  sl_kernel_rfl

theorem part7_eq (w : BitVec 32) :
    k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) w
      = Cert.Body.part7 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part8_eq (a : FVec F Cert.Body.S8 .f32) :
    k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) a
      = Cert.Body.part8 (Cert.Body.progOps (mems arg4 arg5 arg6 arg7 arg8 arg9 arg10 harg10 arg11 arg12 arg13 arg14 arg15 arg16 arg17)) (tile i) v1 (good i v1 hw) (Cert.Body.nAll (tile i) v1) (Cert.Body.nFull (tile i) v1) a := by
  sl_kernel_rfl

theorem part9_eq :
    k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) (Cert.Body.limit (tile i) v1)
      (Scalar.addi (Cert.Body.nFull (tile i) v1) (Scalar.muli (Scalar.divsi (Scalar.subi (Cert.Body.nAll (tile i) v1) (Cert.Body.nFull (tile i) v1)) 1#32) 1#32)) 1#32
      = Cert.Body.part9 (Cert.Body.progOps (mems arg4 arg5 arg6 arg7 arg8 arg9 arg10 harg10 arg11 arg12 arg13 arg14 arg15 arg16 arg17)) (tile i) v1 (good i v1 hw) (Cert.Body.limit (tile i) v1) := by
  sl_kernel_rfl

theorem part10_eq (a b : FVec F Cert.Body.S1x256 .f32) (x : F .f32) :
    k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) a b x
      = Cert.Body.part10 (Cert.Body.progOps (mems arg4 arg5 arg6 arg7 arg8 arg9 arg10 harg10 arg11 arg12 arg13 arg14 arg15 arg16 arg17)) (tile i) v1 (good i v1 hw) (Cert.Body.limit (tile i) v1) ⟨a, b, x⟩ := by
  sl_kernel_rfl

end

theorem start_eq : k0_part1197 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = word F i arg3 >>= fun v1 => assumed F i v1 >>= fun hw =>
      (if _h : Cert.Body.atFirst (tile i) = 1#1 then
          Cert.Body.ksbRows (Cert.Body.progOps (mems arg4 arg5 arg6 arg7 arg8 arg9 arg10 harg10 arg11 arg12 arg13 arg14 arg15 arg16 arg17)) scale 36 0 rfl >>= fun _ =>
            pure (⟨v1, hw.down, Cert.Body.nAll (tile i) v1, Cert.Body.nFull (tile i) v1, Cert.Body.limit (tile i) v1⟩ : Start i)
        else pure (⟨v1, hw.down, Cert.Body.nAll (tile i) v1, Cert.Body.nFull (tile i) v1, Cert.Body.limit (tile i) v1⟩ : Start i)) := by
  sl_kernel_rfl

/-- The windows of the program, one after another. -/
theorem chain_eq (v1 : BitVec 32) (hw : k0_chk1 i v1) :
    (k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) >>= fun r =>
      k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2.1 r.2.2 >>= fun r =>
      k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun r =>
      k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r.1 r.2 >>= fun r =>
      k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2 >>= fun r =>
      k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r >>= fun r =>
      k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun _ =>
      k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) >>= fun r =>
      k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) r >>= fun r =>
      k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) (Cert.Body.limit (tile i) v1) r >>= fun r =>
      k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) r >>= fun r =>
      k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nFull (tile i) v1) (Cert.Body.limit (tile i) v1) r.1 r.2 >>= fun r =>
      k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw (Cert.Body.nAll (tile i) v1) (Cert.Body.nFull (tile i) v1) r.1 r.2.1 r.2.2 >>= fun r =>
      Cert.Body.part11 (Cert.Body.progOps (mems arg4 arg5 arg6 arg7 arg8 arg9 arg10 harg10 arg11 arg12 arg13 arg14 arg15 arg16 arg17)) r)
    = Cert.Body.windows (Cert.Body.progOps (mems arg4 arg5 arg6 arg7 arg8 arg9 arg10 harg10 arg11 arg12 arg13 arg14 arg15 arg16 arg17)) (tile i) v1 (good i v1 hw) (Cert.Body.nAll (tile i) v1) (Cert.Body.nFull (tile i) v1) (Cert.Body.limit (tile i) v1) := by
  unfold Cert.Body.windows
  rw [part1_eq]
  refine congrArg (bind _) (funext fun r => ?_)
  rw [part2_eq]
  refine congrArg (bind _) (funext fun r => ?_)
  rw [← bind_assoc, part3_eq]
  refine congrArg (bind _) (funext fun r => ?_)
  rw [← bind_assoc, part4_eq]
  refine congrArg (bind _) (funext fun r => ?_)
  rw [← bind_assoc, part5_eq]
  refine congrArg (bind _) (funext fun r => ?_)
  rw [part6_eq]
  refine congrArg (bind _) (funext fun r => ?_)
  rw [part7_eq]
  refine congrArg (bind _) (funext fun r => ?_)
  rw [part8_eq]
  rw [Cert.Body.part8_bind, Cert.Body.part8_bind]
  refine congrArg (bind _) (funext fun _ => congrArg (bind _) (funext fun _ => congrArg (bind _) (funext fun _ => congrArg (bind _) (funext fun _ => ?_))))
  rw [part9_eq]
  refine congrArg (bind _) (funext fun r => ?_)
  rw [part10_eq]

/-- The program begins with its first window and goes on with the others. -/
theorem program_eq : cc0_prefix_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = k0_part1197 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun s =>
      k0_part1198 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 >>= fun r =>
      k0_part1199 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r.1 r.2.1 r.2.2 >>= fun r =>
      k0_part1200 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun r =>
      k0_part1201 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r.1 r.2 >>= fun r =>
      k0_part1202 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r.1 r.2 >>= fun r =>
      k0_part1203 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r >>= fun r =>
      k0_part1204 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 r >>= fun _ =>
      k0_part1205 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 >>= fun r =>
      k0_part1206 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.2.1 r >>= fun r =>
      k0_part1207 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 s.2.2.2.2 r >>= fun r =>
      k0_part1208 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 r >>= fun r =>
      k0_part1209 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.2.1 s.2.2.2.2 r.1 r.2 >>= fun r =>
      k0_part1210 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 s.1 s.2.1 s.2.2.1 s.2.2.2.1 r.1 r.2.1 r.2.2 >>= fun r =>
      Cert.Body.part11 (Cert.Body.progOps (mems arg4 arg5 arg6 arg7 arg8 arg9 arg10 harg10 arg11 arg12 arg13 arg14 arg15 arg16 arg17)) r := by
  sl_kernel_rfl

/-- The program is the body. -/
theorem body_eq : cc0_prefix_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
    = word F i arg3 >>= fun v1 =>
      assumed F i v1 >>= fun hw =>
      Cert.Body.whole (Cert.Body.progOps (mems arg4 arg5 arg6 arg7 arg8 arg9 arg10 harg10 arg11 arg12 arg13 arg14 arg15 arg16 arg17)) (tile i) v1 (good i v1 hw.down) scale := by
  rw [program_eq, start_eq, bind_assoc]
  refine congrArg (bind _) (funext fun v1 => ?_)
  rw [bind_assoc]
  refine congrArg (bind _) (funext fun hw => ?_)
  unfold Cert.Body.whole
  split
  · rw [bind_assoc]
    refine congrArg (bind _) (funext fun _ => ?_)
    rw [pure_bind]
    refine Eq.trans ?_ (chain_eq i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw.down)
    sl_kernel_rfl
  · rw [pure_bind]
    refine Eq.trans ?_ (chain_eq i arg3 harg3 arg4 harg4 arg5 harg5 arg6 harg6 arg7 harg7 arg8 harg8 arg9 harg9 arg10 harg10 arg11 harg11 arg12 harg12 arg13 harg13 arg14 harg14 arg15 harg15 arg16 harg16 arg17 harg17 v1 hw.down)
    sl_kernel_rfl

end

end Cert.KernelIdeal.Body

end
-- ==== Proof.CheckKernelIdeal.lean ====
/-
  What the body assumes of the prefix length holds when the length is at most the number of keys.
-/
module

public import proofs.«01_k».proof.Proof.BodyKernelIdeal
public import proofs.«01_k».proof.Proof.Windows

@[expose] public section

set_option maxRecDepth 16384

namespace Cert.KernelIdeal.Body

open Idealize.ShloMosaic Idealize.ShloMosaic.Tactic
open Cert.KernelIdeal
open Cert.Body (lpA lpB lpC lpD Sound good_of_le)

section
variable (i : grid0.Coords) (v1 : BitVec 32)

theorem group0_eq : Cert.Body.group0 (lpA (tile i) v1) (lpB (tile i) v1) (lpC (tile i) v1) (lpD (tile i) v1) = k0_chk1_0 i v1 := by
  sl_kernel_rfl

theorem group1_eq : Cert.Body.group1 (lpA (tile i) v1) (lpB (tile i) v1) (lpC (tile i) v1) (lpD (tile i) v1) = k0_chk1_1 i v1 := by
  sl_kernel_rfl

theorem group2_eq : Cert.Body.group2 (lpA (tile i) v1) (lpB (tile i) v1) (lpC (tile i) v1) (lpD (tile i) v1) = k0_chk1_2 i v1 := by
  sl_kernel_rfl

theorem group3_eq : Cert.Body.group3 (lpA (tile i) v1) (lpB (tile i) v1) (lpC (tile i) v1) (lpD (tile i) v1) = k0_chk1_3 i v1 := by
  sl_kernel_rfl

theorem group4_eq : Cert.Body.group4 (lpA (tile i) v1) (lpB (tile i) v1) (lpC (tile i) v1) (lpD (tile i) v1) = k0_chk1_4 i v1 := by
  sl_kernel_rfl

theorem group5_eq : Cert.Body.group5 (lpA (tile i) v1) (lpB (tile i) v1) (lpC (tile i) v1) (lpD (tile i) v1) = k0_chk1_5 i v1 := by
  sl_kernel_rfl

end

theorem check_of_le (i : grid0.Coords) (v1 : BitVec 32) (hv : v1.toInt ≤ 4608) : k0_chk1 i v1 := by
  have G := good_of_le ⟨(i 2).val, (i 2).isLt⟩ v1 hv
  have hA : Sound (lpA (tile i) v1) := ⟨G.okA, G.fitA⟩
  have hB : Sound (lpB (tile i) v1) := ⟨G.okB, G.fitB⟩
  have hC : Sound (lpC (tile i) v1) := ⟨G.okC, G.fitC⟩
  have hD : Sound (lpD (tile i) v1) := ⟨G.okD, G.fitD⟩
  unfold k0_chk1
  exact ⟨(group0_eq i v1).mp (Cert.Body.group0_of hA hB hC hD),
    (group1_eq i v1).mp (Cert.Body.group1_of hA hB hC hD),
    (group2_eq i v1).mp (Cert.Body.group2_of hA hB hC hD),
    (group3_eq i v1).mp (Cert.Body.group3_of hA hB hC hD),
    (group4_eq i v1).mp (Cert.Body.group4_of hA hB hC hD),
    (group5_eq i v1).mp (Cert.Body.group5_of hA hB hC hD)⟩

end Cert.KernelIdeal.Body

end
-- ==== Proof.RunKernelIdeal.lean ====
/-
  The body's program on one grid point: holding the buffers at a state and the prefix lengths, it runs and leaves the
  buffers at the state the body's function returns, provided no prefix length exceeds the number of keys.
-/
module

public import proofs.«01_k».proof.Proof.CheckKernelIdeal
public import proofs.«01_k».proof.Proof.Parts
public import Idealize.ShloMosaic.Lib.Exec.Context

@[expose] public section

noncomputable section

namespace Cert.KernelIdeal.Body

open Idealize.ShloMosaic Idealize.ShloMosaic.TcCoe
open Idealize.SL
open Idealize.SL.BI (sProp bigSep bigSep_congr bigSep_univ_split)
open scoped Idealize.SL.BI
open Idealize.SL.BI.BIBase Idealize.SL.BI.Laws Idealize.SL.Sem Idealize.SL.ProofMode
open Idealize.SL.RA
open Cert.KernelIdeal
open Facts₀ Facts
open Cert.Body (Sim own State)

variable {F : FTy → Type} [FloatOps F] [Named F] [Facts]

local notation "𝕄" => MT nD τ sig Unit (Elt F) ℕ (UR sig nD τ) ℕ

variable {𝒱 : Variants} {c : Dev nD} {E : Set ℕ}

/-- The prefix length of the batch entry a grid point works on. -/
def len (i : grid0.Coords) (f : S3.Idx → Elt F .i32) : BitVec 32 :=
  ((Memref.whole main_arg6).access (Rect.unit (s := S3) (k0_off1 i) S1.size (k0_off1_inb i))).read (Elt F) f
    (Shape.Idx.first (Nat.lt_of_lt_of_eq Nat.zero_lt_one numel1_S1.symm))

theorem len_le (i : grid0.Coords) (f : S3.Idx → Elt F .i32) (hf : ∀ x, BitVec.toInt (f x) ≤ 4608) : (len i f).toInt ≤ 4608 := by
  unfold len
  exact hf _

/-- What the body makes of the buffers at a grid point. -/
def step (i : grid0.Coords) (v1 : BitVec 32) (hv : v1.toInt ≤ 4608) (σ : State F) : State F :=
  (Cert.Body.whole Cert.Body.stOps (tile i) v1 (good i v1 (check_of_le i v1 hv)) scale σ).2

/-- The prefix length's load. -/
theorem word_runs (i : grid0.Coords) (f : S3.Idx → Elt F .i32) (q : PosShare TreeShare) (Q : BitVec 32 → sProp 𝕄) :
    iprop((((c.tc : Thread nD τ).loc main_arg6) ↦{q} f) ∗ ((((c.tc : Thread nD τ).loc main_arg6) ↦{q} f) -∗ Q (len i f)))
      ⊢ wp frame (wpE (defs₀ (F := F)) 𝒱 (c.tc : Thread nD τ) none) E (word F i (Memref.whole main_arg6)) Q := by
  iintro ⟨Ht, HQ⟩
  unfold len word smemLoad
  iapply (wp_smemLoadElt 𝒱 (c.tc : Thread nD τ) none E (m := Memref.whole main_arg6) (r := Rect.unit (s := S3) (k0_off1 i) S1.size (k0_off1_inb i))
    (S := Finset.univ) (q := q) (f := f) (Finset.subset_univ _)) $$ Ht
  iintro Ht
  rw [wp_ret]
  imodintro
  iapply HQ $$ Ht

/-- What the program assumes of it holds. -/
theorem assumed_runs (i : grid0.Coords) (v1 : BitVec 32) (h : k0_chk1 i v1) (Q : PLift (k0_chk1 i v1) → sProp 𝕄) :
    Q ⟨h⟩ ⊢ wp frame (wpE (defs₀ (F := F)) 𝒱 (c.tc : Thread nD τ) none) E (assumed F i v1) Q := by
  unfold assumed Prog.lift
  refine Entails.trans ?_ (wp_assume 𝒱 (c.tc : Thread nD τ) none E h)
  show _ ⊢ wp frame (wpE (defs₀ (F := F)) 𝒱 (c.tc : Thread nD τ) none) E (Prog.ret ⟨h⟩) Q
  rw [wp_ret]
  iintro H
  imodintro
  iexact H

section
variable (i : grid0.Coords)
    (arg4 : Memref sig .tc .vmem S1x256x896 .fp8e4m3) (harg4 : arg4.IsWhole)
    (arg5 : Memref sig .tc .vmem S1x1x8x256 .f32) (harg5 : arg5.IsWhole)
    (arg6 : Memref sig .tc .vmem S1x1x4608x128 .fp8e4m3) (harg6 : arg6.IsWhole)
    (arg7 : Memref sig .tc .vmem S1x1x36x128 .f32) (harg7 : arg7.IsWhole)
    (arg8 : Memref sig .tc .vmem S1x1x128x4608 .fp8e4m3) (harg8 : arg8.IsWhole)
    (arg9 : Memref sig .tc .vmem S1x1x128x1 .f32) (harg9 : arg9.IsWhole)
    (arg10 : Memref sig .tc .vmem S1x256x896 .bf16) (harg10 : arg10.IsWhole)
    (arg11 : Memref sig .tc .vmem S2x4608x256 .f32) (harg11 : arg11.IsWhole)
    (arg12 : Memref sig .tc .vmem S4608x128 .f32) (harg12 : arg12.IsWhole)
    (arg13 : Memref sig .tc .vmem S128x256 .f32) (harg13 : arg13.IsWhole)
    (arg14 : Memref sig .tc .vmem S8x256 .f32) (harg14 : arg14.IsWhole)
    (arg15 : Memref sig .tc .vmem S8x256 .f32) (harg15 : arg15.IsWhole)
    (arg16 : Memref sig .tc .vmem S8x256 .f32) (harg16 : arg16.IsWhole)
    (arg17 : Memref sig .tc .vmem S8x256 .f32) (harg17 : arg17.IsWhole)

/-- The program at a grid point runs as `step` says. -/
theorem runs (f : S3.Idx → Elt F .i32) (hf : ∀ x, BitVec.toInt (f x) ≤ 4608) (q : PosShare TreeShare) (σ : State F) (Q : PUnit → sProp 𝕄) :
    iprop((((c.tc : Thread nD τ).loc main_arg6) ↦{q} f) ∗ own (mems arg4 arg5 arg6 arg7 arg8 arg9 arg10 harg10 arg11 arg12 arg13 arg14 arg15 arg16 arg17) c σ
        ∗ ((((c.tc : Thread nD τ).loc main_arg6) ↦{q} f) -∗ own (mems arg4 arg5 arg6 arg7 arg8 arg9 arg10 harg10 arg11 arg12 arg13 arg14 arg15 arg16 arg17) c (step i (len i f) (len_le i f hf) σ) -∗ Q ⟨⟩))
      ⊢ wp frame (wpE (defs₀ (F := F)) 𝒱 (c.tc : Thread nD τ) none) E
          (cc0_prefix_attention (F := F) i (Memref.whole main_arg6) (Memref.isWhole_whole _) arg4 harg4 arg5 harg5 arg6 harg6 arg7 harg7 arg8 harg8
            arg9 harg9 arg10 harg10 arg11 harg11 arg12 harg12 arg13 harg13 arg14 harg14 arg15 harg15 arg16 harg16 arg17 harg17) Q := by
  unfold step
  rw [body_eq, wp_bind]
  refine Entails.trans ?_ (word_runs i f q _)
  rw [wp_bind]
  iintro ⟨Ht, Hσ, HQ⟩
  isplitl [Ht]
  · iexact Ht
  iintro Ht
  iapply (assumed_runs i (len i f) (check_of_le i (len i f) (len_le i f hf)) _)
  iapply ((Sim.whole (defs := defs₀ (F := F)) (𝒱 := 𝒱) (B := (mems arg4 arg5 arg6 arg7 arg8 arg9 arg10 harg10 arg11 arg12 arg13 arg14 arg15 arg16 arg17)) (c := c) (E := E) (tile i) (len i f)
    (good i (len i f) (check_of_le i (len i f) (len_le i f hf))) scale).runs σ Q)
  isplitl [Hσ]
  · iexact Hσ
  · iintro H
    iapply HQ $$ Ht H

end

end Cert.KernelIdeal.Body

end
-- ==== Proof.LaunchKernelIdeal.lean ====
/-
  The whole call: every grid point runs the body, and the call ends with its argument arrays as they were and its output
  array in the stated relation to what each grid point writes.
-/
module

public import proofs.«01_k».proof.Proof.RunKernelIdeal
public import proofs.«01_k».proof.Proof.Gen.KernelIdeal.Launch
public import Idealize.ShloMosaic.Lib.Pipeline.Frame
public import Idealize.ShloMosaic.Lib.Pipeline.Cells

@[expose] public section

noncomputable section

namespace Cert.KernelIdeal.Body

open Idealize.ShloMosaic Idealize.ShloMosaic.TcCoe
open Idealize.SL
open Idealize.SL.BI (sProp bigSep bigSep_congr bigSep_univ_split)
open scoped Idealize.SL.BI
open Idealize.SL.BI.BIBase Idealize.SL.BI.Laws Idealize.SL.Sem Idealize.SL.ProofMode
open Idealize.SL.RA
open Cert.KernelIdeal Cert.KernelIdeal.Gen
open Cert.Body (Sim own State)

variable {F : FTy → Type} [FloatOps F] [Named F]

local notation "𝕄" => MT nD τ sig Unit (Elt F) ℕ (UR sig nD τ) ℕ

variable (m : (ℓ : Loc nD τ sig) → Buf (Elt F) ℓ)

/-- The prefix lengths at the call's start. -/
def table : pre0.Contents (Elt F) := fun j => m (((0 : Dev nD).tc : Thread nD τ).loc (pre0.ref j))

/-- They are admissible: no window's place depends on them. -/
abbrev adm : (p : Fin 1) → (pcfgs (F := F) p).Adm := fun _ => ⟨table m, trivial⟩

/-- The call's pipeline. -/
abbrev cfgM : Pipeline.Cfg sig Λ₀ := Pipeline.pin (pcfgs (F := F)) (adm m) 0

/-- What the body may leave: the operands as they were, the output in the relation `R`. -/
def after (R : (t : Fin (cfgM m).N) → (S1x256x896.Idx → Elt F .bf16) → Prop) :
    (w : Fin 7) → (t : Fin (cfgM m).N) → (Y X : ((cfgM m).win w).block.Idx → Elt F ((cfgM m).win w).elt) → Prop
  | 0, _, Y, X => X = Y
  | 1, _, Y, X => X = Y
  | 2, _, Y, X => X = Y
  | 3, _, Y, X => X = Y
  | 4, _, Y, X => X = Y
  | 5, _, Y, X => X = Y
  | 6, t, _, X => R t X
  | ⟨_ + 7, h⟩, _, _, _ => absurd h (by omega)

/-- What the body carries from one grid point to the next: the spread key scales, of which `J` holds. -/
def scratch (J : (S4608x128.Idx → Elt F .f32) → Prop) (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜J f⌝ ∗ ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

/-- The call's proof data on a core. -/
def rdat (J : Fin ((cfgM m).N + 1) → (S4608x128.Idx → Elt F .f32) → Prop) (R : (t : Fin (cfgM m).N) → (S1x256x896.Idx → Elt F .bf16) → Prop)
    (c : Dev nD) : Pipeline.RDat τ (Elt F) Unit ℕ (UR sig nD τ) ℕ (cfgM m) c where
  A w := m ((c.tc : Thread nD τ).loc (Pipeline.arrRef (cfgM m).spec w))
  after := after m R
  Φ t := iprop(scratch (J t) c ∗ (∃ r, prngReg c r) ∗ Pipeline.ΦT pre0 (table m) c)
  q _ := fullShare
  owed _ := 0

/-- The staging contents and the scratch contents as one state. -/
def joined (q : S1x256x896.Idx → Elt F .fp8e4m3) (qs : S1x1x8x256.Idx → Elt F .f32) (k : S1x1x4608x128.Idx → Elt F .fp8e4m3)
    (ks : S1x1x36x128.Idx → Elt F .f32) (vt : S1x1x128x4608.Idx → Elt F .fp8e4m3) (vs : S1x1x128x1.Idx → Elt F .f32)
    (out : S1x256x896.Idx → Elt F .bf16) (s : S2x4608x256.Idx → Elt F .f32) (ksb : S4608x128.Idx → Elt F .f32)
    (acc : S128x256.Idx → Elt F .f32) (mx sm mm cc : S8x256.Idx → Elt F .f32) : State F
  | .q => q | .qs => qs | .k => k | .ks => ks | .vt => vt | .vs => vs | .out => out
  | .s => s | .ksb => ksb | .acc => acc | .mx => mx | .sm => sm | .m => mm | .c => cc

/-- The buffers held, one by one. -/
theorem own_eq (arg4 : Memref sig .tc .vmem S1x256x896 .fp8e4m3) (arg5 : Memref sig .tc .vmem S1x1x8x256 .f32)
    (arg6 : Memref sig .tc .vmem S1x1x4608x128 .fp8e4m3) (arg7 : Memref sig .tc .vmem S1x1x36x128 .f32)
    (arg8 : Memref sig .tc .vmem S1x1x128x4608 .fp8e4m3) (arg9 : Memref sig .tc .vmem S1x1x128x1 .f32)
    (arg10 : Memref sig .tc .vmem S1x256x896 .bf16) (harg10 : arg10.IsWhole) (arg11 : Memref sig .tc .vmem S2x4608x256 .f32)
    (arg12 : Memref sig .tc .vmem S4608x128 .f32) (arg13 : Memref sig .tc .vmem S128x256 .f32) (arg14 : Memref sig .tc .vmem S8x256 .f32)
    (arg15 : Memref sig .tc .vmem S8x256 .f32) (arg16 : Memref sig .tc .vmem S8x256 .f32) (arg17 : Memref sig .tc .vmem S8x256 .f32) (c : Dev nD) (σ : State F) :
    (own (mems arg4 arg5 arg6 arg7 arg8 arg9 arg10 harg10 arg11 arg12 arg13 arg14 arg15 arg16 arg17) c σ : sProp 𝕄)
      = iprop(owns (c.tc : Thread nD τ) arg4 fullShare (σ .q) ∗ owns (c.tc : Thread nD τ) arg5 fullShare (σ .qs) ∗ owns (c.tc : Thread nD τ) arg6 fullShare (σ .k) ∗ owns (c.tc : Thread nD τ) arg7 fullShare (σ .ks) ∗ owns (c.tc : Thread nD τ) arg8 fullShare (σ .vt) ∗ owns (c.tc : Thread nD τ) arg9 fullShare (σ .vs) ∗ owns (c.tc : Thread nD τ) arg10 fullShare (σ .out) ∗ owns (c.tc : Thread nD τ) arg11 fullShare (σ .s) ∗ owns (c.tc : Thread nD τ) arg12 fullShare (σ .ksb) ∗ owns (c.tc : Thread nD τ) arg13 fullShare (σ .acc) ∗ owns (c.tc : Thread nD τ) arg14 fullShare (σ .mx) ∗ owns (c.tc : Thread nD τ) arg15 fullShare (σ .sm) ∗ owns (c.tc : Thread nD τ) arg16 fullShare (σ .m) ∗ owns (c.tc : Thread nD τ) arg17 fullShare (σ .c)) := by
  unfold own
  rw [Idealize.SL.BI.bigSep_univ_eq_bigSepL [Cert.Body.Buf.q, .qs, .k, .ks, .vt, .vs, .out, .s, .ksb, .acc, .mx, .sm, .m, .c] (by decide) (by decide)]
  rfl

/-- The prefix lengths the body is handed. -/
theorem table_eq (c : Dev nD) : (Pipeline.ΦT pre0 (table m) c : sProp 𝕄)
    = iprop(((c.tc : Thread nD τ).loc main_arg6) ↦{fullShare.right} (table m 0 : S3.Idx → Elt F .i32)) := by
  unfold Pipeline.ΦT Pipeline.prefHeld
  rw [show (Finset.univ : Finset (Fin 1)) = {(0 : Fin 1)} from by decide, Idealize.SL.BI.bigSep_singleton]
  rfl

/-- The contents of the buffers at a grid point, known of the operands and of the spread key scales. -/
structure Holds (J : (S4608x128.Idx → Elt F .f32) → Prop) (Y : (w : Fin 7) → ((cfgM m).win w).block.Idx → Elt F ((cfgM m).win w).elt)
    (σ : State F) : Prop where
  q : σ .q = Y 0
  qs : σ .qs = Y 1
  k : σ .k = Y 2
  ks : σ .ks = Y 3
  vt : σ .vt = Y 4
  vs : σ .vs = Y 5
  ksb : J (σ .ksb)

/-- The body keeps `J` and writes an output in the relation `R`. -/
def StepOk (hv : ∀ x, BitVec.toInt (table m 0 x) ≤ 4608) (J : Fin ((cfgM m).N + 1) → (S4608x128.Idx → Elt F .f32) → Prop)
    (R : (t : Fin (cfgM m).N) → (S1x256x896.Idx → Elt F .bf16) → Prop) (c : Dev nD) : Prop :=
  ∀ (t : Fin (cfgM m).N) (Y : (w : Fin 7) → ((cfgM m).win w).block.Idx → Elt F ((cfgM m).win w).elt),
    (∀ w, (rdat m J R c).Finds w t (Y w)) → ∀ σ : State F, Holds m (J t.castSucc) Y σ →
    J t.succ (step (grid0.coords t) (len (grid0.coords t) (table m 0)) (len_le _ _ hv) σ .ksb)
      ∧ R t (step (grid0.coords t) (len (grid0.coords t) (table m 0)) (len_le _ _ hv) σ .out)

/-- The body leaves its operands as they were. -/
theorem step_keeps (𝒱 : Variants) (i : grid0.Coords) (v1 : BitVec 32) (hv : v1.toInt ≤ 4608) (σ : State F) (b : Cert.Body.Buf) (hb : b.operand = true) :
    step i v1 hv σ b = σ b :=
  (Sim.whole (defs := defs₀ (F := F)) (𝒱 := 𝒱) (c := (0 : Dev nD)) (E := Set.univ)
    (B := mems (spec0_0.stage 0) (spec0_1.stage 0) (spec0_2.stage 0) (spec0_3.stage 0) (spec0_4.stage 0) (spec0_5.stage 0)
      (spec0_6.stage 0) (hstage0_6 0) (Memref.whole cc0_scratch0) (Memref.whole cc0_scratch1) (Memref.whole cc0_scratch2)
      (Memref.whole cc0_scratch3) (Memref.whole cc0_scratch4) (Memref.whole cc0_scratch5) (Memref.whole cc0_scratch6))
    (tile i) v1 (good i v1 (check_of_le i v1 hv)) scale).keeps σ b hb

variable {m}

set_option maxHeartbeats 4000000 in
/-- At every grid point the body does what the data say. -/
theorem body_obligation (𝒱 : Variants) (hv : ∀ x, BitVec.toInt (table m 0 x) ≤ 4608) (J : Fin ((cfgM m).N + 1) → (S4608x128.Idx → Elt F .f32) → Prop)
    (R : (t : Fin (cfgM m).N) → (S1x256x896.Idx → Elt F .bf16) → Prop) (c : Dev nD) (hs : StepOk m hv J R c) :
    (rdat m J R c).BodyObligation defs₀ 𝒱 () Set.univ := by
  intro t Y hY
  rw [show ∀ Φ : Fin 7 → sProp 𝕄, bigSep (Finset.univ : Finset (Fin (cfgM m).W)) Φ = _ from bigSep_W0]
  rw [show ∀ Φ : Fin 7 → sProp 𝕄, bigSep (Finset.univ : Finset (Fin (cfgM m).W)) Φ = _ from bigSep_W0]
  rw [show (rdat m J R c).Φ t.castSucc = iprop(scratch (J t.castSucc) c ∗ (∃ r, prngReg c r) ∗ Pipeline.ΦT pre0 (table m) c) from rfl,
    show (rdat m J R c).Φ t.succ = iprop(scratch (J t.succ) c ∗ (∃ r, prngReg c r) ∗ Pipeline.ΦT pre0 (table m) c) from rfl]
  rw [table_eq]
  unfold scratch
  iintro ⟨⟨⟨⟨%f0, S0⟩, ⟨%f1, %hJ, S1⟩, ⟨%f2, S2⟩, ⟨%f3, S3⟩, ⟨%f4, S4⟩, ⟨%f5, S5⟩, ⟨%f6, S6⟩⟩, Hp, Ht⟩, Ho, W0, W1, W2, W3, W4, W5, W6⟩
  have hstep := hs t Y hY (joined (Y 0) (Y 1) (Y 2) (Y 3) (Y 4) (Y 5) (Y 6) f0 f1 f2 f3 f4 f5 f6) ⟨rfl, rfl, rfl, rfl, rfl, rfl, hJ⟩
  iapply (runs (c := c) (𝒱 := 𝒱) (E := Set.univ) (grid0.coords t) _ _ _ _ _ _ _ _ _ _ _ _ _ _ _ _ _ _ _ _ _ _ _ _ _ _ _ _
    (table m 0) hv fullShare.right (joined (Y 0) (Y 1) (Y 2) (Y 3) (Y 4) (Y 5) (Y 6) f0 f1 f2 f3 f4 f5 f6) _)
  rw [own_eq, own_eq, step_keeps 𝒱 _ _ _ _ .q rfl, step_keeps 𝒱 _ _ _ _ .qs rfl, step_keeps 𝒱 _ _ _ _ .k rfl, step_keeps 𝒱 _ _ _ _ .ks rfl,
    step_keeps 𝒱 _ _ _ _ .vt rfl, step_keeps 𝒱 _ _ _ _ .vs rfl]
  rw [owns_whole, owns_whole, owns_whole, owns_whole, owns_whole, owns_whole, owns_whole, owns_whole, owns_whole, owns_whole, owns_whole,
    owns_whole, owns_whole, owns_whole]
  isplitl [Ht]
  · iexact Ht
  isplitl [W0 W1 W2 W3 W4 W5 W6 S0 S1 S2 S3 S4 S5 S6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    isplitl [S4]; · iexact S4
    isplitl [S5]; · iexact S5
    iexact S6
  iintro Ht ⟨W0, W1, W2, W3, W4, W5, W6, S0, S1, S2, S3, S4, S5, S6⟩
  isplitl [S0 S1 S2 S3 S4 S5 S6 Hp Ht]
  · isplitl [S0 S1 S2 S3 S4 S5 S6]
    · isplitl [S0]; · iexists _; iexact S0
      isplitl [S1]
      · iexists _; isplitr
        · ipureintro; exact hstep.1
        · iexact S1
      isplitl [S2]; · iexists _; iexact S2
      isplitl [S3]; · iexists _; iexact S3
      isplitl [S4]; · iexists _; iexact S4
      isplitl [S5]; · iexists _; iexact S5
      iexists _; iexact S6
    isplitl [Hp]; · iexact Hp
    iexact Ht
  isplitl [Ho]; · iexact Ho
  isplitl [W0]
  · iexists _; isplitr
    · ipureintro; exact rfl
    · iexact W0
  isplitl [W1]
  · iexists _; isplitr
    · ipureintro; exact rfl
    · iexact W1
  isplitl [W2]
  · iexists _; isplitr
    · ipureintro; exact rfl
    · iexact W2
  isplitl [W3]
  · iexists _; isplitr
    · ipureintro; exact rfl
    · iexact W3
  isplitl [W4]
  · iexists _; isplitr
    · ipureintro; exact rfl
    · iexact W4
  isplitl [W5]
  · iexists _; isplitr
    · ipureintro; exact rfl
    · iexact W5
  iexists _; isplitr
  · ipureintro; exact hstep.2
  · iexact W6

/-- THE CALL: it ends with its arguments unchanged, every counter at zero, and its output array in the relation the data state. -/
theorem call (ρ : Dev nD → PrngReg) (hv : ∀ x, BitVec.toInt (table m 0 x) ≤ 4608)
    (J : (c : Dev nD) → Fin ((cfgM m).N + 1) → (S4608x128.Idx → Elt F .f32) → Prop) (hJ : ∀ c x, J c 0 x)
    (R : (c : Dev nD) → (t : Fin (cfgM m).N) → (S1x256x896.Idx → Elt F .bf16) → Prop) (hs : ∀ c, StepOk m hv (J c) (R c) c) :
    θ_run (defs (F := F)) (onTc (τ := τ) (main (F := F))) ⟨m, fun _ => 0, ρ⟩
      (fun r => Pipeline.RDat.FramePost (cfgM m) (fun c => rdat m (J c) (R c) c) (fun c b => m ((c.tc : Thread nD τ).loc b)) r ∧ r.2.sem = fun _ => 0) :=
  Pipeline.RDat.θ_run_frameP_track (pcfgs (F := F)) (adm m) 0 launch0 defs₀ Variants.none (fun c => rdat m (J c) (R c) c) m ρ main
    (fun c => body_obligation _ hv (J c) (R c) c (hs c)) (fun c w => by unfold Pipeline.RDat.share; split <;> rfl) (fun _ _ => rfl)
    (fun c b => m ((c.tc : Thread nD τ).loc b))
    (Pipeline.hmainP_region (pcfgs (F := F)) 0 defs₀ _ m main (fun _ => rfl))
    (fun _ _ => rfl) (fun c k => by obtain rfl : c = 0 := Subsingleton.elim _ _; rfl)
    (fun c => by
      show _ ⊢ iprop(scratch (J c 0) c ∗ (∃ r, prngReg c r) ∗ Pipeline.ΦT pre0 (table m) c)
      unfold Pipeline.ΦA
      rw [show (Pipeline.scopedRest (cfgM m).spec c : sProp 𝕄) = _ from scopedRest0_eq c]
      unfold scratch
      iintro ⟨⟨⟨S0, ⟨%f1, S1⟩, S⟩, Hp⟩, Ht⟩
      isplitl [S0 S1 S]
      · isplitl [S0]; · iexact S0
        isplitl [S1]
        · iexists f1; isplitr
          · ipureintro; exact hJ c f1
          · iexact S1
        iexact S
      isplitl [Hp]; · iexact Hp
      iexact Ht)
    (fun c => by
      show iprop(scratch (J c (Fin.last _)) c ∗ (∃ r, prngReg c r) ∗ Pipeline.ΦT pre0 (table m) c) ⊢ _
      unfold Pipeline.ΦA
      rw [show (Pipeline.scopedRest (cfgM m).spec c : sProp 𝕄) = _ from scopedRest0_eq c]
      unfold scratch
      iintro ⟨⟨S0, ⟨%f1, -, S1⟩, S⟩, Hp, -⟩
      isplitr [Hp]
      · isplitl [S0]; · iexact S0
        isplitl [S1]
        · iexists f1; iexact S1
        iexact S
      iexact Hp)
    _ (fun _ h => h)

/-- The argument arrays after the call. -/
theorem args_of_post (rd : (c : Dev nD) → Pipeline.RDat τ (Elt F) Unit ℕ (UR sig nD τ) ℕ (cfgM m) c)
    (hA : ∀ c w, (rd c).A w = m ((c.tc : Thread nD τ).loc (Pipeline.arrRef (cfgM m).spec w)))
    (r : PUnit × MemSt nD τ sig (Elt F))
    (h : Pipeline.RDat.FramePost (cfgM m) rd (fun c b => m ((c.tc : Thread nD τ).loc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hi : ∀ w : Fin 7, (spec0 w).isOut = false → r.2.mem ((c.tc : Thread nD τ).loc (Pipeline.arrRef (cfgM m).spec w))
      = m ((c.tc : Thread nD τ).loc (Pipeline.arrRef (cfgM m).spec w)) := fun w hw => by
    have := (h c).1 w
    rw [(rd c).ArrAt_in w hw] at this
    exact this.trans (hA c w)
  exact ⟨hi 0 rfl, hi 1 rfl, hi 2 rfl, hi 3 rfl, hi 4 rfl, hi 5 rfl, (h c).2 main_arg6 (show main_arg6 ∈ Pipeline.restRefs sig spec0 from by decide)⟩

/-- THE FRAME: the call ends with its arguments unchanged and every counter at zero. -/
theorem frame (ρ : Dev nD → PrngReg) (hv : ∀ x, BitVec.toInt (table m 0 x) ≤ 4608) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
        ∧ r.2.sem = fun _ => 0) :=
  (θ_run _ _ _).mono (fun r h => ⟨fun c => args_of_post _ (fun _ _ => rfl) r h.1 c, h.2⟩)
    (call ρ hv (fun _ _ _ => True) (fun _ _ => trivial) (fun _ _ _ => True) (fun _ _ _ _ _ _ => ⟨trivial, trivial⟩))

end Cert.KernelIdeal.Body

end
-- ==== Proof.Lengths.lean ====
/-
  The precondition on the prefix lengths, read off the printed predicate.
-/
module

public import proofs.«01_k».proof.Defs
public import proofs.«01_k».proof.Proof.LaunchKernel
public import proofs.«01_k».proof.Proof.LaunchKernelIdeal
public import Idealize.ShloMosaic.Lib.StableHlo.Predicate

@[expose] public section

namespace Cert.Lengths

open Idealize.ShloMosaic Idealize.ShloMosaic.TcCoe

/-- No prefix length exceeds the number of keys. -/
theorem kernel [Cert.Pre_lengths_fit.Facts] (m : (ℓ : Loc Cert.Kernel.nD Cert.Kernel.τ Cert.Kernel.sig) → Buf (Elt Bits) ℓ)
    (h : Cert.Pre_Kernel m) (x) : BitVec.toInt (Cert.Kernel.Body.table m 0 x) ≤ 4608 := by
  have e := congrFun (h 0) x
  simp only [Pre_lengths_fit.fn, cmpi, broadcastInDim, constantI, IntOp.cmpi, StableHlo.Predicate.ofBool_eq_one_iff] at e
  have := BitVec.sle_iff_toInt_le.mp e
  exact this.trans (by decide)

theorem kernelIdeal [Cert.Pre_lengths_fit.Facts] (m : (ℓ : Loc Cert.KernelIdeal.nD Cert.KernelIdeal.τ Cert.KernelIdeal.sig) → Buf (Elt Ideal) ℓ)
    (h : Cert.Pre_KernelIdeal m) (x) : BitVec.toInt (Cert.KernelIdeal.Body.table m 0 x) ≤ 4608 := by
  have e := congrFun (h 0) x
  simp only [Pre_lengths_fit.fn, cmpi, broadcastInDim, constantI, IntOp.cmpi, StableHlo.Predicate.ofBool_eq_one_iff] at e
  have := BitVec.sle_iff_toInt_le.mp e
  exact this.trans (by decide)

end Cert.Lengths
-- ==== Proof.Fetched.lean ====
/-
  A pipelined call's arrays, block by block: an operand's buffer always holds the block its index map names, and the output
  array holds on every block written back what was written.
-/
module

public import Idealize.ShloMosaic.Lib.Pipeline.Frame
public import Idealize.ShloMosaic.Lib.Pipeline.Cells

@[expose] public section

namespace Cert.Body

open Idealize.ShloMosaic Idealize.ShloMosaic.Pipeline
open Idealize.SL
open Idealize.SL.RA
open TcCoe

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

/-- An operand that the body leaves as it was is, at every grid point, as that point's own fetch would leave it. -/
theorem finds_fetched [∀ e, Nonempty (Val e)] (w : Fin cfg.W) (hin : (cfg.win w).isOut = false)
    (hafter : ∀ t Y X, rd.after w t Y X → X = Y)
    (hclip : ∀ t t', (cfg.win w).index t = (cfg.win w).index t' → (cfg.win w).clip (cfg.grid.coords t) = (cfg.win w).clip (cfg.grid.coords t')) :
    ∀ (n : ℕ) (t : Fin cfg.N), t.val = n → ∀ X, rd.Finds w t X → ∃ d, X = rd.fetched w t d := by
  intro n
  induction n with
  | zero =>
    intro t ht X h
    refine (rd.finds_of_fetch ?_ X).mp h
    unfold Window.fetch
    simp [hin, ht]
  | succ n ih =>
    intro t ht X h
    cases hf : (cfg.win w).fetch t with
    | true => exact (rd.finds_of_fetch hf X).mp h
    | false =>
      have hi : (cfg.win w).index t = (cfg.win w).index ⟨t.val - 1, Nat.lt_of_le_of_lt (Nat.sub_le _ _) t.isLt⟩ := by
        unfold Window.fetch at hf
        simp only [hin, Bool.not_false, Bool.true_and, Bool.or_eq_false_iff, decide_eq_false_iff_not, not_exists, not_not] at hf
        exact hf.2 (by omega)
      rcases (rd.finds_of_pos hf (by omega) X).mp h with hl | ⟨Y, hY, hX⟩
      · exfalso
        unfold Window.flush at hl
        simp [hin] at hl
      · obtain ⟨d, hd⟩ := ih ⟨t.val - 1, Nat.lt_of_le_of_lt (Nat.sub_le _ _) t.isLt⟩ (by show t.val - 1 = n; omega) Y hY
        refine ⟨d, (hafter _ _ _ hX).trans (hd.trans ?_)⟩
        exact rd.fetched_congr w hi.symm (hclip _ _ hi.symm) d

theorem write_read {κ : Kind} {sp : Space} {s : Shape} {e : EltTy} (v : View sig κ sp s e) (f V : v.ty.Contents Val) (x : s.Idx) :
    v.write Val f (v.read Val V) Finset.univ (v.emb x) = V (v.emb x) := by
  rw [View.write_emb_of_mem _ _ (Finset.mem_univ _), View.read_apply, cast_cast, cast_eq]

/-- If what is written back at each point is `V`'s block there, the array holds `V` on every block written back. -/
theorem arrAt_at (w : Fin cfg.W) (V : Buf Val ((cfg.win w).arr.view.loc (c.tc : Thread nD τ)))
    (hw : ∀ u X, rd.Leaves w u X → (cfg.win w).cut (cfg.grid.coords u) X = ((cfg.win w).blk u).view.read Val V) :
    ∀ (n : ℕ) G, rd.ArrAt w n G → ∀ u : Fin cfg.N, u.val < n → (cfg.win w).flush u = true → ∀ x ∈ ((cfg.win w).blk u).view.set, G x = V x := by
  intro n
  induction n with
  | zero => intro G _ u hu; omega
  | succ n ih =>
    intro G hG u hu hf x hx
    rw [RDat.ArrAt] at hG
    by_cases hn : n < cfg.N
    · rw [dif_pos hn] at hG
      by_cases hfl : (cfg.win w).flush ⟨n, hn⟩ = true
      · rw [if_pos hfl] at hG
        obtain ⟨G₀, X, h0, hX, rfl⟩ := hG
        rw [hw _ _ hX]
        by_cases hxn : x ∈ ((cfg.win w).blk ⟨n, hn⟩).view.set
        · obtain ⟨y, -, rfl⟩ := Finset.mem_map.mp hxn
          exact write_read _ _ _ _
        · rw [View.write_of_not_mem]
          · have : u.val ≠ n := fun h => hxn (by
              have : u = ⟨n, hn⟩ := Fin.ext h
              rw [← this]; exact hx)
            exact ih G₀ h0 u (by omega) hf x hx
          · exact hxn
      · rw [if_neg hfl] at hG
        have : u.val ≠ n := fun h => hfl (by
          have : u = ⟨n, hn⟩ := Fin.ext h
          rw [← this]; exact hf)
        exact ih G hG u (by omega) hf x hx
    · rw [dif_neg hn] at hG
      exact ih G hG u (by omega) hf x hx

end Cert.Body
-- ==== Proof.Reads.lean ====
/-
  What the operands' buffers hold at a grid point: the blocks of the argument arrays that the index maps name.
-/
module

public import proofs.«01_k».proof.Proof.LaunchKernelIdeal
public import proofs.«01_k».proof.Proof.Fetched
public import Idealize.ShloMosaic.Lib.Pointwise
public import Idealize.ShloMosaic.PureOps.Ideal.Laws

@[expose] public section

noncomputable section

namespace Cert.KernelIdeal.Body

open Idealize.ShloMosaic Idealize.ShloMosaic.TcCoe
open Idealize.SL
open Idealize.SL.RA
open Cert.KernelIdeal Cert.KernelIdeal.Gen
open Cert.Body (State)

variable (m : (ℓ : Loc nD τ sig) → Buf (Elt Ideal) ℓ)

/-- A grid point's batch entry, key head and query tile. -/
def bAt (t : Fin grid0.N) : Fin 3 := grid0.coords t 0
def gAt (t : Fin grid0.N) : Fin 8 := grid0.coords t 1
def qAt (t : Fin grid0.N) : Fin 18 := grid0.coords t 2

/-- Two grid coordinates or a grid coordinate as a word. -/
theorem word_val {n : ℕ} (x : Fin n) (h : n ≤ 4294967296) : (BitVec.ofNat 32 x.val).toNat = x.val := by
  rw [BitVec.toNat_ofNat]
  exact Nat.mod_eq_of_lt (lt_of_lt_of_le x.isLt h)

theorem at_val (t : Fin grid0.N) : (bAt t).val = t.val / 144 ∧ (gAt t).val = t.val / 18 % 8 ∧ (qAt t).val = t.val % 18 := by
  revert t
  decide +kernel

theorem of_extent (i k d : ℕ) : (Pipeline.Clip.of i k d).extent k = if (i + 1) * k ≤ d then k else d - i * k := by
  unfold Pipeline.Clip.of
  split <;> rfl

section
variable (J : Fin ((cfgM m).N + 1) → (S4608x128.Idx → Elt Ideal .f32) → Prop) (R : (t : Fin (cfgM m).N) → (S1x256x896.Idx → Elt Ideal .bf16) → Prop) (c : Dev nD)

/-- A fetched block inside the array, at an index. -/
theorem fetched_at (w : Fin 7) (t : Fin (cfgM m).N) (d : ((cfgM m).win w).block.Idx → Elt Ideal ((cfgM m).win w).elt) (j : ((cfgM m).win w).block.Idx)
    (hj : ∀ a, (j a).val < ((cfgM m).win w).xsize (grid0.coords t) a) :
    (rdat m J R c).fetched w t d j = ((((cfgM m).win w).blk t).view.read (Elt Ideal) ((rdat m J R c).A w)) fun a => ⟨(j a).val, hj a⟩ := by
  unfold Pipeline.RDat.fetched Pipeline.Window.fill
  rw [dif_pos ((((cfgM m).win w).moved_iff _ j).mpr hj)]
  rfl

theorem read_q (t : Fin (cfgM m).N) (X) (h : (rdat m J R c).Finds 0 t X) (l : Fin 256) (n : Fin 896) (hl : 256 * (qAt t).val + l.val < 4480) :
    X (ix3 (0 : Fin 1) l n) = m ((c.tc : Thread nD τ).loc main_arg0) (ix3 (n0 := 3) (n1 := 4480) (n2 := 7168) (bAt t) ⟨256 * (qAt t).val + l.val, hl⟩ ⟨896 * (gAt t).val + n.val, by have := (gAt t).isLt; omega⟩) := by
  obtain ⟨d, rfl⟩ := Cert.Body.finds_fetched (rdat m J R c) 0 rfl (fun _ _ _ h => h) (fun t t' h => by
    show clip0_0 (grid0.coords t) = clip0_0 (grid0.coords t')
    have h' : cc0_transform_0 (grid0.coords t) = cc0_transform_0 (grid0.coords t') := h
    unfold clip0_0
    rw [h']) t.val t rfl X h
  have e0 := word_val (bAt t) (by decide)
  have e1 := word_val (gAt t) (by decide)
  have e2 := word_val (qAt t) (by decide)
  rw [fetched_at m J R c 0 t d _ (fun a => by
    show _ < (Pipeline.Clip.of (cc0_transform_0 (grid0.coords t) a) (S1x256x896.size a) (S3x4480x7168.size a)).extent (S1x256x896.size a)
    rw [of_extent]
    fin_cases a
    · show 0 < if ((BitVec.ofNat 32 (bAt t).val).toNat + 1) * 1 ≤ 3 then 1 else 3 - (BitVec.ofNat 32 (bAt t).val).toNat * 1
      rw [e0]
      split <;> omega
    · show l.val < if ((BitVec.ofNat 32 (qAt t).val).toNat + 1) * 256 ≤ 4480 then 256 else 4480 - (BitVec.ofNat 32 (qAt t).val).toNat * 256
      rw [e2]
      split <;> omega
    · show n.val < if ((BitVec.ofNat 32 (gAt t).val).toNat + 1) * 896 ≤ 7168 then 896 else 7168 - (BitVec.ofNat 32 (gAt t).val).toNat * 896
      rw [e1]
      split <;> omega)]
  rw [View.read_apply]
  refine congrArg (m ((c.tc : Thread nD τ).loc main_arg0)) (funext fun a => Fin.ext ?_)
  fin_cases a
  · show (BitVec.ofNat 32 (bAt t).val).toNat * 1 + 1 * 0 = (bAt t).val
    omega
  · show (BitVec.ofNat 32 (qAt t).val).toNat * 256 + 1 * l.val = 256 * (qAt t).val + l.val
    omega
  · show (BitVec.ofNat 32 (gAt t).val).toNat * 896 + 1 * n.val = 896 * (gAt t).val + n.val
    omega

theorem read_qs (t : Fin (cfgM m).N) (X) (h : (rdat m J R c).Finds 1 t X) (s : Fin 8) (l : Fin 256) :
    X (ix4 (0 : Fin 1) (0 : Fin 1) s l) = m ((c.tc : Thread nD τ).loc main_arg1) (ix4 (n0 := 3) (n1 := 8) (n2 := 8) (n3 := 4608) (bAt t) (gAt t) s ⟨256 * (qAt t).val + l.val, by have := (qAt t).isLt; omega⟩) := by
  obtain ⟨d, rfl⟩ := Cert.Body.finds_fetched (rdat m J R c) 1 rfl (fun _ _ _ h => h) (fun t t' h => rfl) t.val t rfl X h
  have e0 := word_val (bAt t) (by decide)
  have e1 := word_val (gAt t) (by decide)
  have e2 := word_val (qAt t) (by decide)
  rw [fetched_at m J R c 1 t d _ (fun a => Fin.isLt _), View.read_apply]
  refine congrArg (m ((c.tc : Thread nD τ).loc main_arg1)) (funext fun a => Fin.ext ?_)
  fin_cases a
  · show (BitVec.ofNat 32 (bAt t).val).toNat * 1 + 1 * 0 = (bAt t).val
    omega
  · show (BitVec.ofNat 32 (gAt t).val).toNat * 1 + 1 * 0 = (gAt t).val
    omega
  · show (0#32 : BitVec 32).toNat * 8 + 1 * s.val = s.val
    simp
  · show (BitVec.ofNat 32 (qAt t).val).toNat * 256 + 1 * l.val = 256 * (qAt t).val + l.val
    omega

theorem read_k (t : Fin (cfgM m).N) (X) (h : (rdat m J R c).Finds 2 t X) (s : Fin 4608) (l : Fin 128) :
    X (ix4 (0 : Fin 1) (0 : Fin 1) s l) = m ((c.tc : Thread nD τ).loc main_arg2) (ix4 (n0 := 3) (n1 := 8) (n2 := 4608) (n3 := 128) (bAt t) (gAt t) s l) := by
  obtain ⟨d, rfl⟩ := Cert.Body.finds_fetched (rdat m J R c) 2 rfl (fun _ _ _ h => h) (fun t t' h => rfl) t.val t rfl X h
  have e0 := word_val (bAt t) (by decide)
  have e1 := word_val (gAt t) (by decide)
  have e2 := word_val (qAt t) (by decide)
  rw [fetched_at m J R c 2 t d _ (fun a => Fin.isLt _), View.read_apply]
  refine congrArg (m ((c.tc : Thread nD τ).loc main_arg2)) (funext fun a => Fin.ext ?_)
  fin_cases a
  · show (BitVec.ofNat 32 (bAt t).val).toNat * 1 + 1 * 0 = (bAt t).val
    omega
  · show (BitVec.ofNat 32 (gAt t).val).toNat * 1 + 1 * 0 = (gAt t).val
    omega
  · show (0#32 : BitVec 32).toNat * 4608 + 1 * s.val = s.val
    simp
  · show (0#32 : BitVec 32).toNat * 128 + 1 * l.val = l.val
    simp

theorem read_ks (t : Fin (cfgM m).N) (X) (h : (rdat m J R c).Finds 3 t X) (s : Fin 36) (l : Fin 128) :
    X (ix4 (0 : Fin 1) (0 : Fin 1) s l) = m ((c.tc : Thread nD τ).loc main_arg3) (ix4 (n0 := 3) (n1 := 8) (n2 := 36) (n3 := 128) (bAt t) (gAt t) s l) := by
  obtain ⟨d, rfl⟩ := Cert.Body.finds_fetched (rdat m J R c) 3 rfl (fun _ _ _ h => h) (fun t t' h => rfl) t.val t rfl X h
  have e0 := word_val (bAt t) (by decide)
  have e1 := word_val (gAt t) (by decide)
  have e2 := word_val (qAt t) (by decide)
  rw [fetched_at m J R c 3 t d _ (fun a => Fin.isLt _), View.read_apply]
  refine congrArg (m ((c.tc : Thread nD τ).loc main_arg3)) (funext fun a => Fin.ext ?_)
  fin_cases a
  · show (BitVec.ofNat 32 (bAt t).val).toNat * 1 + 1 * 0 = (bAt t).val
    omega
  · show (BitVec.ofNat 32 (gAt t).val).toNat * 1 + 1 * 0 = (gAt t).val
    omega
  · show (0#32 : BitVec 32).toNat * 36 + 1 * s.val = s.val
    simp
  · show (0#32 : BitVec 32).toNat * 128 + 1 * l.val = l.val
    simp

theorem read_vt (t : Fin (cfgM m).N) (X) (h : (rdat m J R c).Finds 4 t X) (s : Fin 128) (l : Fin 4608) :
    X (ix4 (0 : Fin 1) (0 : Fin 1) s l) = m ((c.tc : Thread nD τ).loc main_arg4) (ix4 (n0 := 3) (n1 := 8) (n2 := 128) (n3 := 4608) (bAt t) (gAt t) s l) := by
  obtain ⟨d, rfl⟩ := Cert.Body.finds_fetched (rdat m J R c) 4 rfl (fun _ _ _ h => h) (fun t t' h => rfl) t.val t rfl X h
  have e0 := word_val (bAt t) (by decide)
  have e1 := word_val (gAt t) (by decide)
  have e2 := word_val (qAt t) (by decide)
  rw [fetched_at m J R c 4 t d _ (fun a => Fin.isLt _), View.read_apply]
  refine congrArg (m ((c.tc : Thread nD τ).loc main_arg4)) (funext fun a => Fin.ext ?_)
  fin_cases a
  · show (BitVec.ofNat 32 (bAt t).val).toNat * 1 + 1 * 0 = (bAt t).val
    omega
  · show (BitVec.ofNat 32 (gAt t).val).toNat * 1 + 1 * 0 = (gAt t).val
    omega
  · show (0#32 : BitVec 32).toNat * 128 + 1 * s.val = s.val
    simp
  · show (0#32 : BitVec 32).toNat * 4608 + 1 * l.val = l.val
    simp

theorem read_vs (t : Fin (cfgM m).N) (X) (h : (rdat m J R c).Finds 5 t X) (s : Fin 128) (l : Fin 1) :
    X (ix4 (0 : Fin 1) (0 : Fin 1) s l) = m ((c.tc : Thread nD τ).loc main_arg5) (ix4 (n0 := 3) (n1 := 8) (n2 := 128) (n3 := 1) (bAt t) (gAt t) s l) := by
  obtain ⟨d, rfl⟩ := Cert.Body.finds_fetched (rdat m J R c) 5 rfl (fun _ _ _ h => h) (fun t t' h => rfl) t.val t rfl X h
  have e0 := word_val (bAt t) (by decide)
  have e1 := word_val (gAt t) (by decide)
  have e2 := word_val (qAt t) (by decide)
  rw [fetched_at m J R c 5 t d _ (fun a => Fin.isLt _), View.read_apply]
  refine congrArg (m ((c.tc : Thread nD τ).loc main_arg5)) (funext fun a => Fin.ext ?_)
  fin_cases a
  · show (BitVec.ofNat 32 (bAt t).val).toNat * 1 + 1 * 0 = (bAt t).val
    omega
  · show (BitVec.ofNat 32 (gAt t).val).toNat * 1 + 1 * 0 = (gAt t).val
    omega
  · show (0#32 : BitVec 32).toNat * 128 + 1 * s.val = s.val
    simp
  · show (0#32 : BitVec 32).toNat * 1 + 1 * l.val = l.val
    simp

end

end Cert.KernelIdeal.Body

end
-- ==== Proof.Cells.lean ====
/-
  Single elements of the buffers: what a window read, a window written and a whole buffer set mean at an index.
-/
module

public import proofs.«01_k».proof.Proof.Bounds
public import proofs.«01_k».proof.Proof.Parts
public import Idealize.ShloMosaic.Lib.Pointwise
public import Idealize.ShloMosaic.PureOps.Ideal.Laws

@[expose] public section

noncomputable section

namespace Cert.Body

open Idealize.ShloMosaic

theorem window_at {α : Type} {s : Shape} (x : s.Idx → α) (off size : Fin s.rank → ℕ) (inb : ∀ a, off a + size a ≤ s.size a)
    (y : (Rect.unit off size inb).shape.Idx) (i : s.Idx) (h : ∀ a, (i a).val = off a + (y a).val) : VecWindow.window x off size inb y = x i :=
  congrArg x (funext fun a => Fin.ext (by
    rw [h a]
    show off a + 1 * (y a).val = _
    omega))

theorem put_in {α : Type} {s : Shape} (x : s.Idx → α) (off size : Fin s.rank → ℕ) (w : ((a : Fin s.rank) → Fin (size a)) → α)
    (i : s.Idx) (y : (a : Fin s.rank) → Fin (size a)) (h : ∀ a, (i a).val = off a + (y a).val) : VecWindow.put x off size w i = w y := by
  have hi : ∀ a, off a ≤ (i a).val ∧ (i a).val < off a + size a := fun a => by
    have := (y a).isLt
    have := h a
    omega
  unfold VecWindow.put
  rw [dif_pos hi]
  refine congrArg w (funext fun a => Fin.ext ?_)
  show (i a).val - off a = _
  have := h a
  omega

theorem put_out {α : Type} {s : Shape} (x : s.Idx → α) (off size : Fin s.rank → ℕ) (w : ((a : Fin s.rank) → Fin (size a)) → α)
    (i : s.Idx) (a : Fin s.rank) (h : (i a).val < off a ∨ off a + size a ≤ (i a).val) : VecWindow.put x off size w i = x i := by
  unfold VecWindow.put
  rw [dif_neg (fun hi => by have := hi a; omega)]

theorem put_whole2 {α : Type} {n m : ℕ} (x : (⟨2, ![n, m]⟩ : Shape).Idx → α) (w : (⟨2, ![n, m]⟩ : Shape).Idx → α) :
    VecWindow.put (s := ⟨2, ![n, m]⟩) x ![0, 0] (⟨2, ![n, m]⟩ : Shape).size w = w :=
  funext fun i => put_in _ _ _ _ i i fun a => by fin_cases a <;> exact (Nat.zero_add _).symm

theorem window_whole2 {α : Type} {n m : ℕ} (x : (⟨2, ![n, m]⟩ : Shape).Idx → α) (inb) :
    VecWindow.window (s := ⟨2, ![n, m]⟩) x ![0, 0] (⟨2, ![n, m]⟩ : Shape).size inb = x :=
  funext fun i => window_at _ _ _ _ i i fun a => by fin_cases a <;> exact (Nat.zero_add _).symm

theorem cast_self2 {α : Type} {n m : ℕ} (x : (⟨2, ![n, m]⟩ : Shape).Idx → α) (h) : shapeCast (⟨2, ![n, m]⟩ : Shape) x h = x :=
  shapeCast_self x h

variable {F : FTy → Type} [FloatOps F]

theorem State.set_same (σ : State F) (b : Buf) (x) : σ.set b x b = x := Function.update_self ..
theorem State.set_ne (σ : State F) (b b' : Buf) (x) (h : b' ≠ b) : σ.set b x b' = σ b' := Function.update_of_ne h ..

theorem setAcc_eq (v : FVec F Sacc .f32) (σ : State F) : (setAcc (stOps (F := F)) v σ).2 = σ.set .acc v := by
  show σ.set .acc (VecWindow.put _ _ _ (shapeCast Sacc v sc_acc)) = _
  rw [cast_self2]; exact congrArg _ (put_whole2 (n := 128) (m := 256) _ _)
theorem setMx_eq (v : FVec F S8 .f32) (σ : State F) : (setMx (stOps (F := F)) v σ).2 = σ.set .mx v := by
  show σ.set .mx (VecWindow.put _ _ _ (shapeCast S8 v sc_8)) = _
  rw [cast_self2]; exact congrArg _ (put_whole2 (n := 8) (m := 256) _ _)
theorem setSm_eq (v : FVec F S8 .f32) (σ : State F) : (setSm (stOps (F := F)) v σ).2 = σ.set .sm v := by
  show σ.set .sm (VecWindow.put _ _ _ (shapeCast S8 v sc_8)) = _
  rw [cast_self2]; exact congrArg _ (put_whole2 (n := 8) (m := 256) _ _)
theorem setM_eq (v : FVec F S8 .f32) (σ : State F) : (setM (stOps (F := F)) v σ).2 = σ.set .m v := by
  show σ.set .m (VecWindow.put _ _ _ (shapeCast S8 v sc_8)) = _
  rw [cast_self2]; exact congrArg _ (put_whole2 (n := 8) (m := 256) _ _)
theorem setC_eq (v : FVec F S8 .f32) (σ : State F) : (setC (stOps (F := F)) v σ).2 = σ.set .c v := by
  show σ.set .c (VecWindow.put _ _ _ (shapeCast S8 v sc_8)) = _
  rw [cast_self2]; exact congrArg _ (put_whole2 (n := 8) (m := 256) _ _)

end Cert.Body

end
-- ==== Proof.Scores.lean ====
/-
  One tile of scores, element by element: the stored scores and the running maximum.
-/
module

public import proofs.«01_k».proof.Proof.Cells

@[expose] public section

noncomputable section

namespace Cert.Body

open Idealize.ShloMosaic

/-- Scores of a head stored up to key `n`, in one slot. -/
def Stored (T : ℕ → Fin 256 → EReal) (slot : Fin 2) (n : ℕ) (σ : State Ideal) : Prop :=
  ∀ j < n, ∀ l : Fin 256, σ .s (ix3 slot (Fin.ofNat 4608 j) l) = T j l

/-- The running maximum over the first `8 * n` keys. -/
def MaxOf (T : ℕ → Fin 256 → EReal) (n : ℕ) (mx : FVec Ideal S8 .f32) : Prop :=
  ∀ (s : Fin 8) (l : Fin 256), mx (ix2 s l) = (Finset.range n).sup fun i => T (8 * i + s.val) l

/-- Only one slot of the scores differs. -/
def OtherSlots (slot : Fin 2) (σ σ' : State Ideal) : Prop :=
  ∀ slot' ≠ slot, ∀ (j : Fin 4608) (l : Fin 256), σ' .s (ix3 slot' j l) = σ .s (ix3 slot' j l)

/-- The masked scores of chunk `r` of a tile. -/
def scored (lim : Option (IVec S8 32)) (j0 : BitVec 32) (p : FVec Ideal S512x256 .f32) (r : ℕ) (hr : r < 64) (v : FVec Ideal S8x128 .f32) : FVec Ideal S8 .f32 :=
  masked lim j0 (BitVec.ofNat 32 (8 * r)) (mulf (extractStridedSlice S8 ![8 * r, 0] p (slices_chunk (by omega)))
    (concatenate S8 1 [⟨S8x128, v⟩, ⟨S8x128, v⟩] cc_ksb))

variable {lim : Option (IVec S8 32)} {slot : ℕ} (hs : slot < 2) {j0 : BitVec 32} (hf : Fits j0) {p : FVec Ideal S512x256 .f32}

structure ChunkInv (T : ℕ → Fin 256 → EReal) (slot : Fin 2) (kt r : ℕ) (σ₁ σ : State Ideal) (mx : FVec Ideal S8 .f32) : Prop where
  same : ∀ b ≠ Buf.s, σ b = σ₁ b
  stored : Stored T slot (512 * kt + 8 * r) σ
  other : OtherSlots slot σ₁ σ
  max : MaxOf T (64 * kt + r) mx

theorem chunk_step {T : ℕ → Fin 256 → EReal} {kt : ℕ} (hkt : j0.toNat = 512 * kt) (r : ℕ) (hr : r < 64) {σ₁ σ : State Ideal} {mx : FVec Ideal S8 .f32}
    (ht : ∀ v : FVec Ideal S8x128 .f32, (∀ (s : Fin 8) (l : Fin 128), v (ix2 s l) = σ₁ .ksb (ix2 (Fin.ofNat 4608 (512 * kt + 8 * r + s.val)) l)) →
      ∀ (s : Fin 8) (l : Fin 256), scored lim j0 p r hr v (ix2 s l) = T (512 * kt + 8 * r + s.val) l)
    (H : ChunkInv T ⟨slot, hs⟩ kt r σ₁ σ mx) :
    ChunkInv T ⟨slot, hs⟩ kt (r + 1) σ₁ (chunk stOps lim slot hs j0 hf p r hr mx σ).2 (chunk stOps lim slot hs j0 hf p r hr mx σ).1 := by
  have hfit : 512 * kt + 512 ≤ 4608 := by unfold Fits at hf; omega
  have e0 := toNat_add_small hf (c := 8 * r) (by omega)
  rw [hkt] at e0
  have hv : ∀ (s : Fin 8) (l : Fin 128), VecWindow.window (σ .ksb) ![(Scalar.indexCast (Scalar.addi j0 (BitVec.ofNat 32 (8 * r)))).toNat, 0] S8x128.size (inb_ksb hf (by omega)) (ix2 s l)
      = σ₁ .ksb (ix2 (Fin.ofNat 4608 (512 * kt + 8 * r + s.val)) l) := by
    intro s l
    rw [H.same _ (by decide)]
    refine window_at _ _ _ _ _ _ fun a => ?_
    fin_cases a
    · show (512 * kt + 8 * r + s.val) % 4608 = (Scalar.indexCast (Scalar.addi j0 (BitVec.ofNat 32 (8 * r)))).toNat + s.val
      rw [e0, Nat.mod_eq_of_lt (by omega)]
    · exact (Nat.zero_add _).symm
  have hT := ht _ hv
  set t := scored lim j0 p r hr (VecWindow.window (σ .ksb) ![(Scalar.indexCast (Scalar.addi j0 (BitVec.ofNat 32 (8 * r)))).toNat, 0] S8x128.size (inb_ksb hf (by omega))) with htd
  have e2 : (chunk stOps lim slot hs j0 hf p r hr mx σ).2 = σ.set .s (VecWindow.put (s := Ss) (σ .s) ![slot, (Scalar.indexCast (Scalar.addi j0 (BitVec.ofNat 32 (8 * r)))).toNat, 0] S1x8.size (shapeCast S1x8 t sc_s')) := rfl
  have e1 : (chunk stOps lim slot hs j0 hf p r hr mx σ).1 = maximumf mx t := rfl
  rw [e1, e2]
  refine ⟨fun b hb => (State.set_ne _ _ _ _ hb).trans (H.same b hb), ?_, ?_, ?_⟩
  · intro j hj l
    rw [State.set_same]
    by_cases hlt : j < 512 * kt + 8 * r
    · rw [put_out _ _ _ _ _ 1 (.inl ?_)]
      · exact H.stored j hlt l
      · show j % 4608 < (Scalar.indexCast (Scalar.addi j0 (BitVec.ofNat 32 (8 * r)))).toNat
        rw [e0, Nat.mod_eq_of_lt (by omega)]; exact hlt
    · obtain ⟨s, rfl⟩ : ∃ s, j = 512 * kt + 8 * r + s := ⟨j - (512 * kt + 8 * r), by omega⟩
      have hs8 : s < 8 := by omega
      refine (put_in (s := Ss) _ _ S1x8.size _ _ (ix3 (0 : Fin 1) (⟨s, hs8⟩ : Fin 8) l) ?_).trans ?_
      rotate_left
      · rw [← hT ⟨s, hs8⟩ l]
        pointwise
      · intro a
        fin_cases a
        · rfl
        · show (512 * kt + 8 * r + s) % 4608 = (Scalar.indexCast (Scalar.addi j0 (BitVec.ofNat 32 (8 * r)))).toNat + s
          rw [e0, Nat.mod_eq_of_lt (by omega)]
        · exact (Nat.zero_add _).symm
  · intro slot' hne j l
    rw [State.set_same, put_out _ _ _ _ _ 0 ?_]
    · exact H.other slot' hne j l
    · show slot'.val < slot ∨ slot + 1 ≤ slot'.val
      have : slot'.val ≠ slot := fun h => hne (Fin.ext h)
      omega
  · intro s l
    have e3 : maximumf mx t (ix2 s l) = max (mx (ix2 s l)) (t (ix2 s l)) := rfl
    rw [e3, H.max s l, hT s l, show 64 * kt + (r + 1) = (64 * kt + r) + 1 from rfl, Finset.range_add_one, Finset.sup_insert, max_comm,
      show 8 * (64 * kt + r) + s.val = 512 * kt + 8 * r + s.val by omega]

theorem chunks_run {T : ℕ → Fin 256 → EReal} {kt : ℕ} (hkt : j0.toNat = 512 * kt) {σ₁ : State Ideal}
    (ht : ∀ (r : ℕ) (hr : r < 64) (v : FVec Ideal S8x128 .f32), (∀ (s : Fin 8) (l : Fin 128), v (ix2 s l) = σ₁ .ksb (ix2 (Fin.ofNat 4608 (512 * kt + 8 * r + s.val)) l)) →
      ∀ (s : Fin 8) (l : Fin 256), scored lim j0 p r hr v (ix2 s l) = T (512 * kt + 8 * r + s.val) l)
    (n r : ℕ) (h : r + n = 64) (σ : State Ideal) (mx : FVec Ideal S8 .f32) (H : ChunkInv T ⟨slot, hs⟩ kt r σ₁ σ mx) :
    ChunkInv T ⟨slot, hs⟩ kt 64 σ₁ (chunks stOps lim slot hs j0 hf p n r h mx σ).2 (chunks stOps lim slot hs j0 hf p n r h mx σ).1 := by
  induction n generalizing r σ mx with
  | zero =>
    have : r = 64 := by omega
    subst this
    exact H
  | succ n ih => exact ih (r + 1) (by omega) _ _ (chunk_step hs hf hkt r (by omega) (ht r (by omega)) H)

/-- The product of a tile's keys with a head's queries. -/
def product (k : FVec Ideal S1x1x512x128 .fp8e4m3) (q : FVec Ideal S1x256x128 .fp8e4m3) : FVec Ideal S512x256 .f32 :=
  matmul dotK none (shapeCast S512x128 k sc_k) (shapeCast S256x128 q sc_head) (constant S512x256 .f32 0x00000000#32)

theorem product_apply (k : FVec Ideal S1x1x512x128 .fp8e4m3) (q : FVec Ideal S1x256x128 .fp8e4m3) (x : Fin 512) (l : Fin 256) :
    product k q (ix2 x l) = ∑ d : Fin 128, k (ix4 0 0 x d) * q (ix3 0 l d) := by
  unfold product
  pointwise [dotK]

end Cert.Body

end
-- ==== Proof.Tile.lean ====
/-
  One tile of a stage: the scores it stores and the maximum it raises, in terms of the operands.
-/
module

public import proofs.«01_k».proof.Proof.Scores

@[expose] public section

noncomputable section

namespace Cert.Body

open Idealize.ShloMosaic
open scoped Classical in
/-- The kernel's score of key `j` and query lane `l` of head `h`: the product of the codes by the key's spread scale, where
the key is visible. -/
def scoreOf (q : Sq.Idx → EReal) (k : Sk.Idx → EReal) (ksb : Sksb.Idx → EReal) (P : ℕ → Fin 256 → Prop) (h j : ℕ) (l : Fin 256) : EReal :=
  if P j l then (∑ d : Fin 128, k (ix4 0 0 (Fin.ofNat 4608 j) d) * q (ix3 0 l (Fin.ofNat 896 (128 * h + d.val)))) * ksb (ix2 (Fin.ofNat 4608 j) (Fin.ofNat 128 l.val)) else ⊥

open scoped Classical in
/-- The mask of tile `kt` keeps the visible keys. -/
def Masks (lim : Option (IVec S8 32)) (kt : ℕ) (P : ℕ → Fin 256 → Prop) : Prop :=
  ∀ (j0 : BitVec 32), j0.toNat = 512 * kt → ∀ r < 64, ∀ (t : FVec Ideal S8 .f32) (s : Fin 8) (l : Fin 256),
    masked lim j0 (BitVec.ofNat 32 (8 * r)) t (ix2 s l) = if P (512 * kt + 8 * r + s.val) l then t (ix2 s l) else (⊥ : EReal)

theorem spread_apply (v : FVec Ideal S8x128 .f32) (s : Fin 8) (l : Fin 256) :
    concatenate S8 1 [⟨S8x128, v⟩, ⟨S8x128, v⟩] cc_ksb (ix2 s l) = v (ix2 s (Fin.ofNat 128 l.val)) := by
  pointwise
  split
  · exact congrArg v (congrArg (ix2 s) (Fin.ext (Nat.mod_eq_of_lt (by assumption)).symm))
  · refine congrArg v (congrArg (ix2 s) (Fin.ext ?_))
    show l.val - 128 = l.val % 128
    have := l.isLt
    omega

theorem slice_apply (p : FVec Ideal S512x256 .f32) (r : ℕ) (hr : r < 64) (s : Fin 8) (l : Fin 256) :
    extractStridedSlice S8 ![8 * r, 0] p (slices_chunk (by omega)) (ix2 s l) = p (ix2 ⟨8 * r + s.val, by omega⟩ l) := by
  refine extractStridedSlice_apply _ _ _ _ _ fun a => ?_
  fin_cases a
  · rfl
  · exact (Nat.zero_add _).symm

theorem scored_apply {lim : Option (IVec S8 32)} {kt : ℕ} {P : ℕ → Fin 256 → Prop} (hm : Masks lim kt P) {j0 : BitVec 32} (hj : j0.toNat = 512 * kt)
    {q : Sq.Idx → EReal} {k : Sk.Idx → EReal} {ksb : Sksb.Idx → EReal} {h : ℕ} {p : FVec Ideal S512x256 .f32}
    (hp : ∀ (x : Fin 512) (l : Fin 256), p (ix2 x l) = ∑ d : Fin 128, k (ix4 0 0 (Fin.ofNat 4608 (512 * kt + x.val)) d) * q (ix3 0 l (Fin.ofNat 896 (128 * h + d.val))))
    (r : ℕ) (hr : r < 64) (v : FVec Ideal S8x128 .f32) (hv : ∀ (s : Fin 8) (l : Fin 128), v (ix2 s l) = ksb (ix2 (Fin.ofNat 4608 (512 * kt + 8 * r + s.val)) l))
    (s : Fin 8) (l : Fin 256) : scored lim j0 p r hr v (ix2 s l) = scoreOf q k ksb P h (512 * kt + 8 * r + s.val) l := by
  unfold scored scoreOf
  rw [hm j0 hj r hr]
  congr 1
  show extractStridedSlice S8 ![8 * r, 0] p (slices_chunk (by omega)) (ix2 s l) * concatenate S8 1 [⟨S8x128, v⟩, ⟨S8x128, v⟩] cc_ksb (ix2 s l) = _
  rw [spread_apply, slice_apply p r hr, hp, hv]
  simp only [Nat.add_assoc]

theorem scores_run {lim : Option (IVec S8 32)} {kt : ℕ} {P : ℕ → Fin 256 → Prop} (hm : Masks lim kt P) (h : ℕ) (hh : h < 7) (slot : ℕ) (hs : slot < 2)
    (j0 : BitVec 32) (hf : Fits j0) (hj : j0.toNat = 512 * kt) (σ : State Ideal) {T : ℕ → Fin 256 → EReal} (hT : T = scoreOf (σ .q) (σ .k) (σ .ksb) P h)
    (H : Stored T ⟨slot, hs⟩ (512 * kt) σ) (Hm : MaxOf T (64 * kt) (σ .mx)) :
    let σ' := (scores stOps lim h hh slot hs j0 hf σ).2
    (∀ b, b ≠ .s → b ≠ .mx → σ' b = σ b) ∧ Stored T ⟨slot, hs⟩ (512 * (kt + 1)) σ' ∧ OtherSlots ⟨slot, hs⟩ σ σ' ∧ MaxOf T (64 * (kt + 1)) (σ' .mx) := by
  intro σ'
  have hfit : 512 * kt + 512 ≤ 4608 := by unfold Fits at hf; omega
  have hp : ∀ (x : Fin 512) (l : Fin 256), product (VecWindow.window (σ .k) ![0, 0, (Scalar.indexCast j0).toNat, 0] S1x1x512x128.size (inb_k hf))
        (VecWindow.window (σ .q) ![0, 0, 128 * h] S1x256x128.size (inb_head hh)) (ix2 x l)
      = ∑ d : Fin 128, σ .k (ix4 0 0 (Fin.ofNat 4608 (512 * kt + x.val)) d) * σ .q (ix3 0 l (Fin.ofNat 896 (128 * h + d.val))) := by
    intro x l
    rw [product_apply]
    refine Finset.sum_congr rfl fun d _ => ?_
    congr 1
    · refine window_at (s := Sk) _ _ _ _ _ _ fun a => ?_
      fin_cases a
      · rfl
      · rfl
      · show (512 * kt + x.val) % 4608 = j0.toNat + x.val
        rw [Nat.mod_eq_of_lt (by omega), hj]
      · exact (Nat.zero_add _).symm
    · refine window_at (s := Sq) _ _ _ _ _ _ fun a => ?_
      fin_cases a
      · rfl
      · exact (Nat.zero_add _).symm
      · show (128 * h + d.val) % 896 = 128 * h + d.val
        rw [Nat.mod_eq_of_lt (by omega)]
  have hmx : VecWindow.window (σ .mx) ![0, 0] S8.size (inb00 _ _) = σ .mx := window_whole2 (n := 8) (m := 256) _ _
  have C := chunks_run hs hf (p := product (VecWindow.window (σ .k) ![0, 0, (Scalar.indexCast j0).toNat, 0] S1x1x512x128.size (inb_k hf))
        (VecWindow.window (σ .q) ![0, 0, 128 * h] S1x256x128.size (inb_head hh))) (T := T) hj (σ₁ := σ) (lim := lim)
    (fun r hr v hv s l => by rw [hT]; exact scored_apply hm hj hp r hr v hv s l) 64 0 rfl σ (VecWindow.window (σ .mx) ![0, 0] S8.size (inb00 _ _))
    ⟨fun _ _ => rfl, H, fun _ _ _ _ => rfl, by rw [hmx]; exact Hm⟩
  have e : σ' = _ := setMx_eq (chunks stOps lim slot hs j0 hf (product (VecWindow.window (σ .k) ![0, 0, (Scalar.indexCast j0).toNat, 0] S1x1x512x128.size (inb_k hf))
        (VecWindow.window (σ .q) ![0, 0, 128 * h] S1x256x128.size (inb_head hh))) 64 0 rfl (VecWindow.window (σ .mx) ![0, 0] S8.size (inb00 _ _)) σ).1
        (chunks stOps lim slot hs j0 hf (product (VecWindow.window (σ .k) ![0, 0, (Scalar.indexCast j0).toNat, 0] S1x1x512x128.size (inb_k hf))
        (VecWindow.window (σ .q) ![0, 0, 128 * h] S1x256x128.size (inb_head hh))) 64 0 rfl (VecWindow.window (σ .mx) ![0, 0] S8.size (inb00 _ _)) σ).2
  rw [e]
  refine ⟨fun b hb hb' => (State.set_ne _ _ _ _ hb').trans (C.same b hb), ?_, ?_, ?_⟩
  · intro j hj l
    rw [State.set_ne _ _ _ _ (by decide)]
    exact C.stored j (by omega) l
  · intro sl hsl j l
    rw [State.set_ne _ _ _ _ (by decide)]
    exact C.other sl hsl j l
  · rw [State.set_same]
    exact C.max

end Cert.Body

end
-- ==== Proof.Masks.lean ====
/-
  The keys a query sees, and how the loops over tiles keep to them.
-/
module

public import proofs.«01_k».proof.Proof.Tile

@[expose] public section

noncomputable section

namespace Cert.Body

open Idealize.ShloMosaic

/-- Key `j` is seen by query lane `l` of query tile `q`: it lies in the prefix, or not after the query. -/
def Sees (v1 : BitVec 32) (q j : ℕ) (l : Fin 256) : Prop := (j : ℤ) ≤ max (v1.toInt - 1) ((256 * q + l.val : ℕ) : ℤ)

theorem low_word : Ideal.ofBits .f32 0xFF800000#32 = (⊥ : EReal) := by simp [Ideal.ofBits, Ideal.ieee]

theorem masks_none (v1 : BitVec 32) (q kt : ℕ) (h : (512 * (kt + 1) : ℕ) ≤ max v1.toInt ((256 * q + 1 : ℕ) : ℤ)) : Masks none kt (Sees v1 q) := by
  intro j0 hj r hr t s l
  rw [if_pos]
  · rfl
  · unfold Sees
    have := s.isLt
    omega

theorem ofInt_sub' (x y : ℤ) : BitVec.ofInt 32 (x - y) = BitVec.ofInt 32 x - BitVec.ofInt 32 y := by
  have h : BitVec.ofInt 32 x = BitVec.ofInt 32 (x - y) + BitVec.ofInt 32 y := by rw [← BitVec.ofInt_add, Int.sub_add_cancel]
  rw [h, BitVec.add_sub_cancel]

theorem word_ge (n s c j : ℕ) (hn : n ≤ 4608) (hs : s < 8) (hc : c < 512) (hj : j ≤ 4608) (j0 : BitVec 32) (hj0 : j0.toNat = j) :
    ((BitVec.ofNat 32 c).sle (BitVec.ofNat 32 n - BitVec.ofNat 32 s - j0)) = decide (j + c + s ≤ n) := by
  have e : BitVec.ofNat 32 n - BitVec.ofNat 32 s - j0 = BitVec.ofInt 32 ((n : ℤ) - s - j) := by
    have : j0 = BitVec.ofNat 32 j := by rw [← hj0]; simp
    rw [this, ofInt_sub', ofInt_sub', BitVec.ofInt_natCast, BitVec.ofInt_natCast, BitVec.ofInt_natCast]
  rw [e, BitVec.sle_eq_decide, BitVec.toInt_ofInt, BitVec.toInt_ofNat']
  simp only [Int.bmod_def]
  apply decide_eq_decide.mpr
  omega

theorem masks_limit (v1 : BitVec 32) (hv : v1.toInt ≤ 4608) (hv' : -2 ^ 31 < v1.toInt) (q : Fin 18) (kt : ℕ) (hkt : kt < 9) :
    Masks (some (limit (BitVec.ofNat 32 q.val) v1)) kt (Sees v1 q.val) := by
  intro j0 hj r hr t s l
  have hv1 : (Scalar.subi v1 1#32).toInt = v1.toInt - 1 := by
    show (v1 - 1#32).toInt = _
    rw [BitVec.toInt_sub, show (1#32).toInt = 1 from rfl, Int.bmod_def]
    have := BitVec.toInt_lt (x := v1)
    omega
  obtain ⟨n, hn, -, en, hmax⟩ := max_word (Scalar.subi v1 1#32) (by omega) (256 * q.val + l.val) (by omega)
  have el : limit (BitVec.ofNat 32 q.val) v1 (ix2 s l) = BitVec.ofNat 32 n - BitVec.ofNat 32 s.val := by
    have e1 : limit (BitVec.ofNat 32 q.val) v1 (ix2 s l)
        = Scalar.maxsi (Scalar.subi v1 1#32) (q0 (BitVec.ofNat 32 q.val) + BitVec.ofNat 32 l.val) - BitVec.ofNat 32 s.val := by
      unfold limit
      pointwise
      rfl
    have e2 : q0 (BitVec.ofNat 32 q.val) + BitVec.ofNat 32 l.val = BitVec.ofNat 32 (256 * q.val + l.val) := by
      apply BitVec.eq_of_toNat_eq
      show (BitVec.ofNat 32 q.val * 256#32 + BitVec.ofNat 32 l.val).toNat = _
      simp only [BitVec.toNat_add, BitVec.toNat_mul, BitVec.toNat_ofNat]
      omega
    rw [e1, e2, en]
  have e : masked (some (limit (BitVec.ofNat 32 q.val) v1)) j0 (BitVec.ofNat 32 (8 * r)) t (ix2 s l)
      = if BitVec.ofBool ((BitVec.ofNat 32 (8 * r)).sle (limit (BitVec.ofNat 32 q.val) v1 (ix2 s l) - j0)) = 1 then t (ix2 s l) else Ideal.ofBits .f32 0xFF800000#32 := rfl
  rw [e, el, word_ge n s.val (8 * r) (512 * kt) hn s.isLt (by omega) (by omega) j0 hj, low_word, hv1] at *
  have hiff : (512 * kt + 8 * r + s.val ≤ n) ↔ Sees v1 q.val (512 * kt + 8 * r + s.val) l := by
    unfold Sees
    omega
  by_cases h : 512 * kt + 8 * r + s.val ≤ n
  · rw [if_pos (hiff.mp h), decide_eq_true h]; rfl
  · rw [if_neg (fun h' => h (hiff.mpr h')), decide_eq_false h]; rfl

theorem after_run {n : ℕ} (body : Fin n → SM Ideal PUnit) (b : ℕ) (Inv : ℕ → State Ideal → Prop)
    (step : ∀ (t : Fin n) σ, Inv (b + t.val) σ → Inv (b + t.val + 1) (body t σ).2) (σ : State Ideal) (h : Inv b σ) : Inv (b + n) (after body σ n) := by
  have : ∀ k, k ≤ n → Inv (b + k) (after body σ k) := fun k => by
    induction k with
    | zero => exact fun _ => h
    | succ k ih =>
      intro hk
      rw [after, dif_pos (show k < n by omega)]
      exact step ⟨k, by omega⟩ _ (ih (by omega))
  exact this n (le_refl _)

theorem change_count (Inv : ℕ → State Ideal → Prop) (n m : ℕ) (σ : State Ideal) (e : n = m) (h : Inv n σ) : Inv m σ := e ▸ h

theorem after_none {n : ℕ} (body : Fin n → SM Ideal PUnit) (h : ∀ t : Fin n, False) (σ : State Ideal) : after body σ n = σ := by
  have : n = 0 := by
    rcases Nat.eq_zero_or_pos n with h0 | h0
    · exact h0
    · exact (h ⟨0, h0⟩).elim
  subst this
  rfl

attribute [local irreducible] after tiles lpA lpB lpC lpD limit masked tileStart

theorem tiles_after (qb v1 : BitVec 32) (G : Good qb v1) (body : (lim : Option (IVec S8 32)) → (j0 : BitVec 32) → Fits j0 → SM Ideal PUnit) (σ : State Ideal) :
    (tiles stOps qb v1 G body σ).2
      = after (fun t => body (some (limit qb v1)) (tileStart (lpD qb v1) t) (G.fitD t))
        (after (fun t => body (some (limit qb v1)) (tileStart (lpC qb v1) t) (G.fitC t))
          (after (fun t => body none (tileStart (lpB qb v1) t) (G.fitB t))
            (after (fun t => body none (tileStart (lpA qb v1) t) (G.fitA t)) σ (lpA qb v1).trips)
            (lpB qb v1).trips)
          (lpC qb v1).trips)
        (lpD qb v1).trips := by
  unfold tiles
  rfl

theorem tiles_two (qb v1 : BitVec 32) (G : Good qb v1) (body : (lim : Option (IVec S8 32)) → (j0 : BitVec 32) → Fits j0 → SM Ideal PUnit) (σ : State Ideal) :
    (tiles stOps qb v1 G body σ).2
      = after (fun t => body (some (limit qb v1)) (tileStart (lpC qb v1) t) (G.fitC t))
            (after (fun t => body none (tileStart (lpA qb v1) t) (G.fitA t)) σ (lpA qb v1).trips)
          (lpC qb v1).trips := by
  have hD : ∀ t : Fin (lpD qb v1).trips, False := fun t => by
    unfold lpD at t
    exact Scf.rem_no_trip _ _ t
  have hB : ∀ t : Fin (lpB qb v1).trips, False := fun t => by
    unfold lpB at t
    exact Scf.rem_no_trip _ _ t
  have eB := after_none (fun t => body none (tileStart (lpB qb v1) t) (G.fitB t)) hB (after (fun t => body none (tileStart (lpA qb v1) t) (G.fitA t)) σ (lpA qb v1).trips)
  have h := tiles_after qb v1 G body σ
  rw [eB] at h
  exact h.trans (after_none _ hD _)

/-- How many tiles a query tile reads. -/
def nTiles (q : Fin 18) (v1 : BitVec 32) : ℕ := (nAll (BitVec.ofNat 32 q.val) v1).toNat

theorem nTiles_spec (q : Fin 18) (v1 : BitVec 32) (hv : v1.toInt ≤ 4608) :
    nTiles q v1 ≤ 9 ∧ ((nTiles q v1 : ℕ) : ℤ) = (max v1.toInt ((min (256 * q.val + 256) 4480 : ℕ) : ℤ) + 511) / 512 := by
  obtain ⟨f, a, hfa, ef, ea, -, h⟩ := tiles_words q v1 hv
  have : nTiles q v1 = a.val := by
    unfold nTiles
    rw [ea, BitVec.toNat_ofNat]
    omega
  rw [this]
  exact ⟨by omega, h⟩

/-- The loops go through the tiles one by one, each with the right mask. -/
theorem tiles_run (q : Fin 18) (v1 : BitVec 32) (hv : v1.toInt ≤ 4608) (hv' : -2 ^ 31 < v1.toInt) (G : Good (BitVec.ofNat 32 q.val) v1)
    (body : (lim : Option (IVec S8 32)) → (j0 : BitVec 32) → Fits j0 → SM Ideal PUnit) (Inv : ℕ → State Ideal → Prop)
    (step : ∀ kt lim j0 hf σ, kt < nTiles q v1 → j0.toNat = 512 * kt → Masks lim kt (Sees v1 q.val) → Inv kt σ → Inv (kt + 1) (body lim j0 hf σ).2)
    (σ : State Ideal) (h : Inv 0 σ) : Inv (nTiles q v1) (tiles stOps (BitVec.ofNat 32 q.val) v1 G body σ).2 := by
  obtain ⟨f, a, hfa, ef, ea, hf, ha⟩ := tiles_words q v1 hv
  have en : nTiles q v1 = a.val := by
    unfold nTiles
    rw [ea, BitVec.toNat_ofNat]
    omega
  have hA := loop_word 0 f (Fin.zero_le f) (lpA (BitVec.ofNat 32 q.val) v1) (by unfold lpA; rw [ef]; rfl)
  have hC := loop_word f a hfa (lpC (BitVec.ofNat 32 q.val) v1) (by unfold lpC; rw [ef, ea])
  have z : ((0 : Fin 10).val : ℕ) = 0 := rfl
  have iA := after_run (fun t => body none (tileStart (lpA (BitVec.ofNat 32 q.val) v1) t) (G.fitA t)) 0 Inv (fun t σ hi => by
    have ht : t.val < f.val - 0 := lt_of_lt_of_eq t.isLt hA.2.1
    have := hA.2.2 t
    rw [Nat.zero_add] at hi ⊢
    exact step t.val _ _ _ _ (by omega) (by omega) (masks_none v1 q.val t.val (by omega)) hi) σ h
  rw [Nat.zero_add] at iA
  have tA : (lpA (BitVec.ofNat 32 q.val) v1).trips = f.val := by rw [hA.2.1, z]; omega
  have iA' : Inv f.val (after (fun t => body none (tileStart (lpA (BitVec.ofNat 32 q.val) v1) t) (G.fitA t)) σ (lpA (BitVec.ofNat 32 q.val) v1).trips) :=
    change_count Inv _ _ _ tA iA
  have stepC : ∀ (t : Fin (lpC (BitVec.ofNat 32 q.val) v1).trips) σ, Inv (f.val + t.val) σ → Inv (f.val + t.val + 1) (body (some (limit (BitVec.ofNat 32 q.val) v1)) (tileStart (lpC (BitVec.ofNat 32 q.val) v1) t) (G.fitC t) σ).2 := by
    intro t σ hi
    have ht : t.val < a.val - f.val := lt_of_lt_of_eq t.isLt hC.2.1
    have h1 := hC.2.2 t
    have h2 : f.val + t.val < 9 := by omega
    exact step (f.val + t.val) _ _ _ _ (by omega) h1 (masks_limit v1 hv hv' q _ h2) hi
  have iC := after_run (fun t => body (some (limit (BitVec.ofNat 32 q.val) v1)) (tileStart (lpC (BitVec.ofNat 32 q.val) v1) t) (G.fitC t)) f.val Inv stepC _ iA'
  have tC : f.val + (lpC (BitVec.ofNat 32 q.val) v1).trips = a.val := by
    have : f.val ≤ a.val := hfa
    rw [hC.2.1]; omega
  rw [en, tiles_two]
  exact change_count Inv _ _ _ tC iC

end Cert.Body

end
-- ==== Proof.Values.lean ====
/-
  One tile of values, element by element: the running sum of the exponentials and the accumulated products.
-/
module

public import proofs.«01_k».proof.Proof.Cells

@[expose] public section

noncomputable section

namespace Cert.Body

open Idealize.ShloMosaic

/-- The largest code. -/
def codeMax : EReal := Ideal.ofBits .f32 0x43E00000#32

/-- The running sum over the first `8 * n` keys. -/
def SumOf (E : ℕ → Fin 256 → EReal) (n : ℕ) (sm : FVec Ideal S8 .f32) : Prop :=
  ∀ (s : Fin 8) (l : Fin 256), sm (ix2 s l) = ∑ i ∈ Finset.range n, E (8 * i + s.val) l

/-- The products accumulated over the first `n` keys. -/
def AccOf (vt : Svt.Idx → EReal) (E : ℕ → Fin 256 → EReal) (n : ℕ) (acc : FVec Ideal Sacc .f32) : Prop :=
  ∀ (d : Fin 128) (l : Fin 256), acc (ix2 d l) = ∑ j ∈ Finset.range n, vt (ix4 0 0 d (Fin.ofNat 4608 j)) * min (E j l) codeMax

/-- What a tile of values is computed from: its scores, the shift and the factor. -/
structure TileOf (E : ℕ → Fin 256 → EReal) (slot : Fin 2) (kt : ℕ) (m c : FVec Ideal S8 .f32) (σ : State Ideal) : Prop where
  exps : ∀ x < 512, ∀ (s : Fin 8) (l : Fin 256),
    Ideal.exp2 ((σ .s (ix3 slot (Fin.ofNat 4608 (512 * kt + x)) l) - m (ix2 s l)) * c (ix2 s l)) = E (512 * kt + x) l

theorem drop_head (w : FVec Ideal S1x8 .f32) (s : Fin 8) (l : Fin 256) : shapeCast S8 w sc_s (ix2 s l) = w (ix3 (0 : Fin 1) s l) := by
  pointwise

/-- A piece of the sum: four terms more. -/
theorem sum_four (f : ℕ → EReal) (n : ℕ) : f n + (f (n + 1) + (f (n + 2) + f (n + 3))) + ∑ i ∈ Finset.range n, f i = ∑ i ∈ Finset.range (n + 4), f i := by
  rw [show n + 4 = n + 1 + 1 + 1 + 1 from rfl, Finset.sum_range_succ, Finset.sum_range_succ, Finset.sum_range_succ, Finset.sum_range_succ]
  ac_rfl

theorem codes_apply (a0 a1 a2 a3 : FVec Ideal S8 .f32) (x : Fin 32) (l : Fin 256) :
    concatenate S32x256 0 [⟨S8, a0⟩, ⟨S8, a1⟩, ⟨S8, a2⟩, ⟨S8, a3⟩] cc_codes (ix2 x l)
      = (![a0, a1, a2, a3] ⟨x.val / 8, by omega⟩) (ix2 ⟨x.val % 8, Nat.mod_lt _ (by decide)⟩ l) := by
  refine concatenate_ofFn_apply (t := S32x256) (s₁ := S8) 0 (N := 4) ![a0, a1, a2, a3] cc_codes rfl 8 rfl (ix2 x l) ⟨x.val / 8, by omega⟩ rfl
    (ix2 ⟨x.val % 8, Nat.mod_lt _ (by decide)⟩ l) rfl fun b hb => ?_
  fin_cases b
  · exact absurd rfl hb
  · rfl

variable {E : ℕ → Fin 256 → EReal} {slot : ℕ} (hs : slot < 2) {kt : ℕ} {j0 : BitVec 32} (hf : Fits j0)
  {m c : FVec Ideal S8 .f32} {σ : State Ideal}

include hf in
theorem expo_apply (hj : j0.toNat = 512 * kt) (H : TileOf E ⟨slot, hs⟩ kt m c σ) (g r : ℕ) (hg : g < 16) (hr : r < 4) (inb) (s : Fin 8) (l : Fin 256) :
    expo m c (VecWindow.window (σ .s) ![slot, (Scalar.indexCast (Scalar.addi (Scalar.addi j0 (BitVec.ofNat 32 (32 * g))) (BitVec.ofNat 32 (8 * r)))).toNat, 0] S1x8.size inb) (ix2 s l)
      = E (512 * kt + 32 * g + 8 * r + s.val) l := by
  have hfit : 512 * kt + 512 ≤ 4608 := by unfold Fits at hf; omega
  have e := toNat_add2 hf (g := 32 * g) (r := 8 * r) (by omega)
  have hx := H.exps (32 * g + 8 * r + s.val) (by omega) s l
  rw [show 512 * kt + (32 * g + 8 * r + s.val) = 512 * kt + 32 * g + 8 * r + s.val by omega] at hx
  rw [← hx]
  unfold expo
  have e2 : shapeCast S8 (VecWindow.window (σ .s) ![slot, (Scalar.indexCast (Scalar.addi (Scalar.addi j0 (BitVec.ofNat 32 (32 * g))) (BitVec.ofNat 32 (8 * r)))).toNat, 0] S1x8.size inb) sc_s (ix2 s l)
      = σ .s (ix3 ⟨slot, hs⟩ (Fin.ofNat 4608 (512 * kt + 32 * g + 8 * r + s.val)) l) := by
    refine (drop_head _ s l).trans ?_
    refine window_at (s := Ss) _ _ _ _ _ _ fun a => ?_
    fin_cases a
    · rfl
    · show (512 * kt + 32 * g + 8 * r + s.val) % 4608 = _
      rw [Nat.mod_eq_of_lt (by omega)]
      show _ = (Scalar.indexCast (Scalar.addi (Scalar.addi j0 (BitVec.ofNat 32 (32 * g))) (BitVec.ofNat 32 (8 * r)))).toNat + s.val
      rw [e, hj]
    · exact (Nat.zero_add _).symm
  show Ideal.exp2 ((shapeCast S8 _ sc_s (ix2 s l) - m (ix2 s l)) * c (ix2 s l)) = _
  rw [e2]

include hf in
theorem group_run (hj : j0.toNat = 512 * kt) (H : TileOf E ⟨slot, hs⟩ kt m c σ) (g : ℕ) (hg : g < 16) (sm : FVec Ideal S8 .f32) (Hs : SumOf E (64 * kt + 4 * g) sm) :
    SumOf E (64 * kt + 4 * (g + 1)) (group stOps slot hs j0 hf m c g hg sm σ).1.1
      ∧ ∀ (x : Fin 32) (l : Fin 256), (group stOps slot hs j0 hf m c g hg sm σ).1.2 (ix2 x l) = min (E (512 * kt + 32 * g + x.val) l) codeMax := by
  have e := fun r hr inb s l => expo_apply hs hf hj H g r hg hr inb s l
  set w := fun (r : ℕ) (hr : r < 4) => (expo m c (VecWindow.window (σ .s) ![slot, (Scalar.indexCast (Scalar.addi (Scalar.addi j0 (BitVec.ofNat 32 (32 * g))) (BitVec.ofNat 32 (8 * r)))).toNat, 0] S1x8.size
    (inb_s2 hf hs (by omega))) : FVec Ideal S8 .f32) with hw
  have ew : ∀ r hr s l, w r hr (ix2 s l) = E (512 * kt + 32 * g + 8 * r + s.val) l := fun r hr s l => e r hr _ s l
  have e1 : (group stOps slot hs j0 hf m c g hg sm σ).1.1 = addf (addf (addf (addf sm (w 0 (by decide))) (w 1 (by decide))) (w 2 (by decide))) (w 3 (by decide)) := rfl
  have e2 : (group stOps slot hs j0 hf m c g hg sm σ).1.2 = truncf .fp8e4m3 (concatenate S32x256 0 [⟨S8, limited (w 0 (by decide))⟩, ⟨S8, limited (w 1 (by decide))⟩,
    ⟨S8, limited (w 2 (by decide))⟩, ⟨S8, limited (w 3 (by decide))⟩] cc_codes) bl_fp8 := rfl
  rw [e1, e2]
  refine ⟨fun s l => ?_, fun x l => ?_⟩
  · show sm (ix2 s l) + w 0 (by decide) (ix2 s l) + w 1 (by decide) (ix2 s l) + w 2 (by decide) (ix2 s l) + w 3 (by decide) (ix2 s l) = _
    rw [ew 0 (by decide), ew 1 (by decide), ew 2 (by decide), ew 3 (by decide), Hs, show 64 * kt + 4 * (g + 1) = (64 * kt + 4 * g) + 4 by omega, ← sum_four,
      show 8 * (64 * kt + 4 * g) + s.val = 512 * kt + 32 * g + 8 * 0 + s.val by omega,
      show 8 * (64 * kt + 4 * g + 1) + s.val = 512 * kt + 32 * g + 8 * 1 + s.val by omega,
      show 8 * (64 * kt + 4 * g + 2) + s.val = 512 * kt + 32 * g + 8 * 2 + s.val by omega,
      show 8 * (64 * kt + 4 * g + 3) + s.val = 512 * kt + 32 * g + 8 * 3 + s.val by omega]
    ac_rfl
  · refine (codes_apply (limited (w 0 (by decide))) (limited (w 1 (by decide))) (limited (w 2 (by decide))) (limited (w 3 (by decide))) x l).trans ?_
    have hx : 512 * kt + 32 * g + 8 * (x.val / 8) + x.val % 8 = 512 * kt + 32 * g + x.val := by omega
    have key : ∀ r hr (s : Fin 8), limited (w r hr) (ix2 s l) = min (E (512 * kt + 32 * g + 8 * r + s.val) l) codeMax := by
      intro r hr s
      rw [← ew r hr s l]
      rfl
    have : x.val / 8 < 4 := by omega
    rw [← hx]
    generalize hq : (⟨x.val / 8, by omega⟩ : Fin 4) = q
    have hqv : x.val / 8 = q.val := by rw [← hq]
    rw [hqv]
    fin_cases q
    · exact key 0 (by decide) _
    · exact key 1 (by decide) _
    · exact key 2 (by decide) _
    · exact key 3 (by decide) _

/-- The running sum after `n` groups of a tile. -/
def sumsOf (m c : FVec Ideal S8 .f32) (sm : FVec Ideal S8 .f32) (σ : State Ideal) : (n : ℕ) → n ≤ 16 → FVec Ideal S8 .f32
  | 0, _ => sm
  | n + 1, h => (group stOps slot hs j0 hf m c n (by omega) (sumsOf m c sm σ n (by omega)) σ).1.1

/-- The codes of group `n` of a tile. -/
def codesOf (m c : FVec Ideal S8 .f32) (sm : FVec Ideal S8 .f32) (σ : State Ideal) (n : ℕ) (h : n < 16) : FVec Ideal S32x256 .fp8e4m3 :=
  (group stOps slot hs j0 hf m c n h (sumsOf hs hf m c sm σ n (by omega)) σ).1.2

include hf in
theorem sums_run (hj : j0.toNat = 512 * kt) (H : TileOf E ⟨slot, hs⟩ kt m c σ) (sm : FVec Ideal S8 .f32) (Hs : SumOf E (64 * kt) sm) (n : ℕ) (hn : n ≤ 16) :
    SumOf E (64 * kt + 4 * n) (sumsOf hs hf m c sm σ n hn) := by
  induction n with
  | zero => exact Hs
  | succ n ih => exact (group_run hs hf hj H n (by omega) _ (ih (by omega))).1

/-- All the codes of a tile. -/
def tileCodes (m c : FVec Ideal S8 .f32) (sm : FVec Ideal S8 .f32) (σ : State Ideal) : FVec Ideal S512x256 .fp8e4m3 :=
  concatenate S512x256 0 (List.ofFn fun n : Fin 16 => (⟨S32x256, codesOf hs hf m c sm σ n.val n.isLt⟩ : (s : Shape) × (s.Idx → Ideal .fp8e4m3))) cc_tile

include hf in
theorem tileCodes_apply (hj : j0.toNat = 512 * kt) (H : TileOf E ⟨slot, hs⟩ kt m c σ) (sm : FVec Ideal S8 .f32) (Hs : SumOf E (64 * kt) sm) (x : Fin 512) (l : Fin 256) :
    tileCodes hs hf m c sm σ (ix2 x l) = min (E (512 * kt + x.val) l) codeMax := by
  unfold tileCodes
  rw [concatenate_ofFn_apply (t := S512x256) (s₁ := S32x256) 0 (N := 16) (fun n : Fin 16 => codesOf hs hf m c sm σ n.val n.isLt) cc_tile rfl 32 rfl (ix2 x l)
    ⟨x.val / 32, by omega⟩ rfl (ix2 ⟨x.val % 32, Nat.mod_lt _ (by decide)⟩ l) rfl (fun b hb => by
      fin_cases b
      · exact absurd rfl hb
      · rfl)]
  rw [codesOf, (group_run hs hf hj H (x.val / 32) (by omega) _ (sums_run hs hf hj H sm Hs _ (by omega))).2]
  show min (E (512 * kt + 32 * (x.val / 32) + x.val % 32) l) codeMax = _
  rw [show 512 * kt + 32 * (x.val / 32) + x.val % 32 = 512 * kt + x.val by omega]

/-- A tile's values by its codes. -/
def weighed (v : FVec Ideal S1x1x128x512 .fp8e4m3) (p : FVec Ideal S512x256 .fp8e4m3) : FVec Ideal Sacc .f32 :=
  matmul dotV none (shapeCast S128x512 v sc_vt) p (constant Sacc .f32 0x00000000#32)

theorem weighed_apply (v : FVec Ideal S1x1x128x512 .fp8e4m3) (p : FVec Ideal S512x256 .fp8e4m3) (d : Fin 128) (l : Fin 256) :
    weighed v p (ix2 d l) = ∑ x : Fin 512, v (ix4 0 0 d x) * p (ix2 x l) := by
  unfold weighed
  pointwise [dotV]

theorem values_eq (σ : State Ideal) : (values stOps slot hs j0 hf σ).2
    = (σ.set .sm (sumsOf hs hf (σ .m) (σ .c) (σ .sm) σ 16 (le_refl _))).set .acc
        (addf (σ .acc) (weighed (VecWindow.window (σ .vt) ![0, 0, 0, (Scalar.indexCast j0).toNat] S1x1x128x512.size (inb_vt hf)) (tileCodes hs hf (σ .m) (σ .c) (σ .sm) σ))) := by
  have em : VecWindow.window (σ .m) ![0, 0] S8.size (inb00 _ _) = σ .m := window_whole2 (n := 8) (m := 256) _ _
  have ec : VecWindow.window (σ .c) ![0, 0] S8.size (inb00 _ _) = σ .c := window_whole2 (n := 8) (m := 256) _ _
  have es : VecWindow.window (σ .sm) ![0, 0] S8.size (inb00 _ _) = σ .sm := window_whole2 (n := 8) (m := 256) _ _
  have e : (values stOps slot hs j0 hf σ).2 = (setAcc stOps
      (addf (VecWindow.window ((setSm stOps (sumsOf hs hf (VecWindow.window (σ .m) ![0, 0] S8.size (inb00 _ _)) (VecWindow.window (σ .c) ![0, 0] S8.size (inb00 _ _)) (VecWindow.window (σ .sm) ![0, 0] S8.size (inb00 _ _)) σ 16 (le_refl _)) σ).2 .acc) ![0, 0] Sacc.size (inb00 _ _))
        (weighed (VecWindow.window ((setSm stOps (sumsOf hs hf (VecWindow.window (σ .m) ![0, 0] S8.size (inb00 _ _)) (VecWindow.window (σ .c) ![0, 0] S8.size (inb00 _ _)) (VecWindow.window (σ .sm) ![0, 0] S8.size (inb00 _ _)) σ 16 (le_refl _)) σ).2 .vt) ![0, 0, 0, (Scalar.indexCast j0).toNat] S1x1x128x512.size (inb_vt hf))
          (tileCodes hs hf (VecWindow.window (σ .m) ![0, 0] S8.size (inb00 _ _)) (VecWindow.window (σ .c) ![0, 0] S8.size (inb00 _ _)) (VecWindow.window (σ .sm) ![0, 0] S8.size (inb00 _ _)) σ)))
      (setSm stOps (sumsOf hs hf (VecWindow.window (σ .m) ![0, 0] S8.size (inb00 _ _)) (VecWindow.window (σ .c) ![0, 0] S8.size (inb00 _ _)) (VecWindow.window (σ .sm) ![0, 0] S8.size (inb00 _ _)) σ 16 (le_refl _)) σ).2).2 := by
    rfl
  rw [e, em, ec, es, setSm_eq, setAcc_eq, State.set_ne _ _ _ _ (by decide), State.set_ne _ _ _ _ (by decide)]
  congr 3
  exact window_whole2 (n := 128) (m := 256) _ _

include hf in
theorem values_run (hj : j0.toNat = 512 * kt) (H : TileOf E ⟨slot, hs⟩ kt (σ .m) (σ .c) σ) (Hs : SumOf E (64 * kt) (σ .sm)) (Ha : AccOf (σ .vt) E (512 * kt) (σ .acc)) :
    let σ' := (values stOps slot hs j0 hf σ).2
    (∀ b, b ≠ .sm → b ≠ .acc → σ' b = σ b) ∧ SumOf E (64 * (kt + 1)) (σ' .sm) ∧ AccOf (σ .vt) E (512 * (kt + 1)) (σ' .acc) := by
  intro σ'
  have hfit : 512 * kt + 512 ≤ 4608 := by unfold Fits at hf; omega
  have e : σ' = _ := values_eq hs hf σ
  rw [e]
  refine ⟨fun b hb hb' => (State.set_ne _ _ _ _ hb').trans (State.set_ne _ _ _ _ hb), ?_, ?_⟩
  · rw [State.set_ne _ _ _ _ (by decide), State.set_same]
    exact sums_run hs hf hj H _ Hs 16 (le_refl _)
  · rw [State.set_same]
    intro d l
    show σ .acc (ix2 d l) + weighed _ _ (ix2 d l) = _
    rw [weighed_apply, Ha d l, show 512 * (kt + 1) = 512 * kt + 512 from by omega, Finset.sum_range_add, Finset.sum_range fun x =>
      σ .vt (ix4 0 0 d (Fin.ofNat 4608 (512 * kt + x))) * min (E (512 * kt + x) l) codeMax]
    congr 1
    refine Finset.sum_congr rfl fun x _ => ?_
    rw [tileCodes_apply hs hf hj H _ Hs]
    congr 1
    refine window_at (s := Svt) _ _ _ _ _ _ fun a => ?_
    fin_cases a
    · rfl
    · rfl
    · exact (Nat.zero_add _).symm
    · show (512 * kt + x.val) % 4608 = j0.toNat + x.val
      rw [Nat.mod_eq_of_lt (by omega), hj]

end Cert.Body

end
-- ==== Proof.Finish.lean ====
/-
  What a head's two endings compute, element by element.
-/
module

public import proofs.«01_k».proof.Proof.Tile
public import proofs.«01_k».proof.Proof.Values

@[expose] public section

noncomputable section

namespace Cert.Body

open Idealize.ShloMosaic

theorem sup_blocks (f : ℕ → EReal) (n : ℕ) :
    (Finset.univ : Finset (Fin 8)).sup (fun s => (Finset.range n).sup fun i => f (8 * i + s.val)) = (Finset.range (8 * n)).sup f := by
  apply le_antisymm
  · refine Finset.sup_le fun s _ => Finset.sup_le fun i hi => ?_
    have := Finset.mem_range.mp hi
    exact Finset.le_sup (f := f) (Finset.mem_range.mpr (by omega))
  · refine Finset.sup_le fun j hj => ?_
    have := Finset.mem_range.mp hj
    have h1 := Finset.le_sup (f := fun i => f (8 * i + j % 8)) (b := j / 8) (s := Finset.range n) (Finset.mem_range.mpr (by omega))
    have h2 := Finset.le_sup (f := fun s : Fin 8 => (Finset.range n).sup fun i => f (8 * i + s.val)) (Finset.mem_univ (⟨j % 8, Nat.mod_lt _ (by decide)⟩ : Fin 8))
    have e : f (8 * (j / 8) + j % 8) = f j := by rw [Nat.div_add_mod]
    exact (le_of_eq e.symm).trans (h1.trans h2)

theorem sum_blocks (f : ℕ → EReal) (n : ℕ) :
    ∑ s : Fin 8, ∑ i ∈ Finset.range n, f (8 * i + s.val) = ∑ j ∈ Finset.range (8 * n), f j := by
  induction n with
  | zero => simp
  | succ n ih =>
    rw [show 8 * (n + 1) = 8 * n + 8 from rfl, Finset.sum_range_add, ← ih, Finset.sum_range fun x => f (8 * n + x), ← Finset.sum_add_distrib]
    exact Finset.sum_congr rfl fun s _ => Finset.sum_range_succ _ _

/-- The factor of a head's exponentials. -/
def factor (qs : Sqs.Idx → EReal) (h : ℕ) (l : Fin 256) : EReal := qs (ix4 0 0 (Fin.ofNat 8 h) l) * Ideal.ofBits .f32 0x41800000#32

/-- The shift of a head's exponentials. -/
def shift (qs : Sqs.Idx → EReal) (T : ℕ → Fin 256 → EReal) (h n : ℕ) (l : Fin 256) : EReal :=
  ((Finset.range n).sup fun j => T j l) - Ideal.div (Ideal.ofBits .f32 0x41000000#32) (factor qs h l)

theorem fold_sup (f : Fin 8 → EReal) : (Finset.univ : Finset (Fin 8)).fold max ⊥ f = Finset.univ.sup f := rfl

theorem low_word' : Ideal.ofBits .f32 0xFF800000#32 = (⊥ : EReal) := by simp [Ideal.ofBits, Ideal.ieee]

theorem rowMax_apply (mx : FVec Ideal S8 .f32) (l : Fin 256) :
    shapeCast S1x256 (multiReduction .maximumf [0] S256 mx 0xFF800000#32 red8 (.inl rfl) rfl) sc_256 (ix2 0 l) = Finset.univ.sup fun s : Fin 8 => mx (ix2 s l) := by
  rw [← fold_sup, ← low_word']
  pointwise

theorem rowSum_apply (sm : FVec Ideal S8 .f32) (l : Fin 256) :
    shapeCast S1x256 (multiReduction .add [0] S256 sm 0x00000000#32 red8 (.inl rfl) rfl) sc_256 (ix2 0 l) = ∑ s : Fin 8, sm (ix2 s l) := by
  pointwise

theorem spreadRow_apply (x : FVec Ideal S1x256 .f32) (s : Fin 8) (l : Fin 256) :
    broadcastTo S8 (shapeCast S1x256 x sc_1x256) bc_8 (ix2 s l) = x (ix2 0 l) := by
  pointwise

theorem spreadAcc_apply (x : FVec Ideal S1x256 .f32) (d : Fin 128) (l : Fin 256) :
    broadcastTo Sacc x bc_sum (ix2 d l) = x (ix2 0 l) := by
  pointwise

theorem spreadVs_apply (x : FVec Ideal Svs .f32) (d : Fin 128) (l : Fin 256) :
    broadcastTo Sacc (shapeCast S128x1 x sc_vs) bc_vs (ix2 d l) = x (ix4 0 0 d 0) := by
  pointwise

theorem qsRow_apply (x : FVec Ideal S1x1x1x256 .f32) (l : Fin 256) : shapeCast S1x256 x sc_qs (ix2 0 l) = x (ix4 0 0 0 l) := by
  pointwise

theorem outHead_apply (x : FVec Ideal Sacc .f32) (l : Fin 256) (d : Fin 128) :
    shapeCast S1x256x128 (truncf .bf16 (transpose S256x128 [1, 0] x tr_acc) bl_bf16) sc_head' (ix3 0 l d) = x (ix2 d l) := by
  pointwise

theorem finishScores_run (h : ℕ) (hh : h < 7) (σ : State Ideal) {T : ℕ → Fin 256 → EReal} {n : ℕ} (Hm : MaxOf T n (σ .mx)) :
    let σ' := (finishScores stOps h hh σ).2
    (∀ b, b ≠ .m → b ≠ .c → b ≠ .mx → σ' b = σ b) ∧ (∀ (s : Fin 8) l, σ' .m (ix2 s l) = shift (σ .qs) T h (8 * n) l) ∧ (∀ (s : Fin 8) l, σ' .c (ix2 s l) = factor (σ .qs) h l)
      ∧ (∀ T', MaxOf T' 0 (σ' .mx)) := by
  intro σ'
  have emx : VecWindow.window (σ .mx) ![0, 0] S8.size (inb00 _ _) = σ .mx := window_whole2 (n := 8) (m := 256) _ _
  set qs : FVec Ideal S1x1x1x256 .f32 := VecWindow.window (σ .qs) ![0, 0, h, 0] S1x1x1x256.size (inb_qs hh) with hqs
  have eqs : ∀ l : Fin 256, qs (ix4 0 0 0 l) = σ .qs (ix4 0 0 (Fin.ofNat 8 h) l) := fun l => by
    refine window_at (s := Sqs) _ _ _ _ _ _ fun a => ?_
    fin_cases a
    · rfl
    · rfl
    · exact Nat.mod_eq_of_lt (by omega)
    · exact (Nat.zero_add _).symm
  set cs : FVec Ideal S1x256 .f32 := mulf (shapeCast S1x256 qs sc_qs) (broadcast S1x256 (Scalar.ofBits (F := Ideal) .f32 0x41800000#32)) with hcs
  have ecs : ∀ l : Fin 256, cs (ix2 0 l) = factor (σ .qs) h l := fun l => by
    show shapeCast S1x256 qs sc_qs (ix2 0 l) * Ideal.ofBits .f32 0x41800000#32 = _
    rw [qsRow_apply, eqs]
    rfl
  have e : σ' = ((σ.set .m (broadcastTo S8 (shapeCast S1x256 (subf (shapeCast S1x256 (multiReduction .maximumf [0] S256 (σ .mx) 0xFF800000#32 red8 (.inl rfl) rfl) sc_256)
    (divf (broadcast S1x256 (Scalar.ofBits (F := Ideal) .f32 0x41000000#32)) cs)) sc_1x256) bc_8)).set .c (broadcastTo S8 (shapeCast S1x256 cs sc_1x256) bc_8)).set .mx
      (broadcast S8 (Scalar.ofBits (F := Ideal) .f32 0xFF800000#32)) := by
    rw [← setM_eq, ← setC_eq, ← setMx_eq]
    conv_rhs => rw [← emx]
    rfl
  rw [e]
  refine ⟨fun b h1 h2 h3 => ?_, fun s l => ?_, fun s l => ?_, fun T' s l => ?_⟩
  · rw [State.set_ne _ _ _ _ h3, State.set_ne _ _ _ _ h2, State.set_ne _ _ _ _ h1]
  · rw [State.set_ne _ _ _ _ (by decide), State.set_ne _ _ _ _ (by decide), State.set_same, spreadRow_apply]
    show shapeCast S1x256 _ sc_256 (ix2 0 l) - Ideal.div (Ideal.ofBits .f32 0x41000000#32) (cs (ix2 0 l)) = _
    rw [rowMax_apply, ecs]
    unfold shift
    rw [← sup_blocks (fun j => T j l)]
    congr 2
    funext s
    exact Hm s l
  · rw [State.set_ne _ _ _ _ (by decide), State.set_same, spreadRow_apply, ecs]
  · rw [State.set_same]
    exact low_word'

theorem finishValues_run (h : ℕ) (hh : h < 7) (σ : State Ideal) {E : ℕ → Fin 256 → EReal} {n : ℕ} (Hs : SumOf E n (σ .sm)) (Ha : AccOf (σ .vt) E (8 * n) (σ .acc)) :
    let σ' := (finishValues stOps h hh σ).2
    (∀ b, b ≠ .out → b ≠ .acc → b ≠ .sm → σ' b = σ b)
      ∧ (∀ (l : Fin 256) (d : Fin 128), σ' .out (ix3 0 l (Fin.ofNat 896 (128 * h + d.val)))
          = Ideal.div ((∑ j ∈ Finset.range (8 * n), σ .vt (ix4 0 0 d (Fin.ofNat 4608 j)) * min (E j l) codeMax) * σ .vs (ix4 0 0 d 0)) (∑ j ∈ Finset.range (8 * n), E j l))
      ∧ (∀ h' < 7, h' ≠ h → ∀ (l : Fin 256) (d : Fin 128), σ' .out (ix3 0 l (Fin.ofNat 896 (128 * h' + d.val))) = σ .out (ix3 0 l (Fin.ofNat 896 (128 * h' + d.val))))
      ∧ (∀ E', SumOf E' 0 (σ' .sm)) ∧ (∀ vt E', AccOf vt E' 0 (σ' .acc)) := by
  intro σ'
  have esm : VecWindow.window (σ .sm) ![0, 0] S8.size (inb00 _ _) = σ .sm := window_whole2 (n := 8) (m := 256) _ _
  have eac : VecWindow.window (σ .acc) ![0, 0] Sacc.size (inb00 _ _) = σ .acc := window_whole2 (n := 128) (m := 256) _ _
  have evs : VecWindow.window (σ .vs) ![0, 0, 0, 0] Svs.size inbvs = σ .vs := funext fun y => window_at (s := Svs) _ _ _ _ _ _ fun a => by
    fin_cases a <;> exact (Nat.zero_add _).symm
  set o : FVec Ideal Sacc .f32 := divf (mulf (σ .acc) (broadcastTo Sacc (shapeCast S128x1 (σ .vs) sc_vs) bc_vs))
      (broadcastTo Sacc (shapeCast S1x256 (multiReduction .add [0] S256 (σ .sm) 0x00000000#32 red8 (.inl rfl) rfl) sc_256) bc_sum) with ho
  have e : σ' = ((σ.set .out (VecWindow.put (s := Sq) (σ .out) ![0, 0, 128 * h] S1x256x128.size
      (shapeCast S1x256x128 (truncf .bf16 (transpose S256x128 [1, 0] o tr_acc) bl_bf16) sc_head'))).set .acc
        (broadcast Sacc (Scalar.ofBits (F := Ideal) .f32 0x00000000#32))).set .sm (broadcast S8 (Scalar.ofBits (F := Ideal) .f32 0x00000000#32)) := by
    rw [← setAcc_eq, ← setSm_eq, ho]
    conv_rhs => rw [← esm, ← eac, ← evs]
    rfl
  rw [e]
  refine ⟨fun b h1 h2 h3 => ?_, fun l d => ?_, fun h' hh' hne l d => ?_, fun E' s l => ?_, fun vt E' d l => ?_⟩
  · rw [State.set_ne _ _ _ _ h3, State.set_ne _ _ _ _ h2, State.set_ne _ _ _ _ h1]
  · rw [State.set_ne _ _ _ _ (by decide), State.set_ne _ _ _ _ (by decide), State.set_same]
    refine (put_in (s := Sq) _ _ S1x256x128.size _ _ (ix3 (0 : Fin 1) l d) fun a => ?_).trans ?_
    · fin_cases a
      · rfl
      · exact (Nat.zero_add _).symm
      · show (128 * h + d.val) % 896 = 128 * h + d.val
        rw [Nat.mod_eq_of_lt (by omega)]
    · rw [outHead_apply]
      show Ideal.div (σ .acc (ix2 d l) * broadcastTo Sacc (shapeCast S128x1 (σ .vs) sc_vs) bc_vs (ix2 d l)) (broadcastTo Sacc _ bc_sum (ix2 d l)) = _
      rw [spreadVs_apply, spreadAcc_apply, rowSum_apply, Ha d l, ← sum_blocks (fun j => E j l)]
      congr 1
      exact Finset.sum_congr rfl fun s _ => Hs s l
  · rw [State.set_ne _ _ _ _ (by decide), State.set_ne _ _ _ _ (by decide), State.set_same]
    refine put_out (s := Sq) _ _ _ _ _ 2 ?_
    show (128 * h' + d.val) % 896 < 128 * h ∨ 128 * h + 128 ≤ (128 * h' + d.val) % 896
    rw [Nat.mod_eq_of_lt (by omega)]
    omega
  · rw [State.set_same]
    show Ideal.ofBits .f32 0x00000000#32 = _
    simp
  · rw [State.set_ne _ _ _ _ (by decide), State.set_same]
    show Ideal.ofBits .f32 0x00000000#32 = _
    simp

end Cert.Body

end
-- ==== Proof.Stages.lean ====
/-
  The seven heads one after the other: what one query tile's windows leave in the result, element by element.
-/
module

public import proofs.«01_k».proof.Proof.Masks
public import proofs.«01_k».proof.Proof.Finish

@[expose] public section

noncomputable section

namespace Cert.Body

open Idealize.ShloMosaic

/-- The exponential of key `j`: its score less the shift, times the factor, as a power of two. -/
def expOf (qs : Sqs.Idx → EReal) (T : ℕ → Fin 256 → EReal) (h n j : ℕ) (l : Fin 256) : EReal :=
  Ideal.exp2 ((T j l - shift qs T h n l) * factor qs h l)

/-- One element of head `h`'s result: the codes' sum over the first `n` keys with the values' scale, by the exponentials' sum. -/
def headOut (qs : Sqs.Idx → EReal) (vt : Svt.Idx → EReal) (vs : Svs.Idx → EReal) (T : ℕ → Fin 256 → EReal) (h n : ℕ) (l : Fin 256) (d : Fin 128) : EReal :=
  Ideal.div ((∑ j ∈ Finset.range n, vt (ix4 0 0 d (Fin.ofNat 4608 j)) * min (expOf qs T h n j l) codeMax) * vs (ix4 0 0 d 0))
    (∑ j ∈ Finset.range n, expOf qs T h n j l)

/-- The buffers that the windows never change. -/
def Buf.fixed : Buf → Bool
  | .q | .qs | .k | .ks | .vt | .vs | .ksb => true
  | _ => false

section
variable (P : ℕ → Fin 256 → Prop) (a : ℕ) (ρ : State Ideal)

/-- Head `h`'s scores in the state `ρ` the windows begin from. -/
def tileScores (h : ℕ) : ℕ → Fin 256 → EReal := scoreOf (ρ .q) (ρ .k) (ρ .ksb) P h

/-- The fixed buffers are as at the beginning. -/
def Kept (σ : State Ideal) : Prop := ∀ b, b.fixed = true → σ b = ρ b

/-- The results of the heads before `h` are there. -/
def OutOf (h : ℕ) (σ : State Ideal) : Prop :=
  ∀ h' < h, h' < 7 → ∀ (l : Fin 256) (d : Fin 128), σ .out (ix3 0 l (Fin.ofNat 896 (128 * h' + d.val))) = headOut (ρ .qs) (ρ .vt) (ρ .vs) (tileScores P ρ h') h' (512 * a) l d

/-- Head `h`'s shift and factor are there. -/
def Ready (h : ℕ) (σ : State Ideal) : Prop :=
  ∀ (s : Fin 8) (l : Fin 256), σ .m (ix2 s l) = shift (ρ .qs) (tileScores P ρ h) h (512 * a) l ∧ σ .c (ix2 s l) = factor (ρ .qs) h l

def slotOf (h : ℕ) : Fin 2 := ⟨h % 2, Nat.mod_lt _ (by decide)⟩

/-- Between the scores and the values of head `h`. -/
structure Between (h : ℕ) (σ : State Ideal) : Prop where
  kept : Kept ρ σ
  out : OutOf P a ρ h σ
  ready : Ready P a ρ h σ
  stored : Stored (tileScores P ρ h) (slotOf h) (512 * a) σ
  mx : ∀ T', MaxOf T' 0 (σ .mx)
  sm : ∀ E', SumOf E' 0 (σ .sm)
  acc : ∀ vt E', AccOf vt E' 0 (σ .acc)

/-- The values of head `h` go through the tiles. -/
structure ValuesInv (h kt : ℕ) (σ : State Ideal) : Prop where
  kept : Kept ρ σ
  out : OutOf P a ρ h σ
  ready : Ready P a ρ h σ
  stored : Stored (tileScores P ρ h) (slotOf h) (512 * a) σ
  sm : SumOf (expOf (ρ .qs) (tileScores P ρ h) h (512 * a)) (64 * kt) (σ .sm)
  acc : AccOf (ρ .vt) (expOf (ρ .qs) (tileScores P ρ h) h (512 * a)) (512 * kt) (σ .acc)

/-- The scores of head `h` go through the tiles. -/
structure ScoresInv (h kt : ℕ) (σ : State Ideal) : Prop where
  kept : Kept ρ σ
  next : Stored (tileScores P ρ h) (slotOf h) (512 * kt) σ
  mx : MaxOf (tileScores P ρ h) (64 * kt) (σ .mx)

variable {P a ρ}

theorem values_keep {h kt : ℕ} (hkt : kt < a) (j0 : BitVec 32) (hf : Fits j0) (hj : j0.toNat = 512 * kt) (hs : h % 2 < 2) {σ : State Ideal} (I : ValuesInv P a ρ h kt σ) :
    ValuesInv P a ρ h (kt + 1) (values stOps (h % 2) hs j0 hf σ).2 ∧ ∀ b, b ≠ .sm → b ≠ .acc → (values stOps (h % 2) hs j0 hf σ).2 b = σ b := by
  have evt : σ .vt = ρ .vt := I.kept .vt rfl
  have H : TileOf (expOf (ρ .qs) (tileScores P ρ h) h (512 * a)) ⟨h % 2, hs⟩ kt (σ .m) (σ .c) σ := ⟨fun x hx s l => by
    have e := I.stored (512 * kt + x) (by omega) l
    unfold slotOf at e
    rw [e, (I.ready s l).1, (I.ready s l).2]
    rfl⟩
  obtain ⟨h1, h2, h3⟩ := values_run hs hf hj H I.sm (evt.symm ▸ I.acc)
  refine ⟨⟨fun b hb => ?_, fun h' hh' h7 l d => ?_, fun s l => ?_, fun j hj' l => ?_, h2, evt ▸ h3⟩, h1⟩
  · exact (h1 b (fun e => by subst e; cases hb) (fun e => by subst e; cases hb)).trans (I.kept b hb)
  · rw [h1 .out (by decide) (by decide)]; exact I.out h' hh' h7 l d
  · rw [h1 .m (by decide) (by decide), h1 .c (by decide) (by decide)]; exact I.ready s l
  · rw [h1 .s (by decide) (by decide)]; exact I.stored j hj' l

theorem scores_keep {lim : Option (IVec S8 32)} {h kt : ℕ} (hm : Masks lim kt P) (hh : h < 7) (j0 : BitVec 32) (hf : Fits j0) (hj : j0.toNat = 512 * kt) (hs : h % 2 < 2)
    {σ : State Ideal} (I : ScoresInv P ρ h kt σ) :
    ScoresInv P ρ h (kt + 1) (scores stOps lim h hh (h % 2) hs j0 hf σ).2
      ∧ (∀ b, b ≠ .s → b ≠ .mx → (scores stOps lim h hh (h % 2) hs j0 hf σ).2 b = σ b) ∧ OtherSlots (slotOf h) σ (scores stOps lim h hh (h % 2) hs j0 hf σ).2 := by
  have hT : tileScores P ρ h = scoreOf (σ .q) (σ .k) (σ .ksb) P h := by
    rw [I.kept .q rfl, I.kept .k rfl, I.kept .ksb rfl]; rfl
  obtain ⟨h1, h2, h3, h4⟩ := scores_run hm h hh (h % 2) hs j0 hf hj σ hT I.next I.mx
  exact ⟨⟨fun b hb => (h1 b (fun e => by subst e; cases hb) (fun e => by subst e; cases hb)).trans (I.kept b hb), h2, h4⟩, h1, h3⟩

theorem finishValues_keep {h : ℕ} (hh : h < 7) {σ : State Ideal} (I : ValuesInv P a ρ h a σ) :
    let σ' := (finishValues stOps h hh σ).2
    Kept ρ σ' ∧ OutOf P a ρ (h + 1) σ' ∧ (∀ E', SumOf E' 0 (σ' .sm)) ∧ (∀ vt E', AccOf vt E' 0 (σ' .acc)) ∧ ∀ b, b ≠ .out → b ≠ .acc → b ≠ .sm → σ' b = σ b := by
  intro σ'
  have evt : σ .vt = ρ .vt := I.kept .vt rfl
  have evs : σ .vs = ρ .vs := I.kept .vs rfl
  have e8 : 512 * a = 8 * (64 * a) := by omega
  have hacc : AccOf (σ .vt) (expOf (ρ .qs) (tileScores P ρ h) h (512 * a)) (8 * (64 * a)) (σ .acc) := by
    rw [evt, ← e8]; exact I.acc
  obtain ⟨h1, h2, h3, h4, h5⟩ := finishValues_run h hh σ I.sm hacc
  refine ⟨fun b hb => ?_, fun h' hh' h7 l d => ?_, h4, h5, h1⟩
  · exact (h1 b (fun e => by subst e; cases hb) (fun e => by subst e; cases hb) (fun e => by subst e; cases hb)).trans (I.kept b hb)
  · by_cases e : h' = h
    · subst e
      refine (h2 l d).trans ?_
      rw [← e8, evt, evs]
      rfl
    · exact (h3 h' h7 e l d).trans (I.out h' (by omega) h7 l d)

theorem finishScores_keep {h : ℕ} (hh : h < 7) {σ : State Ideal} (I : ScoresInv P ρ h a σ) :
    let σ' := (finishScores stOps h hh σ).2
    Kept ρ σ' ∧ Ready P a ρ h σ' ∧ Stored (tileScores P ρ h) (slotOf h) (512 * a) σ' ∧ (∀ T', MaxOf T' 0 (σ' .mx)) ∧ ∀ b, b ≠ .m → b ≠ .c → b ≠ .mx → σ' b = σ b := by
  intro σ'
  have eqs : σ .qs = ρ .qs := I.kept .qs rfl
  obtain ⟨h1, h2, h3, h4⟩ := finishScores_run h hh σ I.mx
  refine ⟨fun b hb => ?_, fun s l => ⟨(h2 s l).trans ?_, (h3 s l).trans ?_⟩, fun j hj l => ?_, h4, h1⟩
  · exact (h1 b (fun e => by subst e; cases hb) (fun e => by subst e; cases hb) (fun e => by subst e; cases hb)).trans (I.kept b hb)
  · rw [eqs, show 8 * (64 * a) = 512 * a by omega]
  · rw [eqs]
  · show σ' .s _ = _
    rw [show σ' .s = σ .s from h1 .s (by decide) (by decide) (by decide)]
    exact I.next j hj l

end

/-- What holds of one value holds of an equal one. -/
theorem of_eq {α : Type} (p : α → Prop) {x y : α} (e : x = y) (h : p y) : p x := by rw [e]; exact h

theorem rest_eq (qb v1 : BitVec 32) (G : Good qb v1) (σ : State Ideal) : (rest stOps qb v1 G σ).2
    = (finishValues stOps 6 (by omega) (tiles stOps qb v1 G (fun _ j0 hf => values stOps 0 (by omega) j0 hf)
      (stage stOps qb v1 G 5 (by omega) (stage stOps qb v1 G 4 (by omega) (stage stOps qb v1 G 3 (by omega) (stage stOps qb v1 G 2 (by omega) (stage stOps qb v1 G 1 (by omega)
        (stage stOps qb v1 G 0 (by omega) (finishScores stOps 0 (by omega) (tiles stOps qb v1 G (fun lim j0 hf => scores stOps lim 0 (by omega) 0 (by omega) j0 hf)
          (setSm stOps (broadcast S8 (Scalar.ofBits (F := Ideal) .f32 0x00000000#32)) (setAcc stOps (broadcast Sacc (Scalar.ofBits (F := Ideal) .f32 0x00000000#32))
            (setMx stOps (broadcast S8 (Scalar.ofBits (F := Ideal) .f32 0xFF800000#32)) σ).2).2).2).2).2).2).2).2).2).2).2).2).2 := rfl

theorem stage_eq (qb v1 : BitVec 32) (G : Good qb v1) (h : ℕ) (hh : h + 1 < 7) (σ : State Ideal) : (stage stOps qb v1 G h hh σ).2
    = (finishScores stOps (h + 1) hh (finishValues stOps h (by omega) (tiles stOps qb v1 G (fun lim j0 hf =>
      scores stOps lim (h + 1) hh ((h + 1) % 2) (Nat.mod_lt _ (by decide)) j0 hf >>= fun _ => values stOps (h % 2) (Nat.mod_lt _ (by decide)) j0 hf) σ).2).2).2 := rfl

attribute [local irreducible] tiles scores values finishValues finishScores stage setSm setAcc setMx rest

section
variable {q : Fin 18} {v1 : BitVec 32} (hv : v1.toInt ≤ 4608) (hv' : -2 ^ 31 < v1.toInt) (G : Good (BitVec.ofNat 32 q.val) v1) {ρ : State Ideal}

include hv hv'

theorem stage_keep (h : ℕ) (hh : h + 1 < 7) {σ : State Ideal} (I : Between (Sees v1 q.val) (nTiles q v1) ρ h σ) :
    Between (Sees v1 q.val) (nTiles q v1) ρ (h + 1) (stage stOps (BitVec.ofNat 32 q.val) v1 G h hh σ).2 := by
  have hne : slotOf h ≠ slotOf (h + 1) := fun e => by
    have := congrArg Fin.val e
    simp only [slotOf] at this
    omega
  have hb := tiles_run q v1 hv hv' G (fun lim j0 hf => scores stOps lim (h + 1) hh ((h + 1) % 2) (Nat.mod_lt _ (by decide)) j0 hf >>= fun _ => values stOps (h % 2) (Nat.mod_lt _ (by decide)) j0 hf)
    (fun kt σ => ValuesInv (Sees v1 q.val) (nTiles q v1) ρ h kt σ ∧ ScoresInv (Sees v1 q.val) ρ (h + 1) kt σ)
    (fun kt lim j0 hf σ hkt hj hm J => by
      obtain ⟨s1, s2, s3⟩ := scores_keep hm hh j0 hf hj (Nat.mod_lt _ (by decide)) J.2
      have V : ValuesInv (Sees v1 q.val) (nTiles q v1) ρ h kt (scores stOps lim (h + 1) hh ((h + 1) % 2) (Nat.mod_lt _ (by decide)) j0 hf σ).2 := by
        refine ⟨s1.kept, fun h' hh' h7 l d => ?_, fun s l => ?_, fun j hj' l => ?_, ?_, ?_⟩
        · rw [s2 .out (by decide) (by decide)]; exact J.1.out h' hh' h7 l d
        · rw [s2 .m (by decide) (by decide), s2 .c (by decide) (by decide)]; exact J.1.ready s l
        · rw [s3 _ hne]; exact J.1.stored j hj' l
        · rw [s2 .sm (by decide) (by decide)]; exact J.1.sm
        · rw [s2 .acc (by decide) (by decide)]; exact J.1.acc
      obtain ⟨v1', v2⟩ := values_keep hkt j0 hf hj (Nat.mod_lt _ (by decide)) V
      refine ⟨v1', ⟨v1'.kept, fun j hj' l => ?_, ?_⟩⟩
      · exact (congrFun (v2 .s (by decide) (by decide)) _).trans (s1.next j hj' l)
      · exact of_eq (MaxOf _ _) (v2 .mx (by decide) (by decide)) s1.mx)
    σ ⟨⟨I.kept, I.out, I.ready, I.stored, I.sm _, I.acc _ _⟩, ⟨I.kept, fun j hj => absurd hj (by omega), I.mx _⟩⟩
  obtain ⟨bv, bs⟩ := hb
  obtain ⟨f1, f2, f3, f4, f5⟩ := finishValues_keep (by omega) bv
  obtain ⟨g1, g2, g3, g4, g5⟩ := finishScores_keep (P := Sees v1 q.val) (a := nTiles q v1) (ρ := ρ) hh ⟨f1, fun j hj l => (congrFun (f5 .s (by decide) (by decide) (by decide)) _).trans (bs.next j hj l),
    of_eq (MaxOf _ _) (f5 .mx (by decide) (by decide) (by decide)) bs.mx⟩
  rw [stage_eq]
  refine ⟨g1, fun h' hh' h7 l d => ?_, g2, g3, g4, fun E' => ?_, fun vt E' => ?_⟩
  · exact (congrFun (g5 .out (by decide) (by decide) (by decide)) _).trans (f2 h' hh' h7 l d)
  · exact of_eq (SumOf _ _) (g5 .sm (by decide) (by decide) (by decide)) (f3 E')
  · exact of_eq (AccOf _ _ _) (g5 .acc (by decide) (by decide) (by decide)) (f4 vt E')

theorem rest_run (σ : State Ideal) :
    Kept σ (rest stOps (BitVec.ofNat 32 q.val) v1 G σ).2 ∧ OutOf (Sees v1 q.val) (nTiles q v1) σ 7 (rest stOps (BitVec.ofNat 32 q.val) v1 G σ).2 := by
  set σ3 : State Ideal := ((σ.set .mx (broadcast S8 (Scalar.ofBits (F := Ideal) .f32 0xFF800000#32))).set .acc (broadcast Sacc (Scalar.ofBits (F := Ideal) .f32 0x00000000#32))).set .sm
    (broadcast S8 (Scalar.ofBits (F := Ideal) .f32 0x00000000#32)) with h3
  have e3 : (setSm stOps (broadcast S8 (Scalar.ofBits (F := Ideal) .f32 0x00000000#32)) (setAcc stOps (broadcast Sacc (Scalar.ofBits (F := Ideal) .f32 0x00000000#32))
      (setMx stOps (broadcast S8 (Scalar.ofBits (F := Ideal) .f32 0xFF800000#32)) σ).2).2).2 = σ3 := by
    rw [setSm_eq, setAcc_eq, setMx_eq]
  have k3 : Kept σ σ3 := fun b hb => by
    rw [h3, State.set_ne _ _ _ _ (fun e => by subst e; cases hb), State.set_ne _ _ _ _ (fun e => by subst e; cases hb), State.set_ne _ _ _ _ (fun e => by subst e; cases hb)]
  have m3 : ∀ T', MaxOf T' 0 (σ3 .mx) := fun T' s l => by
    rw [h3, State.set_ne _ _ _ _ (by decide), State.set_ne _ _ _ _ (by decide), State.set_same]
    exact low_word
  have a3 : ∀ vt E', AccOf vt E' 0 (σ3 .acc) := fun vt E' d l => by
    rw [h3, State.set_ne _ _ _ _ (by decide), State.set_same]
    show Ideal.ofBits .f32 0x00000000#32 = _
    simp
  have s3 : ∀ E', SumOf E' 0 (σ3 .sm) := fun E' s l => by
    rw [h3, State.set_same]
    show Ideal.ofBits .f32 0x00000000#32 = _
    simp
  have hb := tiles_run q v1 hv hv' G (fun lim j0 hf => scores stOps lim 0 (by omega) 0 (by omega) j0 hf)
    (fun kt τ => ScoresInv (Sees v1 q.val) σ 0 kt τ ∧ τ .sm = σ3 .sm ∧ τ .acc = σ3 .acc)
    (fun kt lim j0 hf τ hkt hj hm J => by
      obtain ⟨s1, s2, -⟩ := scores_keep (h := 0) hm (by omega) j0 hf hj (by omega) J.1
      exact ⟨s1, (s2 .sm (by decide) (by decide)).trans J.2.1, (s2 .acc (by decide) (by decide)).trans J.2.2⟩)
    σ3 ⟨⟨k3, fun j hj => absurd hj (by omega), m3 _⟩, rfl, rfl⟩
  obtain ⟨bs, e1, e2⟩ := hb
  obtain ⟨g1, g2, g3, g4, g5⟩ := finishScores_keep (h := 0) (by omega) bs
  have B0 : Between (Sees v1 q.val) (nTiles q v1) σ 0 _ := ⟨g1, fun h' hh' => absurd hh' (by omega), g2, g3, g4,
    fun E' => of_eq (SumOf _ _) ((g5 .sm (by decide) (by decide) (by decide)).trans e1) (s3 E'), fun vt E' => of_eq (AccOf _ _ _) ((g5 .acc (by decide) (by decide) (by decide)).trans e2) (a3 vt E')⟩
  have B6 := stage_keep hv hv' G 5 (by omega) (stage_keep hv hv' G 4 (by omega) (stage_keep hv hv' G 3 (by omega) (stage_keep hv hv' G 2 (by omega)
    (stage_keep hv hv' G 1 (by omega) (stage_keep hv hv' G 0 (by omega) B0)))))
  have V := tiles_run q v1 hv hv' G (fun _ j0 hf => values stOps 0 (by omega) j0 hf) (fun kt τ => ValuesInv (Sees v1 q.val) (nTiles q v1) σ 6 kt τ)
    (fun kt lim j0 hf τ hkt hj hm J => (values_keep hkt j0 hf hj (by omega) J).1) _ ⟨B6.kept, B6.out, B6.ready, B6.stored, B6.sm _, B6.acc _ _⟩
  obtain ⟨f1, f2, -⟩ := finishValues_keep (h := 6) (by omega) V
  rw [rest_eq, e3]
  exact ⟨f1, f2⟩

end

end Cert.Body

end
-- ==== Proof.Element.lean ====
/-
  One element of the result, on the extended reals: the kernel's way of computing it, with powers of two, a shift of eight
  and the query's scale kept out of the scores, gives what the plain softmax gives.
-/
module

public import proofs.«01_k».proof.Proof.Stages

@[expose] public section

noncomputable section

namespace Cert.Body

open Idealize.ShloMosaic

theorem word_16 : Ideal.ofBits .f32 0x41800000#32 = ((16 : ℝ) : EReal) := by
  simp [Ideal.ofBits, Ideal.ieee]
  rw [← EReal.coe_mul]
  norm_num
theorem word_8 : Ideal.ofBits .f32 0x41000000#32 = ((8 : ℝ) : EReal) := by
  simp [Ideal.ofBits, Ideal.ieee]
  rw [← EReal.coe_mul]
  norm_num
theorem word_256 : Ideal.ofBits .f32 0x43800000#32 = ((256 : ℝ) : EReal) := by
  simp [Ideal.ofBits, Ideal.ieee]
  rw [← EReal.coe_mul]
  norm_num
theorem word_inv256 : Ideal.ofBits .f32 0x3B800000#32 = ((1 / 256 : ℝ) : EReal) := by
  simp [Ideal.ofBits, Ideal.ieee]
  rw [← EReal.coe_mul]
  norm_num

theorem codeMax_pos : (0 : EReal) ≤ codeMax := by
  unfold codeMax
  simp [Ideal.ofBits, Ideal.ieee]
  rw [← EReal.coe_mul]
  exact_mod_cast (by positivity)

theorem coe_sum (f : ℕ → ℝ) (n : ℕ) : ((∑ j ∈ Finset.range n, f j : ℝ) : EReal) = ∑ j ∈ Finset.range n, (f j : EReal) := by
  induction n with
  | zero => simp
  | succ n ih => rw [Finset.sum_range_succ, Finset.sum_range_succ, EReal.coe_add, ih]

/-- The kernel's exponential of a score `t`, the scores' maximum being `M` and the query's scale `q`. -/
def kerExp (q M t : EReal) : EReal :=
  Ideal.exp2 ((t - (M - Ideal.div (Ideal.ofBits .f32 0x41000000#32) (q * Ideal.ofBits .f32 0x41800000#32))) * (q * Ideal.ofBits .f32 0x41800000#32))

/-- The kernel's element: scores `T` and values `v` of the keys below `n`. -/
def kerOf (q : EReal) (T v : ℕ → EReal) (vs : EReal) (n : ℕ) : EReal :=
  Ideal.div ((∑ j ∈ Finset.range n, v j * min (kerExp q ((Finset.range n).sup T) (T j)) codeMax) * vs)
    (∑ j ∈ Finset.range n, kerExp q ((Finset.range n).sup T) (T j))

/-- The reference's element. -/
def refOf (S v : ℕ → EReal) (vs : EReal) (n : ℕ) : EReal :=
  Ideal.div ((∑ j ∈ Finset.range n, min (Ideal.exp (S j - (Finset.range n).sup S) * Ideal.ofBits .f32 0x43800000#32) codeMax * v j) * (vs * Ideal.ofBits .f32 0x3B800000#32))
    (∑ j ∈ Finset.range n, Ideal.exp (S j - (Finset.range n).sup S))

theorem headOut_eq (qs : Sqs.Idx → EReal) (vt : Svt.Idx → EReal) (vs : Svs.Idx → EReal) (T : ℕ → Fin 256 → EReal) (h n : ℕ) (l : Fin 256) (d : Fin 128) :
    headOut qs vt vs T h n l d = kerOf (qs (ix4 0 0 (Fin.ofNat 8 h) l)) (fun j => T j l) (fun j => vt (ix4 0 0 d (Fin.ofNat 4608 j))) (vs (ix4 0 0 d 0)) n := rfl

theorem sum_range_agree (f : ℕ → EReal) (n N : ℕ) (h : ∀ j, n ≤ j ∨ N ≤ j → f j = 0) : ∑ j ∈ Finset.range n, f j = ∑ j ∈ Finset.range N, f j := by
  have e : ∀ a, a = n ∨ a = N → ∑ j ∈ Finset.range a, f j = ∑ j ∈ Finset.range (n + N), f j := fun a ha => by
    refine Finset.sum_subset (fun j hj => ?_) (fun j _ hj => h j ?_)
    · simp only [Finset.mem_range] at *; omega
    · simp only [Finset.mem_range] at hj; omega
  rw [e n (.inl rfl), e N (.inr rfl)]

theorem sup_range_agree (f : ℕ → EReal) (n N : ℕ) (h : ∀ j, n ≤ j ∨ N ≤ j → f j = ⊥) : (Finset.range n).sup f = (Finset.range N).sup f := by
  have e : ∀ a b, (∀ j, b ≤ j → f j = ⊥) → (Finset.range a).sup f ≤ (Finset.range b).sup f := fun a b hb => by
    refine Finset.sup_le fun j _ => ?_
    by_cases hj : j < b
    · exact Finset.le_sup (Finset.mem_range.mpr hj)
    · rw [hb j (by omega)]; exact bot_le
  exact le_antisymm (e n N fun j hj => h j (.inr hj)) (e N n fun j hj => h j (.inl hj))

theorem sup_mul_pos (f : ℕ → EReal) (n : ℕ) (c : ℝ) (hc : 0 < c) : (Finset.range n).sup (fun j => f j * (c : EReal)) = (Finset.range n).sup f * (c : EReal) := by
  have hmono : Monotone fun x : EReal => x * (c : EReal) := fun x y hxy => mul_le_mul_of_nonneg_right hxy (by exact_mod_cast hc.le)
  refine (Finset.comp_sup_eq_sup_comp (fun x : EReal => x * (c : EReal)) (fun x y => hmono.map_sup x y) ?_).symm
  exact EReal.bot_mul_coe_of_pos hc

/-- The two exponentials differ by the factor 256 and are finite. -/
theorem exps (q : ℝ) (hq : 0 < q) (M t : EReal) (h : t ≤ M) (hM : M = ⊥ → t = ⊥) :
    ∃ r : ℝ, 0 ≤ r ∧ Ideal.exp (t * ((q * 16 * Real.log 2 : ℝ) : EReal) - M * ((q * 16 * Real.log 2 : ℝ) : EReal)) = (r : EReal)
      ∧ kerExp q M t = ((256 * r : ℝ) : EReal) ∧ (t = ⊥ → r = 0) := by
  have hl : (0 : ℝ) < Real.log 2 := Real.log_pos (by norm_num)
  have hc : (0 : ℝ) < q * 16 * Real.log 2 := by positivity
  have hcs : (q : EReal) * ((16 : ℝ) : EReal) = ((q * 16 : ℝ) : EReal) := (EReal.coe_mul _ _).symm
  have hd : Ideal.div ((8 : ℝ) : EReal) ((q * 16 : ℝ) : EReal) = ((8 * (1 / (q * 16)) : ℝ) : EReal) := by
    rw [Ideal.div_coe (by positivity), ← EReal.coe_mul]
  unfold kerExp
  rw [word_16, word_8, hcs, hd]
  have hbot : ∀ x : EReal, x = ⊥ → ∃ r : ℝ, 0 ≤ r ∧ Ideal.exp x = (r : EReal) ∧ Ideal.exp2 ⊥ = ((256 * r : ℝ) : EReal) ∧ (t = ⊥ → r = 0) := fun x hx =>
    ⟨0, le_refl _, by rw [hx]; simp, by simp, fun _ => rfl⟩
  have hp : (0 : ℝ) < q * 16 := by positivity
  by_cases ht : t = ⊥
  · subst ht
    rw [EReal.bot_sub, EReal.bot_mul_coe_of_pos hp, EReal.bot_mul_coe_of_pos hc]
    exact hbot _ (EReal.bot_sub _)
  · induction M with
    | bot => exact absurd (hM rfl) ht
    | top =>
      rw [EReal.top_sub_coe, EReal.sub_top, EReal.bot_mul_coe_of_pos hp, EReal.top_mul_coe_of_pos hc]
      exact hbot _ (EReal.sub_top _)
    | coe μ =>
      induction t with
      | bot => exact absurd rfl ht
      | top => exact absurd (top_le_iff.mp h) (EReal.coe_ne_top μ)
      | coe τ =>
        refine ⟨Real.exp (τ * (q * 16 * Real.log 2) - μ * (q * 16 * Real.log 2)), (Real.exp_pos _).le, ?_, ?_, fun e => absurd e ht⟩
        · rw [← EReal.coe_mul, ← EReal.coe_mul, ← EReal.coe_sub, Ideal.exp_coe]
        · rw [← EReal.coe_sub, ← EReal.coe_sub, ← EReal.coe_mul, Ideal.exp2_coe]
          congr 1
          show (2 : ℝ) ^ ((τ - (μ - 8 * (1 / (q * 16)))) * (q * 16)) = _
          have e : (τ - (μ - 8 * (1 / (q * 16)))) * (q * 16) = (τ - μ) * (q * 16) + 8 := by
            field_simp
            ring
          rw [e, Real.rpow_add (by norm_num), show (2 : ℝ) ^ (8 : ℝ) = 256 by norm_num, Real.rpow_def_of_pos (by norm_num : (0 : ℝ) < 2), mul_comm]
          congr 2
          ring

/-- THE TWO WAYS AGREE. -/
theorem ker_eq_ref (q : ℝ) (hq : 0 < q) (T S v : ℕ → EReal) (vs : EReal) (n N : ℕ) (hS : ∀ j, S j = T j * ((q * 16 * Real.log 2 : ℝ) : EReal))
    (hlow : ∀ j, n ≤ j ∨ N ≤ j → T j = ⊥) : kerOf q T v vs n = refOf S v vs N := by
  have hl : (0 : ℝ) < Real.log 2 := Real.log_pos (by norm_num)
  have hc : (0 : ℝ) < q * 16 * Real.log 2 := by positivity
  obtain rfl : S = fun j => T j * ((q * 16 * Real.log 2 : ℝ) : EReal) := funext hS
  unfold kerOf refOf
  rw [sup_mul_pos T N _ hc, sup_range_agree T n N hlow]
  set M := (Finset.range N).sup T with hM
  have hle : ∀ j, T j ≤ M := fun j => by
    by_cases hj : j < N
    · exact Finset.le_sup (Finset.mem_range.mpr hj)
    · rw [hlow j (.inr (by omega))]; exact bot_le
  choose r r0 hR hK hz using fun j => exps q hq M (T j) (hle j) (fun e => le_bot_iff.mp (e ▸ hle j))
  simp only [hR, hK]
  have z : ∀ j, n ≤ j ∨ N ≤ j → r j = 0 := fun j hj => hz j (hlow j hj)
  rw [sum_range_agree (fun j => v j * min ((256 * r j : ℝ) : EReal) codeMax) n N (fun j hj => by
      have := codeMax_pos
      show v j * min ((256 * r j : ℝ) : EReal) codeMax = 0
      rw [z j hj, mul_zero, EReal.coe_zero, min_eq_left this, mul_zero]),
    sum_range_agree (fun j => ((256 * r j : ℝ) : EReal)) n N (fun j hj => by
      show ((256 * r j : ℝ) : EReal) = 0
      rw [z j hj, mul_zero, EReal.coe_zero])]
  have e1 : ∑ j ∈ Finset.range N, ((256 * r j : ℝ) : EReal) = ((256 * ∑ j ∈ Finset.range N, r j : ℝ) : EReal) := by
    rw [Finset.mul_sum, coe_sum]
  have e2 : ∑ j ∈ Finset.range N, (r j : EReal) = ((∑ j ∈ Finset.range N, r j : ℝ) : EReal) := by
    rw [coe_sum]
  have e3 : ∀ j, min ((r j : EReal) * Ideal.ofBits .f32 0x43800000#32) codeMax * v j = v j * min ((256 * r j : ℝ) : EReal) codeMax := fun j => by
    rw [word_256, ← EReal.coe_mul, mul_comm (r j) 256, mul_comm]
  rw [e1, e2, Finset.sum_congr rfl fun j _ => e3 j, word_inv256]
  set A := ∑ j ∈ Finset.range N, v j * min ((256 * r j : ℝ) : EReal) codeMax with hA
  set L := ∑ j ∈ Finset.range N, r j with hL
  by_cases h0 : L = 0
  · have hr : ∀ j ∈ Finset.range N, r j = 0 := (Finset.sum_eq_zero_iff_of_nonneg fun j _ => r0 j).mp h0
    have hA0 : A = 0 := by
      rw [hA]
      refine Finset.sum_eq_zero fun j hj => ?_
      have := codeMax_pos
      rw [hr j hj, mul_zero, EReal.coe_zero, min_eq_left this, mul_zero]
    rw [hA0, h0, zero_mul, zero_mul, mul_zero]
  · rw [Ideal.div_coe (mul_ne_zero (by norm_num) h0), Ideal.div_coe h0]
    have e : (1 / (256 * L) : ℝ) = 1 / 256 * (1 / L) := by field_simp
    rw [e, EReal.coe_mul, mul_assoc, mul_assoc, mul_assoc]

end Cert.Body

end
-- ==== Proof.Keys.lean ====
/-
  The keys' scales, spread over the lanes at the first query tile of each batch entry and key head, and the whole body.
-/
module

public import proofs.«01_k».proof.Proof.Stages

@[expose] public section

noncomputable section

namespace Cert.Body

open Idealize.ShloMosaic

/-- The first `n` keys' scales, times `sc`, are spread over the lanes. -/
def Spread (ks : Sks.Idx → EReal) (sc : EReal) (n : ℕ) (ksb : Sksb.Idx → EReal) : Prop :=
  ∀ j < n, ∀ l : Fin 128, ksb (ix2 (Fin.ofNat 4608 j) l) = ks (ix4 0 0 (Fin.ofNat 36 (j / 128)) (Fin.ofNat 128 j)) * sc

theorem spreadKs_apply (v : FVec Ideal S1x1x1x128 .f32) (sc : Ideal .f32) (x l : Fin 128) :
    shapeCast S128x128 (transpose S128x128 [1, 0] (broadcastTo S128x128 (shapeCast S1x128 (mulf (shapeCast S1x128 v sc_ks) (broadcast S1x128 sc)) sc_128) bc_128) tr_128) sc_128x128 (ix2 x l)
      = v (ix4 0 0 0 x) * sc := by
  pointwise

theorem ksbRow_run (sc : Ideal .f32) (t : ℕ) (ht : t < 36) (σ : State Ideal) (H : Spread (σ .ks) sc (128 * t) (σ .ksb)) :
    let σ' := (ksbRow stOps sc t ht σ).2
    (∀ b, b ≠ .ksb → σ' b = σ b) ∧ Spread (σ .ks) sc (128 * (t + 1)) (σ' .ksb) := by
  intro σ'
  set v : FVec Ideal S1x1x1x128 .f32 := VecWindow.window (σ .ks) ![0, 0, t, 0] S1x1x1x128.size (inb_ksrow ht) with hv
  have e : σ' = σ.set .ksb (VecWindow.put (s := Sksb) (σ .ksb) ![128 * t, 0] S128x128.size
    (shapeCast S128x128 (transpose S128x128 [1, 0] (broadcastTo S128x128 (shapeCast S1x128 (mulf (shapeCast S1x128 v sc_ks) (broadcast S1x128 sc)) sc_128) bc_128) tr_128) sc_128x128)) := rfl
  rw [e]
  refine ⟨fun b hb => State.set_ne _ _ _ _ hb, fun j hj l => ?_⟩
  rw [State.set_same]
  by_cases hj' : j < 128 * t
  · refine Eq.trans (put_out (s := Sksb) _ _ _ _ _ 0 ?_) (H j hj' l)
    show j % 4608 < 128 * t ∨ _
    left
    rw [Nat.mod_eq_of_lt (by omega)]
    exact hj'
  · refine (put_in (s := Sksb) _ _ S128x128.size _ _ (ix2 (⟨j - 128 * t, by omega⟩ : Fin 128) l) fun a => ?_).trans ?_
    · fin_cases a
      · show j % 4608 = 128 * t + (j - 128 * t)
        rw [Nat.mod_eq_of_lt (by omega)]
        omega
      · exact (Nat.zero_add _).symm
    · rw [spreadKs_apply]
      congr 1
      refine window_at (s := Sks) _ _ _ _ _ _ fun a => ?_
      fin_cases a
      · rfl
      · rfl
      · show j / 128 % 36 = t
        omega
      · show j % 128 = 0 + (j - 128 * t)
        omega

theorem ksbRows_run (sc : Ideal .f32) : ∀ (n t : ℕ) (h : t + n = 36) (σ : State Ideal), Spread (σ .ks) sc (128 * t) (σ .ksb) →
    (∀ b, b ≠ .ksb → (ksbRows stOps sc n t h σ).2 b = σ b) ∧ Spread (σ .ks) sc 4608 ((ksbRows stOps sc n t h σ).2 .ksb)
  | 0, t, h, σ, H => by
    obtain rfl : t = 36 := by omega
    exact ⟨fun _ _ => rfl, H⟩
  | n + 1, t, h, σ, H => by
    obtain ⟨h1, h2⟩ := ksbRow_run sc t (by omega) σ H
    have eks := h1 .ks (by decide)
    obtain ⟨i1, i2⟩ := ksbRows_run sc n (t + 1) (by omega) (ksbRow stOps sc t (by omega) σ).2 (of_eq (fun x => Spread x sc _ _) eks h2)
    refine ⟨fun b hb => (i1 b hb).trans (h1 b hb), ?_⟩
    exact of_eq (fun x => Spread x sc _ _) eks.symm i2

/-- The scores of head `h`, from the keys' scales. -/
def scoresOf (q : Sq.Idx → EReal) (k : Sk.Idx → EReal) (ks : Sks.Idx → EReal) (sc : EReal) (P : ℕ → Fin 256 → Prop) (h j : ℕ) (l : Fin 256) : EReal :=
  open scoped Classical in
  if P j l then (∑ d : Fin 128, k (ix4 0 0 (Fin.ofNat 4608 j) d) * q (ix3 0 l (Fin.ofNat 896 (128 * h + d.val)))) * (ks (ix4 0 0 (Fin.ofNat 36 (j / 128)) (Fin.ofNat 128 j)) * sc) else ⊥

theorem headOut_congr (qs : Sqs.Idx → EReal) (vt : Svt.Idx → EReal) (vs : Svs.Idx → EReal) {T T' : ℕ → Fin 256 → EReal} (h n : ℕ) (l : Fin 256) (d : Fin 128)
    (e : ∀ j < n, T j l = T' j l) : headOut qs vt vs T h n l d = headOut qs vt vs T' h n l d := by
  have es : shift qs T h n l = shift qs T' h n l := by
    unfold shift
    rw [Finset.sup_congr rfl fun j hj => e j (Finset.mem_range.mp hj)]
  have ee : ∀ j ∈ Finset.range n, expOf qs T h n j l = expOf qs T' h n j l := fun j hj => by
    unfold expOf
    rw [es, e j (Finset.mem_range.mp hj)]
  unfold headOut
  rw [Finset.sum_congr rfl fun j hj => congrArg (fun x => vt (ix4 0 0 d (Fin.ofNat 4608 j)) * min x codeMax) (ee j hj), Finset.sum_congr rfl ee]

theorem atFirst_iff (q : Fin 18) : atFirst (BitVec.ofNat 32 q.val) = 1#1 ↔ q.val = 0 := by
  revert q
  decide

theorem tail_run (q : Fin 18) (v1 : BitVec 32) (hv : v1.toInt ≤ 4608) (hv' : -2 ^ 31 < v1.toInt) (G : Good (BitVec.ofNat 32 q.val) v1) (sc : EReal) (σ : State Ideal)
    (H : Spread (σ .ks) sc 4608 (σ .ksb)) :
    let σ' := (rest stOps (BitVec.ofNat 32 q.val) v1 G σ).2
    Spread (σ .ks) sc 4608 (σ' .ksb) ∧ ∀ h < 7, ∀ (l : Fin 256) (d : Fin 128), σ' .out (ix3 0 l (Fin.ofNat 896 (128 * h + d.val)))
      = headOut (σ .qs) (σ .vt) (σ .vs) (scoresOf (σ .q) (σ .k) (σ .ks) sc (Sees v1 q.val) h) h (512 * nTiles q v1) l d := by
  obtain ⟨h1, h2⟩ := rest_run hv hv' G σ
  have hn := (nTiles_spec q v1 hv).1
  refine ⟨of_eq (Spread _ sc 4608) (h1 .ksb rfl) H, fun h hh l d => (h2 h hh hh l d).trans ?_⟩
  refine headOut_congr _ _ _ _ _ _ _ fun j hj => ?_
  unfold tileScores scoreOf scoresOf
  rw [H j (by omega) _]

/-- THE WHOLE BODY: the keys' scales stay spread, and every element of the result is its head's. -/
theorem whole_run (q : Fin 18) (v1 : BitVec 32) (hv : v1.toInt ≤ 4608) (hv' : -2 ^ 31 < v1.toInt) (G : Good (BitVec.ofNat 32 q.val) v1) (sc : Ideal .f32) (σ : State Ideal)
    (H : q.val ≠ 0 → Spread (σ .ks) sc 4608 (σ .ksb)) :
    let σ' := (whole stOps (BitVec.ofNat 32 q.val) v1 G sc σ).2
    Spread (σ .ks) sc 4608 (σ' .ksb) ∧ ∀ h < 7, ∀ (l : Fin 256) (d : Fin 128), σ' .out (ix3 0 l (Fin.ofNat 896 (128 * h + d.val)))
      = headOut (σ .qs) (σ .vt) (σ .vs) (scoresOf (σ .q) (σ .k) (σ .ks) sc (Sees v1 q.val) h) h (512 * nTiles q v1) l d := by
  intro σ'
  by_cases h0 : q.val = 0
  · have e : σ' = (rest stOps (BitVec.ofNat 32 q.val) v1 G (ksbRows stOps sc 36 0 rfl σ).2).2 := by
      show (whole stOps (BitVec.ofNat 32 q.val) v1 G sc σ).2 = _
      unfold whole
      rw [if_pos ((atFirst_iff q).mpr h0), windows_eq]
      rfl
    obtain ⟨k1, k2⟩ := ksbRows_run sc 36 0 rfl σ (fun j hj => absurd hj (by omega))
    obtain ⟨t1, t2⟩ := tail_run q v1 hv hv' G sc (ksbRows stOps sc 36 0 rfl σ).2 (of_eq (fun x => Spread x sc _ _) (k1 .ks (by decide)) k2)
    rw [k1 .ks (by decide)] at t1 t2
    rw [k1 .q (by decide), k1 .qs (by decide), k1 .k (by decide), k1 .vt (by decide), k1 .vs (by decide)] at t2
    rw [e]
    exact ⟨t1, t2⟩
  · have e : σ' = (rest stOps (BitVec.ofNat 32 q.val) v1 G σ).2 := by
      show (whole stOps (BitVec.ofNat 32 q.val) v1 G sc σ).2 = _
      unfold whole
      rw [if_neg (fun h => h0 ((atFirst_iff q).mp h)), windows_eq]
    rw [e]
    exact tail_run q v1 hv hv' G sc σ (H h0)

end Cert.Body

end
-- ==== Proof.Arrays.lean ====
/-
  One element of the result as a function of the argument arrays: what the kernel computes and what the reference computes,
  and that the two agree where the query's scale is a positive number and the prefix length is at most the sequence length.
-/
module

public import proofs.«01_k».proof.Proof.Element
public import proofs.«01_k».proof.Proof.Keys

@[expose] public section

noncomputable section

namespace Cert.Body

open Idealize.ShloMosaic

/-- The argument arrays, on the extended reals. -/
structure Args where
  q : (⟨3, ![3, 4480, 7168]⟩ : Shape).Idx → EReal
  qs : (⟨4, ![3, 8, 8, 4608]⟩ : Shape).Idx → EReal
  k : (⟨4, ![3, 8, 4608, 128]⟩ : Shape).Idx → EReal
  ks : (⟨4, ![3, 8, 36, 128]⟩ : Shape).Idx → EReal
  vt : (⟨4, ![3, 8, 128, 4608]⟩ : Shape).Idx → EReal
  vs : (⟨4, ![3, 8, 128, 1]⟩ : Shape).Idx → EReal
  len : Fin 3 → BitVec 32

variable (A : Args) (sc : EReal) (b : Fin 3) (g : Fin 8) (h : ℕ) (i : Fin 4480) (d : Fin 128)

/-- Position `i` sees key `j`: the key is in the prefix, or not after the position. -/
def Args.Sees (j : ℕ) : Prop := (j : ℤ) ≤ max ((A.len b).toInt - 1) (i.val : ℤ)

/-- The dot product of key `j`'s codes with the codes of position `i`'s query of head `h`. -/
def Args.dot (j : ℕ) : EReal := ∑ e : Fin 128, A.k (ix4 b g (Fin.ofNat 4608 j) e) * A.q (ix3 b i (Fin.ofNat 7168 (896 * g.val + 128 * h + e.val)))

/-- Key `j`'s scale. -/
def Args.keyScale (j : ℕ) : EReal := A.ks (ix4 b g (Fin.ofNat 36 (j / 128)) (Fin.ofNat 128 j))

/-- The query's scale. -/
def Args.queryScale : EReal := A.qs (ix4 b g (Fin.ofNat 8 h) ⟨i.val, by have := i.isLt; omega⟩)

/-- The scores as the kernel forms them: without the query's scale, the factor `sc` on the key's. -/
def Args.kerScore (j : ℕ) : EReal :=
  open scoped Classical in
  if A.Sees b i j then A.dot b g h i j * (A.keyScale b g j * sc) else ⊥

/-- The scores as the reference forms them. -/
def Args.refScore (j : ℕ) : EReal :=
  open scoped Classical in
  if A.Sees b i j then A.dot b g h i j * (A.queryScale b g h i * sc) * A.keyScale b g j else ⊥

/-- The kernel's element. -/
def Args.ker : EReal :=
  kerOf (A.queryScale b g h i) (A.kerScore sc b g h i) (fun j => A.vt (ix4 b g d (Fin.ofNat 4608 j))) (A.vs (ix4 b g d 0))
    (512 * nTiles ⟨i.val / 256, by have := i.isLt; omega⟩ (A.len b))

/-- The reference's element. -/
def Args.ref : EReal :=
  refOf (A.refScore sc b g h i) (fun j => A.vt (ix4 b g d (Fin.ofNat 4608 j))) (A.vs (ix4 b g d 0)) 4480

/-- From what one query tile's buffers hold to the kernel's element. -/
theorem Args.of_parts (t : Fin 18) (v1 : BitVec 32) (hv1 : v1 = A.len b) (xq : Sq.Idx → EReal) (xqs : Sqs.Idx → EReal) (xk : Sk.Idx → EReal)
    (xks : Sks.Idx → EReal) (xvt : Svt.Idx → EReal) (xvs : Svs.Idx → EReal) (l : Fin 256) (hl : 256 * t.val + l.val < 4480) (hh : h < 7)
    (Hq : ∀ n : Fin 896, xq (ix3 0 l n) = A.q (ix3 b ⟨256 * t.val + l.val, hl⟩ ⟨896 * g.val + n.val, by have := g.isLt; have := n.isLt; omega⟩))
    (Hqs : ∀ s, xqs (ix4 0 0 s l) = A.qs (ix4 b g s ⟨256 * t.val + l.val, by omega⟩))
    (Hk : ∀ s e, xk (ix4 0 0 s e) = A.k (ix4 b g s e)) (Hks : ∀ s e, xks (ix4 0 0 s e) = A.ks (ix4 b g s e))
    (Hvt : ∀ s e, xvt (ix4 0 0 s e) = A.vt (ix4 b g s e)) (Hvs : ∀ s e, xvs (ix4 0 0 s e) = A.vs (ix4 b g s e)) :
    headOut xqs xvt xvs (scoresOf xq xk xks sc (Cert.Body.Sees v1 t.val) h) h (512 * nTiles t v1) l d
      = A.ker sc b g h ⟨256 * t.val + l.val, hl⟩ d := by
  subst hv1
  rw [headOut_eq]
  unfold Args.ker Args.queryScale
  have eq : (⟨(256 * t.val + l.val) / 256, by have := t.isLt; omega⟩ : Fin 18) = t := Fin.ext (by have := l.isLt; show (256 * t.val + l.val) / 256 = _; omega)
  have e2 : (fun j => scoresOf xq xk xks sc (Cert.Body.Sees (A.len b) t.val) h j l) = A.kerScore sc b g h ⟨256 * t.val + l.val, hl⟩ := by
    funext j
    unfold scoresOf Args.kerScore Args.dot Args.keyScale
    by_cases hs : A.Sees b ⟨256 * t.val + l.val, hl⟩ j
    · rw [if_pos (show Cert.Body.Sees (A.len b) t.val j l from hs), if_pos hs, Hks]
      refine congrArg (· * _) (Finset.sum_congr rfl fun e _ => ?_)
      rw [Hk, Hq]
      refine congrArg (fun x => _ * A.q (ix3 b _ x)) (Fin.ext ?_)
      have := g.isLt
      have := e.isLt
      show 896 * g.val + (128 * h + e.val) % 896 = (896 * g.val + 128 * h + e.val) % 7168
      omega
    · rw [if_neg (show ¬Cert.Body.Sees (A.len b) t.val j l from hs), if_neg hs]
  have e3 : (fun j => xvt (ix4 0 0 d (Fin.ofNat 4608 j))) = fun j => A.vt (ix4 b g d (Fin.ofNat 4608 j)) := funext fun j => Hvt _ _
  rw [e2, e3, Hqs, Hvs, eq]

/-- THE ELEMENTS AGREE. -/
theorem Args.ker_eq_ref (r κ κ' : ℝ) (hr : 0 < r) (hq : A.queryScale b g h i = (r : EReal)) (hκ : κ' * 16 * Real.log 2 = κ)
    (hlen : (A.len b).toInt ≤ 4480) : A.ker (κ' : EReal) b g h i d = A.ref (κ : EReal) b g h i d := by
  have hl : (0 : ℝ) < Real.log 2 := Real.log_pos (by norm_num)
  unfold Args.ker Args.ref
  rw [hq]
  refine Cert.Body.ker_eq_ref r hr _ _ _ _ _ _ (fun j => ?_) (fun j hj => ?_)
  · unfold Args.refScore Args.kerScore
    split
    · rw [hq, mul_assoc (A.dot b g h i j), mul_assoc (A.dot b g h i j)]
      refine congrArg (A.dot b g h i j * ·) ?_
      rw [mul_comm ((r : EReal) * (κ : EReal)), mul_assoc, ← EReal.coe_mul, ← EReal.coe_mul, ← hκ]
      refine congrArg (fun x : ℝ => A.keyScale b g j * (x : EReal)) ?_
      ring
    · exact (EReal.bot_mul_coe_of_pos (by positivity)).symm
  · unfold Args.kerScore
    refine if_neg fun hs => ?_
    unfold Args.Sees at hs
    have hi := i.isLt
    obtain ⟨-, hn⟩ := nTiles_spec ⟨i.val / 256, by omega⟩ (A.len b) (by omega)
    simp only at hn
    rw [Nat.cast_min] at hn
    push_cast at hn
    rcases hj with hj | hj
    · have : ((512 * nTiles ⟨i.val / 256, by omega⟩ (A.len b) : ℕ) : ℤ) ≤ j := by exact_mod_cast hj
      push_cast at this
      omega
    · omega

end Cert.Body

end
-- ==== Proof.Result.lean ====
/-
  The kernel's result array: the call ends with every element of it the element the argument arrays give.
-/
module

public import proofs.«01_k».proof.Proof.Reads
public import proofs.«01_k».proof.Proof.Arrays
public import Idealize.ShloMosaic.Lib.Pipeline.ValueKit.Geometry

@[expose] public section

noncomputable section

namespace Cert.KernelIdeal.Body

open Idealize.ShloMosaic Idealize.ShloMosaic.TcCoe
open Idealize.SL
open Idealize.SL.RA Idealize.SL.Sem
open Cert.KernelIdeal Cert.KernelIdeal.Gen
open Cert.Body (State Spread Args)

variable (m : (ℓ : Loc nD τ sig) → Buf (Elt Ideal) ℓ)

/-- A batch entry's prefix length. -/
def lenAt (f : S3.Idx → Elt Ideal .i32) (b : Fin 3) : BitVec 32 := f (ix1 b)

/-- The argument arrays on a core. -/
def argsOf (c : Dev nD) : Args where
  q := m ((c.tc : Thread nD τ).loc main_arg0)
  qs := m ((c.tc : Thread nD τ).loc main_arg1)
  k := m ((c.tc : Thread nD τ).loc main_arg2)
  ks := m ((c.tc : Thread nD τ).loc main_arg3)
  vt := m ((c.tc : Thread nD τ).loc main_arg4)
  vs := m ((c.tc : Thread nD τ).loc main_arg5)
  len := fun b => lenAt (m ((c.tc : Thread nD τ).loc main_arg6)) b

/-- The result array the argument arrays give. -/
def result (c : Dev nD) : (⟨3, ![3, 4480, 7168]⟩ : Shape).Idx → EReal := fun x =>
  (argsOf m c).ker (scale (F := Ideal)) (x 0) ⟨(x 2).val / 896, by have : (x 2).val < 7168 := (x 2).isLt; omega⟩ ((x 2).val % 896 / 128) (x 1) ⟨(x 2).val % 128, by omega⟩

/-- The block of the key scales at a grid point. -/
def scalesAt (c : Dev nD) (t : Fin grid0.N) : (⟨4, ![1, 1, 36, 128]⟩ : Shape).Idx → EReal := fun y => (argsOf m c).ks (ix4 (bAt t) (gAt t) (y 2) (y 3))

/-- From the second query tile on, the key scales of the point's batch entry and key head are spread. -/
def Carried (c : Dev nD) (n : Fin ((cfgM m).N + 1)) (ksb : S4608x128.Idx → Elt Ideal .f32) : Prop :=
  ∀ t : Fin grid0.N, t.val = n.val → (qAt t).val ≠ 0 →
    Spread (scalesAt m c t) (scale (F := Ideal)) 4608 ksb

/-- What a grid point writes: the elements of its query tile inside the array. -/
def Wrote (c : Dev nD) (t : Fin (cfgM m).N) (X : S1x256x896.Idx → Elt Ideal .bf16) : Prop :=
  ∀ h < 7, ∀ (l : Fin 256) (d : Fin 128) (hl : 256 * (qAt t).val + l.val < 4480),
    X (ix3 0 l (Fin.ofNat 896 (128 * h + d.val))) = (argsOf m c).ker (scale (F := Ideal)) (bAt t) (gAt t) h ⟨256 * (qAt t).val + l.val, hl⟩ d

theorem len_at (t : Fin grid0.N) (f : S3.Idx → Elt Ideal .i32) : len (grid0.coords t) f = lenAt f (bAt t) := by
  have e0 := word_val (bAt t) (by decide)
  unfold len lenAt
  rw [View.read_apply]
  refine congrArg f (funext fun a => Fin.ext ?_)
  fin_cases a
  show (BitVec.ofNat 32 (bAt t).val).toNat + 1 * 0 = (bAt t).val
  omega

theorem len_eq (c : Dev nD) (t : Fin grid0.N) : len (grid0.coords t) (table m 0) = (argsOf m c).len (bAt t) := by
  obtain rfl : c = 0 := Subsingleton.elim _ _
  exact len_at t _

/-- The next point, if it is not its row's first, is of the same batch entry and key head. -/
theorem next_same : ∀ t t' : Fin grid0.N, t'.val = t.val + 1 → (qAt t').val ≠ 0 → bAt t' = bAt t ∧ gAt t' = gAt t := by
  intro t t' h hq
  obtain ⟨a, b, e⟩ := at_val t
  obtain ⟨a', b', e'⟩ := at_val t'
  have := t.isLt
  refine ⟨Fin.ext ?_, Fin.ext ?_⟩ <;> omega

theorem spread_congr {ks ks' : (⟨4, ![1, 1, 36, 128]⟩ : Shape).Idx → EReal} (e : ∀ s l, ks (ix4 0 0 s l) = ks' (ix4 0 0 s l)) {sc : EReal} {n : ℕ} {x}
    (H : Spread ks sc n x) : Spread ks' sc n x := fun j hj l => (H j hj l).trans (by rw [e])

theorem step_run (t : Fin grid0.N) (v1 : BitVec 32) (hv : v1.toInt ≤ 4608) (hv' : -2 ^ 31 < v1.toInt) (σ : State Ideal)
    (H : (qAt t).val ≠ 0 → Spread (σ .ks) (scale (F := Ideal)) 4608 (σ .ksb)) :
    Spread (σ .ks) (scale (F := Ideal)) 4608 (step (grid0.coords t) v1 hv σ .ksb)
      ∧ ∀ h < 7, ∀ (l : Fin 256) (d : Fin 128), step (grid0.coords t) v1 hv σ .out (ix3 0 l (Fin.ofNat 896 (128 * h + d.val)))
        = Cert.Body.headOut (σ .qs) (σ .vt) (σ .vs) (Cert.Body.scoresOf (σ .q) (σ .k) (σ .ks) (scale (F := Ideal)) (Cert.Body.Sees v1 (qAt t).val) h) h
            (512 * Cert.Body.nTiles (qAt t) v1) l d := by
  unfold step
  exact Cert.Body.whole_run (qAt t) v1 hv hv' (good (grid0.coords t) v1 (check_of_le (grid0.coords t) v1 hv)) (scale (F := Ideal)) σ H

theorem carried_at (c : Dev nD) (t : Fin (cfgM m).N) (x : S4608x128.Idx → EReal) (h : Carried m c t.castSucc x) (hq : (qAt t).val ≠ 0) :
    Spread (scalesAt m c t) (scale (F := Ideal)) 4608 x := by
  unfold Carried at h
  exact h t (Fin.val_castSucc t).symm hq

theorem carried_of (c : Dev nD) (t : Fin (cfgM m).N) (x : S4608x128.Idx → EReal) (h : Spread (scalesAt m c t) (scale (F := Ideal)) 4608 x) :
    Carried m c t.succ x := by
  intro t' ht' hq
  obtain ⟨eb, eg⟩ := next_same t t' (ht'.trans (Fin.val_succ t)) hq
  unfold scalesAt
  rw [eb, eg]
  exact h

/-- Every grid point writes its elements and keeps the key scales spread. -/
theorem steps (hv : ∀ x, BitVec.toInt (table m 0 x) ≤ 4608) (hv' : ∀ x, -2 ^ 31 < BitVec.toInt (table m 0 x)) (c : Dev nD) :
    StepOk m hv (Carried m c) (Wrote m c) c := by
  intro t Y hY σ hσ
  have hk : ∀ s l, (σ .ks) (ix4 0 0 s l) = (argsOf m c).ks (ix4 (bAt t) (gAt t) s l) := fun s l =>
    (congrFun hσ.ks _).trans (read_ks m _ _ c t _ (hY 3) s l)
  have hlen := len_eq m c t
  have hl' : -2 ^ 31 < (len (grid0.coords t) (table m 0)).toInt := by unfold len; exact hv' _
  have hH : (qAt t).val ≠ 0 → Spread (σ .ks) (scale (F := Ideal)) 4608 (σ .ksb) := fun hq => by
    have hJ : Spread (scalesAt m c t) (scale (F := Ideal)) 4608 (σ .ksb) := carried_at m c t _ hσ.ksb hq
    exact spread_congr (ks := scalesAt m c t) (ks' := σ .ks) (fun s l => (hk s l).symm) hJ
  obtain ⟨h1, h2⟩ := step_run t (len (grid0.coords t) (table m 0)) (len_le _ _ hv) hl' σ hH
  refine ⟨?_, ?_⟩
  · refine carried_of m c t _ ?_
    exact spread_congr (ks := σ .ks) (ks' := scalesAt m c t) (fun s l => hk s l) h1
  · intro h hh l d hl
    refine (h2 h hh l d).trans ?_
    exact Args.of_parts (argsOf m c) (scale (F := Ideal)) (bAt t) (gAt t) h d (qAt t) _ hlen (σ .q) (σ .qs) (σ .k) (σ .ks) (σ .vt) (σ .vs) l hl hh
      (fun n => (congrFun hσ.q _).trans (read_q m _ _ c t _ (hY 0) l n hl))
      (fun s => (congrFun hσ.qs _).trans (read_qs m _ _ c t _ (hY 1) s l))
      (fun s e => (congrFun hσ.k _).trans (read_k m _ _ c t _ (hY 2) s e)) hk
      (fun s e => (congrFun hσ.vt _).trans (read_vt m _ _ c t _ (hY 4) s e))
      (fun s e => (congrFun hσ.vs _).trans (read_vs m _ _ c t _ (hY 5) s e))

/-- Every grid point writes its block back. -/
theorem flushes (t : Fin (cfgM m).N) : ((cfgM m).win 6).flush t = true := by
  unfold Pipeline.Window.flush
  rw [show ((cfgM m).win 6).isOut = true from rfl, Bool.true_and, Bool.or_eq_true, decide_eq_true_eq, decide_eq_true_eq]
  by_cases h : t.val + 1 = grid0.N
  · exact .inl h
  · have hlt : t.val + 1 < grid0.N := by have := t.isLt; have : t.val < grid0.N := this; omega
    refine .inr ⟨hlt, fun e => ?_⟩
    have e1 : cc0_transform_6 (grid0.coords ⟨t.val + 1, hlt⟩) 1 = cc0_transform_6 (grid0.coords t) 1 := congrFun e (1 : Fin 3)
    have e2 : (BitVec.ofNat 32 (qAt ⟨t.val + 1, hlt⟩).val).toNat = (BitVec.ofNat 32 (qAt t).val).toNat := e1
    rw [word_val _ (by decide), word_val _ (by decide), (at_val _).2.2, (at_val _).2.2] at e2
    simp only at e2
    omega

theorem xsize6 (t : Fin (cfgM m).N) : ((cfgM m).win 6).xsize (grid0.coords t) (1 : Fin 3) = if ((qAt t).val + 1) * 256 ≤ 4480 then 256 else 4480 - (qAt t).val * 256 := by
  have e2 := word_val (qAt t) (by decide)
  show (Pipeline.Clip.of (BitVec.ofNat 32 (qAt t).val).toNat 256 4480).extent 256 = _
  rw [of_extent, e2]

theorem result_at (c : Dev nD) (b : Fin 3) (g : Fin 8) (i : Fin 4480) (n : Fin 896) :
    result m c (ix3 b i ⟨896 * g.val + n.val, by have := g.isLt; have := n.isLt; omega⟩)
      = (argsOf m c).ker (scale (F := Ideal)) b g (n.val / 128) i ⟨n.val % 128, by omega⟩ := by
  have hg := g.isLt
  have hn := n.isLt
  have g1 : (⟨(896 * g.val + n.val) / 896, by omega⟩ : Fin 8) = g := Fin.ext (by show (896 * g.val + n.val) / 896 = _; omega)
  have g2 : (896 * g.val + n.val) % 896 / 128 = n.val / 128 := by omega
  have g3 : (⟨(896 * g.val + n.val) % 128, by omega⟩ : Fin 128) = ⟨n.val % 128, by omega⟩ := Fin.ext (by show (896 * g.val + n.val) % 128 = n.val % 128; omega)
  show (argsOf m c).ker (scale (F := Ideal)) b ⟨(896 * g.val + n.val) / 896, _⟩ ((896 * g.val + n.val) % 896 / 128) i ⟨(896 * g.val + n.val) % 128, _⟩ = _
  rw [g1, g2, g3]

theorem in_block (t : Fin (cfgM m).N) (y : (((cfgM m).win 6).xblock (grid0.coords t)).Idx) :
    (y (0 : Fin 3)).val = 0 ∧ (y (1 : Fin 3)).val < 256 ∧ (y (2 : Fin 3)).val < 896 ∧ 256 * (qAt t).val + (y (1 : Fin 3)).val < 4480 := by
  have h1 : (y (1 : Fin 3)).val < ((cfgM m).win 6).xsize (grid0.coords t) (1 : Fin 3) := (y (1 : Fin 3)).isLt
  have hl : (y (1 : Fin 3)).val < 256 := lt_of_lt_of_le h1 (((cfgM m).win 6).xsize_le (grid0.coords t) (1 : Fin 3))
  have hn : (y (2 : Fin 3)).val < 896 := lt_of_lt_of_le (y (2 : Fin 3)).isLt (((cfgM m).win 6).xsize_le (grid0.coords t) (2 : Fin 3))
  have h0 : (y (0 : Fin 3)).val < 1 := lt_of_lt_of_le (y (0 : Fin 3)).isLt (((cfgM m).win 6).xsize_le (grid0.coords t) (0 : Fin 3))
  rw [xsize6] at h1
  have hq := (qAt t).isLt
  refine ⟨by omega, hl, hn, ?_⟩
  split at h1 <;> omega

theorem staged_at (t : Fin (cfgM m).N) (y : (((cfgM m).win 6).xblock (grid0.coords t)).Idx) (hl : (y (1 : Fin 3)).val < 256) (hn : (y (2 : Fin 3)).val < 896) (h0 : (y (0 : Fin 3)).val = 0) :
    ((cfgM m).win 6).xinj (grid0.coords t) y = ix3 (n0 := 1) (n1 := 256) (n2 := 896) 0 ⟨(y (1 : Fin 3)).val, hl⟩ (Fin.ofNat 896 (128 * ((y (2 : Fin 3)).val / 128) + (y (2 : Fin 3)).val % 128)) := by
  funext a
  apply Fin.ext
  fin_cases a
  · exact h0
  · rfl
  · show (y (2 : Fin 3)).val = (128 * ((y (2 : Fin 3)).val / 128) + (y (2 : Fin 3)).val % 128) % 896
    omega

theorem placed_at (t : Fin (cfgM m).N) (y : (((cfgM m).win 6).xblock (grid0.coords t)).Idx) (hn : (y (2 : Fin 3)).val < 896) (h0 : (y (0 : Fin 3)).val = 0)
    (hin : 256 * (qAt t).val + (y (1 : Fin 3)).val < 4480) :
    (((cfgM m).win 6).blk t).view.emb y = ix3 (n0 := 3) (n1 := 4480) (n2 := 7168) (bAt t) ⟨256 * (qAt t).val + (y (1 : Fin 3)).val, hin⟩
      ⟨896 * (gAt t).val + (y (2 : Fin 3)).val, by have := (gAt t).isLt; omega⟩ := by
  have e0 := word_val (bAt t) (by decide)
  have e1 := word_val (gAt t) (by decide)
  have e2 := word_val (qAt t) (by decide)
  funext a
  apply Fin.ext
  fin_cases a
  · show (BitVec.ofNat 32 (bAt t).val).toNat * 1 + 1 * (y (0 : Fin 3)).val = (bAt t).val
    omega
  · show (BitVec.ofNat 32 (qAt t).val).toNat * 256 + 1 * (y (1 : Fin 3)).val = 256 * (qAt t).val + (y (1 : Fin 3)).val
    omega
  · show (BitVec.ofNat 32 (gAt t).val).toNat * 896 + 1 * (y (2 : Fin 3)).val = 896 * (gAt t).val + (y (2 : Fin 3)).val
    omega

theorem wrote_at (c : Dev nD) (t : Fin (cfgM m).N) (X : S1x256x896.Idx → Elt Ideal .bf16) (hX : Wrote m c t X) (l : Fin 256) (n : Fin 896) (hin : 256 * (qAt t).val + l.val < 4480) :
    X (ix3 (n0 := 1) (n1 := 256) (n2 := 896) 0 l (Fin.ofNat 896 (128 * (n.val / 128) + n.val % 128)))
      = result m c (ix3 (bAt t) ⟨256 * (qAt t).val + l.val, hin⟩ ⟨896 * (gAt t).val + n.val, by have := (gAt t).isLt; have := n.isLt; omega⟩) := by
  unfold Wrote at hX
  have hn := n.isLt
  exact (hX (n.val / 128) (by omega) l ⟨n.val % 128, by omega⟩ hin).trans (result_at m c (bAt t) (gAt t) ⟨256 * (qAt t).val + l.val, hin⟩ n).symm

theorem block_of (t : Fin (cfgM m).N) (X : S1x256x896.Idx → Elt Ideal .bf16) (V : (⟨3, ![3, 4480, 7168]⟩ : Shape).Idx → Elt Ideal .bf16)
    (h : ∀ y, X (((cfgM m).win 6).xinj (grid0.coords t) y) = V ((((cfgM m).win 6).blk t).view.emb y)) :
    ((cfgM m).win 6).cut (grid0.coords t) X = (((cfgM m).win 6).blk t).view.read (Elt Ideal) V :=
  funext fun y => h y

/-- What a grid point writes back is the result's block. -/
theorem writes_back (c : Dev nD) (t : Fin (cfgM m).N) (X : S1x256x896.Idx → Elt Ideal .bf16) (hX : Wrote m c t X) :
    ((cfgM m).win 6).cut (grid0.coords t) X = (((cfgM m).win 6).blk t).view.read (Elt Ideal) (result m c) := by
  refine block_of m t X (result m c) fun y => ?_
  obtain ⟨h0, hl, hn, hin⟩ := in_block m t y
  rw [staged_at m t y hl hn h0, placed_at m t y hn h0 hin]
  exact wrote_at m c t X hX ⟨_, hl⟩ ⟨_, hn⟩ hin

/-- Every element of the result is in some grid point's block. -/
theorem covered (x : (⟨3, ![3, 4480, 7168]⟩ : Shape).Idx) : ∃ t : Fin (cfgM m).N, x ∈ (((cfgM m).win 6).blk t).view.set := by
  have h0 : (x 0).val < 3 := (x 0).isLt
  have h1 : (x 1).val < 4480 := (x 1).isLt
  have h2 : (x 2).val < 7168 := (x 2).isLt
  have hN : 144 * (x 0).val + 18 * ((x 2).val / 896) + (x 1).val / 256 < grid0.N := by rw [N_0]; omega
  obtain ⟨a0, a1, a2⟩ := at_val ⟨_, hN⟩
  have e0 := word_val (bAt ⟨_, hN⟩) (by decide)
  have e1 := word_val (gAt ⟨_, hN⟩) (by decide)
  have e2 := word_val (qAt ⟨_, hN⟩) (by decide)
  simp only at a0 a1 a2
  refine ⟨⟨_, hN⟩, (((cfgM m).win 6).emb_mem_blk_iff ⟨_, hN⟩ x rfl).mpr fun a => ?_⟩
  fin_cases a
  · show (BitVec.ofNat 32 (bAt ⟨_, hN⟩).val).toNat * 1 ≤ (x 0).val
      ∧ (x 0).val < (BitVec.ofNat 32 (bAt ⟨_, hN⟩).val).toNat * 1 + (Pipeline.Clip.of (BitVec.ofNat 32 (bAt ⟨_, hN⟩).val).toNat 1 3).extent 1
    rw [of_extent]
    split <;> omega
  · show (BitVec.ofNat 32 (qAt ⟨_, hN⟩).val).toNat * 256 ≤ (x 1).val
      ∧ (x 1).val < (BitVec.ofNat 32 (qAt ⟨_, hN⟩).val).toNat * 256 + (Pipeline.Clip.of (BitVec.ofNat 32 (qAt ⟨_, hN⟩).val).toNat 256 4480).extent 256
    rw [of_extent]
    split <;> omega
  · show (BitVec.ofNat 32 (gAt ⟨_, hN⟩).val).toNat * 896 ≤ (x 2).val
      ∧ (x 2).val < (BitVec.ofNat 32 (gAt ⟨_, hN⟩).val).toNat * 896 + (Pipeline.Clip.of (BitVec.ofNat 32 (gAt ⟨_, hN⟩).val).toNat 896 7168).extent 896
    rw [of_extent]
    split <;> omega

/-- THE RESULT: the call ends with every element of the result the one its arguments give, and its arguments unchanged. -/
theorem value (ρ : Dev nD → PrngReg) (hv : ∀ x, BitVec.toInt (table m 0 x) ≤ 4608) (hv' : ∀ x, -2 ^ 31 < BitVec.toInt (table m 0 x)) :
    θ_run (defs (F := Ideal)) (onTc (τ := τ) (main (F := Ideal))) ⟨m, fun _ => 0, ρ⟩
      (fun r => ∀ c : Dev nD, r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨by
      have hA := (h.1 c).1 6
      funext x
      obtain ⟨t, ht⟩ := covered m x
      exact Cert.Body.arrAt_at (rdat m (Carried m c) (Wrote m c) c) 6 (result m c) (fun u X hX => by
        obtain ⟨Y, -, hW⟩ := hX
        exact writes_back m c u X hW) _ _ hA t t.isLt (flushes m t) x ht,
      args_of_post _ (fun _ _ => rfl) r h.1 c⟩)
    (call ρ hv (fun c => Carried m c) (fun c x => fun t ht hq => by
        have h0 : t.val = 0 := ht
        have := (at_val t).2.2
        omega) (fun c => Wrote m c) (fun c => steps m hv hv' c))

end Cert.KernelIdeal.Body

end
-- ==== Proof.Tame.lean ====
/-
  The precondition of the value claim, read off the printed predicate: the query scales the result depends on are positive
  numbers, and the prefix lengths are at most the sequence length and above the least 32-bit integer.
-/
module

public import proofs.«01_k».proof.Defs
public import proofs.«01_k».proof.Proof.Result
public import Idealize.ShloMosaic.Lib.ReduceAll
public import Idealize.ShloMosaic.Lib.Affine
public import Idealize.ShloMosaic.Lib.StableHlo.Predicate

@[expose] public section

noncomputable section

namespace Cert.Tame

open Idealize.ShloMosaic Idealize.ShloMosaic.TcCoe Cert.Pre_tame

instance : Subsingleton S_.Idx := ⟨fun x y => funext fun a => a.elim0⟩

section
variable [Cert.Pre_tame.Facts] {a0 : FVec Ideal S3x4480x7168 .fp8e4m3} {a1 : FVec Ideal S3x8x8x4608 .f32} {a2 : FVec Ideal S3x8x4608x128 .fp8e4m3}
  {a3 : FVec Ideal S3x8x36x128 .f32} {a4 : FVec Ideal S3x8x128x4608 .fp8e4m3} {a5 : FVec Ideal S3x8x128x1 .f32} {a6 : IVec S3 32}

/-- The prefix lengths' bounds. -/
theorem len_bounds (h : Cert.Pre_tame.fn (F := Ideal) a0 a1 a2 a3 a4 a5 a6 = fun _ => 1#1) (x : S3.Idx) :
    (a6 x).toInt ≤ 4480 ∧ -2 ^ 31 < (a6 x).toInt := by
  have e := congrFun h (fun a => a.elim0)
  dsimp only [Cert.Pre_tame.fn] at e
  have e2 := Host.reduce_andi_all _ _ _ _ _ (IntOp.andi_eq_one.mp e).2 x
  obtain ⟨p, q⟩ := IntOp.andi_eq_one.mp e2
  exact ⟨(IntOp.cmpi_sle.mp p).trans (show (4480#32 : BitVec 32).toInt ≤ 4480 by decide), lt_of_le_of_lt (show -2 ^ 31 ≤ (2147483648#32 : BitVec 32).toInt by decide) (IntOp.cmpi_sgt.mp q)⟩

/-- A query scale of a real position and head is a positive number. -/
theorem scale_pos (h : Cert.Pre_tame.fn (F := Ideal) a0 a1 a2 a3 a4 a5 a6 = fun _ => 1#1) (x : S3x8x7x4480.Idx) (y : S3x8x8x4608.Idx)
    (hy : ∀ a, (y a).val = (x a).val) : ∃ r : ℝ, 0 < r ∧ a1 y = (r : EReal) := by
  have e := congrFun h (fun a => a.elim0)
  dsimp only [Cert.Pre_tame.fn] at e
  have e2 := Host.reduce_andi_all _ _ _ _ _ (IntOp.andi_eq_one.mp e).1 x
  obtain ⟨p, q⟩ := IntOp.andi_eq_one.mp e2
  have hx : extractStridedSlice S3x8x7x4480 ![0, 0, 0, 0] a1 Facts.slices_S3x8x8x4608_S3x8x7x4480_0_0_0_0 x = a1 y :=
    congrArg a1 (funext fun a => Fin.ext (by
      rw [hy]
      fin_cases a <;> exact Nat.zero_add _))
  have p' : BitVec.ofBool (decide ((Ideal.ofBits .f32 0x00000000#32 : EReal) < a1 y)) = 1#1 := by rw [← hx]; exact p
  have q' : BitVec.ofBool (decide ((a1 y : EReal) < Ideal.ofBits .f32 0x7F800000#32)) = 1#1 := by rw [← hx]; exact q
  rw [StableHlo.Predicate.ofBool_eq_one_iff, decide_eq_true_iff] at p' q'
  have z : (Ideal.ofBits .f32 0x00000000#32 : EReal) = 0 := by simp [Ideal.ofBits, Ideal.ieee]
  have t : (Ideal.ofBits .f32 0x7F800000#32 : EReal) = ⊤ := by simp [Ideal.ofBits, Ideal.ieee]
  rw [z] at p'
  rw [t] at q'
  have c := EReal.coe_toReal q'.ne (lt_trans EReal.bot_lt_zero p').ne'
  refine ⟨EReal.toReal (a1 y), ?_, c.symm⟩
  rw [← c] at p'
  exact EReal.coe_pos.mp p'

end

variable [Cert.Pre_tame.Facts] (m : (ℓ : Loc Cert.KernelIdeal.nD Cert.KernelIdeal.τ Cert.KernelIdeal.sig) → Buf (Elt Ideal) ℓ)

theorem table (h : Cert.Pre_KernelIdeal_tame m) (x) : BitVec.toInt (Cert.KernelIdeal.Body.table m 0 x) ≤ 4480 ∧ -2 ^ 31 < BitVec.toInt (Cert.KernelIdeal.Body.table m 0 x) :=
  len_bounds (h 0) x

theorem len (h : Cert.Pre_KernelIdeal_tame m) (c : Dev Cert.KernelIdeal.nD) (b : Fin 3) : ((Cert.KernelIdeal.Body.argsOf m c).len b).toInt ≤ 4480 :=
  (len_bounds (h c) (ix1 b)).1

theorem queryScale (h : Cert.Pre_KernelIdeal_tame m) (c : Dev Cert.KernelIdeal.nD) (b : Fin 3) (g : Fin 8) (hh : ℕ) (h7 : hh < 7) (i : Fin 4480) :
    ∃ r : ℝ, 0 < r ∧ (Cert.KernelIdeal.Body.argsOf m c).queryScale b g hh i = (r : EReal) :=
  scale_pos (h c) (ix4 b g ⟨hh, h7⟩ i) (ix4 b g (Fin.ofNat 8 hh) ⟨i.val, by have := i.isLt; omega⟩) (fun a => by
    fin_cases a
    · rfl
    · rfl
    · exact Nat.mod_eq_of_lt (by omega : hh < 8)
    · rfl)

end Cert.Tame

end
-- ==== Proof.RefPay.lean ====
/-
  What one trip of the reference's loop stores, element by element: the plain softmax of a position's scores, applied to the values.
-/
module

public import proofs.«01_k».proof.Proof.Arrays
public import proofs.«01_k».proof.Proof.Finish
public import proofs.«01_k».proof.Proof.Gen.ReferenceIdeal.Skeleton

@[expose] public section

noncomputable section

namespace Cert.ReferenceIdeal.Body

open Idealize.ShloMosaic Cert.ReferenceIdeal Cert.ReferenceIdeal.Gen Cert.Body

theorem fold_sup' (f : Fin 4480 → EReal) : (Finset.univ : Finset (Fin 4480)).fold max ⊥ f = Finset.univ.sup f := rfl

theorem sup_fin (f : ℕ → EReal) : (Finset.univ : Finset (Fin 4480)).sup (fun j => f j.val) = (Finset.range 4480).sup f := by
  apply le_antisymm
  · exact Finset.sup_le fun j _ => Finset.le_sup (f := f) (Finset.mem_range.mpr j.isLt)
  · exact Finset.sup_le fun j hj => Finset.le_sup (f := fun j : Fin 4480 => f j.val) (Finset.mem_univ (⟨j, Finset.mem_range.mp hj⟩ : Fin 4480))

theorem rowMax (x : FVec Ideal S4480x4480 .f32) (i : Fin 4480) :
    multiReduction .maximumf [1] S4480 x 0xFF800000#32 reduces_S4480x4480_S4480 (.inl rfl) rfl (ix1 i) = Finset.univ.sup fun j : Fin 4480 => x (ix2 i j) := by
  rw [← fold_sup', ← low_word']
  pointwise

theorem rowSum (x : FVec Ideal S4480x4480 .f32) (i : Fin 4480) :
    multiReduction .add [1] S4480 x 0x00000000#32 reduces_S4480x4480_S4480 (.inl rfl) rfl (ix1 i) = ∑ j : Fin 4480, x (ix2 i j) := by
  pointwise

theorem spread (x : FVec Ideal S4480 .f32) (i j : Fin 4480) :
    broadcastTo S4480x4480 (shapeCast S4480x1 x shapeCasts_S4480_S4480x1) broadcasts_S4480x1_S4480x4480 (ix2 i j) = x (ix1 i) := by
  pointwise

theorem spread' (x : FVec Ideal S4480 .f32) (i : Fin 4480) (d : Fin 128) :
    broadcastTo S4480x128 (shapeCast S4480x1 x shapeCasts_S4480_S4480x1) broadcasts_S4480x1_S4480x128 (ix2 i d) = x (ix1 i) := by
  pointwise

theorem dots (q : FVec Ideal S1x4480x128 .fp8e4m3) (k : FVec Ideal S1x1x4480x128 .fp8e4m3) (i j : Fin 4480) :
    matmul dot_S4480x128_S4480x128_S4480x4480_1_1_0_0_n_n none (shapeCast S4480x128 q shapeCasts_S1x4480x128_S4480x128) (shapeCast S4480x128 k shapeCasts_S1x1x4480x128_S4480x128) (constant S4480x4480 .f32 0x00000000#32) (ix2 i j)
      = ∑ d : Fin 128, q (ix3 0 i d) * k (ix4 0 0 j d) := by
  pointwise [dot_S4480x128_S4480x128_S4480x4480_1_1_0_0_n_n]

theorem mixed (p : FVec Ideal S4480x4480 .fp8e4m3) (v : FVec Ideal S1x1x128x4480 .fp8e4m3) (i : Fin 4480) (d : Fin 128) :
    matmul dot_S4480x4480_S128x4480_S4480x128_1_1_0_0_n_n none p (shapeCast S128x4480 v shapeCasts_S1x1x128x4480_S128x4480) (constant S4480x128 .f32 0x00000000#32) (ix2 i d)
      = ∑ j : Fin 4480, p (ix2 i j) * v (ix4 0 0 d j) := by
  pointwise [dot_S4480x4480_S128x4480_S4480x128_1_1_0_0_n_n]

theorem queryScales (x : FVec Ideal S1x1x1x4480x1 .f32) (c : EReal) (i j : Fin 4480) :
    broadcastTo S4480x4480 (mulf (φ := .f32) (shapeCast S4480x1 x shapeCasts_S1x1x1x4480x1_S4480x1) (broadcast S4480x1 c)) broadcasts_S4480x1_S4480x4480 (ix2 i j)
      = x (ix5 0 0 0 i 0) * c := by
  pointwise

theorem keyScales (x : FVec Ideal S1x1x1x4480 .f32) (i j : Fin 4480) :
    broadcastTo S4480x4480 (shapeCast S1x4480 x shapeCasts_S1x1x1x4480_S1x4480) broadcasts_S1x4480_S4480x4480 (ix2 i j) = x (ix4 0 0 0 j) := by
  pointwise

theorem valueScales (x : FVec Ideal S1x1x1x128 .f32) (c : EReal) (i : Fin 4480) (d : Fin 128) :
    broadcastTo S4480x128 (mulf (φ := .f32) (shapeCast S1x128 x shapeCasts_S1x1x1x128_S1x128) (broadcast S1x128 c)) broadcasts_S1x128_S4480x128 (ix2 i d)
      = x (ix4 0 0 0 d) * c := by
  pointwise

theorem stored_at (x : FVec Ideal S4480x128 .bf16) (i : Fin 4480) (d : Fin 128) :
    shapeCast S1x4480x128 x shapeCasts_S4480x128_S1x4480x128 (ix3 0 i d) = x (ix2 i d) := by
  pointwise

/-- The masked scores, as the trip forms them. -/
def scores (v0 v1 : IVec S4480x4480 32) (v11 : FVec Ideal S1x4480x128 .fp8e4m3) (v15 : FVec Ideal S1x1x4480x128 .fp8e4m3) (v21 : FVec Ideal S1x1x1x4480x1 .f32) (v29 : FVec Ideal S1x1x1x4480 .f32) (v34 : BitVec 32) : FVec Ideal S4480x4480 .f32 :=
  select (ori (cmpi .slt v1 (broadcast S4480x4480 v34)) (cmpi .sle v1 v0))
    (mulf (mulf (matmul dot_S4480x128_S4480x128_S4480x4480_1_1_0_0_n_n none (shapeCast S4480x128 v11 shapeCasts_S1x4480x128_S4480x128) (shapeCast S4480x128 v15 shapeCasts_S1x1x4480x128_S4480x128) (constant S4480x4480 .f32 0x00000000#32))
      (broadcastTo S4480x4480 (mulf (φ := .f32) (shapeCast S4480x1 v21 shapeCasts_S1x1x1x4480x1_S4480x1) (broadcast S4480x1 (Named.named κ "inv_sqrt_d" 0x3DB504F3#32))) broadcasts_S4480x1_S4480x4480))
      (broadcastTo S4480x4480 (shapeCast S1x4480 v29 shapeCasts_S1x1x1x4480_S1x4480) broadcasts_S1x4480_S4480x4480))
    (broadcast S4480x4480 (Scalar.ofBits .f32 0xFF800000#32 : Ideal .f32))

/-- The exponentials, from the masked scores. -/
def expsOf (v40 : FVec Ideal S4480x4480 .f32) : FVec Ideal S4480x4480 .f32 :=
  exp (subf v40 (broadcastTo S4480x4480 (shapeCast S4480x1 (multiReduction .maximumf [1] S4480 v40 0xFF800000#32 reduces_S4480x4480_S4480 (.inl rfl) rfl) shapeCasts_S4480_S4480x1) broadcasts_S4480x1_S4480x4480))

theorem pay2_eq (v0 v1 : IVec S4480x4480 32) (v11 : FVec Ideal S1x4480x128 .fp8e4m3) (v15 : FVec Ideal S1x1x4480x128 .fp8e4m3) (v21 : FVec Ideal S1x1x1x4480x1 .f32) (v29 : FVec Ideal S1x1x1x4480 .f32) (v34 : BitVec 32) :
    k0_pay2 (F := Ideal) v0 v1 v11 v15 v21 v29 v34 = expsOf (scores v0 v1 v11 v15 v21 v29 v34) := rfl

theorem exps_at (x : FVec Ideal S4480x4480 .f32) (S : ℕ → EReal) (i : Fin 4480) (hS : ∀ j : Fin 4480, x (ix2 i j) = S j.val) (j : Fin 4480) :
    expsOf x (ix2 i j) = Ideal.exp (S j.val - (Finset.range 4480).sup S) := by
  have e : expsOf x (ix2 i j) = Ideal.exp (x (ix2 i j) - broadcastTo S4480x4480 (shapeCast S4480x1 (multiReduction .maximumf [1] S4480 x 0xFF800000#32 reduces_S4480x4480_S4480 (.inl rfl) rfl) shapeCasts_S4480_S4480x1) broadcasts_S4480x1_S4480x4480 (ix2 i j)) := rfl
  rw [e, spread, rowMax, hS, ← sup_fin]
  simp only [hS]

/-- The stored element, from the masked scores of its position. -/
theorem pay1_at (x : FVec Ideal S4480x4480 .f32) (S : ℕ → EReal) (i : Fin 4480) (hS : ∀ j : Fin 4480, x (ix2 i j) = S j.val)
    (v55 : FVec Ideal S1x1x128x4480 .fp8e4m3) (v60 : FVec Ideal S1x1x1x128 .f32) (d : Fin 128) (V : ℕ → EReal) (hV : ∀ j : Fin 4480, v55 (ix4 0 0 d j) = V j.val) :
    k0_pay1 (F := Ideal) (expsOf x) v55 v60 (ix3 0 i d) = refOf S V (v60 (ix4 0 0 0 d)) 4480 := by
  unfold k0_pay1
  simp only
  rw [stored_at]
  have e : ∀ (a b : FVec Ideal S4480x128 .f32), truncf .bf16 (divf a b) bitsLt_bf16_f32 (ix2 i d) = Ideal.div (a (ix2 i d)) (b (ix2 i d)) := fun _ _ => rfl
  have e' : ∀ (a b : FVec Ideal S4480x128 .f32), mulf a b (ix2 i d) = a (ix2 i d) * b (ix2 i d) := fun _ _ => rfl
  have e'' : ∀ (a : FVec Ideal S4480x4480 .f32) (c c' : EReal) (j : Fin 4480), truncf .fp8e4m3 (minimumf (mulf a (broadcast S4480x4480 c)) (broadcast S4480x4480 c')) bitsLt_fp8e4m3_f32 (ix2 i j) = min (a (ix2 i j) * c) c' := fun _ _ _ _ => rfl
  rw [e, e', spread', rowSum, mixed, valueScales]
  simp only [e'', exps_at x S i hS, hV]
  unfold refOf
  rw [Finset.sum_range, Finset.sum_range]
  rfl

theorem word_int (i : Fin 4480) : (BitVec.ofNat 32 i.val).toInt = (i.val : ℤ) := by
  have := i.isLt
  have e : (BitVec.ofNat 32 i.val).toNat = i.val := by
    rw [BitVec.toNat_ofNat, Nat.mod_eq_of_lt (by omega)]
  rw [BitVec.toInt_eq_toNat_of_lt (by omega), e]

theorem row_val (i j : Fin 4480) : (iota .tc S4480x4480 32 [0] iota_S4480x4480_d0_w32 (ix2 i j)).toInt = (i.val : ℤ) := by
  have e : iota .tc S4480x4480 32 [0] iota_S4480x4480_d0_w32 (ix2 i j) = BitVec.ofNat 32 (0 * 4480 + i.val) := rfl
  rw [e, Nat.zero_mul, Nat.zero_add]
  exact word_int i

theorem col_val (i j : Fin 4480) : (iota .tc S4480x4480 32 [1] iota_S4480x4480_d1_w32 (ix2 i j)).toInt = (j.val : ℤ) := by
  have e : iota .tc S4480x4480 32 [1] iota_S4480x4480_d1_w32 (ix2 i j) = BitVec.ofNat 32 (0 * 4480 + j.val) := rfl
  rw [e, Nat.zero_mul, Nat.zero_add]
  exact word_int j

theorem shown (p q : Bool) : (BitVec.ofBool p ||| BitVec.ofBool q = 1#1) ↔ (p = true ∨ q = true) := by
  cases p <;> cases q <;> decide

theorem sees_at (A : Args) (b : Fin 3) (v34 : BitVec 32) (h34 : v34 = A.len b) (i j : Fin 4480) :
    ori (cmpi .slt (iota .tc S4480x4480 32 [1] iota_S4480x4480_d1_w32) (broadcast S4480x4480 v34)) (cmpi .sle (iota .tc S4480x4480 32 [1] iota_S4480x4480_d1_w32) (iota .tc S4480x4480 32 [0] iota_S4480x4480_d0_w32)) (ix2 i j) = 1#1
      ↔ A.Sees b i j.val := by
  have e : ∀ v0 v1 : IVec S4480x4480 32, ori (cmpi .slt v1 (broadcast S4480x4480 v34)) (cmpi .sle v1 v0) (ix2 i j)
      = BitVec.ofBool ((v1 (ix2 i j)).slt v34) ||| BitVec.ofBool ((v1 (ix2 i j)).sle (v0 (ix2 i j))) := fun _ _ => rfl
  rw [e, shown, BitVec.slt_iff_toInt_lt, BitVec.sle_iff_toInt_le, row_val, col_val, h34]
  unfold Args.Sees
  omega

theorem factor_named : ((Named.named κ "inv_sqrt_d" 0x3DB504F3#32 : Ideal .f32) : EReal) = (((Real.sqrt 128)⁻¹ : ℝ) : EReal) :=
  IdealRules.named_const.ideal_named_scalar _ _ _ _ rfl

/-- The masked scores of a position, from what the trip has loaded. -/
theorem scores_at (A : Args) (b : Fin 3) (g : Fin 8) (h : ℕ) (i : Fin 4480)
    (v11 : FVec Ideal S1x4480x128 .fp8e4m3) (v15 : FVec Ideal S1x1x4480x128 .fp8e4m3) (v21 : FVec Ideal S1x1x1x4480x1 .f32) (v29 : FVec Ideal S1x1x1x4480 .f32) (v34 : BitVec 32)
    (H11 : ∀ e : Fin 128, v11 (ix3 0 i e) = A.q (ix3 b i (Fin.ofNat 7168 (896 * g.val + 128 * h + e.val))))
    (H15 : ∀ (j : Fin 4480) (e : Fin 128), v15 (ix4 0 0 j e) = A.k (ix4 b g (Fin.ofNat 4608 j.val) e))
    (H21 : v21 (ix5 0 0 0 i 0) = A.queryScale b g h i) (H29 : ∀ j : Fin 4480, v29 (ix4 0 0 0 j) = A.keyScale b g j.val) (H34 : v34 = A.len b) (j : Fin 4480) :
    scores (iota .tc S4480x4480 32 [0] iota_S4480x4480_d0_w32) (iota .tc S4480x4480 32 [1] iota_S4480x4480_d1_w32) v11 v15 v21 v29 v34 (ix2 i j)
      = A.refScore ((((Real.sqrt 128)⁻¹ : ℝ)) : EReal) b g h i j.val := by
  have e : ∀ (c : IVec S4480x4480 1) (x y z : FVec Ideal S4480x4480 .f32) (w : EReal), select c (mulf (mulf x y) z) (broadcast S4480x4480 w) (ix2 i j)
      = if c (ix2 i j) = 1#1 then x (ix2 i j) * y (ix2 i j) * z (ix2 i j) else w := fun _ _ _ _ _ => rfl
  unfold scores
  refine (e _ _ _ _ _).trans ?_
  rw [dots, queryScales, keyScales, H21, H29, factor_named]
  unfold Args.refScore
  by_cases hs : A.Sees b i j.val
  · rw [if_pos ((sees_at A b v34 H34 i j).mpr hs), if_pos hs]
    refine congrArg (· * _ * _) (Finset.sum_congr rfl fun e _ => ?_)
    rw [H11, H15, mul_comm]
  · rw [if_neg (fun h => hs ((sees_at A b v34 H34 i j).mp h)), if_neg hs]
    exact low_word'

/-- What the trip stores at a position, from what it has loaded. -/
theorem stored_value (A : Args) (b : Fin 3) (g : Fin 8) (h : ℕ) (i : Fin 4480) (d : Fin 128)
    (v11 : FVec Ideal S1x4480x128 .fp8e4m3) (v15 : FVec Ideal S1x1x4480x128 .fp8e4m3) (v21 : FVec Ideal S1x1x1x4480x1 .f32) (v29 : FVec Ideal S1x1x1x4480 .f32) (v34 : BitVec 32)
    (v55 : FVec Ideal S1x1x128x4480 .fp8e4m3) (v60 : FVec Ideal S1x1x1x128 .f32)
    (H11 : ∀ e : Fin 128, v11 (ix3 0 i e) = A.q (ix3 b i (Fin.ofNat 7168 (896 * g.val + 128 * h + e.val))))
    (H15 : ∀ (j : Fin 4480) (e : Fin 128), v15 (ix4 0 0 j e) = A.k (ix4 b g (Fin.ofNat 4608 j.val) e))
    (H21 : v21 (ix5 0 0 0 i 0) = A.queryScale b g h i) (H29 : ∀ j : Fin 4480, v29 (ix4 0 0 0 j) = A.keyScale b g j.val) (H34 : v34 = A.len b)
    (H55 : ∀ j : Fin 4480, v55 (ix4 0 0 d j) = A.vt (ix4 b g d (Fin.ofNat 4608 j.val))) (H60 : v60 (ix4 0 0 0 d) = A.vs (ix4 b g d 0)) :
    k0_pay1 (F := Ideal) (k0_pay2 (F := Ideal) (iota .tc S4480x4480 32 [0] iota_S4480x4480_d0_w32) (iota .tc S4480x4480 32 [1] iota_S4480x4480_d1_w32) v11 v15 v21 v29 v34) v55 v60 (ix3 0 i d)
      = A.ref ((((Real.sqrt 128)⁻¹ : ℝ)) : EReal) b g h i d := by
  rw [pay2_eq, pay1_at _ (A.refScore ((((Real.sqrt 128)⁻¹ : ℝ)) : EReal) b g h i) i
    (fun j => scores_at A b g h i v11 v15 v21 v29 v34 H11 H15 H21 H29 H34 j) v55 v60 d (fun j => A.vt (ix4 b g d (Fin.ofNat 4608 j))) H55, H60]
  rfl

end Cert.ReferenceIdeal.Body

end
-- ==== Proof.RefTrip.lean ====
/-
  What the reference's loop leaves, element by element: trip `56 * b + 7 * g + h` stores head `h` of group `g` of sequence `b`.
-/
module

public import proofs.«01_k».proof.Proof.RefPay
public import proofs.«01_k».proof.Proof.Gen.ReferenceIdeal.Value

@[expose] public section

noncomputable section

namespace Cert.ReferenceIdeal.Body

open Idealize.ShloMosaic Idealize.ShloMosaic.TcCoe Cert.ReferenceIdeal Cert.ReferenceIdeal.Gen Cert.Body

/-- The reference's factor on the scores. -/
abbrev κ₀ : EReal := (((Real.sqrt 128)⁻¹ : ℝ) : EReal)

/-- The argument arrays, as the reference's body holds them. -/
def heldArgs (x0 : S3.Idx → BitVec 32) (x1 : S3x4480x7168.Idx → EReal) (x2 : S3x8x8x4608x1.Idx → EReal) (x3 : S3x8x4608x128.Idx → EReal) (x4 : S3x8x1x4608.Idx → EReal) (x5 : S3x8x128x4608.Idx → EReal) (x6 : S3x8x1x128.Idx → EReal) : Args where
  q := x1
  qs := fun y => x2 (ix5 (n0 := 3) (n1 := 8) (n2 := 8) (n3 := 4608) (n4 := 1) (y 0) (y 1) (y 2) (y 3) 0)
  k := x3
  ks := fun y => x4 (ix4 (n0 := 3) (n1 := 8) (n2 := 1) (n3 := 4608) (y 0) (y 1) 0 (Fin.ofNat 4608 (128 * (y 2).val + (y 3).val)))
  vt := x5
  vs := fun y => x6 (ix4 (n0 := 3) (n1 := 8) (n2 := 1) (n3 := 128) (y 0) (y 1) 0 (y 2))
  len := fun b => x0 (ix1 b)

theorem loaded_at {sp : Space} {s : Shape} {e : EltTy} (r : Memref sig .tc sp s e) (hr : r.IsWhole) (x : s.Idx → Elt Ideal e) {off off' : Fin s.rank → ℕ} {size : Fin s.rank → ℕ}
    (inb : ∀ a, off a + size a ≤ s.size a) (h : off = off') (y : (Rect.unit off size inb).shape.Idx) (i : s.Idx) (hi : ∀ a, (i a).val = off' a + (y a).val) :
    View.readAt (Elt Ideal) r.view (Rect.unit off size inb).toLoadRect (hr.unread (Val := Elt Ideal) x) y = x i := by
  subst h
  rw [View.readAt_unit r.view _ inb rfl inb, hr.read_unread]
  exact window_at x off size inb y i hi

variable {nV : Variants} (c : Dev nD) (bd : Option nV.V) (arg0 : Memref sig .tc .smem S3 .i32) (harg0 : arg0.IsWhole) (arg1 : Memref sig .tc .vmem S3x4480x7168 .fp8e4m3) (harg1 : arg1.IsWhole) (arg2 : Memref sig .tc .vmem S3x8x8x4608x1 .f32) (harg2 : arg2.IsWhole) (arg3 : Memref sig .tc .vmem S3x8x4608x128 .fp8e4m3) (harg3 : arg3.IsWhole) (arg4 : Memref sig .tc .vmem S3x8x1x4608 .f32) (harg4 : arg4.IsWhole) (arg5 : Memref sig .tc .vmem S3x8x128x4608 .fp8e4m3) (harg5 : arg5.IsWhole) (arg6 : Memref sig .tc .vmem S3x8x1x128 .f32) (harg6 : arg6.IsWhole) (arg7 : Memref sig .tc .vmem S3x4480x7168 .bf16) (harg7 : arg7.IsWhole)
  (x0 : S3.Idx → BitVec 32) (x1 : S3x4480x7168.Idx → EReal) (x2 : S3x8x8x4608x1.Idx → EReal) (x3 : S3x8x4608x128.Idx → EReal) (x4 : S3x8x1x4608.Idx → EReal) (x5 : S3x8x128x4608.Idx → EReal) (x6 : S3x8x1x128.Idx → EReal)

/-- What trip `k` stores. -/
def stored (k : Fin k0_t1_loop.trips) : FVec Ideal S1x4480x128 .bf16 :=
  k0_pay1 (F := Ideal) (k0_pay2 (F := Ideal) (iota .tc S4480x4480 32 [0] iota_S4480x4480_d0_w32) (iota .tc S4480x4480 32 [1] iota_S4480x4480_d1_w32)
      (View.readAt (Elt Ideal) arg1.view (Rect.unit (s := S3x4480x7168) (k0_off1 k) S1x4480x128.size (k0_off1_inb k)).toLoadRect (harg1.unread (Val := Elt Ideal) x1))
      (View.readAt (Elt Ideal) arg3.view (Rect.unit (s := S3x8x4608x128) (k0_off2 k) S1x1x4480x128.size (k0_off2_inb k)).toLoadRect (harg3.unread (Val := Elt Ideal) x3))
      (View.readAt (Elt Ideal) arg2.view (Rect.unit (s := S3x8x8x4608x1) (k0_off3 k) S1x1x1x4480x1.size (k0_off3_inb k)).toLoadRect (harg2.unread (Val := Elt Ideal) x2))
      (View.readAt (Elt Ideal) arg4.view (Rect.unit (s := S3x8x1x4608) (k0_off4 k) S1x1x1x4480.size (k0_off4_inb k)).toLoadRect (harg4.unread (Val := Elt Ideal) x4))
      (View.readAt (Elt Ideal) arg0.view (Rect.unit (s := S3) (k0_off5 k) S1.size (k0_off5_inb k)).toLoadRect (harg0.unread (Val := Elt Ideal) x0) (ix1 (0 : Fin 1))))
    (View.readAt (Elt Ideal) arg5.view (Rect.unit (s := S3x8x128x4608) (k0_off6 k) S1x1x128x4480.size (k0_off6_inb k)).toLoadRect (harg5.unread (Val := Elt Ideal) x5))
    (View.readAt (Elt Ideal) arg6.view (Rect.unit (s := S3x8x1x128) (k0_off7 k) S1x1x1x128.size (k0_off7_inb k)).toLoadRect (harg6.unread (Val := Elt Ideal) x6))

theorem trip_stores (k : Fin k0_t1_loop.trips) :
    tripL_k0_t1 (F := Ideal) nV c bd arg0 harg0 arg1 harg1 arg2 harg2 arg3 harg3 arg4 harg4 arg5 harg5 arg6 harg6 arg7 harg7 (iota .tc S4480x4480 32 [0] iota_S4480x4480_d0_w32) (iota .tc S4480x4480 32 [1] iota_S4480x4480_d1_w32) (harg0.unread (Val := Elt Ideal) x0) (harg1.unread (Val := Elt Ideal) x1) (harg2.unread (Val := Elt Ideal) x2) (harg3.unread (Val := Elt Ideal) x3) (harg4.unread (Val := Elt Ideal) x4) (harg5.unread (Val := Elt Ideal) x5) (harg6.unread (Val := Elt Ideal) x6) k
      = [(⟨Rect.unit (s := S3x4480x7168) (k0_off1 k) S1x4480x128.size (k0_off1_inb k), stored arg0 harg0 arg1 harg1 arg2 harg2 arg3 harg3 arg4 harg4 arg5 harg5 arg6 harg6 x0 x1 x2 x3 x4 x5 x6 k⟩ : View.Piece (Elt Ideal) S3x4480x7168 .bf16)] := by
  unfold tripL_k0_t1 trip_k0_t1
  dsimp only
  unfold trip_k0_t1.sl.r_1 trip_k0_t1.sl.r
  have e1 : ∀ y y' : S1.Idx, y = y' := fun y y' => funext fun a => Fin.ext (by
    have := (y a).isLt
    have := (y' a).isLt
    fin_cases a
    have h1 : (y 0).val < 1 := (y 0).isLt
    have h2 : (y' 0).val < 1 := (y' 0).isLt
    show (y 0).val = (y' 0).val
    omega)
  rw [e1 (Shape.Idx.first _) (ix1 (0 : Fin 1))]
  rfl

theorem stored_at_trip (k : Fin k0_t1_loop.trips) (b : Fin 3) (g : Fin 8) (h : ℕ) (hh : h < 7) (hk : k.val = 56 * b.val + 7 * g.val + h) (i : Fin 4480) (d : Fin 128) :
    stored arg0 harg0 arg1 harg1 arg2 harg2 arg3 harg3 arg4 harg4 arg5 harg5 arg6 harg6 x0 x1 x2 x3 x4 x5 x6 k (ix3 0 i d) = (heldArgs x0 x1 x2 x3 x4 x5 x6).ref κ₀ b g h i d := by
  have hg := g.isLt
  have hi := i.isLt
  have hd := d.isLt
  unfold stored
  refine stored_value (heldArgs x0 x1 x2 x3 x4 x5 x6) b g h i d _ _ _ _ _ _ _ (fun e => ?_) (fun j e => ?_) ?_ (fun j => ?_) ?_ (fun j => ?_) ?_
  · refine loaded_at arg1 harg1 x1 _ (k0_off1_eq k) _ _ fun a => ?_
    have he := e.isLt
    fin_cases a
    · show b.val = k.val / 56 + 0; omega
    · show i.val = 0 + i.val; omega
    · show (896 * g.val + 128 * h + e.val) % 7168 = 128 * (k.val % 56) + e.val; omega
  · refine loaded_at arg3 harg3 x3 _ (k0_off2_eq k) _ _ fun a => ?_
    have hj := j.isLt
    fin_cases a
    · show b.val = k.val / 56 + 0; omega
    · show g.val = k.val % 56 / 7 + 0; omega
    · show j.val % 4608 = 0 + j.val; omega
    · show e.val = 0 + e.val; omega
  · refine loaded_at arg2 harg2 x2 _ (k0_off3_eq k) _ _ fun a => ?_
    fin_cases a
    · show b.val = k.val / 56 + 0; omega
    · show g.val = k.val % 56 / 7 + 0; omega
    · show h % 8 = k.val % 56 % 7 + 0; omega
    · show i.val = 0 + i.val; omega
    · rfl
  · refine loaded_at arg4 harg4 x4 _ (k0_off4_eq k) _ _ fun a => ?_
    have hj := j.isLt
    fin_cases a
    · show b.val = k.val / 56 + 0; omega
    · show g.val = k.val % 56 / 7 + 0; omega
    · rfl
    · show (128 * (j.val / 128 % 36) + j.val % 128) % 4608 = 0 + j.val; omega
  · refine loaded_at arg0 harg0 x0 _ (k0_off5_eq k) _ _ fun a => ?_
    fin_cases a
    show b.val = k.val / 56 + 0; omega
  · refine loaded_at arg5 harg5 x5 _ (k0_off6_eq k) _ _ fun a => ?_
    have hj := j.isLt
    fin_cases a
    · show b.val = k.val / 56 + 0; omega
    · show g.val = k.val % 56 / 7 + 0; omega
    · show d.val = 0 + d.val; omega
    · show j.val % 4608 = 0 + j.val; omega
  · refine loaded_at arg6 harg6 x6 _ (k0_off7_eq k) _ _ fun a => ?_
    fin_cases a
    · show b.val = k.val / 56 + 0; omega
    · show g.val = k.val % 56 / 7 + 0; omega
    · rfl
    · show d.val = 0 + d.val; omega

/-- After the trips before `k`, an element of an earlier trip's head holds the reference's value. -/
theorem after_trips (v : View sig .tc .vmem S3x4480x7168 .bf16) (f : v.ty.Contents (Elt Ideal)) (b : Fin 3) (g : Fin 8) (h : ℕ) (hh : h < 7) (i : Fin 4480) (d : Fin 128) (x : S3x4480x7168.Idx)
    (hx0 : (x 0).val = b.val) (hx1 : (x 1).val = i.val) (hx2 : (x 2).val = 896 * g.val + 128 * h + d.val) (k : ℕ) (hk : k ≤ k0_t1_loop.trips) (hlt : 56 * b.val + 7 * g.val + h < k) :
    v.read (Elt Ideal) (v.writes (Elt Ideal) f (pb_k0_t1 (F := Ideal) nV c bd arg0 harg0 arg1 harg1 arg2 harg2 arg3 harg3 arg4 harg4 arg5 harg5 arg6 harg6 arg7 harg7 (iota .tc S4480x4480 32 [0] iota_S4480x4480_d0_w32) (iota .tc S4480x4480 32 [1] iota_S4480x4480_d1_w32) (harg0.unread (Val := Elt Ideal) x0) (harg1.unread (Val := Elt Ideal) x1) (harg2.unread (Val := Elt Ideal) x2) (harg3.unread (Val := Elt Ideal) x3) (harg4.unread (Val := Elt Ideal) x4) (harg5.unread (Val := Elt Ideal) x5) (harg6.unread (Val := Elt Ideal) x6) k)) x
      = (heldArgs x0 x1 x2 x3 x4 x5 x6).ref κ₀ b g h i d := by
  have hg := g.isLt
  have hd := d.isLt
  induction k with
  | zero => omega
  | succ k ih =>
    rw [pb_k0_t1_succ (F := Ideal) nV c bd arg0 harg0 arg1 harg1 arg2 harg2 arg3 harg3 arg4 harg4 arg5 harg5 arg6 harg6 arg7 harg7 (iota .tc S4480x4480 32 [0] iota_S4480x4480_d0_w32) (iota .tc S4480x4480 32 [1] iota_S4480x4480_d1_w32) (harg0.unread (Val := Elt Ideal) x0) (harg1.unread (Val := Elt Ideal) x1) (harg2.unread (Val := Elt Ideal) x2) (harg3.unread (Val := Elt Ideal) x3) (harg4.unread (Val := Elt Ideal) x4) (harg5.unread (Val := Elt Ideal) x5) (harg6.unread (Val := Elt Ideal) x6) ⟨k, hk⟩, trip_stores, List.singleton_append]
    by_cases e : k = 56 * b.val + 7 * g.val + h
    · rw [View.read_writes_cons_unit_of_mem v f (k0_off1_inb ⟨k, hk⟩) _ _ x (ix3 (n0 := 1) (n1 := 4480) (n2 := 128) 0 i d) (k0_off1_eq ⟨k, hk⟩) fun a => ?_]
      · exact stored_at_trip arg0 harg0 arg1 harg1 arg2 harg2 arg3 harg3 arg4 harg4 arg5 harg5 arg6 harg6 x0 x1 x2 x3 x4 x5 x6 ⟨k, hk⟩ b g h hh e i d
      · fin_cases a
        · show (x 0).val = k / 56 + 0; omega
        · show (x 1).val = 0 + i.val; omega
        · show (x 2).val = 128 * (k % 56) + d.val; omega
    · by_cases eb : k / 56 = b.val
      · rw [View.read_writes_cons_unit_of_not_mem v f (k0_off1_inb ⟨k, hk⟩) _ _ x (k0_off1_eq ⟨k, hk⟩) (2 : Fin 3) ?_]
        · exact ih (by omega) (by omega)
        · show (x 2).val < 128 * (k % 56) ∨ 128 * (k % 56) + 128 ≤ (x 2).val; omega
      · rw [View.read_writes_cons_unit_of_not_mem v f (k0_off1_inb ⟨k, hk⟩) _ _ x (k0_off1_eq ⟨k, hk⟩) (0 : Fin 3) ?_]
        · exact ih (by omega) (by omega)
        · show (x 0).val < k / 56 ∨ k / 56 + 1 ≤ (x 0).val; omega

theorem trips_168 : k0_t1_loop.trips = 168 := by decide +kernel

/-- What the body leaves in its output. -/
theorem body_value (b : Fin 3) (g : Fin 8) (h : ℕ) (hh : h < 7) (i : Fin 4480) (d : Fin 128) (x : S3x4480x7168.Idx)
    (hx0 : (x 0).val = b.val) (hx1 : (x 1).val = i.val) (hx2 : (x 2).val = 896 * g.val + 128 * h + d.val) :
    out0_A_7 (F := Ideal) c arg0 harg0 arg1 harg1 arg2 harg2 arg3 harg3 arg4 harg4 arg5 harg5 arg6 harg6 arg7 harg7 x0 x1 x2 x3 x4 x5 x6 x = (heldArgs x0 x1 x2 x3 x4 x5 x6).ref κ₀ b g h i d := by
  have hb := b.isLt
  have hg := g.isLt
  have e : (kernelRun0_A (F := Ideal) c arg0 harg0 arg1 harg1 arg2 harg2 arg3 harg3 arg4 harg4 arg5 harg5 arg6 harg6 arg7 harg7 x0 x1 x2 x3 x4 x5 x6).1
      = pb_k0_t1 (F := Ideal) Variants.none c none arg0 harg0 arg1 harg1 arg2 harg2 arg3 harg3 arg4 harg4 arg5 harg5 arg6 harg6 arg7 harg7 (iota .tc S4480x4480 32 [0] iota_S4480x4480_d0_w32) (iota .tc S4480x4480 32 [1] iota_S4480x4480_d1_w32) (harg0.unread (Val := Elt Ideal) x0) (harg1.unread (Val := Elt Ideal) x1) (harg2.unread (Val := Elt Ideal) x2) (harg3.unread (Val := Elt Ideal) x3) (harg4.unread (Val := Elt Ideal) x4) (harg5.unread (Val := Elt Ideal) x5) (harg6.unread (Val := Elt Ideal) x6) k0_t1_loop.trips := by
    unfold kernelRun0_A
    dsimp only
    unfold kernelRun0_A.sl.v0 kernelRun0_A.sl.v1
    rfl
  unfold out0_A_7
  rw [e]
  exact after_trips c none arg0 harg0 arg1 harg1 arg2 harg2 arg3 harg3 arg4 harg4 arg5 harg5 arg6 harg6 arg7 harg7 x0 x1 x2 x3 x4 x5 x6 VO0_7 VO0_7.junk b g h hh i d x hx0 hx1 hx2 _ le_rfl (by rw [trips_168]; omega)

end Cert.ReferenceIdeal.Body

end
-- ==== Proof.RefValue.lean ====
/-
  The reference's result array, as a function of its argument arrays.
-/
module

public import proofs.«01_k».proof.Proof.RefTrip
public import Idealize.ShloMosaic.Lib.Claim

@[expose] public section

noncomputable section

namespace Cert.ReferenceIdeal.Body

open Idealize.ShloMosaic Idealize.ShloMosaic.TcCoe Cert.ReferenceIdeal Cert.ReferenceIdeal.Gen Cert.Body Idealize.SL.Sem

variable (m : (ℓ : Loc nD τ sig) → Buf (Elt Ideal) ℓ)

/-- The argument arrays a launch gives the reference. -/
def argsOf (c : Dev nD) : Args where
  q := m ((c.tc : Thread nD τ).loc main_arg0)
  qs := m ((c.tc : Thread nD τ).loc main_arg1)
  k := m ((c.tc : Thread nD τ).loc main_arg2)
  ks := m ((c.tc : Thread nD τ).loc main_arg3)
  vt := m ((c.tc : Thread nD τ).loc main_arg4)
  vs := m ((c.tc : Thread nD τ).loc main_arg5)
  len := fun b => (show S3.Idx → BitVec 32 from m ((c.tc : Thread nD τ).loc main_arg6)) (ix1 b)

abbrev t₀ : Fin cfg0.N := ⟨0, by decide +kernel⟩

theorem held0 (c : Dev nD) (x : S3.Idx) : iblk m c 0 t₀ x = m ((c.tc : Thread nD τ).loc main_arg6) x := by
  rw [← V_main_arg6 m c]
  exact congrArg (V m c main_arg6) (funext fun a => Fin.ext (by
    show 0 * _ + 1 * (x a).val = (x a).val
    omega))

theorem held1 (c : Dev nD) (x : S3x4480x7168.Idx) : iblk m c 1 t₀ x = m ((c.tc : Thread nD τ).loc main_arg0) x := by
  rw [← V_main_arg0 m c]
  exact congrArg (V m c main_arg0) (funext fun a => Fin.ext (by
    show 0 * _ + 1 * (x a).val = (x a).val
    omega))

theorem held3 (c : Dev nD) (x : S3x8x4608x128.Idx) : iblk m c 3 t₀ x = m ((c.tc : Thread nD τ).loc main_arg2) x := by
  rw [← V_main_arg2 m c]
  exact congrArg (V m c main_arg2) (funext fun a => Fin.ext (by
    show 0 * _ + 1 * (x a).val = (x a).val
    omega))

theorem held5 (c : Dev nD) (x : S3x8x128x4608.Idx) : iblk m c 5 t₀ x = m ((c.tc : Thread nD τ).loc main_arg4) x := by
  rw [← V_main_arg4 m c]
  exact congrArg (V m c main_arg4) (funext fun a => Fin.ext (by
    show 0 * _ + 1 * (x a).val = (x a).val
    omega))

theorem queryScales_cast (x : FVec Ideal S3x8x8x4608 .f32) (b : Fin 3) (g h : Fin 8) (i : Fin 4608) :
    shapeCast S3x8x8x4608x1 x shapeCasts_S3x8x8x4608_S3x8x8x4608x1 (ix5 b g h i 0) = x (ix4 b g h i) := by
  pointwise

theorem valueScales_cast (x : FVec Ideal S3x8x128x1 .f32) (b : Fin 3) (g : Fin 8) (d : Fin 128) :
    shapeCast S3x8x1x128 x shapeCasts_S3x8x128x1_S3x8x1x128 (ix4 b g 0 d) = x (ix4 b g d 0) := by
  pointwise

theorem keyScales_cast (x : FVec Ideal S3x8x36x128 .f32) (b : Fin 3) (g : Fin 8) (s : Fin 36) (e : Fin 128) :
    shapeCast S3x8x1x4608 x shapeCasts_S3x8x36x128_S3x8x1x4608 (ix4 b g 0 (Fin.ofNat 4608 (128 * s.val + e.val))) = x (ix4 b g s e) := by
  pointwise
  have hs := s.isLt
  have he := e.isLt
  refine congrArg x (funext fun a => Fin.ext ?_)
  fin_cases a
  · rfl
  · rfl
  · show (128 * s.val + e.val) % 4608 / 128 = s.val
    omega
  · show (128 * s.val + e.val) % 4608 % 128 = e.val
    omega

theorem held2 (c : Dev nD) (b : Fin 3) (g h : Fin 8) (i : Fin 4608) : iblk m c 2 t₀ (ix5 (n0 := 3) (n1 := 8) (n2 := 8) (n3 := 4608) (n4 := 1) b g h i 0) = m ((c.tc : Thread nD τ).loc main_arg1) (ix4 (n0 := 3) (n1 := 8) (n2 := 8) (n3 := 4608) b g h i) := by
  have e : V m c main_v0 = shapeCast S3x8x8x4608x1 (m ((c.tc : Thread nD τ).loc main_arg1)) shapeCasts_S3x8x8x4608_S3x8x8x4608x1 := by entry_read; rfl
  refine Eq.trans ?_ ((congrFun e (ix5 b g h i 0)).trans (queryScales_cast _ b g h i))
  exact congrArg (V m c main_v0) (funext fun a => Fin.ext (by
    show 0 * _ + 1 * (ix5 (n0 := 3) (n1 := 8) (n2 := 8) (n3 := 4608) (n4 := 1) b g h i 0 a).val = (ix5 (n0 := 3) (n1 := 8) (n2 := 8) (n3 := 4608) (n4 := 1) b g h i 0 a).val
    omega))

theorem held4 (c : Dev nD) (b : Fin 3) (g : Fin 8) (s : Fin 36) (e : Fin 128) : iblk m c 4 t₀ (ix4 (n0 := 3) (n1 := 8) (n2 := 1) (n3 := 4608) b g 0 (Fin.ofNat 4608 (128 * s.val + e.val))) = m ((c.tc : Thread nD τ).loc main_arg3) (ix4 (n0 := 3) (n1 := 8) (n2 := 36) (n3 := 128) b g s e) := by
  have e' : V m c main_v1 = shapeCast S3x8x1x4608 (m ((c.tc : Thread nD τ).loc main_arg3)) shapeCasts_S3x8x36x128_S3x8x1x4608 := by entry_read; rfl
  refine Eq.trans ?_ ((congrFun e' (ix4 b g 0 (Fin.ofNat 4608 (128 * s.val + e.val)))).trans (keyScales_cast _ b g s e))
  exact congrArg (V m c main_v1) (funext fun a => Fin.ext (by
    show 0 * _ + 1 * (ix4 (n0 := 3) (n1 := 8) (n2 := 1) (n3 := 4608) b g 0 (Fin.ofNat 4608 (128 * s.val + e.val)) a).val = (ix4 (n0 := 3) (n1 := 8) (n2 := 1) (n3 := 4608) b g 0 (Fin.ofNat 4608 (128 * s.val + e.val)) a).val
    omega))

theorem held6 (c : Dev nD) (b : Fin 3) (g : Fin 8) (d : Fin 128) : iblk m c 6 t₀ (ix4 (n0 := 3) (n1 := 8) (n2 := 1) (n3 := 128) b g 0 d) = m ((c.tc : Thread nD τ).loc main_arg5) (ix4 (n0 := 3) (n1 := 8) (n2 := 128) (n3 := 1) b g d 0) := by
  have e : V m c main_v2 = shapeCast S3x8x1x128 (m ((c.tc : Thread nD τ).loc main_arg5)) shapeCasts_S3x8x128x1_S3x8x1x128 := by entry_read; rfl
  refine Eq.trans ?_ ((congrFun e (ix4 b g 0 d)).trans (valueScales_cast _ b g d))
  exact congrArg (V m c main_v2) (funext fun a => Fin.ext (by
    show 0 * _ + 1 * (ix4 (n0 := 3) (n1 := 8) (n2 := 1) (n3 := 128) b g 0 d a).val = (ix4 (n0 := 3) (n1 := 8) (n2 := 1) (n3 := 128) b g 0 d a).val
    omega))

theorem ix4_self {n0 n1 n2 n3 : ℕ} (y : (⟨4, ![n0, n1, n2, n3]⟩ : Shape).Idx) : ix4 (y 0) (y 1) (y 2) (y 3) = y := by
  funext a
  fin_cases a <;> rfl

/-- What the body holds is the argument arrays. -/
theorem held (c : Dev nD) :
    heldArgs (iblk m c 0 t₀) (iblk m c 1 t₀) (iblk m c 2 t₀) (iblk m c 3 t₀) (iblk m c 4 t₀) (iblk m c 5 t₀) (iblk m c 6 t₀) = argsOf m c := by
  unfold heldArgs argsOf
  have h1 := funext (held1 m c)
  have h2 : (fun y : (⟨4, ![3, 8, 8, 4608]⟩ : Shape).Idx => iblk m c 2 t₀ (ix5 (n0 := 3) (n1 := 8) (n2 := 8) (n3 := 4608) (n4 := 1) (y 0) (y 1) (y 2) (y 3) 0)) = m ((c.tc : Thread nD τ).loc main_arg1) :=
    funext fun y => (held2 m c (y 0) (y 1) (y 2) (y 3)).trans (congrArg (m ((c.tc : Thread nD τ).loc main_arg1)) (ix4_self y))
  have h3 := funext (held3 m c)
  have h4 : (fun y : (⟨4, ![3, 8, 36, 128]⟩ : Shape).Idx => iblk m c 4 t₀ (ix4 (n0 := 3) (n1 := 8) (n2 := 1) (n3 := 4608) (y 0) (y 1) 0 (Fin.ofNat 4608 (128 * (y 2).val + (y 3).val)))) = m ((c.tc : Thread nD τ).loc main_arg3) :=
    funext fun y => (held4 m c (y 0) (y 1) (y 2) (y 3)).trans (congrArg (m ((c.tc : Thread nD τ).loc main_arg3)) (ix4_self y))
  have h5 := funext (held5 m c)
  have h6 : (fun y : (⟨4, ![3, 8, 128, 1]⟩ : Shape).Idx => iblk m c 6 t₀ (ix4 (n0 := 3) (n1 := 8) (n2 := 1) (n3 := 128) (y 0) (y 1) 0 (y 2))) = m ((c.tc : Thread nD τ).loc main_arg5) :=
    funext fun y => (held6 m c (y 0) (y 1) (y 2)).trans (congrArg (m ((c.tc : Thread nD τ).loc main_arg5)) (funext fun a => by
      fin_cases a
      · rfl
      · rfl
      · rfl
      · exact Fin.ext (by have : (y 3).val < 1 := (y 3).isLt; show 0 = (y 3).val; omega)))
  have h0 : (fun b : Fin 3 => iblk m c 0 t₀ (ix1 b)) = fun b => (show S3.Idx → BitVec 32 from m ((c.tc : Thread nD τ).loc main_arg6)) (ix1 b) :=
    funext fun b => held0 m c (ix1 b)
  exact congr (congr (congr (congr (congr (congr (congrArg Args.mk h1) h2) h3) h4) h5) h6) h0

/-- The reference's result array. -/
def result (c : Dev nD) : (⟨3, ![3, 4480, 7168]⟩ : Shape).Idx → EReal := fun x =>
  (argsOf m c).ref κ₀ (x 0) ⟨(x 2).val / 896, by have : (x 2).val < 7168 := (x 2).isLt; omega⟩ ((x 2).val % 896 / 128) (x 1) ⟨(x 2).val % 128, by omega⟩

theorem flushes : (cfg0.win 7).flush t₀ = true := by decide +kernel

theorem read7 (X : S3x4480x7168.Idx → Elt Ideal .bf16) (x : S3x4480x7168.Idx) : ((cfg0.win 7).blk t₀).view.read (Elt Ideal) X x = X x :=
  congrArg X (funext fun a => Fin.ext (by
    show 0 * _ + 1 * (x a).val = (x a).val
    omega))

theorem cut7 (X : S3x4480x7168.Idx → Elt Ideal .bf16) (x : S3x4480x7168.Idx) : (cfg0.win 7).cut (grid0.coords t₀) X x = X x := rfl

theorem body_at (c : Dev nD) (x : S3x4480x7168.Idx) :
    out0_A_7 (F := Ideal) c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀)
      (iblk m c 0 t₀) (iblk m c 1 t₀) (iblk m c 2 t₀) (iblk m c 3 t₀) (iblk m c 4 t₀) (iblk m c 5 t₀) (iblk m c 6 t₀) x = result m c x := by
  have h2 : (x 2).val < 7168 := (x 2).isLt
  rw [body_value c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀)
    (iblk m c 0 t₀) (iblk m c 1 t₀) (iblk m c 2 t₀) (iblk m c 3 t₀) (iblk m c 4 t₀) (iblk m c 5 t₀) (iblk m c 6 t₀)
    (x 0) ⟨(x 2).val / 896, by omega⟩ ((x 2).val % 896 / 128) (by omega) (x 1) ⟨(x 2).val % 128, by omega⟩ x rfl rfl (by
      show (x 2).val = 896 * ((x 2).val / 896) + 128 * ((x 2).val % 896 / 128) + (x 2).val % 128
      omega), held]
  rfl

theorem result_eq (c : Dev nD) : (dats m 0 c).arrAt 7 cfg0.N = result m c := by
  funext x
  rw [← read7 ((dats m 0 c).arrAt 7 cfg0.N) x, Value.blocks7 m c t₀ flushes, Value.flushed7_A m c t₀]
  exact (cut7 _ x).trans (body_at m c x)

/-- THE REFERENCE'S RESULT: the reference ends with every element of its result the one its arguments give, and its arguments unchanged. -/
theorem value (ρ : Dev nD → PrngReg) :
    θ_run (defs (F := Ideal)) (onTc (τ := τ) (main (F := Ideal))) ⟨m, fun _ => 0, ρ⟩
      (fun r => ∀ c : Dev nD, r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨(h c).1.trans (result_eq m c), (h c).2⟩) (Value.run_blocks m ρ)

end Cert.ReferenceIdeal.Body

end
-- ==== Proof.Agree.lean ====
/-
  The two results agree: under the value claim's precondition, on the same argument arrays, the kernel and the reference end
  with the same array.
-/
module

public import proofs.«01_k».proof.Proof.Tame
public import proofs.«01_k».proof.Proof.RefValue

@[expose] public section

noncomputable section

namespace Cert.Agree

open Idealize.ShloMosaic Idealize.ShloMosaic.TcCoe Cert.Body

/-- The factor the kernel puts on the key scales: log₂ e / (16 √128). -/
abbrev κ₁ : ℝ := ((Real.sqrt 128)⁻¹ * (Real.log 2)⁻¹) * (1 / 16)

theorem scale_eq : (Cert.KernelIdeal.Body.scale (F := Ideal) : EReal) = (κ₁ : EReal) :=
  IdealRules.named_const.ideal_named_scalar _ _ _ _ rfl

theorem factors : κ₁ * 16 * Real.log 2 = (Real.sqrt 128)⁻¹ := by
  have hl : Real.log 2 ≠ 0 := (Real.log_pos (by norm_num)).ne'
  show ((Real.sqrt 128)⁻¹ * (Real.log 2)⁻¹) * (1 / 16) * 16 * Real.log 2 = (Real.sqrt 128)⁻¹
  rw [show ((Real.sqrt 128)⁻¹ * (Real.log 2)⁻¹) * (1 / 16) * 16 * Real.log 2 = (Real.sqrt 128)⁻¹ * ((Real.log 2)⁻¹ * Real.log 2) by ring,
    inv_mul_cancel₀ hl, mul_one]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- An `Args` is its fields. -/
theorem args_ext {A B : Args} (h0 : A.q = B.q) (h1 : A.qs = B.qs) (h2 : A.k = B.k) (h3 : A.ks = B.ks) (h4 : A.vt = B.vt) (h5 : A.vs = B.vs)
    (h6 : A.len = B.len) : A = B := by
  cases A; cases B
  simp only at h0 h1 h2 h3 h4 h5 h6
  subst h0 h1 h2 h3 h4 h5 h6
  rfl

theorem results [Cert.Pre_tame.Facts] (h : Cert.Pre_KernelIdeal_tame m) (c : Dev Cert.KernelIdeal.nD)
    (hA : Cert.ReferenceIdeal.Body.argsOf m' c = Cert.KernelIdeal.Body.argsOf m c) :
    Cert.ReferenceIdeal.Body.result m' c = Cert.KernelIdeal.Body.result m c := by
  funext x
  unfold Cert.ReferenceIdeal.Body.result Cert.KernelIdeal.Body.result
  rw [hA, scale_eq]
  obtain ⟨r, hr, hq⟩ := Cert.Tame.queryScale m h c (x 0) ⟨(x 2).val / 896, by have : (x 2).val < 7168 := (x 2).isLt; omega⟩
    ((x 2).val % 896 / 128) (by omega) (x 1)
  exact (Args.ker_eq_ref _ _ _ _ _ _ r _ κ₁ hr hq factors (Cert.Tame.len m h c _)).symm

end Cert.Agree

end
-- ==== Proof.lean ====
/-
  The proof of the certificate's claim: the frames of the kernel and of the reference, at the machine's floats and at the
  reals, the two idealizations, and that at the reals the kernel and the reference end with the same array.
-/
module

public import proofs.«01_k».proof.Proof.Gen.ReferenceIdeal.Value
public import proofs.«01_k».proof.Proof.Gen.Pre_tame
public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_lengths_fit
public import proofs.«01_k».proof.Proof.Lengths
public import proofs.«01_k».proof.Proof.Agree
public import Idealize.ShloMosaic.Adequacy
public import Idealize.ShloMosaic.Init

@[expose] public section

noncomputable section

namespace Cert.Proof

open Idealize.ShloMosaic Idealize.SL.Sem

theorem preserves_kernel : Cert.preserves_Kernel_KernelIdeal :=
  IdealRules.named_const.statement Cert.KernelIdeal.κ "log2e_over_16_sqrt_d" .f32 0x3C0293EE#32
    ((((Real.sqrt 128)⁻¹ * (Real.log 2)⁻¹) * (1 / 16) : ℝ) : EReal) rfl

theorem preserves_reference : Cert.preserves_Reference_ReferenceIdeal :=
  IdealRules.named_const.statement Cert.ReferenceIdeal.κ "inv_sqrt_d" .f32 0x3DB504F3#32 (((Real.sqrt 128)⁻¹ : ℝ) : EReal) rfl

/-- Run on the same arguments, tame ones, the kernel and the reference end with the same array, their arguments unchanged. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' h hm
  refine ⟨fun c => Cert.KernelIdeal.Body.result m c, Cert.KernelIdeal.Body.value m g (fun x => (Cert.Tame.table m h x).1.trans (by decide))
    (fun x => (Cert.Tame.table m h x).2), (θ_run _ _ _).mono (fun r hr c => ?_) (Cert.ReferenceIdeal.Body.value m' g')⟩
  obtain ⟨h0, h1, h2, h3, h4, h5, h6⟩ := hm c
  refine ⟨(hr c).1.trans (Cert.Agree.results m m' h c (Cert.Agree.args_ext h0 h1 h2 h3 h4 h5 (funext fun b => congrFun h6 _))), (hr c).2⟩

theorem claim : Cert.Claim :=
  ⟨Cert.Kernel.Gen.facts, Cert.KernelIdeal.Gen.facts, Cert.ReferenceIdeal.Gen.facts, Cert.Reference.Gen.facts, Cert.Pre_lengths_fit.Gen.facts,
    Cert.Pre_tame.Gen.facts,
    fun m ρ h => Cert.Kernel.Body.frame ρ (Cert.Lengths.kernel m h),
    fun m ρ h => Cert.KernelIdeal.Body.frame ρ (Cert.Lengths.kernelIdeal m h),
    fun m ρ h => Cert.KernelIdeal.Body.frame ρ (fun x => (Cert.Tame.table m h x).1.trans (by decide)),
    fun m ρ _ => Cert.ReferenceIdeal.Gen.frame m ρ, fun m ρ _ => Cert.ReferenceIdeal.Gen.frame m ρ, fun m ρ _ => Cert.Reference.Gen.frame m ρ,
    preserves_kernel, preserves_reference, algebraic⟩

end Cert.Proof

end
